-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables_in_range [hPre_tables_in_range : Cert.Pre_tables_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_pool [hPre_finite_pool : Cert.Pre_finite_pool.Facts] (m : (ℓ : Loc Cert.MixIdeal.nD Cert.MixIdeal.τ Cert.MixIdeal.sig) → Buf (Elt Ideal) ℓ) : Prop :=
  ∀ c : Dev Cert.MixIdeal.nD,
    (Cert.Pre_finite_pool.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_pool [hPre_finite_pool : Cert.Pre_finite_pool.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_pool.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_tables_in_range [hExpertsRefIdeal : Cert.ExpertsRefIdeal.Facts] [hPre_tables_in_range : Cert.Pre_tables_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixIdeal_pre_finite_pool [hMixIdeal : Cert.MixIdeal.Facts] [hPre_finite_pool : Cert.Pre_finite_pool.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_pool m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_MixRefIdeal_pre_finite_pool [hMixRefIdeal : Cert.MixRefIdeal.Facts] [hPre_finite_pool : Cert.Pre_finite_pool.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_pool m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v17) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Experts_ExpertsIdeal : Prop :=
  True

def algebraic_ExpertsIdeal_ExpertsRefIdeal_on_used_rows [hExpertsIdeal : Cert.ExpertsIdeal.Facts] [hExpertsRefIdeal : Cert.ExpertsRefIdeal.Facts] [hPre_tables_in_range : Cert.Pre_tables_in_range.Facts] [hOn_used_rows : Cert.On_used_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![139264, 1024]⟩ : Shape).Idx, (Cert.On_used_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          (∀ i : (⟨2, ![139264, 1024]⟩ : Shape).Idx, (Cert.On_used_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsRefIdeal.nD Cert.ExpertsRefIdeal.τ).loc Cert.ExpertsRefIdeal.main_v3) i = v0 c i)
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Mix_MixIdeal : Prop :=
  True

def algebraic_MixIdeal_MixRefIdeal_pre_finite_pool [hMixIdeal : Cert.MixIdeal.Facts] [hMixRefIdeal : Cert.MixRefIdeal.Facts] [hPre_finite_pool : Cert.Pre_finite_pool.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_pool m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v126) = v0 c
          ∧ r.2.mem ((c.tc : Thread Cert.MixRefIdeal.nD Cert.MixRefIdeal.τ).loc Cert.MixRefIdeal.main_v127) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hExperts : Cert.Experts.Facts) (hExpertsIdeal : Cert.ExpertsIdeal.Facts) (hExpertsRefIdeal : Cert.ExpertsRefIdeal.Facts) (hMix : Cert.Mix.Facts) (hMixIdeal : Cert.MixIdeal.Facts) (hMixRefIdeal : Cert.MixRefIdeal.Facts) (hPre_finite_qkv : Cert.Pre_finite_qkv.Facts) (hPre_tables_in_range : Cert.Pre_tables_in_range.Facts) (hPre_finite_pool : Cert.Pre_finite_pool.Facts) (hOn_used_rows : Cert.On_used_rows.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_InProj (hInProj := hInProj)
    ∧ quiescent_InProjIdeal (hInProjIdeal := hInProjIdeal)
    ∧ quiescent_InProjRefIdeal (hInProjRefIdeal := hInProjRefIdeal)
    ∧ quiescent_Experts (hExperts := hExperts) (hPre_tables_in_range := hPre_tables_in_range)
    ∧ quiescent_ExpertsIdeal (hExpertsIdeal := hExpertsIdeal) (hPre_tables_in_range := hPre_tables_in_range)
    ∧ quiescent_ExpertsRefIdeal (hExpertsRefIdeal := hExpertsRefIdeal)
    ∧ quiescent_ExpertsRefIdeal_pre_tables_in_range (hExpertsRefIdeal := hExpertsRefIdeal) (hPre_tables_in_range := hPre_tables_in_range)
    ∧ quiescent_Mix (hMix := hMix)
    ∧ quiescent_MixIdeal (hMixIdeal := hMixIdeal)
    ∧ quiescent_MixIdeal_pre_finite_pool (hMixIdeal := hMixIdeal) (hPre_finite_pool := hPre_finite_pool)
    ∧ quiescent_MixRefIdeal (hMixRefIdeal := hMixRefIdeal)
    ∧ quiescent_MixRefIdeal_pre_finite_pool (hMixRefIdeal := hMixRefIdeal) (hPre_finite_pool := hPre_finite_pool)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_InProj_InProjIdeal
    ∧ algebraic_InProjIdeal_InProjRefIdeal (hInProjIdeal := hInProjIdeal) (hInProjRefIdeal := hInProjRefIdeal)
    ∧ preserves_Experts_ExpertsIdeal
    ∧ algebraic_ExpertsIdeal_ExpertsRefIdeal_on_used_rows (hExpertsIdeal := hExpertsIdeal) (hExpertsRefIdeal := hExpertsRefIdeal) (hPre_tables_in_range := hPre_tables_in_range) (hOn_used_rows := hOn_used_rows)
    ∧ preserves_Mix_MixIdeal
    ∧ algebraic_MixIdeal_MixRefIdeal_pre_finite_pool (hMixIdeal := hMixIdeal) (hMixRefIdeal := hMixRefIdeal) (hPre_finite_pool := hPre_finite_pool)
-- ==== On_used_rows.lean ====
abbrev S139264x1024 : Shape := ⟨2, ![139264, 1024]⟩
abbrev S544 : Shape := ⟨1, ![544]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  shapeCasts_S1_S_ : S1.ShapeCasts S_
  bcast_S_S139264x1024 : S_.BroadcastsInDim S139264x1024 (![] : Fin 0 → Fin S139264x1024.rank)

variable [Facts]

def fn {F : FTy → Type} [FloatOps F] (main_arg0 : FVec F S139264x1024 .f32) (main_arg1 : IVec S544 32) (main_arg2 : IVec S1 32) (main_arg3 : FVec F S32x1024x2048 .f32) (main_arg4 : FVec F S32x1x2048 .f32) (main_arg5 : FVec F S32x1024x1024 .f32) (main_arg6 : FVec F S32x1x1024 .f32) : IVec S139264x1024 1 :=
  let main_v0 : IVec S139264x1024 32 := iotaInDim S139264x1024 32 0
  let main_v1 : IVec S_ 32 := shapeCast S_ main_arg2 shapeCasts_S1_S_
  let main_c : IVec S_ 32 := constantI S_ 32 256#32
  let main_v2 : IVec S_ 32 := muli main_v1 main_c
  let main_v3 : IVec S139264x1024 32 := broadcastInDim S139264x1024 ![] bcast_S_S139264x1024 main_v2
  let main_v4 : IVec S139264x1024 1 := cmpi .slt main_v0 main_v3
  main_v4
-- ==== Pre_finite_pool.lean ====
abbrev S32768x9216 : Shape := ⟨2, ![32768, 9216]⟩
abbrev S32768x2048 : Shape := ⟨2, ![32768, 2048]⟩
abbrev S32768x1024 : Shape := ⟨2, ![32768, 1024]⟩
abbrev S4x256x256 : Shape := ⟨3, ![4, 256, 256]⟩
abbrev S1x1024 : Shape := ⟨2, ![1, 1024]⟩
abbrev S2048x1024 : Shape := ⟨2, ![2048, 1024]⟩
abbrev S1024x1024 : Shape := ⟨2, ![1024, 1024]⟩
abbrev S1024x32 : Shape := ⟨2, ![1024, 32]⟩
abbrev S1x32 : Shape := ⟨2, ![1, 32]⟩
abbrev S_ : Shape := ⟨0, ![]⟩

class Facts : Prop where
  slices_S32768x9216_S32768x1024_0_0 : S32768x9216.Slices ![0, 0] S32768x1024
  bitsLt_bf16_f32 : FTy.bits .bf16 < FTy.bits .f32
  bcast_S_S32768x1024 : S_.BroadcastsInDim S32768x1024 (![] : Fin 0 → Fin S32768x1024.rank)

variable [Facts]

def fn {F : FTy → Type} [FloatOps F] (main_arg0 : FVec F S32768x9216 .bf16) (main_arg1 : FVec F S32768x2048 .bf16) (main_arg2 : FVec F S32768x1024 .f32) (main_arg3 : FVec F S4x256x256 .bf16) (main_arg4 : FVec F S1x1024 .f32) (main_arg5 : FVec F S2048x1024 .bf16) (main_arg6 : FVec F S1024x1024 .bf16) (main_arg7 : FVec F S1x1024 .f32) (main_arg8 : FVec F S1024x32 .bf16) (main_arg9 : FVec F S1024x32 .bf16) (main_arg10 : FVec F S1x32 .f32) : IVec S32768x1024 1 :=
  let main_v0 : FVec F S32768x1024 .bf16 := (extractStridedSlice S32768x1024 ![0, 0] · slices_S32768x9216_S32768x1024_0_0) main_arg0
  let main_v1 : FVec F S32768x1024 .f32 := (extf .f32 · bitsLt_bf16_f32) main_v0
  let main_v2 : FVec F S32768x1024 .f32 := Host.absf main_v1
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  main_v4
-- ==== Pre_finite_qkv.lean ====
abbrev S8x4096x9216 : Shape := ⟨3, ![8, 4096, 9216]⟩
abbrev S8x4096x4096 : Shape := ⟨3, ![8, 4096, 4096]⟩
abbrev S_ : Shape := ⟨0, ![]⟩

class Facts : Prop where
  slices_S8x4096x9216_S8x4096x4096_0_0_1024 : S8x4096x9216.Slices ![0, 0, 1024] S8x4096x4096
  bitsLt_bf16_f32 : FTy.bits .bf16 < FTy.bits .f32
  bcast_S_S8x4096x4096 : S_.BroadcastsInDim S8x4096x4096 (![] : Fin 0 → Fin S8x4096x4096.rank)

variable [Facts]

def fn {F : FTy → Type} [FloatOps F] (main_arg0 : FVec F S8x4096x9216 .bf16) : IVec S8x4096x4096 1 :=
  let main_v0 : FVec F S8x4096x4096 .bf16 := (extractStridedSlice S8x4096x4096 ![0, 0, 1024] · slices_S8x4096x9216_S8x4096x4096_0_0_1024) main_arg0
  let main_v1 : FVec F S8x4096x4096 .f32 := (extf .f32 · bitsLt_bf16_f32) main_v0
  let main_v2 : FVec F S8x4096x4096 .f32 := Host.absf main_v1
  let main_cst : FVec F S_ .f32 := constant S_ .f32 0x7F800000#32
  let main_v3 : FVec F S8x4096x4096 .f32 := broadcastInDim S8x4096x4096 ![] bcast_S_S8x4096x4096 main_cst
  let main_v4 : IVec S8x4096x4096 1 := cmpf .olt main_v2 main_v3
  main_v4
-- ==== Pre_tables_in_range.lean ====
abbrev S139264x1024 : Shape := ⟨2, ![139264, 1024]⟩
abbrev S544 : Shape := ⟨1, ![544]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S544 : S_.BroadcastsInDim S544 (![] : Fin 0 → Fin S544.rank)
  bcast_S_S1 : S_.BroadcastsInDim S1 (![] : Fin 0 → Fin S1.rank)
  bcast_S1_S544_0 : S1.BroadcastsInDim S544 (![0] : Fin 1 → Fin S544.rank)

variable [Facts]

def fn {F : FTy → Type} [FloatOps F] (main_arg0 : FVec F S139264x1024 .f32) (main_arg1 : IVec S544 32) (main_arg2 : IVec S1 32) (main_arg3 : FVec F S32x1024x2048 .f32) (main_arg4 : FVec F S32x1x2048 .f32) (main_arg5 : FVec F S32x1024x1024 .f32) (main_arg6 : FVec F S32x1x1024 .f32) : IVec S544 1 :=
  let main_c : IVec S_ 32 := constantI S_ 32 0#32
  let main_v0 : IVec S544 32 := broadcastInDim S544 ![] bcast_S_S544 main_c
  let main_v1 : IVec S544 1 := cmpi .sge main_arg1 main_v0
  let main_c_0 : IVec S_ 32 := constantI S_ 32 32#32
  let main_v2 : IVec S544 32 := broadcastInDim S544 ![] bcast_S_S544 main_c_0
  let main_v3 : IVec S544 1 := cmpi .slt main_arg1 main_v2
  let main_v4 : IVec S544 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_v7 : IVec S544 1 := broadcastInDim S544 ![0] bcast_S1_S544_0 main_v6
  let main_v8 : IVec S544 1 := andi main_v4 main_v7
  let main_c_2 : IVec S_ 32 := constantI S_ 32 544#32
  let main_v9 : IVec S1 32 := broadcastInDim S1 ![] bcast_S_S1 main_c_2
  let main_v10 : IVec S1 1 := cmpi .sle main_arg2 main_v9
  let main_v11 : IVec S544 1 := broadcastInDim S544 ![0] bcast_S1_S544_0 main_v10
  let main_v12 : IVec S544 1 := andi main_v8 main_v11
  main_v12
-- ==== Kernel.lean ====
abbrev S8x4096x9216 : Shape := ⟨3, ![8, 4096, 9216]⟩
abbrev S4096 : Shape := ⟨1, ![4096]⟩
abbrev S_ : Shape := ⟨0, ![]⟩
abbrev S127 : Shape := ⟨1, ![127]⟩
abbrev S1 : Shape := ⟨1, ![1]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S8x4096x2048 : Shape := ⟨3, ![8, 4096, 2048]⟩
abbrev S1x256x512 : Shape := ⟨3, ![1, 256, 512]⟩
abbrev S256x128 : Shape := ⟨2, ![256, 128]⟩
abbrev S256x512 : Shape := ⟨2, ![256, 512]⟩

abbrev nBuf : Space → Nat
  | .hbm => 117
  | .vmem => 21
  | .smem => 1
  | _ => 0

abbrev bufTy : (tb : Table) → Fin (tcTables nBuf tb) → BufTy
  | .hbm, ⟨0, _⟩ => ⟨S8x4096x9216, .bf16⟩
  | .hbm, ⟨1, _⟩ => ⟨S4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S127, .f32⟩
  | .hbm, ⟨10, _⟩ => ⟨S_, .f32⟩
  | .hbm, ⟨11, _⟩ => ⟨S127, .f32⟩
  | .hbm, ⟨12, _⟩ => ⟨S127, .f32⟩
  | .hbm, ⟨13, _⟩ => ⟨S1, .f32⟩
  | .hbm, ⟨14, _⟩ => ⟨S_, .f32⟩
  | .hbm, ⟨15, _⟩ => ⟨S127, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S1, .f32⟩
  | .hbm, ⟨20, _⟩ => ⟨S127, .f32⟩
  | .hbm, ⟨21, _⟩ => ⟨S127, .f32⟩
  | .hbm, ⟨22, _⟩ => ⟨S127, .f32⟩
  | .hbm, ⟨23, _⟩ => ⟨S1, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S4096x1, .f32⟩
  | .hbm, ⟨30, _⟩ => ⟨S1x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S256, .f32⟩
  | .hbm, ⟨46, _⟩ => ⟨S256x1, .f32⟩
  | .hbm, ⟨47, _⟩ => ⟨S1x256, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S256, .i32⟩
  | .hbm, ⟨52, _⟩ => ⟨S_, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S256, .i32⟩
  | .hbm, ⟨57, _⟩ => ⟨S_, .i32⟩
  | .hbm, ⟨58, _⟩ => ⟨S256, .i32⟩
  | .hbm, ⟨59, _⟩ => ⟨S256, .i1⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i1⟩
  | .hbm, ⟨65, _⟩ => ⟨S256, .i1⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S256, .i32⟩
  | .hbm, ⟨70, _⟩ => ⟨S1x256, .i32⟩
  | .hbm, ⟨71, _⟩ => ⟨S256x1, .i32⟩
  | .hbm, ⟨72, _⟩ => ⟨S256x256, .i32⟩
  | .hbm, ⟨73, _⟩ => ⟨S256x256, .i32⟩
  | .hbm, ⟨74, _⟩ => ⟨S256x256, .i1⟩
  | .hbm, ⟨75, _⟩ => ⟨S1x256x256, .i1⟩
  | .hbm, ⟨76, _⟩ => ⟨S4x1x1, .f32⟩
  | .hbm, ⟨77, _⟩ => ⟨S256x256, .f32⟩
  | .hbm, ⟨78, _⟩ => ⟨S1x256x256, .f32⟩
  | .hbm, ⟨79, _⟩ => ⟨S4x256x256, .f32⟩
  | .hbm, ⟨80, _⟩ => ⟨S4x256x256, .f32⟩
  | .hbm, ⟨81, _⟩ => ⟨S4x256x256, .f32⟩
  | .hbm, ⟨82, _⟩ => ⟨S4x256x256, .f32⟩
  | .hbm, ⟨83, _⟩ => ⟨S_, .f32⟩
  | .hbm, ⟨84, _⟩ => ⟨S_, .f32⟩
  | .hbm, ⟨85, _⟩ => ⟨S4x256x256, .i1⟩
  | .hbm, ⟨86, _⟩ => ⟨S4x256x256, .f32⟩
  | .hbm, ⟨87, _⟩ => ⟨S4x256x256, .f32⟩
  | .hbm, ⟨88, _⟩ => ⟨S4x1, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S1x256, .f32⟩
  | .hbm, ⟨93, _⟩ => ⟨S4x256, .f32⟩
  | .hbm, ⟨94, _⟩ => ⟨S4x256, .f32⟩
  | .hbm, ⟨95, _⟩ => ⟨S4x256, .f32⟩
  | .hbm, ⟨96, _⟩ => ⟨S4x256, .f32⟩
  | .hbm, ⟨97, _⟩ => ⟨S4x256x1, .f32⟩
  | .hbm, ⟨98, _⟩ => ⟨S4x1, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S1x256, .f32⟩
  | .hbm, ⟨103, _⟩ => ⟨S4x256, .f32⟩
  | .hbm, ⟨104, _⟩ => ⟨S4x256, .f32⟩
  | .hbm, ⟨105, _⟩ => ⟨S4x256, .f32⟩
  | .hbm, ⟨106, _⟩ => ⟨S4x256, .f32⟩
  | .hbm, ⟨107, _⟩ => ⟨S4x256x1, .f32⟩
  | .hbm, ⟨108, _⟩ => ⟨S_, .f32⟩
  | .hbm, ⟨109, _⟩ => ⟨S4, .f32⟩
  | .hbm, ⟨110, _⟩ => ⟨S4, .f32⟩
  | .hbm, ⟨111, _⟩ => ⟨S4, .f32⟩
  | .hbm, ⟨112, _⟩ => ⟨S4x256x256, .f32⟩
  | .hbm, ⟨113, _⟩ => ⟨S4x256x256, .f32⟩
  | .hbm, ⟨114, _⟩ => ⟨S4096x128, .f32⟩
  | .hbm, ⟨115, _⟩ => ⟨S4096x128, .f32⟩
  | .hbm, ⟨116, _⟩ => ⟨S8x4096x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x512, .bf16⟩
  | .local _ .vmem, ⟨19, _⟩ => ⟨S1x256x512, .bf16⟩
  | .local _ .vmem, ⟨20, _⟩ => ⟨S256x512, .f32⟩
  | .local _ .smem, ⟨0, _⟩ => ⟨S4, .f32⟩
  | _, _ => ⟨S8x4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v1 : Ref sig .tc := ⟨.hbm, 24, rfl⟩
abbrev main_v2 : Ref sig .tc := ⟨.hbm, 25, rfl⟩
abbrev main_cst_1 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_cst_3 : Ref sig .tc := ⟨.hbm, 38, rfl⟩
abbrev main_v13 : Ref sig .tc := ⟨.hbm, 39, rfl⟩
abbrev main_v14 : Ref sig .tc := ⟨.hbm, 40, rfl⟩
abbrev main_cst_4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_5 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v39 : Ref sig .tc := ⟨.hbm, 87, rfl⟩
abbrev main_v40 : Ref sig .tc := ⟨.hbm, 88, rfl⟩
abbrev main_cst_6 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_7 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_8 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![8, 4, 16], ![false, false, false]⟩

def k0_off1 (i : grid0.Coords) : Fin 1 → Nat :=
  let arg1 : BitVec 32 := BitVec.ofNat 32 (i 1).val
  let v55 : Index := Scalar.indexCast arg1
  ![v55.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S8x4096x9216 : Shape := ⟨3, ![8, 4096, 9216]⟩
abbrev S4096 : Shape := ⟨1, ![4096]⟩
abbrev S8x4096x1024 : Shape := ⟨3, ![8, 4096, 1024]⟩
abbrev S8x4096x2048 : Shape := ⟨3, ![8, 4096, 2048]⟩
abbrev S8x4096x4x256 : Shape := ⟨4, ![8, 4096, 4, 256]⟩
abbrev S_ : Shape := ⟨0, ![]⟩
abbrev S127 : Shape := ⟨1, ![127]⟩
abbrev S1 : Shape := ⟨1, ![1]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S8x4096x4x128 : Shape := ⟨4, ![8, 4096, 4, 128]⟩
abbrev S8x4096x4x512 : Shape := ⟨4, ![8, 4096, 4, 512]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S8x4x256x512 : Shape := ⟨4, ![8, 4, 256, 512]⟩
abbrev S8x64x64x4x256 : Shape := ⟨5, ![8, 64, 64, 4, 256]⟩
abbrev S64x8x4x64x256 : Shape := ⟨5, ![64, 8, 4, 64, 256]⟩
abbrev S8x64x64x4x512 : Shape := ⟨5, ![8, 64, 64, 4, 512]⟩
abbrev S64x8x4x64x512 : Shape := ⟨5, ![64, 8, 4, 64, 512]⟩
abbrev S1x8x4x64x256 : Shape := ⟨5, ![1, 8, 4, 64, 256]⟩
abbrev S8x4x64x256 : Shape := ⟨4, ![8, 4, 64, 256]⟩
abbrev S1x8x4x64x512 : Shape := ⟨5, ![1, 8, 4, 64, 512]⟩
abbrev S8x4x64x512 : Shape := ⟨4, ![8, 4, 64, 512]⟩
abbrev S8x4x64x64 : Shape := ⟨4, ![8, 4, 64, 64]⟩
abbrev S1x4x64x64 : Shape := ⟨4, ![1, 4, 64, 64]⟩
abbrev S1x4x64x1 : Shape := ⟨4, ![1, 4, 64, 1]⟩
abbrev S1x4x1x1 : Shape := ⟨4, ![1, 4, 1, 1]⟩
abbrev S8x4096x4 : Shape := ⟨3, ![8, 4096, 4]⟩
abbrev S8x4096x4x1 : Shape := ⟨4, ![8, 4096, 4, 1]⟩

abbrev nBuf : Space → Nat
  | .hbm => 257
  | .vmem => 0
  | .smem => 0
  | _ => 0

abbrev hbmTy0_0 (i : Nat) : BufTy := match i % 128 with
  | 0 => ⟨S8x4096x9216, .bf16⟩
  | 1 => ⟨S4096, .f32⟩
  | 2 => ⟨S8x4096x1024, .bf16⟩
  | 3 => ⟨S8x4096x1024, .bf16⟩
  | 4 => ⟨S8x4096x2048, .bf16⟩
  | 5 => ⟨S8x4096x1024, .f32⟩
  | 6 => ⟨S8x4096x4x256, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S127, .f32⟩
  | 15 => ⟨S_, .f32⟩
  | 16 => ⟨S127, .f32⟩
  | 17 => ⟨S127, .f32⟩
  | 18 => ⟨S1, .f32⟩
  | 19 => ⟨S_, .f32⟩
  | 20 => ⟨S127, .f32⟩
  | 21 => ⟨S127, .f32⟩
  | 22 => ⟨S127, .f32⟩
  | 23 => ⟨S127, .f32⟩
  | 24 => ⟨S1, .f32⟩
  | 25 => ⟨S127, .f32⟩
  | 26 => ⟨S127, .f32⟩
  | 27 => ⟨S127, .f32⟩
  | 28 => ⟨S1, .f32⟩
  | 29 => ⟨S128, .f32⟩
  | 30 => ⟨S128, .f32⟩
  | 31 => ⟨S_, .f32⟩
  | 32 => ⟨S128, .f32⟩
  | 33 => ⟨S128, .f32⟩
  | 34 => ⟨S4096x1, .f32⟩
  | 35 => ⟨S1x128, .f32⟩
  | 36 => ⟨S4096x128, .f32⟩
  | 37 => ⟨S4096x128, .f32⟩
  | 38 => ⟨S4096x128, .f32⟩
  | 39 => ⟨S4096x128, .f32⟩
  | 40 => ⟨S1x4096x1x128, .f32⟩
  | 41 => ⟨S4096x128, .f32⟩
  | 42 => ⟨S1x4096x1x128, .f32⟩
  | 43 => ⟨S8x4096x4x128, .f32⟩
  | 44 => ⟨S8x4096x4x128, .f32⟩
  | 45 => ⟨S8x4096x4x128, .f32⟩
  | 46 => ⟨S8x4096x4x128, .f32⟩
  | 47 => ⟨S8x4096x4x128, .f32⟩
  | 48 => ⟨S8x4096x4x128, .f32⟩
  | 49 => ⟨S8x4096x4x128, .f32⟩
  | 50 => ⟨S8x4096x4x128, .f32⟩
  | 51 => ⟨S8x4096x4x128, .f32⟩
  | 52 => ⟨S8x4096x4x128, .f32⟩
  | 53 => ⟨S8x4096x4x128, .f32⟩
  | 54 => ⟨S8x4096x4x128, .f32⟩
  | 55 => ⟨S8x4096x4x256, .f32⟩
  | 56 => ⟨S8x4096x1024, .f32⟩
  | 57 => ⟨S8x4096x4x256, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S127, .f32⟩
  | 66 => ⟨S_, .f32⟩
  | 67 => ⟨S127, .f32⟩
  | 68 => ⟨S127, .f32⟩
  | 69 => ⟨S1, .f32⟩
  | 70 => ⟨S_, .f32⟩
  | 71 => ⟨S127, .f32⟩
  | 72 => ⟨S127, .f32⟩
  | 73 => ⟨S127, .f32⟩
  | 74 => ⟨S127, .f32⟩
  | 75 => ⟨S1, .f32⟩
  | 76 => ⟨S127, .f32⟩
  | 77 => ⟨S127, .f32⟩
  | 78 => ⟨S127, .f32⟩
  | 79 => ⟨S1, .f32⟩
  | 80 => ⟨S128, .f32⟩
  | 81 => ⟨S128, .f32⟩
  | 82 => ⟨S_, .f32⟩
  | 83 => ⟨S128, .f32⟩
  | 84 => ⟨S128, .f32⟩
  | 85 => ⟨S4096x1, .f32⟩
  | 86 => ⟨S1x128, .f32⟩
  | 87 => ⟨S4096x128, .f32⟩
  | 88 => ⟨S4096x128, .f32⟩
  | 89 => ⟨S4096x128, .f32⟩
  | 90 => ⟨S4096x128, .f32⟩
  | 91 => ⟨S1x4096x1x128, .f32⟩
  | 92 => ⟨S4096x128, .f32⟩
  | 93 => ⟨S1x4096x1x128, .f32⟩
  | 94 => ⟨S8x4096x4x128, .f32⟩
  | 95 => ⟨S8x4096x4x128, .f32⟩
  | 96 => ⟨S8x4096x4x128, .f32⟩
  | 97 => ⟨S8x4096x4x128, .f32⟩
  | 98 => ⟨S8x4096x4x128, .f32⟩
  | 99 => ⟨S8x4096x4x128, .f32⟩
  | 100 => ⟨S8x4096x4x128, .f32⟩
  | 101 => ⟨S8x4096x4x128, .f32⟩
  | 102 => ⟨S8x4096x4x128, .f32⟩
  | 103 => ⟨S8x4096x4x128, .f32⟩
  | 104 => ⟨S8x4096x4x128, .f32⟩
  | 105 => ⟨S8x4096x4x128, .f32⟩
  | 106 => ⟨S8x4096x4x256, .f32⟩
  | 107 => ⟨S_, .f32⟩
  | 108 => ⟨S8x4096x4x256, .f32⟩
  | 109 => ⟨S8x4096x4x256, .f32⟩
  | 110 => ⟨S8x4096x2048, .f32⟩
  | 111 => ⟨S8x4096x4x512, .f32⟩
  | 112 => ⟨S4, .f32⟩
  | 113 => ⟨S_, .f32⟩
  | 114 => ⟨S4, .f32⟩
  | 115 => ⟨S4, .f32⟩
  | 116 => ⟨S_, .f32⟩
  | 117 => ⟨S4, .f32⟩
  | 118 => ⟨S4, .f32⟩
  | 119 => ⟨S_, .f32⟩
  | 120 => ⟨S4, .f32⟩
  | 121 => ⟨S4, .f32⟩
  | 122 => ⟨S4, .f32⟩
  | 123 => ⟨S64, .f32⟩
  | 124 => ⟨S4x1x1, .f32⟩
  | 125 => ⟨S64x1, .f32⟩
  | 126 => ⟨S1x64, .f32⟩
  | 127 => ⟨S64x64, .f32⟩
  | _ => ⟨S8x4096x9216, .bf16⟩

abbrev hbmTy0_1 (i : Nat) : BufTy := match i % 128 with
  | 0 => ⟨S64x64, .f32⟩
  | 1 => ⟨S64x64, .f32⟩
  | 2 => ⟨S64x64, .f32⟩
  | 3 => ⟨S1x64x64, .f32⟩
  | 4 => ⟨S4x64x64, .f32⟩
  | 5 => ⟨S4x64x64, .f32⟩
  | 6 => ⟨S4x64x64, .f32⟩
  | 7 => ⟨S4x64x64, .f32⟩
  | 8 => ⟨S4x1, .f32⟩
  | 9 => ⟨S_, .f32⟩
  | 10 => ⟨S64, .f32⟩
  | 11 => ⟨S64, .f32⟩
  | 12 => ⟨S1x64, .f32⟩
  | 13 => ⟨S4x64, .f32⟩
  | 14 => ⟨S4x64, .f32⟩
  | 15 => ⟨S4x64, .f32⟩
  | 16 => ⟨S4x64, .f32⟩
  | 17 => ⟨S4x64x1, .f32⟩
  | 18 => ⟨S4x1, .f32⟩
  | 19 => ⟨S_, .f32⟩
  | 20 => ⟨S64, .f32⟩
  | 21 => ⟨S64, .f32⟩
  | 22 => ⟨S1x64, .f32⟩
  | 23 => ⟨S4x64, .f32⟩
  | 24 => ⟨S4x64, .f32⟩
  | 25 => ⟨S4x64, .f32⟩
  | 26 => ⟨S4x64, .f32⟩
  | 27 => ⟨S4x64x1, .f32⟩
  | 28 => ⟨S_, .f32⟩
  | 29 => ⟨S4, .f32⟩
  | 30 => ⟨S4, .f32⟩
  | 31 => ⟨S4, .f32⟩
  | 32 => ⟨S4x1x1, .f32⟩
  | 33 => ⟨S_, .f32⟩
  | 34 => ⟨S8x4x256x512, .f32⟩
  | 35 => ⟨S8x64x64x4x256, .f32⟩
  | 36 => ⟨S64x8x4x64x256, .f32⟩
  | 37 => ⟨S8x64x64x4x256, .f32⟩
  | 38 => ⟨S64x8x4x64x256, .f32⟩
  | 39 => ⟨S8x64x64x4x512, .f32⟩
  | 40 => ⟨S64x8x4x64x512, .f32⟩
  | 41 => ⟨S_, .f32⟩
  | 42 => ⟨S64x8x4x64x512, .f32⟩
  | 43 => ⟨S_, .i32⟩
  | 44 => ⟨S64x8x4x64x256, .f32⟩
  | 45 => ⟨S64x8x4x64x256, .f32⟩
  | 46 => ⟨S64x8x4x64x512, .f32⟩
  | 47 => ⟨S4x64x64, .f32⟩
  | 48 => ⟨S4x64x1, .f32⟩
  | 49 => ⟨S4x1x1, .f32⟩
  | 50 => ⟨S4x64x1, .f32⟩
  | 51 => ⟨S_, .i32⟩
  | 52 => ⟨S8x4x256x512, .f32⟩
  | 53 => ⟨S64x8x4x64x512, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S1x8x4x64x256, .f32⟩
  | 61 => ⟨S8x4x64x256, .f32⟩
  | 62 => ⟨S_, .i32⟩
  | 63 => ⟨S_, .i32⟩
  | 64 => ⟨S_, .i32⟩
  | 65 => ⟨S_, .i32⟩
  | 66 => ⟨S1x8x4x64x256, .f32⟩
  | 67 => ⟨S8x4x64x256, .f32⟩
  | 68 => ⟨S_, .i32⟩
  | 69 => ⟨S_, .i32⟩
  | 70 => ⟨S_, .i32⟩
  | 71 => ⟨S_, .i32⟩
  | 72 => ⟨S1x8x4x64x512, .f32⟩
  | 73 => ⟨S8x4x64x512, .f32⟩
  | 74 => ⟨S8x4x64x64, .f32⟩
  | 75 => ⟨S1x4x64x64, .f32⟩
  | 76 => ⟨S8x4x64x64, .f32⟩
  | 77 => ⟨S8x4x64x64, .f32⟩
  | 78 => ⟨S8x4x64x512, .f32⟩
  | 79 => ⟨S1x4x64x1, .f32⟩
  | 80 => ⟨S8x4x64x256, .f32⟩
  | 81 => ⟨S8x4x64x256, .f32⟩
  | 82 => ⟨S8x4x64x512, .f32⟩
  | 83 => ⟨S8x4x64x512, .f32⟩
  | 84 => ⟨S1x4x1x1, .f32⟩
  | 85 => ⟨S8x4x256x512, .f32⟩
  | 86 => ⟨S8x4x256x512, .f32⟩
  | 87 => ⟨S1x4x64x1, .f32⟩
  | 88 => ⟨S8x4x64x256, .f32⟩
  | 89 => ⟨S8x4x64x256, .f32⟩
  | 90 => ⟨S8x4x256x512, .f32⟩
  | 91 => ⟨S8x4x256x512, .f32⟩
  | 92 => ⟨S1x8x4x64x512, .f32⟩
  | 93 => ⟨S_, .i32⟩
  | 94 => ⟨S_, .i32⟩
  | 95 => ⟨S_, .i32⟩
  | 96 => ⟨S_, .i32⟩
  | 97 => ⟨S64x8x4x64x512, .f32⟩
  | 98 => ⟨S_, .i32⟩
  | 99 => ⟨S_, .i32⟩
  | 100 => ⟨S8x64x64x4x512, .f32⟩
  | 101 => ⟨S8x4096x4x512, .f32⟩
  | 102 => ⟨S8x4096x4x512, .f32⟩
  | 103 => ⟨S_, .f32⟩
  | 104 => ⟨S8x4096x4, .f32⟩
  | 105 => ⟨S8x4096x4x1, .f32⟩
  | 106 => ⟨S_, .f32⟩
  | 107 => ⟨S8x4096x4x1, .f32⟩
  | 108 => ⟨S8x4096x4x1, .f32⟩
  | 109 => ⟨S_, .f32⟩
  | 110 => ⟨S8x4096x4x1, .f32⟩
  | 111 => ⟨S8x4096x4x1, .f32⟩
  | 112 => ⟨S8x4096x4x1, .f32⟩
  | 113 => ⟨S8x4096x4x512, .f32⟩
  | 114 => ⟨S8x4096x4x512, .f32⟩
  | 115 => ⟨S8x4096x2048, .bf16⟩
  | 116 => ⟨S8x4096x2048, .f32⟩
  | 117 => ⟨S8x4096x2048, .f32⟩
  | 118 => ⟨S8x4096x2048, .f32⟩
  | 119 => ⟨S8x4096x2048, .f32⟩
  | 120 => ⟨S_, .f32⟩
  | 121 => ⟨S8x4096x2048, .f32⟩
  | 122 => ⟨S8x4096x2048, .f32⟩
  | 123 => ⟨S_, .f32⟩
  | 124 => ⟨S8x4096x2048, .f32⟩
  | 125 => ⟨S8x4096x2048, .f32⟩
  | 126 => ⟨S8x4096x2048, .f32⟩
  | 127 => ⟨S8x4096x2048, .f32⟩
  | _ => ⟨S8x4096x9216, .bf16⟩

abbrev hbmTy0_2 (i : Nat) : BufTy := match i % 128 with
  | 0 => ⟨S8x4096x2048, .bf16⟩
  | _ => ⟨S8x4096x9216, .bf16⟩

abbrev hbmTy (i : Nat) : BufTy := match i / 128 with
  | 0 => hbmTy0_0 i
  | 1 => hbmTy0_1 i
  | 2 => hbmTy0_2 i
  | _ => ⟨S8x4096x9216, .bf16⟩

abbrev bufTy : (tb : Table) → Fin (tcTables nBuf tb) → BufTy
  | .hbm, ⟨i, _⟩ => hbmTy i
  | _, _ => ⟨S8x4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_2 : Ref sig .tc := ⟨.hbm, 58, rfl⟩
abbrev main_cst_3 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_cst : Ref sig .tc := ⟨.hbm, 63, rfl⟩
abbrev main_call1_v3 : Ref sig .tc := ⟨.hbm, 64, rfl⟩
abbrev main_call1_v4 : Ref sig .tc := ⟨.hbm, 65, rfl⟩
abbrev main_call1_cst_0 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_cst_1 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_v15 : Ref sig .tc := ⟨.hbm, 78, rfl⟩
abbrev main_call1_v16 : Ref sig .tc := ⟨.hbm, 79, rfl⟩
abbrev main_v34 : Ref sig .tc := ⟨.hbm, 80, rfl⟩
abbrev main_v35 : Ref sig .tc := ⟨.hbm, 81, rfl⟩
abbrev main_cst_4 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_5 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_6 : Ref sig .tc := ⟨.hbm, 113, rfl⟩
abbrev main_v65 : Ref sig .tc := ⟨.hbm, 114, rfl⟩
abbrev main_v66 : Ref sig .tc := ⟨.hbm, 115, rfl⟩
abbrev main_cst_7 : Ref sig .tc := ⟨.hbm, 116, rfl⟩
abbrev main_v67 : Ref sig .tc := ⟨.hbm, 117, rfl⟩
abbrev main_v68 : Ref sig .tc := ⟨.hbm, 118, rfl⟩
abbrev main_cst_8 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_9 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_10 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_11 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_12 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_cst_13 : Ref sig .tc := ⟨.hbm, 169, rfl⟩
abbrev main_v114 : Ref sig .tc := ⟨.hbm, 170, rfl⟩
abbrev main_c : Ref sig .tc := ⟨.hbm, 171, rfl⟩
abbrev main_v115_0 : Ref sig .tc := ⟨.hbm, 172, rfl⟩
abbrev main_v115_1 : Ref sig .tc := ⟨.hbm, 173, rfl⟩
abbrev main_v115_2 : Ref sig .tc := ⟨.hbm, 174, rfl⟩
abbrev main_v115_3 : Ref sig .tc := ⟨.hbm, 175, rfl⟩
abbrev main_v115_4 : Ref sig .tc := ⟨.hbm, 176, rfl⟩
abbrev main_v115_5 : Ref sig .tc := ⟨.hbm, 177, rfl⟩
abbrev main_v115_6 : Ref sig .tc := ⟨.hbm, 178, rfl⟩
abbrev main_v115_7 : Ref sig .tc := ⟨.hbm, 179, rfl⟩
abbrev main_v115_8 : Ref sig .tc := ⟨.hbm, 180, rfl⟩
abbrev main_v115_9 : Ref sig .tc := ⟨.hbm, 181, rfl⟩
abbrev main_while0c_c_26 : Ref sig .tc := ⟨.hbm, 182, rfl⟩
abbrev main_while0c_v134 : Ref sig .tc := ⟨.hbm, 183, rfl⟩
abbrev main_while0b_call2_c : Ref sig .tc := ⟨.hbm, 184, rfl⟩
abbrev main_while0b_call2_c_0 : Ref sig .tc := ⟨.hbm, 185, rfl⟩
abbrev main_while0b_call2_c_1 : Ref sig .tc := ⟨.hbm, 186, rfl⟩
abbrev main_while0b_call2_c_2 : Ref sig .tc := ⟨.hbm, 187, rfl⟩
abbrev main_while0b_call2_v0 : Ref sig .tc := ⟨.hbm, 188, rfl⟩
abbrev main_while0b_v134 : Ref sig .tc := ⟨.hbm, 189, rfl⟩
abbrev main_while0b_call3_c : Ref sig .tc := ⟨.hbm, 190, rfl⟩
abbrev main_while0b_call3_c_0 : Ref sig .tc := ⟨.hbm, 191, rfl⟩
abbrev main_while0b_call3_c_1 : Ref sig .tc := ⟨.hbm, 192, rfl⟩
abbrev main_while0b_call3_c_2 : Ref sig .tc := ⟨.hbm, 193, rfl⟩
abbrev main_while0b_call3_v0 : Ref sig .tc := ⟨.hbm, 194, rfl⟩
abbrev main_while0b_v135 : Ref sig .tc := ⟨.hbm, 195, rfl⟩
abbrev main_while0b_call4_c : Ref sig .tc := ⟨.hbm, 196, rfl⟩
abbrev main_while0b_call4_c_0 : Ref sig .tc := ⟨.hbm, 197, rfl⟩
abbrev main_while0b_call4_c_1 : Ref sig .tc := ⟨.hbm, 198, rfl⟩
abbrev main_while0b_call4_c_2 : Ref sig .tc := ⟨.hbm, 199, rfl⟩
abbrev main_while0b_call4_v0 : Ref sig .tc := ⟨.hbm, 200, rfl⟩
abbrev main_while0b_v136 : Ref sig .tc := ⟨.hbm, 201, rfl⟩
abbrev main_while0b_v137 : Ref sig .tc := ⟨.hbm, 202, rfl⟩
abbrev main_while0b_v138 : Ref sig .tc := ⟨.hbm, 203, rfl⟩
abbrev main_while0b_v139 : Ref sig .tc := ⟨.hbm, 204, rfl⟩
abbrev main_while0b_v140 : Ref sig .tc := ⟨.hbm, 205, rfl⟩
abbrev main_while0b_v141 : Ref sig .tc := ⟨.hbm, 206, rfl⟩
abbrev main_while0b_v142 : Ref sig .tc := ⟨.hbm, 207, rfl⟩
abbrev main_while0b_v143 : Ref sig .tc := ⟨.hbm, 208, rfl⟩
abbrev main_while0b_v144 : Ref sig .tc := ⟨.hbm, 209, rfl⟩
abbrev main_while0b_v145 : Ref sig .tc := ⟨.hbm, 210, rfl⟩
abbrev main_while0b_v146 : Ref sig .tc := ⟨.hbm, 211, rfl⟩
abbrev main_while0b_v147 : Ref sig .tc := ⟨.hbm, 212, rfl⟩
abbrev main_while0b_v148 : Ref sig .tc := ⟨.hbm, 213, rfl⟩
abbrev main_while0b_v149 : Ref sig .tc := ⟨.hbm, 214, rfl⟩
abbrev main_while0b_v150 : Ref sig .tc := ⟨.hbm, 215, rfl⟩
abbrev main_while0b_v151 : Ref sig .tc := ⟨.hbm, 216, rfl⟩
abbrev main_while0b_v152 : Ref sig .tc := ⟨.hbm, 217, rfl⟩
abbrev main_while0b_v153 : Ref sig .tc := ⟨.hbm, 218, rfl⟩
abbrev main_while0b_v154 : Ref sig .tc := ⟨.hbm, 219, rfl⟩
abbrev main_while0b_call5_v0 : Ref sig .tc := ⟨.hbm, 220, rfl⟩
abbrev main_while0b_call5_c : Ref sig .tc := ⟨.hbm, 221, rfl⟩
abbrev main_while0b_call5_c_0 : Ref sig .tc := ⟨.hbm, 222, rfl⟩
abbrev main_while0b_call5_c_1 : Ref sig .tc := ⟨.hbm, 223, rfl⟩
abbrev main_while0b_call5_c_2 : Ref sig .tc := ⟨.hbm, 224, rfl⟩
abbrev main_while0b_v155 : Ref sig .tc := ⟨.hbm, 225, rfl⟩
abbrev main_while0b_c_26 : Ref sig .tc := ⟨.hbm, 226, rfl⟩
abbrev main_while0b_v156 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_cst_14 : Ref sig .tc := ⟨.hbm, 231, rfl⟩
abbrev main_v119 : Ref sig .tc := ⟨.hbm, 232, rfl⟩
abbrev main_v120 : Ref sig .tc := ⟨.hbm, 233, rfl⟩
abbrev main_cst_15 : Ref sig .tc := ⟨.hbm, 234, rfl⟩
abbrev main_v121 : Ref sig .tc := ⟨.hbm, 235, rfl⟩
abbrev main_v122 : Ref sig .tc := ⟨.hbm, 236, rfl⟩
abbrev main_cst_16 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_call6_v0 : Ref sig .tc := ⟨.hbm, 246, rfl⟩
abbrev main_call6_v1 : Ref sig .tc := ⟨.hbm, 247, rfl⟩
abbrev main_call6_cst : Ref sig .tc := ⟨.hbm, 248, rfl⟩
abbrev main_call6_v2 : Ref sig .tc := ⟨.hbm, 249, rfl⟩
abbrev main_call6_v3 : Ref sig .tc := ⟨.hbm, 250, rfl⟩
abbrev main_call6_cst_0 : Ref sig .tc := ⟨.hbm, 251, rfl⟩
abbrev main_call6_v4 : Ref sig .tc := ⟨.hbm, 252, rfl⟩
abbrev main_call6_v5 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩

abbrev nD : Nat := 1
abbrev τ : Topo := Topo.v7x

variable {F : FTy → Type} [FloatOps F]

abbrev main_while0_count : Scf.Loop 32 := ⟨0#32, 64#32, 1#32⟩
-- ==== InProj.lean ====
abbrev S8x4096x1024 : Shape := ⟨3, ![8, 4096, 1024]⟩
abbrev S1x1024 : Shape := ⟨2, ![1, 1024]⟩
abbrev S1x1024x9216 : Shape := ⟨3, ![1, 1024, 9216]⟩
abbrev S32768x1024 : Shape := ⟨2, ![32768, 1024]⟩
abbrev S1024 : Shape := ⟨1, ![1024]⟩
abbrev S1024x9216 : Shape := ⟨2, ![1024, 9216]⟩
abbrev S32768x9216 : Shape := ⟨2, ![32768, 9216]⟩
abbrev S1024x1024 : Shape := ⟨2, ![1024, 1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x9216, .f32⟩
  | .hbm, ⟨3, _⟩ => ⟨S32768x1024, .f32⟩
  | .hbm, ⟨4, _⟩ => ⟨S1024, .f32⟩
  | .hbm, ⟨5, _⟩ => ⟨S1x1024, .f32⟩
  | .hbm, ⟨6, _⟩ => ⟨S1024x9216, .f32⟩
  | .hbm, ⟨7, _⟩ => ⟨S1024x9216, .bf16⟩
  | .hbm, ⟨8, _⟩ => ⟨S32768x9216, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S8x4096x1024 : Shape := ⟨3, ![8, 4096, 1024]⟩
abbrev S1x1024 : Shape := ⟨2, ![1, 1024]⟩
abbrev S1x1024x9216 : Shape := ⟨3, ![1, 1024, 9216]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x9216 : Shape := ⟨2, ![1024, 9216]⟩
abbrev S8x4096x9216 : Shape := ⟨3, ![8, 4096, 9216]⟩
abbrev S32768x9216 : Shape := ⟨2, ![32768, 9216]⟩

abbrev nBuf : Space → Nat
  | .hbm => 24
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x9216, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1024x9216, .f32⟩
  | .hbm, ⟨21, _⟩ => ⟨S8x4096x9216, .f32⟩
  | .hbm, ⟨22, _⟩ => ⟨S32768x9216, .f32⟩
  | .hbm, ⟨23, _⟩ => ⟨S32768x9216, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Experts.lean ====
abbrev S139264x1024 : Shape := ⟨2, ![139264, 1024]⟩
abbrev S544 : Shape := ⟨1, ![544]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S139264x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S139264x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S544, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v4 : BitVec 32 := Scalar.subi arg0 c1_i32
  let c0_i32_0 : BitVec 32 := 0#32
  let v5 : BitVec 32 := Scalar.maxsi v4 c0_i32_0
  let v6 : Index := Scalar.indexCast v5
  ![v6.toNat]
def k0_off3 (i : grid0.Coords) : Fin 1 → Nat :=
  let arg0 : BitVec 32 := BitVec.ofNat 32 (i 0).val
  let v9 : Index := Scalar.indexCast arg0
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S139264x1024 : Shape := ⟨2, ![139264, 1024]⟩
abbrev S544 : Shape := ⟨1, ![544]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S544x256x1024 : Shape := ⟨3, ![544, 256, 1024]⟩
abbrev S_ : Shape := ⟨0, ![]⟩
abbrev S1x256x1024 : Shape := ⟨3, ![1, 256, 1024]⟩
abbrev S256x1024 : Shape := ⟨2, ![256, 1024]⟩
abbrev S1x1024x2048 : Shape := ⟨3, ![1, 1024, 2048]⟩
abbrev S1024x2048 : Shape := ⟨2, ![1024, 2048]⟩
abbrev S256x2048 : Shape := ⟨2, ![256, 2048]⟩
abbrev S1x1x2048 : Shape := ⟨3, ![1, 1, 2048]⟩
abbrev S1x2048 : Shape := ⟨2, ![1, 2048]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 161
  | .vmem => 0
  | .smem => 0
  | _ => 0

abbrev hbmTy0_0 (i : Nat) : BufTy := match i % 128 with
  | 0 => ⟨S139264x1024, .f32⟩
  | 1 => ⟨S544, .i32⟩
  | 2 => ⟨S1, .i32⟩
  | 3 => ⟨S32x1024x2048, .f32⟩
  | 4 => ⟨S32x1x2048, .f32⟩
  | 5 => ⟨S32x1024x1024, .f32⟩
  | 6 => ⟨S32x1x1024, .f32⟩
  | 7 => ⟨S544x256x1024, .f32⟩
  | 8 => ⟨S_, .f32⟩
  | 9 => ⟨S544x256x1024, .f32⟩
  | 10 => ⟨S_, .i32⟩
  | 11 => ⟨S544x256x1024, .f32⟩
  | 12 => ⟨S544, .i32⟩
  | 13 => ⟨S32x1024x2048, .f32⟩
  | 14 => ⟨S32x1x2048, .f32⟩
  | 15 => ⟨S32x1024x1024, .f32⟩
  | 16 => ⟨S32x1x1024, .f32⟩
  | 17 => ⟨S_, .i32⟩
  | 18 => ⟨S544x256x1024, .f32⟩
  | 19 => ⟨S_, .i32⟩
  | 20 => ⟨S_, .i1⟩
  | 21 => ⟨S_, .i32⟩
  | 22 => ⟨S_, .i32⟩
  | 23 => ⟨S1x256x1024, .f32⟩
  | 24 => ⟨S256x1024, .f32⟩
  | 25 => ⟨S1, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S1x1024x2048, .f32⟩
  | 49 => ⟨S1024x2048, .f32⟩
  | 50 => ⟨S256x2048, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S1x1x2048, .f32⟩
  | 73 => ⟨S1x2048, .f32⟩
  | 74 => ⟨S256x2048, .f32⟩
  | 75 => ⟨S256x2048, .f32⟩
  | 76 => ⟨S256x1024, .f32⟩
  | 77 => ⟨S256x1024, .f32⟩
  | 78 => ⟨S_, .f32⟩
  | 79 => ⟨S256x1024, .f32⟩
  | 80 => ⟨S256x1024, .f32⟩
  | 81 => ⟨S_, .f32⟩
  | 82 => ⟨S_, .f32⟩
  | 83 => ⟨S_, .f32⟩
  | 84 => ⟨S256x1024, .f32⟩
  | 85 => ⟨S256x1024, .f32⟩
  | 86 => ⟨S_, .f32⟩
  | 87 => ⟨S256x1024, .f32⟩
  | 88 => ⟨S256x1024, .f32⟩
  | 89 => ⟨S_, .f32⟩
  | 90 => ⟨S256x1024, .f32⟩
  | 91 => ⟨S256x1024, .f32⟩
  | 92 => ⟨S256x1024, .f32⟩
  | 93 => ⟨S256x1024, .f32⟩
  | 94 => ⟨S_, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S256x1024, .f32⟩
  | 101 => ⟨S_, .f32⟩
  | 102 => ⟨S256x1024, .f32⟩
  | 103 => ⟨S256x1024, .f32⟩
  | 104 => ⟨S256x1024, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S1x1024x1024, .f32⟩
  | 127 => ⟨S1024x1024, .f32⟩
  | _ => ⟨S139264x1024, .f32⟩

abbrev hbmTy0_1 (i : Nat) : BufTy := match i % 128 with
  | 0 => ⟨S256x1024, .f32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S1x1x1024, .f32⟩
  | 23 => ⟨S1x1024, .f32⟩
  | 24 => ⟨S256x1024, .f32⟩
  | 25 => ⟨S256x1024, .f32⟩
  | 26 => ⟨S1x256x1024, .f32⟩
  | 27 => ⟨S_, .i32⟩
  | 28 => ⟨S_, .i32⟩
  | 29 => ⟨S544x256x1024, .f32⟩
  | 30 => ⟨S_, .i32⟩
  | 31 => ⟨S_, .i32⟩
  | 32 => ⟨S139264x1024, .f32⟩
  | _ => ⟨S139264x1024, .f32⟩

abbrev hbmTy (i : Nat) : BufTy := match i / 128 with
  | 0 => hbmTy0_0 i
  | 1 => hbmTy0_1 i
  | _ => ⟨S139264x1024, .f32⟩

abbrev bufTy : (tb : Table) → Fin (tcTables nBuf tb) → BufTy
  | .hbm, ⟨i, _⟩ => hbmTy i
  | _, _ => ⟨S139264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev main_v2_7 : Ref sig .tc := ⟨.hbm, 18, rfl⟩
abbrev main_while0c_c_7 : Ref sig .tc := ⟨.hbm, 19, rfl⟩
abbrev main_while0c_v4 : Ref sig .tc := ⟨.hbm, 20, rfl⟩
abbrev main_while0b_call0_c : Ref sig .tc := ⟨.hbm, 21, rfl⟩
abbrev main_while0b_call0_c_0 : Ref sig .tc := ⟨.hbm, 22, rfl⟩
abbrev main_while0b_call0_v0 : Ref sig .tc := ⟨.hbm, 23, rfl⟩
abbrev main_while0b_v4 : Ref sig .tc := ⟨.hbm, 24, rfl⟩
abbrev main_while0b_call1_v0 : Ref sig .tc := ⟨.hbm, 25, rfl⟩
abbrev main_while0b_v5 : Ref sig .tc := ⟨.hbm, 26, rfl⟩
abbrev main_while0b_c_7 : Ref sig .tc := ⟨.hbm, 27, rfl⟩
abbrev main_while0b_v6 : Ref sig .tc := ⟨.hbm, 28, rfl⟩
abbrev main_while0b_c_8 : Ref sig .tc := ⟨.hbm, 29, rfl⟩
abbrev main_while0b_v7 : Ref sig .tc := ⟨.hbm, 30, rfl⟩
abbrev main_while0b_v8 : Ref sig .tc := ⟨.hbm, 31, rfl⟩
abbrev main_while0b_c_9 : Ref sig .tc := ⟨.hbm, 32, rfl⟩
abbrev main_while0b_c_10 : Ref sig .tc := ⟨.hbm, 33, rfl⟩
abbrev main_while0b_v9 : Ref sig .tc := ⟨.hbm, 34, rfl⟩
abbrev main_while0b_c_11 : Ref sig .tc := ⟨.hbm, 35, rfl⟩
abbrev main_while0b_c_12 : Ref sig .tc := ⟨.hbm, 36, rfl⟩
abbrev main_while0b_v10 : Ref sig .tc := ⟨.hbm, 37, rfl⟩
abbrev main_while0b_c_13 : Ref sig .tc := ⟨.hbm, 38, rfl⟩
abbrev main_while0b_v11 : Ref sig .tc := ⟨.hbm, 39, rfl⟩
abbrev main_while0b_c_14 : Ref sig .tc := ⟨.hbm, 40, rfl⟩
abbrev main_while0b_c_15 : Ref sig .tc := ⟨.hbm, 41, rfl⟩
abbrev main_while0b_v12 : Ref sig .tc := ⟨.hbm, 42, rfl⟩
abbrev main_while0b_c_16 : Ref sig .tc := ⟨.hbm, 43, rfl⟩
abbrev main_while0b_c_17 : Ref sig .tc := ⟨.hbm, 44, rfl⟩
abbrev main_while0b_v13 : Ref sig .tc := ⟨.hbm, 45, rfl⟩
abbrev main_while0b_c_18 : Ref sig .tc := ⟨.hbm, 46, rfl⟩
abbrev main_while0b_v14 : Ref sig .tc := ⟨.hbm, 47, rfl⟩
abbrev main_while0b_v15 : Ref sig .tc := ⟨.hbm, 48, rfl⟩
abbrev main_while0b_v16 : Ref sig .tc := ⟨.hbm, 49, rfl⟩
abbrev main_while0b_v17 : Ref sig .tc := ⟨.hbm, 50, rfl⟩
abbrev main_while0b_c_19 : Ref sig .tc := ⟨.hbm, 51, rfl⟩
abbrev main_while0b_v18 : Ref sig .tc := ⟨.hbm, 52, rfl⟩
abbrev main_while0b_c_20 : Ref sig .tc := ⟨.hbm, 53, rfl⟩
abbrev main_while0b_v19 : Ref sig .tc := ⟨.hbm, 54, rfl⟩
abbrev main_while0b_v20 : Ref sig .tc := ⟨.hbm, 55, rfl⟩
abbrev main_while0b_c_21 : Ref sig .tc := ⟨.hbm, 56, rfl⟩
abbrev main_while0b_c_22 : Ref sig .tc := ⟨.hbm, 57, rfl⟩
abbrev main_while0b_v21 : Ref sig .tc := ⟨.hbm, 58, rfl⟩
abbrev main_while0b_c_23 : Ref sig .tc := ⟨.hbm, 59, rfl⟩
abbrev main_while0b_c_24 : Ref sig .tc := ⟨.hbm, 60, rfl⟩
abbrev main_while0b_v22 : Ref sig .tc := ⟨.hbm, 61, rfl⟩
abbrev main_while0b_c_25 : Ref sig .tc := ⟨.hbm, 62, rfl⟩
abbrev main_while0b_v23 : Ref sig .tc := ⟨.hbm, 63, rfl⟩
abbrev main_while0b_c_26 : Ref sig .tc := ⟨.hbm, 64, rfl⟩
abbrev main_while0b_c_27 : Ref sig .tc := ⟨.hbm, 65, rfl⟩
abbrev main_while0b_v24 : Ref sig .tc := ⟨.hbm, 66, rfl⟩
abbrev main_while0b_c_28 : Ref sig .tc := ⟨.hbm, 67, rfl⟩
abbrev main_while0b_c_29 : Ref sig .tc := ⟨.hbm, 68, rfl⟩
abbrev main_while0b_v25 : Ref sig .tc := ⟨.hbm, 69, rfl⟩
abbrev main_while0b_c_30 : Ref sig .tc := ⟨.hbm, 70, rfl⟩
abbrev main_while0b_v26 : Ref sig .tc := ⟨.hbm, 71, rfl⟩
abbrev main_while0b_v27 : Ref sig .tc := ⟨.hbm, 72, rfl⟩
abbrev main_while0b_v28 : Ref sig .tc := ⟨.hbm, 73, rfl⟩
abbrev main_while0b_v29 : Ref sig .tc := ⟨.hbm, 74, rfl⟩
abbrev main_while0b_v30 : Ref sig .tc := ⟨.hbm, 75, rfl⟩
abbrev main_while0b_v31 : Ref sig .tc := ⟨.hbm, 76, rfl⟩
abbrev main_while0b_v32 : Ref sig .tc := ⟨.hbm, 77, rfl⟩
abbrev main_while0b_cst_31 : Ref sig .tc := ⟨.hbm, 78, rfl⟩
abbrev main_while0b_v33 : Ref sig .tc := ⟨.hbm, 79, rfl⟩
abbrev main_while0b_v34 : Ref sig .tc := ⟨.hbm, 80, rfl⟩
abbrev main_while0b_cst_32 : Ref sig .tc := ⟨.hbm, 81, rfl⟩
abbrev main_while0b_cst_33 : Ref sig .tc := ⟨.hbm, 82, rfl⟩
abbrev main_while0b_call2_v0 : Ref sig .tc := ⟨.hbm, 83, rfl⟩
abbrev main_while0b_call2_v1 : Ref sig .tc := ⟨.hbm, 84, rfl⟩
abbrev main_while0b_call2_v2 : Ref sig .tc := ⟨.hbm, 85, rfl⟩
abbrev main_while0b_call2_v3 : Ref sig .tc := ⟨.hbm, 86, rfl⟩
abbrev main_while0b_call2_v4 : Ref sig .tc := ⟨.hbm, 87, rfl⟩
abbrev main_while0b_v35 : Ref sig .tc := ⟨.hbm, 88, rfl⟩
abbrev main_while0b_cst_34 : Ref sig .tc := ⟨.hbm, 89, rfl⟩
abbrev main_while0b_v36 : Ref sig .tc := ⟨.hbm, 90, rfl⟩
abbrev main_while0b_v37 : Ref sig .tc := ⟨.hbm, 91, rfl⟩
abbrev main_while0b_v38 : Ref sig .tc := ⟨.hbm, 92, rfl⟩
abbrev main_while0b_v39 : Ref sig .tc := ⟨.hbm, 93, rfl⟩
abbrev main_while0b_cst_35 : Ref sig .tc := ⟨.hbm, 94, rfl⟩
abbrev main_while0b_v40 : Ref sig .tc := ⟨.hbm, 95, rfl⟩
abbrev main_while0b_v41 : Ref sig .tc := ⟨.hbm, 96, rfl⟩
abbrev main_while0b_cst_36 : Ref sig .tc := ⟨.hbm, 97, rfl⟩
abbrev main_while0b_v42 : Ref sig .tc := ⟨.hbm, 98, rfl⟩
abbrev main_while0b_v43 : Ref sig .tc := ⟨.hbm, 99, rfl⟩
abbrev main_while0b_v44 : Ref sig .tc := ⟨.hbm, 100, rfl⟩
abbrev main_while0b_cst_37 : Ref sig .tc := ⟨.hbm, 101, rfl⟩
abbrev main_while0b_v45 : Ref sig .tc := ⟨.hbm, 102, rfl⟩
abbrev main_while0b_v46 : Ref sig .tc := ⟨.hbm, 103, rfl⟩
abbrev main_while0b_v47 : Ref sig .tc := ⟨.hbm, 104, rfl⟩
abbrev main_while0b_c_38 : Ref sig .tc := ⟨.hbm, 105, rfl⟩
abbrev main_while0b_v48 : Ref sig .tc := ⟨.hbm, 106, rfl⟩
abbrev main_while0b_c_39 : Ref sig .tc := ⟨.hbm, 107, rfl⟩
abbrev main_while0b_v49 : Ref sig .tc := ⟨.hbm, 108, rfl⟩
abbrev main_while0b_v50 : Ref sig .tc := ⟨.hbm, 109, rfl⟩
abbrev main_while0b_c_40 : Ref sig .tc := ⟨.hbm, 110, rfl⟩
abbrev main_while0b_c_41 : Ref sig .tc := ⟨.hbm, 111, rfl⟩
abbrev main_while0b_v51 : Ref sig .tc := ⟨.hbm, 112, rfl⟩
abbrev main_while0b_c_42 : Ref sig .tc := ⟨.hbm, 113, rfl⟩
abbrev main_while0b_c_43 : Ref sig .tc := ⟨.hbm, 114, rfl⟩
abbrev main_while0b_v52 : Ref sig .tc := ⟨.hbm, 115, rfl⟩
abbrev main_while0b_c_44 : Ref sig .tc := ⟨.hbm, 116, rfl⟩
abbrev main_while0b_v53 : Ref sig .tc := ⟨.hbm, 117, rfl⟩
abbrev main_while0b_c_45 : Ref sig .tc := ⟨.hbm, 118, rfl⟩
abbrev main_while0b_c_46 : Ref sig .tc := ⟨.hbm, 119, rfl⟩
abbrev main_while0b_v54 : Ref sig .tc := ⟨.hbm, 120, rfl⟩
abbrev main_while0b_c_47 : Ref sig .tc := ⟨.hbm, 121, rfl⟩
abbrev main_while0b_c_48 : Ref sig .tc := ⟨.hbm, 122, rfl⟩
abbrev main_while0b_v55 : Ref sig .tc := ⟨.hbm, 123, rfl⟩
abbrev main_while0b_c_49 : Ref sig .tc := ⟨.hbm, 124, rfl⟩
abbrev main_while0b_v56 : Ref sig .tc := ⟨.hbm, 125, rfl⟩
abbrev main_while0b_v57 : Ref sig .tc := ⟨.hbm, 126, rfl⟩
abbrev main_while0b_v58 : Ref sig .tc := ⟨.hbm, 127, rfl⟩
abbrev main_while0b_v59 : Ref sig .tc := ⟨.hbm, 128, rfl⟩
abbrev main_while0b_c_50 : Ref sig .tc := ⟨.hbm, 129, rfl⟩
abbrev main_while0b_v60 : Ref sig .tc := ⟨.hbm, 130, rfl⟩
abbrev main_while0b_c_51 : Ref sig .tc := ⟨.hbm, 131, rfl⟩
abbrev main_while0b_v61 : Ref sig .tc := ⟨.hbm, 132, rfl⟩
abbrev main_while0b_v62 : Ref sig .tc := ⟨.hbm, 133, rfl⟩
abbrev main_while0b_c_52 : Ref sig .tc := ⟨.hbm, 134, rfl⟩
abbrev main_while0b_c_53 : Ref sig .tc := ⟨.hbm, 135, rfl⟩
abbrev main_while0b_v63 : Ref sig .tc := ⟨.hbm, 136, rfl⟩
abbrev main_while0b_c_54 : Ref sig .tc := ⟨.hbm, 137, rfl⟩
abbrev main_while0b_c_55 : Ref sig .tc := ⟨.hbm, 138, rfl⟩
abbrev main_while0b_v64 : Ref sig .tc := ⟨.hbm, 139, rfl⟩
abbrev main_while0b_c_56 : Ref sig .tc := ⟨.hbm, 140, rfl⟩
abbrev main_while0b_v65 : Ref sig .tc := ⟨.hbm, 141, rfl⟩
abbrev main_while0b_c_57 : Ref sig .tc := ⟨.hbm, 142, rfl⟩
abbrev main_while0b_c_58 : Ref sig .tc := ⟨.hbm, 143, rfl⟩
abbrev main_while0b_v66 : Ref sig .tc := ⟨.hbm, 144, rfl⟩
abbrev main_while0b_c_59 : Ref sig .tc := ⟨.hbm, 145, rfl⟩
abbrev main_while0b_c_60 : Ref sig .tc := ⟨.hbm, 146, rfl⟩
abbrev main_while0b_v67 : Ref sig .tc := ⟨.hbm, 147, rfl⟩
abbrev main_while0b_c_61 : Ref sig .tc := ⟨.hbm, 148, rfl⟩
abbrev main_while0b_v68 : Ref sig .tc := ⟨.hbm, 149, rfl⟩
abbrev main_while0b_v69 : Ref sig .tc := ⟨.hbm, 150, rfl⟩
abbrev main_while0b_v70 : Ref sig .tc := ⟨.hbm, 151, rfl⟩
abbrev main_while0b_v71 : Ref sig .tc := ⟨.hbm, 152, rfl⟩
abbrev main_while0b_v72 : Ref sig .tc := ⟨.hbm, 153, rfl⟩
abbrev main_while0b_call3_v0 : Ref sig .tc := ⟨.hbm, 154, rfl⟩
abbrev main_while0b_call3_c : Ref sig .tc := ⟨.hbm, 155, rfl⟩
abbrev main_while0b_call3_c_0 : Ref sig .tc := ⟨.hbm, 156, rfl⟩
abbrev main_while0b_v73 : Ref sig .tc := ⟨.hbm, 157, rfl⟩
abbrev main_while0b_c_62 : Ref sig .tc := ⟨.hbm, 158, rfl⟩
abbrev main_while0b_v74 : Ref sig .tc := ⟨.hbm, 159, rfl⟩
abbrev main_v3 : Ref sig .tc := ⟨.hbm, 160, rfl⟩

abbrev nD : Nat := 1
abbrev τ : Topo := Topo.v7x

variable {F : FTy → Type} [FloatOps F]

abbrev main_while0_count : Scf.Loop 32 := ⟨0#32, 544#32, 1#32⟩
-- ==== Mix.lean ====
abbrev S32768x9216 : Shape := ⟨2, ![32768, 9216]⟩
abbrev S32768x2048 : Shape := ⟨2, ![32768, 2048]⟩
abbrev S32768x1024 : Shape := ⟨2, ![32768, 1024]⟩
abbrev S4x256x256 : Shape := ⟨3, ![4, 256, 256]⟩
abbrev S1x1024 : Shape := ⟨2, ![1, 1024]⟩
abbrev S2048x1024 : Shape := ⟨2, ![2048, 1024]⟩
abbrev S1024x1024 : Shape := ⟨2, ![1024, 1024]⟩
abbrev S1024x32 : Shape := ⟨2, ![1024, 32]⟩
abbrev S1x32 : Shape := ⟨2, ![1, 32]⟩
abbrev S32768x128 : Shape := ⟨2, ![32768, 128]⟩
abbrev S512x1024 : Shape := ⟨2, ![512, 1024]⟩
abbrev S16x1024 : Shape := ⟨2, ![16, 1024]⟩
abbrev S512x2048 : Shape := ⟨2, ![512, 2048]⟩
abbrev S512x128 : Shape := ⟨2, ![512, 128]⟩
abbrev S528x1024 : Shape := ⟨2, ![528, 1024]⟩
abbrev S512x1 : Shape := ⟨2, ![512, 1]⟩
abbrev S528x256 : Shape := ⟨2, ![528, 256]⟩
abbrev S527x256 : Shape := ⟨2, ![527, 256]⟩
abbrev S512x256 : Shape := ⟨2, ![512, 256]⟩
abbrev S1x256x256 : Shape := ⟨3, ![1, 256, 256]⟩
abbrev S256x256 : Shape := ⟨2, ![256, 256]⟩
abbrev S525x256 : Shape := ⟨2, ![525, 256]⟩
abbrev S521x256 : Shape := ⟨2, ![521, 256]⟩
abbrev S513x256 : Shape := ⟨2, ![513, 256]⟩
abbrev S512 : Shape := ⟨1, ![512]⟩
abbrev S512x32 : Shape := ⟨2, ![512, 32]⟩
abbrev S512x512 : Shape := ⟨2, ![512, 512]⟩
abbrev S32 : Shape := ⟨1, ![32]⟩

abbrev nBuf : Space → Nat
  | .hbm => 15
  | .vmem => 27
  | .smem => 0
  | _ => 0

abbrev bufTy : (tb : Table) → Fin (tcTables nBuf tb) → BufTy
  | .hbm, ⟨0, _⟩ => ⟨S32768x9216, .bf16⟩
  | .hbm, ⟨1, _⟩ => ⟨S32768x2048, .bf16⟩
  | .hbm, ⟨2, _⟩ => ⟨S32768x1024, .f32⟩
  | .hbm, ⟨3, _⟩ => ⟨S4x256x256, .bf16⟩
  | .hbm, ⟨4, _⟩ => ⟨S1x1024, .f32⟩
  | .hbm, ⟨5, _⟩ => ⟨S2048x1024, .bf16⟩
  | .hbm, ⟨6, _⟩ => ⟨S1024x1024, .bf16⟩
  | .hbm, ⟨7, _⟩ => ⟨S1x1024, .f32⟩
  | .hbm, ⟨8, _⟩ => ⟨S1024x32, .bf16⟩
  | .hbm, ⟨9, _⟩ => ⟨S1024x32, .bf16⟩
  | .hbm, ⟨10, _⟩ => ⟨S1x32, .f32⟩
  | .hbm, ⟨11, _⟩ => ⟨S32768x1024, .f32⟩
  | .hbm, ⟨12, _⟩ => ⟨S32768x1024, .f32⟩
  | .hbm, ⟨13, _⟩ => ⟨S32768x128, .f32⟩
  | .hbm, ⟨14, _⟩ => ⟨S1x32, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S4x256x256, .bf16⟩
  | .local _ .vmem, ⟨13, _⟩ => ⟨S1x1024, .f32⟩
  | .local _ .vmem, ⟨14, _⟩ => ⟨S2048x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x32, .bf16⟩
  | .local _ .vmem, ⟨18, _⟩ => ⟨S1024x32, .bf16⟩
  | .local _ .vmem, ⟨19, _⟩ => ⟨S1x32, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x128, .f32⟩
  | .local _ .vmem, ⟨25, _⟩ => ⟨S512x128, .f32⟩
  | .local _ .vmem, ⟨26, _⟩ => ⟨S1x32, .f32⟩
  | _, _ => ⟨S32768x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixRefIdeal.lean ====
abbrev S32768x9216 : Shape := ⟨2, ![32768, 9216]⟩
abbrev S32768x2048 : Shape := ⟨2, ![32768, 2048]⟩
abbrev S32768x1024 : Shape := ⟨2, ![32768, 1024]⟩
abbrev S4x256x256 : Shape := ⟨3, ![4, 256, 256]⟩
abbrev S1x1024 : Shape := ⟨2, ![1, 1024]⟩
abbrev S2048x1024 : Shape := ⟨2, ![2048, 1024]⟩
abbrev S1024x1024 : Shape := ⟨2, ![1024, 1024]⟩
abbrev S1024x32 : Shape := ⟨2, ![1024, 32]⟩
abbrev S1x32 : Shape := ⟨2, ![1, 32]⟩
abbrev S8x4096x9216 : Shape := ⟨3, ![8, 4096, 9216]⟩
abbrev S8x4096x1024 : Shape := ⟨3, ![8, 4096, 1024]⟩
abbrev S1024 : Shape := ⟨1, ![1024]⟩
abbrev S8x4096x4x256 : Shape := ⟨4, ![8, 4096, 4, 256]⟩
abbrev S_ : Shape := ⟨0, ![]⟩
abbrev S4096 : Shape := ⟨1, ![4096]⟩
abbrev S8x4096x1x256 : Shape := ⟨4, ![8, 4096, 1, 256]⟩
abbrev S8x4096x256 : Shape := ⟨3, ![8, 4096, 256]⟩
abbrev S8x4098x256 : Shape := ⟨3, ![8, 4098, 256]⟩
abbrev S1x4096x1 : Shape := ⟨3, ![1, 4096, 1]⟩
abbrev S1x256x256 : Shape := ⟨3, ![1, 256, 256]⟩
abbrev S256x256 : Shape := ⟨2, ![256, 256]⟩
abbrev S8x4100x256 : Shape := ⟨3, ![8, 4100, 256]⟩
abbrev S8x4104x256 : Shape := ⟨3, ![8, 4104, 256]⟩
abbrev S8x4112x256 : Shape := ⟨3, ![8, 4112, 256]⟩
abbrev S1x1x1024 : Shape := ⟨3, ![1, 1, 1024]⟩
abbrev S8x4096x2048 : Shape := ⟨3, ![8, 4096, 2048]⟩
abbrev S8x4096 : Shape := ⟨2, ![8, 4096]⟩
abbrev S8x4096x1 : Shape := ⟨3, ![8, 4096, 1]⟩

abbrev nBuf : Space → Nat
  | .hbm => 164
  | .vmem => 0
  | .smem => 0
  | _ => 0

abbrev hbmTy0_0 (i : Nat) : BufTy := match i % 128 with
  | 0 => ⟨S32768x9216, .bf16⟩
  | 1 => ⟨S32768x2048, .bf16⟩
  | 2 => ⟨S32768x1024, .f32⟩
  | 3 => ⟨S4x256x256, .bf16⟩
  | 4 => ⟨S1x1024, .f32⟩
  | 5 => ⟨S2048x1024, .bf16⟩
  | 6 => ⟨S1024x1024, .bf16⟩
  | 7 => ⟨S1x1024, .f32⟩
  | 8 => ⟨S1024x32, .bf16⟩
  | 9 => ⟨S1024x32, .bf16⟩
  | 10 => ⟨S1x32, .f32⟩
  | 11 => ⟨S8x4096x9216, .bf16⟩
  | 12 => ⟨S8x4096x9216, .f32⟩
  | 13 => ⟨S8x4096x1024, .f32⟩
  | 14 => ⟨S8x4096x1024, .f32⟩
  | 15 => ⟨S1024, .f32⟩
  | 16 => ⟨S8x4096x4x256, .f32⟩
  | 17 => ⟨S_, .f32⟩
  | 18 => ⟨S_, .f32⟩
  | 19 => ⟨S8x4096x4x256, .f32⟩
  | 20 => ⟨S4096, .f32⟩
  | 21 => ⟨S8x4096x1x256, .f32⟩
  | 22 => ⟨S8x4096x256, .f32⟩
  | 23 => ⟨S_, .i32⟩
  | 24 => ⟨S_, .f32⟩
  | 25 => ⟨S8x4098x256, .f32⟩
  | 26 => ⟨S8x4096x256, .f32⟩
  | 27 => ⟨S_, .f32⟩
  | 28 => ⟨S4096, .f32⟩
  | 29 => ⟨S4096, .f32⟩
  | 30 => ⟨S_, .f32⟩
  | 31 => ⟨S4096, .f32⟩
  | 32 => ⟨S4096, .f32⟩
  | 33 => ⟨S1x4096x1, .f32⟩
  | 34 => ⟨S8x4096x256, .f32⟩
  | 35 => ⟨S8x4096x256, .f32⟩
  | 36 => ⟨S8x4096x256, .f32⟩
  | 37 => ⟨S8x4096x1x256, .f32⟩
  | 38 => ⟨S8x4096x256, .f32⟩
  | 39 => ⟨S8x4096x256, .f32⟩
  | 40 => ⟨S1x256x256, .bf16⟩
  | 41 => ⟨S256x256, .bf16⟩
  | 42 => ⟨S256x256, .f32⟩
  | 43 => ⟨S8x4096x256, .f32⟩
  | 44 => ⟨S8x4096x1x256, .f32⟩
  | 45 => ⟨S8x4096x256, .f32⟩
  | 46 => ⟨S_, .i32⟩
  | 47 => ⟨S_, .f32⟩
  | 48 => ⟨S8x4100x256, .f32⟩
  | 49 => ⟨S8x4096x256, .f32⟩
  | 50 => ⟨S_, .f32⟩
  | 51 => ⟨S4096, .f32⟩
  | 52 => ⟨S4096, .f32⟩
  | 53 => ⟨S_, .f32⟩
  | 54 => ⟨S4096, .f32⟩
  | 55 => ⟨S4096, .f32⟩
  | 56 => ⟨S1x4096x1, .f32⟩
  | 57 => ⟨S8x4096x256, .f32⟩
  | 58 => ⟨S8x4096x256, .f32⟩
  | 59 => ⟨S8x4096x256, .f32⟩
  | 60 => ⟨S8x4096x1x256, .f32⟩
  | 61 => ⟨S8x4096x256, .f32⟩
  | 62 => ⟨S8x4096x256, .f32⟩
  | 63 => ⟨S1x256x256, .bf16⟩
  | 64 => ⟨S256x256, .bf16⟩
  | 65 => ⟨S256x256, .f32⟩
  | 66 => ⟨S8x4096x256, .f32⟩
  | 67 => ⟨S8x4096x1x256, .f32⟩
  | 68 => ⟨S8x4096x256, .f32⟩
  | 69 => ⟨S_, .i32⟩
  | 70 => ⟨S_, .f32⟩
  | 71 => ⟨S8x4104x256, .f32⟩
  | 72 => ⟨S8x4096x256, .f32⟩
  | 73 => ⟨S_, .f32⟩
  | 74 => ⟨S4096, .f32⟩
  | 75 => ⟨S4096, .f32⟩
  | 76 => ⟨S_, .f32⟩
  | 77 => ⟨S4096, .f32⟩
  | 78 => ⟨S4096, .f32⟩
  | 79 => ⟨S1x4096x1, .f32⟩
  | 80 => ⟨S8x4096x256, .f32⟩
  | 81 => ⟨S8x4096x256, .f32⟩
  | 82 => ⟨S8x4096x256, .f32⟩
  | 83 => ⟨S8x4096x1x256, .f32⟩
  | 84 => ⟨S8x4096x256, .f32⟩
  | 85 => ⟨S8x4096x256, .f32⟩
  | 86 => ⟨S1x256x256, .bf16⟩
  | 87 => ⟨S256x256, .bf16⟩
  | 88 => ⟨S256x256, .f32⟩
  | 89 => ⟨S8x4096x256, .f32⟩
  | 90 => ⟨S8x4096x1x256, .f32⟩
  | 91 => ⟨S8x4096x256, .f32⟩
  | 92 => ⟨S_, .i32⟩
  | 93 => ⟨S_, .f32⟩
  | 94 => ⟨S8x4112x256, .f32⟩
  | 95 => ⟨S8x4096x256, .f32⟩
  | 96 => ⟨S_, .f32⟩
  | 97 => ⟨S4096, .f32⟩
  | 98 => ⟨S4096, .f32⟩
  | 99 => ⟨S_, .f32⟩
  | 100 => ⟨S4096, .f32⟩
  | 101 => ⟨S4096, .f32⟩
  | 102 => ⟨S1x4096x1, .f32⟩
  | 103 => ⟨S8x4096x256, .f32⟩
  | 104 => ⟨S8x4096x256, .f32⟩
  | 105 => ⟨S8x4096x256, .f32⟩
  | 106 => ⟨S8x4096x1x256, .f32⟩
  | 107 => ⟨S8x4096x256, .f32⟩
  | 108 => ⟨S8x4096x256, .f32⟩
  | 109 => ⟨S1x256x256, .bf16⟩
  | 110 => ⟨S256x256, .bf16⟩
  | 111 => ⟨S256x256, .f32⟩
  | 112 => ⟨S8x4096x256, .f32⟩
  | 113 => ⟨S8x4096x1024, .f32⟩
  | 114 => ⟨S1x1x1024, .f32⟩
  | 115 => ⟨S8x4096x1024, .f32⟩
  | 116 => ⟨S8x4096x1024, .f32⟩
  | 117 => ⟨S8x4096x2048, .bf16⟩
  | 118 => ⟨S8x4096x2048, .f32⟩
  | 119 => ⟨S2048x1024, .f32⟩
  | 120 => ⟨S8x4096x1024, .f32⟩
  | 121 => ⟨S8x4096x1024, .f32⟩
  | 122 => ⟨S8x4096x1024, .f32⟩
  | 123 => ⟨S8x4096x1024, .f32⟩
  | 124 => ⟨S8x4096x1024, .f32⟩
  | 125 => ⟨S_, .f32⟩
  | 126 => ⟨S8x4096x1024, .f32⟩
  | 127 => ⟨S8x4096x1024, .f32⟩
  | _ => ⟨S32768x9216, .bf16⟩

abbrev hbmTy0_1 (i : Nat) : BufTy := match i % 128 with
  | 0 => ⟨S_, .f32⟩
  | 1 => ⟨S8x4096x1024, .f32⟩
  | 2 => ⟨S8x4096x1024, .f32⟩
  | 3 => ⟨S8x4096x1024, .f32⟩
  | 4 => ⟨S8x4096x1024, .f32⟩
  | 5 => ⟨S8x4096x1024, .f32⟩
  | 6 => ⟨S_, .f32⟩
  | 7 => ⟨S8x4096x1024, .f32⟩
  | 8 => ⟨S8x4096x1024, .f32⟩
  | 9 => ⟨S_, .f32⟩
  | 10 => ⟨S8x4096x1024, .f32⟩
  | 11 => ⟨S8x4096x1024, .f32⟩
  | 12 => ⟨S8x4096x1024, .f32⟩
  | 13 => ⟨S8x4096x1024, .f32⟩
  | 14 => ⟨S1024x1024, .f32⟩
  | 15 => ⟨S8x4096x1024, .f32⟩
  | 16 => ⟨S8x4096x1024, .f32⟩
  | 17 => ⟨S1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S32768x1024, .f32⟩
  | 35 => ⟨S32768x1024, .f32⟩
  | _ => ⟨S32768x9216, .bf16⟩

abbrev hbmTy (i : Nat) : BufTy := match i / 128 with
  | 0 => hbmTy0_0 i
  | 1 => hbmTy0_1 i
  | _ => ⟨S32768x9216, .bf16⟩

abbrev bufTy : (tb : Table) → Fin (tcTables nBuf tb) → BufTy
  | .hbm, ⟨i, _⟩ => hbmTy i
  | _, _ => ⟨S32768x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_call0_cst : Ref sig .tc := ⟨.hbm, 17, rfl⟩
abbrev main_call0_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_1 : Ref sig .tc := ⟨.hbm, 46, rfl⟩
abbrev main_call2_v0 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_4 : Ref sig .tc := ⟨.hbm, 69, rfl⟩
abbrev main_call3_v0 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_7 : Ref sig .tc := ⟨.hbm, 92, rfl⟩
abbrev main_call4_v0 : Ref sig .tc := ⟨.hbm, 93, rfl⟩
abbrev main_v67 : Ref sig .tc := ⟨.hbm, 94, rfl⟩
abbrev main_v68 : Ref sig .tc := ⟨.hbm, 95, rfl⟩
abbrev main_cst_8 : Ref sig .tc := ⟨.hbm, 96, rfl⟩
abbrev main_v69 : Ref sig .tc := ⟨.hbm, 97, rfl⟩
abbrev main_v70 : Ref sig .tc := ⟨.hbm, 98, rfl⟩
abbrev main_cst_9 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_10 : Ref sig .tc := ⟨.hbm, 125, rfl⟩
abbrev main_v96 : Ref sig .tc := ⟨.hbm, 126, rfl⟩
abbrev main_v97 : Ref sig .tc := ⟨.hbm, 127, rfl⟩
abbrev main_cst_11 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_12 : Ref sig .tc := ⟨.hbm, 134, rfl⟩
abbrev main_v103 : Ref sig .tc := ⟨.hbm, 135, rfl⟩
abbrev main_v104 : Ref sig .tc := ⟨.hbm, 136, rfl⟩
abbrev main_cst_13 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_14 : Ref sig .tc := ⟨.hbm, 147, rfl⟩
abbrev main_v114 : Ref sig .tc := ⟨.hbm, 148, rfl⟩
abbrev main_v115 : Ref sig .tc := ⟨.hbm, 149, rfl⟩
abbrev main_cst_15 : Ref sig .tc := ⟨.hbm, 150, rfl⟩
abbrev main_v116 : Ref sig .tc := ⟨.hbm, 151, rfl⟩
abbrev main_v117 : Ref sig .tc := ⟨.hbm, 152, rfl⟩
abbrev main_cst_16 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩

abbrev nD : Nat := 1
abbrev τ : Topo := Topo.v7x

variable {F : FTy → Type} [FloatOps F]
-- ==== Proof.Frames.lean ====
/-
  The frames of the two reference programs: neither has a kernel, so each is its run's last part (the arguments
  unchanged) and the counters stay at zero because neither program has one.
-/
module

public import proofs.«01_k».proof.Defs
public import proofs.«01_k».proof.Proof.Gen.ReferenceIdeal.Run
public import proofs.«01_k».proof.Proof.Gen.InProjRefIdeal.Run

@[expose] public section

noncomputable section

namespace Cert.Proof

open Idealize.ShloMosaic Idealize.SL.Sem

/-- The retention reference runs to its end, its argument unchanged and the counters at zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The projection reference runs to its end, its arguments unchanged and the counters at zero. -/
theorem inProjRef_frame : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run (F := Ideal) m g)

end Cert.Proof

end
-- ==== Proof.InProjValue.lean ====
/-
  What the projection kernel leaves in its result array, over the extended reals: row `R`, column `C` is the sum over
  the 1024 features of the normalized row times the weight's column (`kernel_apply`).

  The kernel walks a 32 × 9 grid of [1024, 1024] blocks. At the first column block of a row block it normalizes the rows
  and keeps them in scratch; at every column block it multiplies the kept rows by the weight block.
-/
module

public import proofs.«01_k».proof.Proof.Gen.InProjIdeal.Value
public import Idealize.ShloMosaic.Lib.ValueIdx
public import Idealize.ShloMosaic.Lib.StableHlo.Run
public import Idealize.ShloMosaic.PureOps.Ideal.Laws
public import Idealize.ShloMosaic.Lib.Tactic

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.ValueIdx
open Idealize.ShloMosaic.Pipeline (Dat)

theorem zero_off : (![0, 0] : Fin 2 → Nat) = fun _ => 0 := funext fun a => by fin_cases a <;> rfl

section Bodies
variable {F : FTy → Type} [FloatOps F]

/-- At the first column block the scratch is left holding the normalized rows. -/
theorem scratch_A (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1024 .bf16) (h6 : a6.IsWhole)
    (hc : cond0_0 i) (x0 : Vec F S1024x1024 .f32) (x1 : Vec F S1x1024 .f32) (x2 : Vec F S1024x1024 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zero_off]
  simp only [View.readAt_eq_ld, h2.read_unread, h3.read_unread, View.ld_unit_zero (S := S1024x1024) zero_off,
    View.ld_unit_zero (S := S1x1024) zero_off]

/-- At the first column block the output block is the product of the rows just normalized with the weight block. -/
theorem out_A (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1024 .bf16) (h6 : a6.IsWhole)
    (hc : cond0_0 i) (x0 : Vec F S1024x1024 .f32) (x1 : Vec F S1x1024 .f32) (x2 : Vec F S1024x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zero_off, View.readCov_unit_zero (S := S1024x1024) _ zero_off]
  simp only [View.readAt_eq_ld, h2.read_unread, h3.read_unread, h4.read_unread, View.ld_unit_zero (S := S1024x1024) zero_off,
    View.ld_unit_zero (S := S1x1024) zero_off]

/-- At the later column blocks the output block is the product of the kept rows with the weight block. -/
theorem out_B (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S1024x1024 .bf16) (h5 : a5.IsWhole) (a6 : Memref sig .tc .vmem S1024x1024 .bf16) (h6 : a6.IsWhole)
    (hc : ¬cond0_0 i) (x0 : Vec F S1024x1024 .f32) (x1 : Vec F S1x1024 .f32) (x2 xs : Vec F S1024x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero zero_off]
  simp only [View.readAt_eq_ld, h4.read_unread, h6.read_unread, View.ld_unit_zero (S := S1024x1024) zero_off]

end Bodies

variable (m : (ℓ : Loc nD τ sig) → Buf (Elt Ideal) ℓ)

/-! ## The blocks read at an index -/

/-- A row's normalized element: the element times the reciprocal root of the row's mean square plus the constant,
    times the feature's gain. -/
def nrm (X : S8x4096x1024.Idx → EReal) (G : S1x1024.Idx → EReal) (b : Fin 8) (s : Fin 4096) (k : Fin 1024) : EReal :=
  X (ix3 b s k) * Ideal.rsqrt (Ideal.div (∑ j : Fin 1024, X (ix3 b s j) * X (ix3 b s j)) (Ideal.ofBits .f32 0x44800000#32)
    + Ideal.ofBits .f32 0x358637BD#32) * G (ix2 0 k)

/-- The block the first payload makes, read at an index. -/
theorem pay1_apply (x : Vec Ideal S1024x1024 .f32) (g : Vec Ideal S1x1024 .f32) (r k : Fin 1024) :
    k0_pay1 x g (ix2 r k) = x (ix2 r k) * Ideal.rsqrt (Ideal.div (∑ j : Fin 1024, x (ix2 r j) * x (ix2 r j))
      (Ideal.ofBits .f32 0x44800000#32) + Ideal.ofBits .f32 0x358637BD#32) * g (ix2 0 k) := by
  unfold k0_pay1
  simp only [shapeCast_self, truncf_apply, mulf_apply]
  rw [broadcastTo_apply (k := ix2 r 0) _ _ _ (by intro a; fin_cases a <;> rfl),
    broadcastTo_apply (k := ix2 0 k) _ _ _ (by intro a; fin_cases a <;> rfl)]
  have e : ∀ y : FVec Ideal S1024x1 .f32, rsqrt y (ix2 r 0) = Ideal.rsqrt (y (ix2 r 0)) := fun _ => rfl
  rw [e, addf_apply, divf_apply, shapeCast_apply (k := ix1 r) _ _ _ (by
      rewrite [Shape.rowMajor_val_two, Shape.rowMajor_val_one]; show r.val = r.val * 1 + 0; omega)]
  have l : ∀ j : Fin 1024, reduces_S1024x1024_S1024.lift (ix1 r) j = ix2 r j := fun j => funext fun a => Fin.ext (by
    match a with | ⟨0, _⟩ => rfl | ⟨1, _⟩ => rfl)
  have hm : (multiReduction .add [1] S1024 (mulf x x : FVec Ideal S1024x1024 .f32) 0x00000000#32 reduces_S1024x1024_S1024 (.inl rfl) rfl : FVec Ideal S1024 .f32) (ix1 r)
      = ∑ j : Fin 1024, x (ix2 r j) * x (ix2 r j) := by
    refine (Ideal.multiReduction_add_single (mulf x x) _ reduces_S1024x1024_S1024 (.inl rfl) rfl (ix1 r)).trans ?_
    exact Finset.sum_congr rfl fun j _ => congrArg (mulf x x : FVec Ideal S1024x1024 .f32) (l j)
  rw [hm]
  rfl

/-- The block the second payload makes, read at an index: a row times a column. -/
theorem pay2_apply (x w : Vec Ideal S1024x1024 .bf16) (r c : Fin 1024) :
    k0_pay2 x w (ix2 r c) = ∑ k : Fin 1024, x (ix2 r k) * w (ix2 k c) := by
  unfold k0_pay2
  simp only [shapeCast_self, truncf_apply, matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  congr 1
  · refine congrArg x (funext fun a => Fin.ext ?_)
    match a with
    | ⟨0, _⟩ => rfl
    | ⟨1, _⟩ => exact hk
  · refine congrArg w (funext fun a => Fin.ext ?_)
    match a with
    | ⟨0, _⟩ => exact hk
    | ⟨1, _⟩ => rfl

/-- The kernel's arguments: the token rows, the gains, the weight. -/
abbrev argX (c : Dev nD) : S8x4096x1024.Idx → EReal := m ((c : Thread nD τ).loc main_arg0)
abbrev argG (c : Dev nD) : S1x1024.Idx → EReal := m ((c : Thread nD τ).loc main_arg1)
abbrev argW (c : Dev nD) : S1x1024x9216.Idx → EReal := m ((c : Thread nD τ).loc main_arg2)

theorem V_x (c : Dev nD) : V m c main_v0 = shapeCast S32768x1024 (argX m c) shapeCasts_S8x4096x1024_S32768x1024 := by
  unfold V hostOps0
  after_results <;> rfl

theorem V_g (c : Dev nD) : V m c main_v2 = shapeCast S1x1024 (shapeCast S1024 (argG m c) shapeCasts_S1x1024_S1024) shapeCasts_S1024_S1x1024 := by
  unfold V hostOps0
  after_results <;> rfl

theorem V_w (c : Dev nD) : V m c main_v4 = (truncf .bf16 (shapeCast S1024x9216 (argW m c) shapeCasts_S1x1024x9216_S1024x9216 : FVec Ideal S1024x9216 .f32) bitsLt_bf16_f32 : FVec Ideal S1024x9216 .bf16) := by
  unfold V hostOps0
  after_results <;> rfl

theorem idx_in : ∀ t : Fin cfg0.N, win0_0.index t (0 : Fin 2) = t.val / 9 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 9 :=
  (by decide +kernel : ∀ t : Fin grid0.N, _)

theorem iblk_x (c : Dev nD) (t : Fin cfg0.N) (r k : Fin 1024) (b : Fin 8) (s : Fin 4096)
    (h : b.val * 4096 + s.val = t.val / 9 * 1024 + r.val) : (iblk m c 0 t : Vec Ideal S1024x1024 .f32) (ix2 r k) = argX m c (ix3 b s k) := by
  unfold iblk
  rw [View.read_apply]
  show V m c main_v0 _ = _
  rw [V_x]
  obtain ⟨e0, e1, -⟩ := idx_in t
  refine shapeCast_apply _ _ _ _ ?_
  rewrite [Shape.rowMajor_val_three, Shape.rowMajor_val_two]
  show (b.val * 4096 + s.val) * 1024 + k.val = (win0_0.index t (0 : Fin 2) * 1024 + 1 * r.val) * 1024 + (win0_0.index t (1 : Fin 2) * 1024 + 1 * k.val)
  rw [e0, e1]; omega

theorem iblk_g (c : Dev nD) (t : Fin cfg0.N) (k : Fin 1024) : (iblk m c 1 t : Vec Ideal S1x1024 .f32) (ix2 0 k) = argG m c (ix2 0 k) := by
  unfold iblk
  rw [View.read_apply]
  show V m c main_v2 _ = _
  rw [V_g, shapeCast_shapeCast]
  obtain ⟨-, -, e0, e1, -⟩ := idx_in t
  refine congrArg (argG m c) (funext fun a => Fin.ext ?_)
  match a with
  | ⟨0, _⟩ => show win0_1.index t (0 : Fin 2) * 1 + 1 * 0 = 0; rw [e0]
  | ⟨1, _⟩ => show win0_1.index t (1 : Fin 2) * 1024 + 1 * k.val = k.val; rw [e1]; omega

theorem iblk_w (c : Dev nD) (t : Fin cfg0.N) (k q : Fin 1024) (C : Fin 9216) (h : C.val = t.val % 9 * 1024 + q.val) :
    (iblk m c 2 t : Vec Ideal S1024x1024 .bf16) (ix2 k q) = argW m c (ix3 0 k C) := by
  unfold iblk
  rw [View.read_apply]
  show V m c main_v4 _ = _
  rw [V_w, truncf_apply]
  obtain ⟨-, -, -, -, e0, e1⟩ := idx_in t
  refine shapeCast_apply _ _ _ _ ?_
  rewrite [Shape.rowMajor_val_three, Shape.rowMajor_val_two]
  show (0 * 1024 + k.val) * 9216 + C.val = (win0_2.index t (0 : Fin 2) * 1024 + 1 * k.val) * 9216 + (win0_2.index t (1 : Fin 2) * 1024 + 1 * q.val)
  rw [e0, e1]; omega

/-- The scratch after a point holds the normalized rows of the point's row block. -/
theorem scratch_apply (c : Dev nD) : ∀ (n : ℕ) (hn : n < cfg0.N) (r k : Fin 1024) (b : Fin 8) (s : Fin 4096),
    b.val * 4096 + s.val = n / 9 * 1024 + r.val → (outsAt0 m c n hn).2 (ix2 r k) = nrm (argX m c) (argG m c) b s k := by
  have key : ∀ (t : Fin cfg0.N) (h0 : t.val % 9 = 0) (r k : Fin 1024) (b : Fin 8) (s : Fin 4096),
      b.val * 4096 + s.val = t.val / 9 * 1024 + r.val → (outsAt0 m c t.val t.isLt).2 (ix2 r k) = nrm (argX m c) (argG m c) b s k := by
    intro t h0 r k b s h
    rw [outsAt0_A m c t h0]
    dsimp only
    rw [scratch_A, pay1_apply, iblk_x m c t r k b s h, iblk_g]
    simp only [iblk_x m c t r _ b s h]
    rfl
  have keep : ∀ (t : Fin cfg0.N) (h0 : ¬t.val % 9 = 0),
      (outsAt0 m c t.val t.isLt).2 = (outsAt0 m c (t.val - 1) (Nat.lt_of_le_of_lt (Nat.sub_le _ _) t.isLt)).2 := by
    intro t h0
    generalize hp : outsAt0 m c (t.val - 1) (Nat.lt_of_le_of_lt (Nat.sub_le _ _) t.isLt) = p
    rw [outsAt0_B m c t h0, hp]
    dsimp only
    unfold sout0_B_0
    rfl
  intro n
  induction n with
  | zero => intro hn r k b s h; exact key ⟨0, hn⟩ rfl r k b s h
  | succ n ih =>
    intro hn r k b s h
    by_cases h0 : (n + 1) % 9 = 0
    · exact key ⟨n + 1, hn⟩ h0 r k b s h
    · exact (congrFun (keep ⟨n + 1, hn⟩ h0) _).trans (ih _ r k b s (by omega))

/-- The output block after a point: rows times columns. -/
theorem block_apply (c : Dev nD) (t : Fin cfg0.N) (r q : Fin 1024) (b : Fin 8) (s : Fin 4096) (C : Fin 9216)
    (h : b.val * 4096 + s.val = t.val / 9 * 1024 + r.val) (hC : C.val = t.val % 9 * 1024 + q.val) :
    (outsAt0 m c t.val t.isLt).1 (ix2 r q) = ∑ k : Fin 1024, nrm (argX m c) (argG m c) b s k * argW m c (ix3 0 k C) := by
  have e : (outsAt0 m c t.val t.isLt).1 = k0_pay2 (outsAt0 m c t.val t.isLt).2 (iblk m c 2 t) := by
    by_cases h0 : t.val % 9 = 0
    · rw [outsAt0_A m c t h0]
      dsimp only
      rw [out_A, scratch_A]
    · rw [outsAt0_B m c t h0]
      dsimp only
      rw [out_B]
      rfl
  rw [e, pay2_apply]
  refine Finset.sum_congr rfl fun k _ => ?_
  rw [scratch_apply m c t.val t.isLt r k b s h, iblk_w m c t k q C hC]

/-- THE RESULT ARRAY at a row and a column. -/
theorem G3_apply (c : Dev nD) (i : S32768x9216.Idx) (b : Fin 8) (s : Fin 4096) (h : b.val * 4096 + s.val = (i 0).val) :
    G3 m c i = ∑ k : Fin 1024, nrm (argX m c) (argG m c) b s k * argW m c (ix3 0 k (i 1)) := by
  have h0 : (i 0).val < 32768 := (i 0).isLt
  have h1 : (i 1).val < 9216 := (i 1).isLt
  have hN : cfg0.N = 288 := N_0
  have hp : pt3Of i < cfg0.N := by
    show 9 * ((i 0).val / 1024 - 0) + 1 * ((i 1).val / 1024 - 0) < cfg0.N
    omega
  unfold G3
  rw [dif_pos hp]
  have e := outsAt0_sweep m c (pt3Of i) hp
  rw [← e]
  have hl : loc3Of i = ix2 ⟨(i 0).val % 1024, Nat.mod_lt _ (by decide)⟩ ⟨(i 1).val % 1024, Nat.mod_lt _ (by decide)⟩ :=
    funext fun a => Fin.ext (by match a with | ⟨0, _⟩ => rfl | ⟨1, _⟩ => rfl)
  rw [hl]
  refine block_apply m c ⟨pt3Of i, hp⟩ _ _ b s (i 1) ?_ ?_
  · show b.val * 4096 + s.val = (9 * ((i 0).val / 1024 - 0) + 1 * ((i 1).val / 1024 - 0)) / 9 * 1024 + (i 0).val % 1024
    omega
  · show (i 1).val = (9 * ((i 0).val / 1024 - 0) + 1 * ((i 1).val / 1024 - 0)) % 9 * 1024 + (i 1).val % 1024
    omega

end Cert.InProjIdeal.Value

end
-- ==== Proof.InProjAlgebraic.lean ====
/-
  The projection: the kernel's result array equals the reference's over the extended reals, entry by entry. Both are
  the normalized row times the weight's column, the reference with its batch and sequence axes apart.
-/
module

public import proofs.«01_k».proof.Defs
public import proofs.«01_k».proof.Proof.InProjValue
public import proofs.«01_k».proof.Proof.Gen.InProjRefIdeal.Read

@[expose] public section

set_option maxRecDepth 16384

noncomputable section

namespace Cert.Proof

open Idealize.ShloMosaic Idealize.ShloMosaic.TcCoe Idealize.SL.Sem Idealize.ShloMosaic.ValueIdx
open Cert.InProjRefIdeal.Read

/-- The reference's normalized element. -/
theorem ref_nrm (x : Cert.InProjIdeal.S8x4096x1024.Idx → EReal) (g : Cert.InProjIdeal.S1x1024.Idx → EReal) (b : Fin 8) (s : Fin 4096) (k : Fin 1024) :
    val_main_v13 (F := Ideal) x g (ix3 b s k) = Cert.InProjIdeal.Value.nrm x g b s k := by
  rw [val_main_v13_apply, val_main_v9_apply, val_main_v8_apply, val_main_v7_apply, val_main_v6_apply, val_main_v4_apply, val_main_v2_apply,
    val_main_v1_apply, val_main_v3_apply, val_main_v5_apply, val_main_v12_apply, val_main_v11_apply, val_main_v10_apply, val_main_cst_apply]
  have hz : (FloatOps.ofBits .f32 0x00000000#32 : Ideal .f32) = (0 : EReal) := Ideal.ofBits_zero_f32
  rw [hz, zero_add]
  have hg : idx_main_v10 (idx_main_v11 (idx_main_v12 (ix3 b s k))) = ix2 0 k := funext fun a => Fin.ext (by
    match a with
    | ⟨0, _⟩ => rfl
    | ⟨1, _⟩ => exact Nat.mod_eq_of_lt k.isLt)
  have hx : ∀ j : Fin 1024, idx_main_v1 (idx_main_v2 (idx_main_v8 (ix3 b s k))) j = ix3 b s j := fun j => funext fun a => Fin.ext (by
    match a with | ⟨0, _⟩ => rfl | ⟨1, _⟩ => rfl | ⟨2, _⟩ => rfl)
  rw [hg]
  simp only [hx, val_main_v0_apply]
  rfl

/-- The reference's result at a row and a column. -/
theorem ref_apply (x : Cert.InProjIdeal.S8x4096x1024.Idx → EReal) (g : Cert.InProjIdeal.S1x1024.Idx → EReal) (w : Cert.InProjIdeal.S1x1024x9216.Idx → EReal)
    (i : Cert.InProjIdeal.S32768x9216.Idx) (b : Fin 8) (s : Fin 4096) (h : b.val * 4096 + s.val = (i 0).val) :
    val_main_v17 (F := Ideal) x g w i = ∑ k : Fin 1024, Cert.InProjIdeal.Value.nrm x g b s k * w (ix3 0 k (i 1)) := by
  have h1 : (i 1).val < 9216 := (i 1).isLt
  have e : ∀ y : EReal, (FloatOps.truncf .bf16 Cert.InProjRefIdeal.Gen.facts.bitsLt_bf16_f32 (y : Ideal .f32) : Ideal .bf16) = y := fun _ => rfl
  rw [val_main_v17_apply, e, val_main_v16_apply, val_main_v15_apply]
  refine Finset.sum_congr rfl fun k _ => ?_
  have hl : lidx_main_v15 (idx_main_v16 i) k = ix3 b s k := funext fun a => Fin.ext (by
    match a with
    | ⟨0, _⟩ => show ((i 0).val * 9216 + (i 1).val) / 37748736 = b.val; omega
    | ⟨1, _⟩ => show ((i 0).val * 9216 + (i 1).val) / 9216 % 4096 = s.val; omega
    | ⟨2, _⟩ => rfl)
  have hr : idx_main_v14 (ridx_main_v15 (idx_main_v16 i) k) = ix3 0 k (i 1) := funext fun a => Fin.ext (by
    have hk : k.val < 1024 := k.isLt
    match a with
    | ⟨0, _⟩ => rfl
    | ⟨1, _⟩ => show (k.val * 9216 + ((i 0).val * 9216 + (i 1).val) % 9216) / 9216 % 1024 = k.val; omega
    | ⟨2, _⟩ => show (k.val * 9216 + ((i 0).val * 9216 + (i 1).val) % 9216) % 9216 = (i 1).val; omega)
  rw [hl, ref_nrm, val_main_v14_apply, hr]
  rfl

/-- On equal arguments the reference's result array is the kernel's. -/
theorem inProj_value (m : (ℓ : Loc Cert.InProjIdeal.nD Cert.InProjIdeal.τ Cert.InProjIdeal.sig) → Buf (Elt Ideal) ℓ) (c : Dev Cert.InProjIdeal.nD) :
    val_main_v17 (F := Ideal) (Cert.InProjIdeal.Value.argX m c) (Cert.InProjIdeal.Value.argG m c) (Cert.InProjIdeal.Value.argW m c)
      = Cert.InProjIdeal.Value.G3 m c := by
  funext i
  have hi : (i 0).val < 32768 := (i 0).isLt
  have hd : (i 0).val / 4096 * 4096 + (i 0).val % 4096 = (i 0).val := by omega
  exact (ref_apply _ _ _ i ⟨(i 0).val / 4096, by omega⟩ ⟨(i 0).val % 4096, by omega⟩ hd).trans
    (Cert.InProjIdeal.Value.G3_apply m c i ⟨(i 0).val / 4096, by omega⟩ ⟨(i 0).val % 4096, by omega⟩ hd).symm

set_option maxHeartbeats 1000000 in
/-- The projection kernel and its reference leave equal result arrays. -/
theorem inProj_algebraic : Cert.algebraic_InProjIdeal_InProjRefIdeal := by
  intro m g m' g' _ hargs
  refine ⟨fun c => Cert.InProjIdeal.Value.G3 m c, Cert.InProjIdeal.Value.run m g, ?_⟩
  refine (θ_run Cert.InProjRefIdeal.defs _ _).mono (fun r h c => ⟨?_, (h c).2⟩) (Cert.InProjRefIdeal.Value.run m' g')
  obtain ⟨h0, h1, h2⟩ := hargs c
  refine (h c).1.trans ?_
  rw [h0, h1, h2]
  exact (val_main_v17_eq _ _ _).trans (inProj_value m c)

end Cert.Proof

end
-- ==== Proof.RetentionBody.lean ====
/-
  What one grid point of the retention kernel leaves behind: the state after the point (`newState`) and the output block
  (`outBlock`), each as one term of the point's input blocks and of the state before it.
-/
module

public import proofs.«01_k».proof.Proof.Gen.KernelIdeal.Value
public import Idealize.ShloMosaic.Lib.ValueIdx
public import Idealize.ShloMosaic.Lib.StableHlo.Run
public import Idealize.ShloMosaic.PureOps.Ideal.Laws
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat)

theorem zero_off : (![0, 0] : Fin 2 → Nat) = fun _ => 0 := funext fun a => by fin_cases a <;> rfl
theorem zero_off3 : (![0, 0, 0] : Fin 3 → Nat) = fun _ => 0 := funext fun a => by fin_cases a <;> rfl

section Bodies
variable {F : FTy → Type} [FloatOps F]

/-- The whole-block decay of the point's head, of the table of the four heads. -/
def cdecAt (i : grid0.Coords) (x0 : Vec F S4 .f32) : F .f32 := x0 (ix1 (i 1))

/-- The decay the point reads from the table is the one of its head. -/
theorem cdec_ld (i : grid0.Coords) (x0 : Vec F S4 .f32) (hp : ∀ a, (k0_off1 i) a + S1.size a ≤ S4.size a)
    (y : S1.Idx) :
    View.ld x0 (Rect.unit (s := S4) (k0_off1 i) S1.size hp) y = cdecAt i x0 := by
  refine congrArg x0 (funext fun a => Fin.ext ?_)
  have hi : (i 1).val < 4 := (i 1).isLt
  have hy : (y 0).val < 1 := (y 0).isLt
  fin_cases a
  show (BitVec.ofNat 32 (i 1).val).toNat + 1 * (y 0).val = (i 1).val
  rw [BitVec.toNat_ofNat, Nat.mod_eq_of_lt (by omega)]
  omega

/-- The state after a point: the state before it decayed over the block, plus the block's decayed keys times its values. -/
def newState (cd : F .f32) (x2 : Vec F S1x256x256 .bf16) (x3 : Vec F S1x256x512 .bf16) (x5 x6 : Vec F S256x128 .f32)
    (x9 : Vec F S1x256x256 .f32) (s : Vec F S256x512 .f32) : FVec F S256x512 .f32 :=
  k0_pay9 (k0_pay6 x5 x6 x2) (k0_pay7 x3) s x9 cd

/-- The output block of a point: the block's masked scores and the state before it, normalized by row and gated. -/
def outBlock (x1 x2 : Vec F S1x256x256 .bf16) (x3 x4 : Vec F S1x256x512 .bf16) (x5 x6 : Vec F S256x128 .f32)
    (x7 x8 : Vec F S1x256x256 .f32) (s : Vec F S256x512 .f32) : FVec F S1x256x512 .bf16 :=
  k0_pay1 (k0_pay10 (k0_pay5 x5 x6 x1) (k0_pay7 x3) (k0_pay8 x5 x6 x1 x2) x7 s x8) (k0_pay11 x4)

/-- At the first block of a head the state is set to zero and then updated. -/
theorem scratch_A (c : Dev nD) (i : grid0.Coords)
    (a3 : Memref sig .tc .smem S4 .f32) (h3 : a3.IsWhole)
    (a4 : Memref sig .tc .vmem S1x256x256 .bf16) (h4 : a4.IsWhole)
    (a5 : Memref sig .tc .vmem S1x256x256 .bf16) (h5 : a5.IsWhole)
    (a6 : Memref sig .tc .vmem S1x256x512 .bf16) (h6 : a6.IsWhole)
    (a7 : Memref sig .tc .vmem S1x256x512 .bf16) (h7 : a7.IsWhole)
    (a8 : Memref sig .tc .vmem S256x128 .f32) (h8 : a8.IsWhole)
    (a9 : Memref sig .tc .vmem S256x128 .f32) (h9 : a9.IsWhole)
    (a10 : Memref sig .tc .vmem S1x256x256 .f32) (h10 : a10.IsWhole)
    (a11 : Memref sig .tc .vmem S1x256x256 .f32) (h11 : a11.IsWhole)
    (a12 : Memref sig .tc .vmem S1x256x256 .f32) (h12 : a12.IsWhole)
    (a13 : Memref sig .tc .vmem S1x256x512 .bf16) (h13 : a13.IsWhole)
    (a14 : Memref sig .tc .vmem S256x512 .f32) (h14 : a14.IsWhole)
    (hc : cond0_0 i)
    (x0 : Vec F S4 .f32) (x1 : Vec F S1x256x256 .bf16) (x2 : Vec F S1x256x256 .bf16) (x3 : Vec F S1x256x512 .bf16) (x4 : Vec F S1x256x512 .bf16) (x5 : Vec F S256x128 .f32) (x6 : Vec F S256x128 .f32) (x7 : Vec F S1x256x256 .f32) (x8 : Vec F S1x256x256 .f32) (x9 : Vec F S1x256x256 .f32) :
    sout0_A_0 c i a3 h3 a4 h4 a5 h5 a6 h6 a7 h7 a8 h8 a9 h9 a10 h10 a11 h11 a12 h12 a13 h13 a14 h14 hc x0 x1 x2 x3 x4 x5 x6 x7 x8 x9 = newState (cdecAt i x0) x2 x3 x5 x6 x9 k0_pay2 := by
  unfold sout0_A_0
  rw [View.read_writes_eq_canon _ _ _ (scover0_A_0 c i a3 h3 a4 h4 a5 h5 a6 h6 a7 h7 a8 h8 a9 h9 a10 h10 a11 h11 a12 h12 a13 h13 a14 h14 hc x0 x1 x2 x3 x4 x5 x6 x7 x8 x9)]
  unfold kernelRun0_A
  dsimp only
  sl_unfold_words
  rw [View.canon_cons_unit_zero zero_off]
  rw [View.readCov_unit_zero (S := S256x512) _ zero_off]
  simp only [View.readAt_eq_ld, h3.read_unread, h4.read_unread, h5.read_unread, h6.read_unread, h7.read_unread, h8.read_unread, h9.read_unread, h10.read_unread, h11.read_unread, h12.read_unread,
    View.ld_unit_zero (S := S1x256x256) zero_off3, View.ld_unit_zero (S := S1x256x512) zero_off3,
    View.ld_unit_zero (S := S256x128) zero_off, View.ld_unit_zero (S := S256x512) zero_off]
  exact congrArg (k0_pay9 (k0_pay6 x5 x6 x2) (k0_pay7 x3) k0_pay2 x9) (cdec_ld i x0 _ _)

/-- At a later block the state the block before left is updated. -/
theorem scratch_B (c : Dev nD) (i : grid0.Coords)
    (a3 : Memref sig .tc .smem S4 .f32) (h3 : a3.IsWhole)
    (a4 : Memref sig .tc .vmem S1x256x256 .bf16) (h4 : a4.IsWhole)
    (a5 : Memref sig .tc .vmem S1x256x256 .bf16) (h5 : a5.IsWhole)
    (a6 : Memref sig .tc .vmem S1x256x512 .bf16) (h6 : a6.IsWhole)
    (a7 : Memref sig .tc .vmem S1x256x512 .bf16) (h7 : a7.IsWhole)
    (a8 : Memref sig .tc .vmem S256x128 .f32) (h8 : a8.IsWhole)
    (a9 : Memref sig .tc .vmem S256x128 .f32) (h9 : a9.IsWhole)
    (a10 : Memref sig .tc .vmem S1x256x256 .f32) (h10 : a10.IsWhole)
    (a11 : Memref sig .tc .vmem S1x256x256 .f32) (h11 : a11.IsWhole)
    (a12 : Memref sig .tc .vmem S1x256x256 .f32) (h12 : a12.IsWhole)
    (a13 : Memref sig .tc .vmem S1x256x512 .bf16) (h13 : a13.IsWhole)
    (a14 : Memref sig .tc .vmem S256x512 .f32) (h14 : a14.IsWhole)
    (hc : ¬cond0_0 i)
    (x0 : Vec F S4 .f32) (x1 : Vec F S1x256x256 .bf16) (x2 : Vec F S1x256x256 .bf16) (x3 : Vec F S1x256x512 .bf16) (x4 : Vec F S1x256x512 .bf16) (x5 : Vec F S256x128 .f32) (x6 : Vec F S256x128 .f32) (x7 : Vec F S1x256x256 .f32) (x8 : Vec F S1x256x256 .f32) (x9 : Vec F S1x256x256 .f32) (xs : Vec F S256x512 .f32) :
    sout0_B_0 c i a3 h3 a4 h4 a5 h5 a6 h6 a7 h7 a8 h8 a9 h9 a10 h10 a11 h11 a12 h12 a13 h13 a14 h14 hc x0 x1 x2 x3 x4 x5 x6 x7 x8 x9 xs = newState (cdecAt i x0) x2 x3 x5 x6 x9 xs := by
  unfold sout0_B_0
  rw [View.read_writes_eq_canon _ _ _ (scover0_B_0 c i a3 h3 a4 h4 a5 h5 a6 h6 a7 h7 a8 h8 a9 h9 a10 h10 a11 h11 a12 h12 a13 h13 a14 h14 hc x0 x1 x2 x3 x4 x5 x6 x7 x8 x9 xs)]
  unfold kernelRun0_B
  dsimp only
  sl_unfold_words
  rw [View.canon_unit_zero zero_off]
  simp only [View.readAt_eq_ld, h3.read_unread, h4.read_unread, h5.read_unread, h6.read_unread, h7.read_unread, h8.read_unread, h9.read_unread, h10.read_unread, h11.read_unread, h12.read_unread,
    View.ld_unit_zero (S := S1x256x256) zero_off3, View.ld_unit_zero (S := S1x256x512) zero_off3,
    View.ld_unit_zero (S := S256x128) zero_off, View.ld_unit_zero (S := S256x512) zero_off, h14.read_unread]
  exact congrArg (k0_pay9 (k0_pay6 x5 x6 x2) (k0_pay7 x3) xs x9) (cdec_ld i x0 _ _)

/-- At the first block of a head the output block is computed from the zero state. -/
theorem out_A (c : Dev nD) (i : grid0.Coords)
    (a3 : Memref sig .tc .smem S4 .f32) (h3 : a3.IsWhole)
    (a4 : Memref sig .tc .vmem S1x256x256 .bf16) (h4 : a4.IsWhole)
    (a5 : Memref sig .tc .vmem S1x256x256 .bf16) (h5 : a5.IsWhole)
    (a6 : Memref sig .tc .vmem S1x256x512 .bf16) (h6 : a6.IsWhole)
    (a7 : Memref sig .tc .vmem S1x256x512 .bf16) (h7 : a7.IsWhole)
    (a8 : Memref sig .tc .vmem S256x128 .f32) (h8 : a8.IsWhole)
    (a9 : Memref sig .tc .vmem S256x128 .f32) (h9 : a9.IsWhole)
    (a10 : Memref sig .tc .vmem S1x256x256 .f32) (h10 : a10.IsWhole)
    (a11 : Memref sig .tc .vmem S1x256x256 .f32) (h11 : a11.IsWhole)
    (a12 : Memref sig .tc .vmem S1x256x256 .f32) (h12 : a12.IsWhole)
    (a13 : Memref sig .tc .vmem S1x256x512 .bf16) (h13 : a13.IsWhole)
    (a14 : Memref sig .tc .vmem S256x512 .f32) (h14 : a14.IsWhole)
    (hc : cond0_0 i)
    (x0 : Vec F S4 .f32) (x1 : Vec F S1x256x256 .bf16) (x2 : Vec F S1x256x256 .bf16) (x3 : Vec F S1x256x512 .bf16) (x4 : Vec F S1x256x512 .bf16) (x5 : Vec F S256x128 .f32) (x6 : Vec F S256x128 .f32) (x7 : Vec F S1x256x256 .f32) (x8 : Vec F S1x256x256 .f32) (x9 : Vec F S1x256x256 .f32) :
    out0_A_10 c i a3 h3 a4 h4 a5 h5 a6 h6 a7 h7 a8 h8 a9 h9 a10 h10 a11 h11 a12 h12 a13 h13 a14 h14 hc x0 x1 x2 x3 x4 x5 x6 x7 x8 x9 = outBlock x1 x2 x3 x4 x5 x6 x7 x8 k0_pay2 := by
  unfold out0_A_10
  rw [View.read_writes_eq_canon _ _ _ (cover0_A_10 c i a3 h3 a4 h4 a5 h5 a6 h6 a7 h7 a8 h8 a9 h9 a10 h10 a11 h11 a12 h12 a13 h13 a14 h14 hc x0 x1 x2 x3 x4 x5 x6 x7 x8 x9)]
  unfold kernelRun0_A
  dsimp only
  sl_unfold_words
  rw [View.canon_unit_zero zero_off3]
  rw [View.readCov_unit_zero (S := S256x512) _ zero_off]
  simp only [View.readAt_eq_ld, h3.read_unread, h4.read_unread, h5.read_unread, h6.read_unread, h7.read_unread, h8.read_unread, h9.read_unread, h10.read_unread, h11.read_unread, h12.read_unread,
    View.ld_unit_zero (S := S1x256x256) zero_off3, View.ld_unit_zero (S := S1x256x512) zero_off3,
    View.ld_unit_zero (S := S256x128) zero_off, View.ld_unit_zero (S := S256x512) zero_off]
  rfl

/-- At a later block the output block is computed from the state the block before left. -/
theorem out_B (c : Dev nD) (i : grid0.Coords)
    (a3 : Memref sig .tc .smem S4 .f32) (h3 : a3.IsWhole)
    (a4 : Memref sig .tc .vmem S1x256x256 .bf16) (h4 : a4.IsWhole)
    (a5 : Memref sig .tc .vmem S1x256x256 .bf16) (h5 : a5.IsWhole)
    (a6 : Memref sig .tc .vmem S1x256x512 .bf16) (h6 : a6.IsWhole)
    (a7 : Memref sig .tc .vmem S1x256x512 .bf16) (h7 : a7.IsWhole)
    (a8 : Memref sig .tc .vmem S256x128 .f32) (h8 : a8.IsWhole)
    (a9 : Memref sig .tc .vmem S256x128 .f32) (h9 : a9.IsWhole)
    (a10 : Memref sig .tc .vmem S1x256x256 .f32) (h10 : a10.IsWhole)
    (a11 : Memref sig .tc .vmem S1x256x256 .f32) (h11 : a11.IsWhole)
    (a12 : Memref sig .tc .vmem S1x256x256 .f32) (h12 : a12.IsWhole)
    (a13 : Memref sig .tc .vmem S1x256x512 .bf16) (h13 : a13.IsWhole)
    (a14 : Memref sig .tc .vmem S256x512 .f32) (h14 : a14.IsWhole)
    (hc : ¬cond0_0 i)
    (x0 : Vec F S4 .f32) (x1 : Vec F S1x256x256 .bf16) (x2 : Vec F S1x256x256 .bf16) (x3 : Vec F S1x256x512 .bf16) (x4 : Vec F S1x256x512 .bf16) (x5 : Vec F S256x128 .f32) (x6 : Vec F S256x128 .f32) (x7 : Vec F S1x256x256 .f32) (x8 : Vec F S1x256x256 .f32) (x9 : Vec F S1x256x256 .f32) (xs : Vec F S256x512 .f32) :
    out0_B_10 c i a3 h3 a4 h4 a5 h5 a6 h6 a7 h7 a8 h8 a9 h9 a10 h10 a11 h11 a12 h12 a13 h13 a14 h14 hc x0 x1 x2 x3 x4 x5 x6 x7 x8 x9 xs = outBlock x1 x2 x3 x4 x5 x6 x7 x8 xs := by
  unfold out0_B_10
  rw [View.read_writes_eq_canon _ _ _ (cover0_B_10 c i a3 h3 a4 h4 a5 h5 a6 h6 a7 h7 a8 h8 a9 h9 a10 h10 a11 h11 a12 h12 a13 h13 a14 h14 hc x0 x1 x2 x3 x4 x5 x6 x7 x8 x9 xs)]
  unfold kernelRun0_B
  dsimp only
  sl_unfold_words
  rw [View.canon_unit_zero zero_off3]
  simp only [View.readAt_eq_ld, h3.read_unread, h4.read_unread, h5.read_unread, h6.read_unread, h7.read_unread, h8.read_unread, h9.read_unread, h10.read_unread, h11.read_unread, h12.read_unread,
    View.ld_unit_zero (S := S1x256x256) zero_off3, View.ld_unit_zero (S := S1x256x512) zero_off3,
    View.ld_unit_zero (S := S256x128) zero_off, View.ld_unit_zero (S := S256x512) zero_off, h14.read_unread]
  rfl

end Bodies

end Cert.KernelIdeal.Value

end
-- ==== Proof.RetentionSpec.lean ====
/-
  The pieces of the retention layer that are the same expression in both programs, over the extended reals: the rotation
  of a query or key row (`rope`) and the normalization and gating of an output row (`gated`).
-/
module

public import Idealize.ShloMosaic.Lib.ValueIdx
public import Idealize.ShloMosaic.PureOps.Ideal.Laws

@[expose] public section

noncomputable section

namespace Cert.Retention

open Idealize.ShloMosaic

/-- A row of 256 rotated: its two halves are the coordinates of 128 points of the plane, each turned by its own angle
    of cosine `c` and sine `s`. -/
def rope (x : Fin 256 → EReal) (c s : Fin 128 → EReal) (d : Fin 256) : EReal :=
  if h : d.val < 128 then
    x d * c ⟨d.val, h⟩ - x ⟨d.val + 128, by omega⟩ * s ⟨d.val, h⟩
  else
    x d * c ⟨d.val - 128, by omega⟩ + x ⟨d.val - 128, by omega⟩ * s ⟨d.val - 128, by omega⟩

/-- An element of an output row `o` over the root of the row's mean square, times the gate `g · 1 / (1 + e⁻ᵍ)`. -/
def gated (o : Fin 512 → EReal) (g : EReal) (e : Fin 512) : EReal :=
  (o e * Ideal.rsqrt (Ideal.div (∑ j : Fin 512, o j * o j) (Ideal.ofBits .f32 0x44000000#32)
    + Ideal.ofBits .f32 0x358637BD#32)) * (g * Ideal.logistic g)

end Cert.Retention

end
-- ==== Proof.RetentionMath.lean ====
/-
  The retention over the real numbers. One head has queries `q`, keys `k`, values `v` by position, and a decay `exp L`
  per position. A position looks at every position up to the end of its own chunk of 64, weighted by the decay raised to
  the distance (`ret`). Both programs compute this in blocks, with a state carried from block to block (`state`): the
  kernel in blocks of 256 positions with a mask, the reference in blocks of 64. `ret_block` says that for any block
  length divisible by 64 the block's own part and the state's part add up to the same closed form.
-/
module

public import Mathlib.Analysis.SpecialFunctions.Exp
public import Mathlib.Algebra.BigOperators.Fin
public import Mathlib.Data.EReal.Operations

@[expose] public section

noncomputable section

namespace Cert.Retention

open Finset

/-- The state after `n` positions: keys times values, each decayed by its distance to the last position. -/
def state (L : ℝ) (k : ℕ → Fin 256 → ℝ) (v : ℕ → Fin 512 → ℝ) (n : ℕ) (d : Fin 256) (e : Fin 512) : ℝ :=
  ∑ j ∈ range n, (k j d * Real.exp (L * ((n : ℝ) - 1 - j))) * v j e

/-- The retention of position `i`: all positions up to the end of its chunk of 64, decayed by the distance. -/
def ret (L : ℝ) (q k : ℕ → Fin 256 → ℝ) (v : ℕ → Fin 512 → ℝ) (i : ℕ) (e : Fin 512) : ℝ :=
  ∑ j ∈ range (64 * (i / 64 + 1)), ((∑ d, q i d * k j d) * Real.exp (L * |(i : ℝ) - j|)) * v j e

variable (L : ℝ) (q k : ℕ → Fin 256 → ℝ) (v : ℕ → Fin 512 → ℝ)

theorem state_zero (d : Fin 256) (e : Fin 512) : state L k v 0 d e = 0 := by simp [state]

/-- The state after one more block of `B` positions. -/
theorem state_add (n B : ℕ) (d : Fin 256) (e : Fin 512) :
    state L k v (n + B) d e = state L k v n d e * Real.exp (L * B)
      + ∑ s : Fin B, (k (n + s) d * Real.exp (L * ((B : ℝ) - 1 - (s.val : ℝ)))) * v (n + s) e := by
  unfold state
  rw [sum_range_add, Fin.sum_univ_eq_sum_range (fun s => (k (n + s) d * Real.exp (L * ((B : ℝ) - 1 - (s : ℝ)))) * v (n + s) e),
    sum_mul]
  congr 1
  · refine sum_congr rfl fun j _ => ?_
    rw [show L * (((n + B : ℕ) : ℝ) - 1 - j) = L * ((n : ℝ) - 1 - j) + L * B by push_cast; ring, Real.exp_add]
    ring
  · refine sum_congr rfl fun s _ => ?_
    rw [show ((n + B : ℕ) : ℝ) - 1 - ((n + s : ℕ) : ℝ) = (B : ℝ) - 1 - s by push_cast; ring]

/-- One block's output row: the block's own masked scores and the carried state together are the retention. -/
theorem ret_block (n B : ℕ) (hn : 64 ∣ n) (hB : 64 ∣ B) (r : Fin B) (e : Fin 512) :
    ∑ s : Fin B, ((∑ d, q (n + r) d * k (n + s) d)
        * (if s.val / 64 ≤ r.val / 64 then Real.exp (L * |(r.val : ℝ) - (s.val : ℝ)|) else 0)) * v (n + s) e
      + ∑ d, (q (n + r) d * Real.exp (L * ((r.val : ℝ) + 1))) * state L k v n d e
      = ret L q k v (n + r) e := by
  obtain ⟨a, rfl⟩ := hn
  obtain ⟨b, rfl⟩ := hB
  have hr := r.isLt
  unfold ret
  rw [show 64 * ((64 * a + r.val) / 64 + 1) = 64 * a + 64 * (r.val / 64 + 1) by omega, sum_range_add, add_comm]
  congr 1
  · unfold state
    simp only [mul_sum]
    rw [sum_comm]
    refine sum_congr rfl fun j hj => ?_
    have hj' : (j : ℝ) ≤ 64 * a - 1 := by
      have h1 : j + 1 ≤ 64 * a := mem_range.mp hj
      have h2 : ((j + 1 : ℕ) : ℝ) ≤ ((64 * a : ℕ) : ℝ) := Nat.cast_le.mpr h1
      push_cast at h2; linarith
    have hr0 : (0 : ℝ) ≤ (r.val : ℝ) := Nat.cast_nonneg _
    rw [abs_of_nonneg (by push_cast; linarith), show L * (((64 * a + r.val : ℕ) : ℝ) - j)
      = L * ((r.val : ℝ) + 1) + L * (((64 * a : ℕ) : ℝ) - 1 - j) by push_cast; ring, Real.exp_add, sum_mul, sum_mul]
    refine sum_congr rfl fun d _ => ?_
    ring
  · rw [Fin.sum_univ_eq_sum_range (fun s => ((∑ d, q (64 * a + r.val) d * k (64 * a + s) d)
        * (if s / 64 ≤ r.val / 64 then Real.exp (L * |(r.val : ℝ) - (s : ℝ)|) else 0)) * v (64 * a + s) e)]
    refine (sum_subset (range_subset_range.mpr (by omega)) ?_).symm.trans (sum_congr rfl fun s hs => ?_)
    · intro s _ hs
      have hs' : ¬ s < 64 * (r.val / 64 + 1) := fun h => hs (mem_range.mpr h)
      rw [if_neg (by omega), mul_zero, zero_mul]
    · have hs' : s < 64 * (r.val / 64 + 1) := mem_range.mp hs
      rw [if_pos (by omega), show ((64 * a + r.val : ℕ) : ℝ) - ((64 * a + s : ℕ) : ℝ) = (r.val : ℝ) - s by push_cast; ring]

/-- A finite sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

end Cert.Retention

end
-- ==== Proof.RetentionTables.lean ====
/-
  The tables both retention programs build on the host from positions alone: the rotary angle of a position and a
  frequency, and the logarithm of a head's decay. Each is read at an index, and each is a real number.
-/
module

public import proofs.«01_k».proof.Proof.RetentionBody
public import proofs.«01_k».proof.Proof.RetentionSpec
public import proofs.«01_k».proof.Proof.RetentionMath

@[expose] public section

set_option maxRecDepth 16384

noncomputable section

namespace Cert.Retention

open Cert.KernelIdeal Cert.KernelIdeal.Gen Idealize.ShloMosaic Idealize.ShloMosaic.TcCoe
open Idealize.ShloMosaic.ValueIdx

/-! ## Real entries -/

/-- The extended real is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩

theorem bits_10000 : Ideal.ofBits .f32 0x461C4000#32 = ((10000 : ℝ) : EReal) := by
  simp [Ideal.ofBits, Ideal.ieee, -EReal.coe_mul]; norm_num
theorem bits_127 : Ideal.ofBits .f32 0x42FE0000#32 = ((127 : ℝ) : EReal) := by
  simp [Ideal.ofBits, Ideal.ieee, -EReal.coe_mul]; norm_num
theorem bits_neg5 : Ideal.ofBits .f32 0xC0A00000#32 = ((-5 : ℝ) : EReal) := by
  simp [Ideal.ofBits, Ideal.ieee, -EReal.coe_mul, -EReal.coe_neg]; norm_num
theorem bits_2 : Ideal.ofBits .f32 0x40000000#32 = ((2 : ℝ) : EReal) := by
  simp [Ideal.ofBits, Ideal.ieee, -EReal.coe_mul]; norm_num
theorem bits_1 : Ideal.ofBits .f32 0x3F800000#32 = ((1 : ℝ) : EReal) := by
  simp [Ideal.ofBits, Ideal.ieee, -EReal.coe_mul]; norm_num
theorem bits_255 : Ideal.ofBits .f32 0x437F0000#32 = ((255 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_63 : Ideal.ofBits .f32 0x427C0000#32 = ((63 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_16th : Ideal.ofBits .f32 0x3D800000#32 = (((1 : ℝ) / 16 : ℝ) : EReal) := by
  simp [Ideal.ofBits, Ideal.ieee, -EReal.coe_mul]; norm_num

/-- A small count as a signed word is itself. -/
theorem toInt_small (n : Nat) (h : n < 2 ^ 31) : (((BitVec.ofNat 32 n).toInt : ℝ) : EReal) = ((n : ℝ) : EReal) := by
  have : (BitVec.ofNat 32 n).toInt = (n : Int) := by
    have hn : (BitVec.ofNat 32 n).toNat = n := by rw [BitVec.toNat_ofNat]; omega
    rw [BitVec.toInt_eq_toNat_of_lt (by rw [hn]; omega), hn]
  rw [this]; norm_cast

theorem max_coe_neg (x : ℝ) : max (x : EReal) ((-x : ℝ) : EReal) = ((|x| : ℝ) : EReal) :=
  ((EReal.coe_strictMono.monotone.map_max (a := x) (b := -x)).symm).trans rfl

/-! ## The rotary angle -/

/-- The 128 steps from 0 to 1. -/
def linT : FVec Ideal S128 .f32 :=
  concatenate S128 0
    [⟨S127, addf (F := Ideal)
        (mulf (F := Ideal) (broadcastInDim S127 ![0] bcast_S1_S127_0 (shapeCast S1 (constant (F := Ideal) S_ .f32 0x00000000#32) shapeCasts_S_S1))
          (subf (F := Ideal) (broadcastInDim S127 ![] bcast_S_S127 (constant (F := Ideal) S_ .f32 0x3F800000#32))
            (Host.divf (F := Ideal) (sitofp (F := Ideal) .f32 (iotaInDim S127 32 0)) (broadcastInDim S127 ![] bcast_S_S127 (constant (F := Ideal) S_ .f32 0x42FE0000#32)))))
        (mulf (F := Ideal) (broadcastInDim S127 ![0] bcast_S1_S127_0 (shapeCast S1 (constant (F := Ideal) S_ .f32 0x3F800000#32) shapeCasts_S_S1))
          (Host.divf (F := Ideal) (sitofp (F := Ideal) .f32 (iotaInDim S127 32 0)) (broadcastInDim S127 ![] bcast_S_S127 (constant (F := Ideal) S_ .f32 0x42FE0000#32))))⟩,
     ⟨S1, broadcastInDim S1 ![] bcast_S_S1 (constant (F := Ideal) S_ .f32 0x3F800000#32)⟩] concatenates_S127_S1_S128_d0

/-- Angle of position `l` and frequency `j`. -/
def angleT : FVec Ideal S4096x128 .f32 :=
  mulf (F := Ideal)
    (broadcastInDim S4096x128 ![0, 1] bcast_S4096x1_S4096x128_0_1 (broadcastInDim S4096x1 ![0] bcast_S4096_S4096x1_0 (sitofp (F := Ideal) .f32 (iotaInDim S4096 32 0))))
    (broadcastInDim S4096x128 ![0, 1] bcast_S1x128_S4096x128_0_1 (broadcastInDim S1x128 ![1] bcast_S128_S1x128_1
      (Host.powf (F := Ideal) (broadcastInDim S128 ![] bcast_S_S128 (constant (F := Ideal) S_ .f32 0x461C4000#32)) (Host.negf (F := Ideal) linT))))

theorem linT_real (j : Fin 128) : IsReal (linT (ix1 j)) := by
  unfold linT
  have hj := j.isLt
  have hd : ∀ i : Fin 127, IsReal (Ideal.div (((BitVec.ofNat 32 i.val).toInt : ℝ) : EReal) (Ideal.ofBits .f32 0x42FE0000#32)) := fun i => by
    rw [bits_127, Ideal.div_coe (by norm_num)]
    exact (IsReal.coe _).mul (IsReal.coe _)
  by_cases h : j.val < 127
  · rw [concatenate_pair_apply_left (t := S128) (s₁ := S127) (s₂ := S1) (i := (ix1 ⟨j.val, h⟩ : S127.Idx)) 0 _ _ _ _ rfl
      (by intro b; match b with | ⟨0, _⟩ => rfl)]
    refine IsReal.add (IsReal.mul (x := Ideal.ofBits .f32 0x00000000#32) ?_ (IsReal.sub (x := Ideal.ofBits .f32 0x3F800000#32) ?_ (hd ⟨j.val, h⟩)))
      (IsReal.mul (x := Ideal.ofBits .f32 0x3F800000#32) ?_ (hd ⟨j.val, h⟩))
    · rw [Ideal.ofBits_zero_f32]; exact IsReal.zero
    · rw [bits_1]; exact IsReal.coe _
    · rw [bits_1]; exact IsReal.coe _
  · rw [concatenate_pair_apply_right (t := S128) (s₁ := S127) (s₂ := S1) (i := (ix1 ⟨j.val - 127, by omega⟩ : S1.Idx)) 0 _ _ _ _ rfl rfl
      (by intro b hb; match b with | ⟨0, _⟩ => exact absurd rfl hb)
      (by show j.val - 127 + 127 = j.val; omega)]
    show IsReal (Ideal.ofBits .f32 0x3F800000#32)
    rw [bits_1]; exact IsReal.coe _

theorem angleT_real (l : Fin 4096) (j : Fin 128) : IsReal (angleT (ix2 l j)) := by
  unfold angleT
  rw [mulf_apply,
    broadcastInDim_apply (k := (ix2 0 j : S1x128.Idx)) _ _ _ _ (by intro a; match a with | ⟨0, _⟩ => rfl | ⟨1, _⟩ => rfl),
    broadcastInDim_apply (k := (ix1 j : S128.Idx)) _ _ _ _ (by intro a; match a with | ⟨0, _⟩ => rfl)]
  refine IsReal.mul (x := (((BitVec.ofNat 32 l.val).toInt : ℝ) : EReal)) (IsReal.coe _) ?_
  show IsReal (Ideal.pow (Ideal.ofBits .f32 0x461C4000#32) (-(linT (ix1 j))))
  obtain ⟨r, hr⟩ := (linT_real j).neg
  rw [hr, bits_10000, Ideal.pow_coe_coe]
  exact IsReal.coe _

/-- The cosine and the sine of an angle. -/
def cosT (l : Fin 4096) (j : Fin 128) : EReal := Ideal.cos (angleT (ix2 l j))
def sinT (l : Fin 4096) (j : Fin 128) : EReal := Ideal.sin (angleT (ix2 l j))

theorem cosT_real (l : Fin 4096) (j : Fin 128) : IsReal (cosT l j) := by
  obtain ⟨r, hr⟩ := angleT_real l j
  unfold cosT; rw [hr, Ideal.cos_coe]; exact IsReal.coe _
theorem sinT_real (l : Fin 4096) (j : Fin 128) : IsReal (sinT l j) := by
  obtain ⟨r, hr⟩ := angleT_real l j
  unfold sinT; rw [hr, Ideal.sin_coe]; exact IsReal.coe _

theorem rope_real {x : Fin 256 → EReal} {c s : Fin 128 → EReal} (hx : ∀ d, IsReal (x d)) (hc : ∀ d, IsReal (c d)) (hs : ∀ d, IsReal (s d))
    (d : Fin 256) : IsReal (rope x c s d) := by
  unfold rope
  split
  · exact ((hx _).mul (hc _)).sub ((hx _).mul (hs _))
  · exact ((hx _).mul (hc _)).add ((hx _).mul (hs _))

/-! ## The decay -/

/-- The logarithm of each head's decay. -/
def logT : FVec Ideal S4 .f32 :=
  Host.log (F := Ideal) (subf (F := Ideal) (broadcastInDim S4 ![] bcast_S_S4 (constant (F := Ideal) S_ .f32 0x3F800000#32))
    (Host.powf (F := Ideal) (broadcastInDim S4 ![] bcast_S_S4 (constant (F := Ideal) S_ .f32 0x40000000#32))
      (subf (F := Ideal) (broadcastInDim S4 ![] bcast_S_S4 (constant (F := Ideal) S_ .f32 0xC0A00000#32)) (sitofp (F := Ideal) .f32 (iotaInDim S4 32 0)))))

theorem logT_real (h : Fin 4) : IsReal (logT (ix1 h)) := by
  show IsReal (Ideal.log (Ideal.ofBits .f32 0x3F800000#32 - Ideal.pow (Ideal.ofBits .f32 0x40000000#32)
    (Ideal.ofBits .f32 0xC0A00000#32 - (((BitVec.ofNat 32 h.val).toInt : ℝ) : EReal))))
  rw [toInt_small h.val (by omega), bits_1, bits_2, bits_neg5, ← EReal.coe_sub, Ideal.pow_coe_coe, ← EReal.coe_sub, Ideal.log_coe]
  have h1 : Real.rpow 2 (-5 - (h.val : ℝ)) < 1 :=
    Real.rpow_lt_one_of_one_lt_of_neg (by norm_num) (by have : (0 : ℝ) ≤ (h.val : ℝ) := Nat.cast_nonneg _; linarith)
  rw [if_neg (by linarith)]
  exact IsReal.coe _

/-- The logarithm of head `h`'s decay, as a real number. -/
def lg (h : Fin 4) : ℝ := (logT_real h).choose
theorem logT_eq (h : Fin 4) : logT (ix1 h) = ((lg h : ℝ) : EReal) := (logT_real h).choose_spec

/-! ## The layer's terms from the projected rows -/

/-- The rotated query, the rotated and scaled key, the value and the gate of batch `b`, head `h`, position `l`. -/
def qE (X : S8x4096x9216.Idx → EReal) (b : Fin 8) (h : Fin 4) (l : Fin 4096) (d : Fin 256) : EReal :=
  rope (fun d => X (ix3 b l ⟨1024 + (256 * h.val + d.val), by omega⟩)) (cosT l) (sinT l) d
def kE (X : S8x4096x9216.Idx → EReal) (b : Fin 8) (h : Fin 4) (l : Fin 4096) (d : Fin 256) : EReal :=
  rope (fun d => X (ix3 b l ⟨1024 + (1024 + (256 * h.val + d.val)), by omega⟩)) (cosT l) (sinT l) d * Ideal.ofBits .f32 0x3D800000#32
def vE (X : S8x4096x9216.Idx → EReal) (b : Fin 8) (h : Fin 4) (l : Fin 4096) (e : Fin 512) : EReal :=
  X (ix3 b l ⟨1024 + (2048 + (512 * h.val + e.val)), by omega⟩)
def gE (X : S8x4096x9216.Idx → EReal) (b : Fin 8) (h : Fin 4) (l : Fin 4096) (e : Fin 512) : EReal :=
  X (ix3 b l ⟨5120 + (512 * h.val + e.val), by omega⟩)

/-- The same as real numbers, position by position. -/
def qR (X : S8x4096x9216.Idx → EReal) (b : Fin 8) (h : Fin 4) (i : ℕ) (d : Fin 256) : ℝ := if hi : i < 4096 then (qE X b h ⟨i, hi⟩ d).toReal else 0
def kR (X : S8x4096x9216.Idx → EReal) (b : Fin 8) (h : Fin 4) (i : ℕ) (d : Fin 256) : ℝ := if hi : i < 4096 then (kE X b h ⟨i, hi⟩ d).toReal else 0
def vR (X : S8x4096x9216.Idx → EReal) (b : Fin 8) (h : Fin 4) (i : ℕ) (e : Fin 512) : ℝ := if hi : i < 4096 then (vE X b h ⟨i, hi⟩ e).toReal else 0

/-- The query, key and value columns hold real numbers. -/
def Fin3 (X : S8x4096x9216.Idx → EReal) : Prop := ∀ (b : Fin 8) (l : Fin 4096) (j : Fin 4096), IsReal (X (ix3 b l ⟨1024 + j.val, by omega⟩))

theorem IsReal.toReal {x : EReal} (h : IsReal x) : ((x.toReal : ℝ) : EReal) = x := by
  obtain ⟨r, rfl⟩ := h; rfl

variable {X : S8x4096x9216.Idx → EReal} (hX : Fin3 X)
include hX

theorem qE_coe (b : Fin 8) (h : Fin 4) (l : Fin 4096) (d : Fin 256) : qE X b h l d = ((qR X b h l.val d : ℝ) : EReal) := by
  unfold qR
  rw [dif_pos l.isLt]
  exact (IsReal.toReal (rope_real (fun d => hX b l ⟨256 * h.val + d.val, by omega⟩) (cosT_real l) (sinT_real l) d)).symm
theorem kE_coe (b : Fin 8) (h : Fin 4) (l : Fin 4096) (d : Fin 256) : kE X b h l d = ((kR X b h l.val d : ℝ) : EReal) := by
  unfold kR
  rw [dif_pos l.isLt]
  exact (IsReal.toReal ((rope_real (fun d => hX b l ⟨1024 + (256 * h.val + d.val), by omega⟩) (cosT_real l) (sinT_real l) d).mul
    (by rw [bits_16th]; exact IsReal.coe _))).symm
theorem vE_coe (b : Fin 8) (h : Fin 4) (l : Fin 4096) (e : Fin 512) : vE X b h l e = ((vR X b h l.val e : ℝ) : EReal) := by
  unfold vR
  rw [dif_pos l.isLt]
  exact (IsReal.toReal (hX b l ⟨2048 + (512 * h.val + e.val), by omega⟩)).symm
omit hX

/-- The result of the layer's retention at batch `b`, head `h`, position `l`, column `e`. -/
def outE (X : S8x4096x9216.Idx → EReal) (b : Fin 8) (h : Fin 4) (l : Fin 4096) (e : Fin 512) : EReal :=
  gated (fun e => ((ret (lg h) (qR X b h) (kR X b h) (vR X b h) l.val e : ℝ) : EReal)) (gE X b h l e) e

end Cert.Retention
-- ==== Proof.RetentionHost.lean ====
/-
  The tables the retention kernel's host part computes before the launch, read at an index: cosines and sines, the
  decay inside a block, to a row, from a row, and of a whole block.
-/
module

public import proofs.«01_k».proof.Proof.RetentionTables
public import proofs.«01_k».proof.Proof.Gen.KernelIdeal.Value

@[expose] public section

set_option maxRecDepth 16384

noncomputable section

namespace Cert.KernelIdeal.Value

open Cert.KernelIdeal Cert.KernelIdeal.Gen Cert.Retention Idealize.ShloMosaic Idealize.ShloMosaic.TcCoe Idealize.SL.Sem
open Idealize.ShloMosaic.ValueIdx

variable (m : (ℓ : Loc nD τ sig) → Buf (Elt Ideal) ℓ)

/-- The chunk of 64 rows each of the 256 rows of a block lies in, as the host computes it: a floor division of words. -/
def chunkT : S256.Idx → BitVec 32 :=
  select
    (andi
      (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

theorem chunkT_apply (r : Fin 256) : chunkT (ix1 r) = BitVec.ofNat 32 (r.val / 64) :=
  (by decide +kernel : ∀ r : Fin 256, chunkT (ix1 r) = BitVec.ofNat 32 (r.val / 64)) r

theorem chunk_le (r s : Fin 256) : IntOp.cmpi .sle (BitVec.ofNat 32 (s.val / 64)) (BitVec.ofNat 32 (r.val / 64)) = if s.val / 64 ≤ r.val / 64 then 1#1 else 0#1 := by
  have e : ∀ a b : Fin 4, IntOp.cmpi .sle (BitVec.ofNat 32 b.val) (BitVec.ofNat 32 a.val) = if b.val ≤ a.val then 1#1 else 0#1 := by decide
  exact e ⟨r.val / 64, by omega⟩ ⟨s.val / 64, by omega⟩

theorem V_cos (c : Dev nD) : V m c main_v63 = Host.cos (F := Ideal) angleT := by
  unfold V
  simp only [List.flatten_cons, List.flatten_nil, List.cons_append, List.nil_append, List.append_nil]
  after_results <;> rfl
theorem V_sin (c : Dev nD) : V m c main_v64 = Host.sin (F := Ideal) angleT := by
  unfold V
  simp only [List.flatten_cons, List.flatten_nil, List.cons_append, List.nil_append, List.append_nil]
  after_results <;> rfl
theorem V_cdec (c : Dev nD) : V m c main_v60 = Host.exp (F := Ideal) (mulf (F := Ideal) logT (broadcastInDim S4 ![] bcast_S_S4 (constant (F := Ideal) S_ .f32 0x43800000#32))) := by
  unfold V
  simp only [List.flatten_cons, List.flatten_nil, List.cons_append, List.nil_append, List.append_nil]
  after_results <;> rfl

/-- The positions inside a block of 256 rows, as numbers. -/
abbrev idxT : FVec Ideal S256 .f32 := sitofp (F := Ideal) .f32 (iotaInDim S256 32 0)

theorem V_qdec (c : Dev nD) : V m c main_v61 = broadcastInDim S4x256x256 ![0, 1, 2] bcast_S4x256x1_S4x256x256_0_1_2
    (broadcastInDim S4x256x1 ![0, 1] bcast_S4x256_S4x256x1_0_1 (Host.exp (F := Ideal) (mulf (F := Ideal)
      (broadcastInDim S4x256 ![0, 1] bcast_S4x1_S4x256_0_1 (broadcastInDim S4x1 ![0] bcast_S4_S4x1_0 logT))
      (broadcastInDim S4x256 ![0, 1] bcast_S1x256_S4x256_0_1 (broadcastInDim S1x256 ![1] bcast_S256_S1x256_1
        (addf (F := Ideal) idxT (broadcastInDim S256 ![] bcast_S_S256 (constant (F := Ideal) S_ .f32 0x3F800000#32)))))))) := by
  unfold V
  simp only [List.flatten_cons, List.flatten_nil, List.cons_append, List.nil_append, List.append_nil]
  after_results <;> rfl

theorem V_kdec (c : Dev nD) : V m c main_v62 = broadcastInDim S4x256x256 ![0, 1, 2] bcast_S4x256x1_S4x256x256_0_1_2
    (broadcastInDim S4x256x1 ![0, 1] bcast_S4x256_S4x256x1_0_1 (Host.exp (F := Ideal) (mulf (F := Ideal)
      (broadcastInDim S4x256 ![0, 1] bcast_S4x1_S4x256_0_1 (broadcastInDim S4x1 ![0] bcast_S4_S4x1_0 logT))
      (broadcastInDim S4x256 ![0, 1] bcast_S1x256_S4x256_0_1 (broadcastInDim S1x256 ![1] bcast_S256_S1x256_1
        (subf (F := Ideal) (broadcastInDim S256 ![] bcast_S_S256 (constant (F := Ideal) S_ .f32 0x437F0000#32)) idxT)))))) := by
  unfold V
  simp only [List.flatten_cons, List.flatten_nil, List.cons_append, List.nil_append, List.append_nil]
  after_results <;> rfl

theorem V_dmask (c : Dev nD) : V m c main_v39 = select
    (broadcastInDim S4x256x256 ![0, 1, 2] bcast_S1x256x256_S4x256x256_0_1_2 (broadcastInDim S1x256x256 ![1, 2] bcast_S256x256_S1x256x256_1_2
      (cmpi .sle (broadcastInDim S256x256 ![0, 1] bcast_S1x256_S256x256_0_1 (broadcastInDim S1x256 ![1] bcast_S256_S1x256_1 chunkT))
        (broadcastInDim S256x256 ![0, 1] bcast_S256x1_S256x256_0_1 (broadcastInDim S256x1 ![0] bcast_S256_S256x1_0 chunkT)))))
    (Host.exp (F := Ideal) (mulf (F := Ideal)
      (broadcastInDim S4x256x256 ![0, 1, 2] bcast_S4x1x1_S4x256x256_0_1_2 (broadcastInDim S4x1x1 ![0] bcast_S4_S4x1x1_0 logT))
      (broadcastInDim S4x256x256 ![0, 1, 2] bcast_S1x256x256_S4x256x256_0_1_2 (broadcastInDim S1x256x256 ![1, 2] bcast_S256x256_S1x256x256_1_2
        (Host.absf (F := Ideal) (subf (F := Ideal)
          (broadcastInDim S256x256 ![0, 1] bcast_S256x1_S256x256_0_1 (broadcastInDim S256x1 ![0] bcast_S256_S256x1_0 idxT))
          (broadcastInDim S256x256 ![0, 1] bcast_S1x256_S256x256_0_1 (broadcastInDim S1x256 ![1] bcast_S256_S1x256_1 idxT))))))))
    (broadcastInDim S4x256x256 ![] bcast_S_S4x256x256 (constant (F := Ideal) S_ .f32 0x00000000#32)) := by
  unfold V
  simp only [List.flatten_cons, List.flatten_nil, List.cons_append, List.nil_append, List.append_nil]
  after_results <;> rfl

/-! ## The tables at an index -/

theorem cos_apply (c : Dev nD) (l : Fin 4096) (j : Fin 128) : (V m c main_v63 : FVec Ideal S4096x128 .f32) (ix2 l j) = cosT l j := by
  rw [V_cos]; rfl
theorem sin_apply (c : Dev nD) (l : Fin 4096) (j : Fin 128) : (V m c main_v64 : FVec Ideal S4096x128 .f32) (ix2 l j) = sinT l j := by
  rw [V_sin]; rfl

theorem cdec_apply (c : Dev nD) (h : Fin 4) : (V m c main_v60 : FVec Ideal S4 .f32) (ix1 h) = ((Real.exp (lg h * 256) : ℝ) : EReal) := by
  rw [V_cdec]
  show Ideal.exp (logT (ix1 h) * Ideal.ofBits .f32 0x43800000#32) = _
  rw [logT_eq, bits_256, ← EReal.coe_mul, Ideal.exp_coe]

theorem qdec_apply (c : Dev nD) (h : Fin 4) (r d : Fin 256) :
    (V m c main_v61 : FVec Ideal S4x256x256 .f32) (ix3 h r d) = ((Real.exp (lg h * ((r.val : ℝ) + 1)) : ℝ) : EReal) := by
  rw [V_qdec, broadcastInDim_apply (k := (ix3 h r 0 : S4x256x1.Idx)) _ _ _ _ (by intro a; match a with | ⟨0, _⟩ => rfl | ⟨1, _⟩ => rfl | ⟨2, _⟩ => rfl),
    broadcastInDim_apply (k := (ix2 h r : S4x256.Idx)) _ _ _ _ (by intro a; match a with | ⟨0, _⟩ => rfl | ⟨1, _⟩ => rfl)]
  show Ideal.exp ((broadcastInDim S4x256 ![0, 1] bcast_S4x1_S4x256_0_1 (broadcastInDim S4x1 ![0] bcast_S4_S4x1_0 logT)) (ix2 h r)
    * ((((BitVec.ofNat 32 r.val).toInt : ℝ) : EReal) + Ideal.ofBits .f32 0x3F800000#32)) = _
  rw [broadcastInDim_apply (k := (ix2 h 0 : S4x1.Idx)) _ _ _ _ (by intro a; match a with | ⟨0, _⟩ => rfl | ⟨1, _⟩ => rfl),
    broadcastInDim_apply (k := (ix1 h : S4.Idx)) _ _ _ _ (by intro a; match a with | ⟨0, _⟩ => rfl),
    logT_eq, bits_1, toInt_small r.val (by omega), ← EReal.coe_add, ← EReal.coe_mul, Ideal.exp_coe]

theorem kdec_apply (c : Dev nD) (h : Fin 4) (r d : Fin 256) :
    (V m c main_v62 : FVec Ideal S4x256x256 .f32) (ix3 h r d) = ((Real.exp (lg h * (255 - (r.val : ℝ))) : ℝ) : EReal) := by
  rw [V_kdec, broadcastInDim_apply (k := (ix3 h r 0 : S4x256x1.Idx)) _ _ _ _ (by intro a; match a with | ⟨0, _⟩ => rfl | ⟨1, _⟩ => rfl | ⟨2, _⟩ => rfl),
    broadcastInDim_apply (k := (ix2 h r : S4x256.Idx)) _ _ _ _ (by intro a; match a with | ⟨0, _⟩ => rfl | ⟨1, _⟩ => rfl)]
  show Ideal.exp ((broadcastInDim S4x256 ![0, 1] bcast_S4x1_S4x256_0_1 (broadcastInDim S4x1 ![0] bcast_S4_S4x1_0 logT)) (ix2 h r)
    * (Ideal.ofBits .f32 0x437F0000#32 - (((BitVec.ofNat 32 r.val).toInt : ℝ) : EReal))) = _
  rw [broadcastInDim_apply (k := (ix2 h 0 : S4x1.Idx)) _ _ _ _ (by intro a; match a with | ⟨0, _⟩ => rfl | ⟨1, _⟩ => rfl),
    broadcastInDim_apply (k := (ix1 h : S4.Idx)) _ _ _ _ (by intro a; match a with | ⟨0, _⟩ => rfl),
    logT_eq, bits_255, toInt_small r.val (by omega), ← EReal.coe_sub, ← EReal.coe_mul, Ideal.exp_coe]

theorem dmask_apply (c : Dev nD) (h : Fin 4) (r s : Fin 256) :
    (V m c main_v39 : FVec Ideal S4x256x256 .f32) (ix3 h r s)
      = (((if s.val / 64 ≤ r.val / 64 then Real.exp (lg h * |(r.val : ℝ) - (s.val : ℝ)|) else 0 : ℝ)) : EReal) := by
  rw [V_dmask, select_apply]
  rw [broadcastInDim_apply (α := BitVec 1) (k := (ix3 0 r s : S1x256x256.Idx)) _ _ _ _ (by intro a; match a with | ⟨0, _⟩ => rfl | ⟨1, _⟩ => rfl | ⟨2, _⟩ => rfl),
    broadcastInDim_apply (α := BitVec 1) (k := (ix2 r s : S256x256.Idx)) _ _ _ _ (by intro a; match a with | ⟨0, _⟩ => rfl | ⟨1, _⟩ => rfl)]
  have hm : (cmpi .sle (broadcastInDim S256x256 ![0, 1] bcast_S1x256_S256x256_0_1 (broadcastInDim S1x256 ![1] bcast_S256_S1x256_1 chunkT))
        (broadcastInDim S256x256 ![0, 1] bcast_S256x1_S256x256_0_1 (broadcastInDim S256x1 ![0] bcast_S256_S256x1_0 chunkT)) : IVec S256x256 1) (ix2 r s)
      = if s.val / 64 ≤ r.val / 64 then 1#1 else 0#1 := by
    show IntOp.cmpi .sle _ _ = _
    rw [broadcastInDim_apply (k := (ix2 0 s : S1x256.Idx)) _ _ _ _ (by intro a; match a with | ⟨0, _⟩ => rfl | ⟨1, _⟩ => rfl),
      broadcastInDim_apply (k := (ix1 s : S256.Idx)) _ _ _ _ (by intro a; match a with | ⟨0, _⟩ => rfl),
      broadcastInDim_apply (k := (ix2 r 0 : S256x1.Idx)) _ _ _ _ (by intro a; match a with | ⟨0, _⟩ => rfl | ⟨1, _⟩ => rfl),
      broadcastInDim_apply (k := (ix1 r : S256.Idx)) _ _ _ _ (by intro a; match a with | ⟨0, _⟩ => rfl), chunkT_apply, chunkT_apply, chunk_le]
  rw [hm]
  have he : (Host.exp (F := Ideal) (mulf (F := Ideal)
      (broadcastInDim S4x256x256 ![0, 1, 2] bcast_S4x1x1_S4x256x256_0_1_2 (broadcastInDim S4x1x1 ![0] bcast_S4_S4x1x1_0 logT))
      (broadcastInDim S4x256x256 ![0, 1, 2] bcast_S1x256x256_S4x256x256_0_1_2 (broadcastInDim S1x256x256 ![1, 2] bcast_S256x256_S1x256x256_1_2
        (Host.absf (F := Ideal) (subf (F := Ideal)
          (broadcastInDim S256x256 ![0, 1] bcast_S256x1_S256x256_0_1 (broadcastInDim S256x1 ![0] bcast_S256_S256x1_0 idxT))
          (broadcastInDim S256x256 ![0, 1] bcast_S1x256_S256x256_0_1 (broadcastInDim S1x256 ![1] bcast_S256_S1x256_1 idxT))))))) : FVec Ideal S4x256x256 .f32) (ix3 h r s)
      = ((Real.exp (lg h * |(r.val : ℝ) - (s.val : ℝ)|) : ℝ) : EReal) := by
    show Ideal.exp ((broadcastInDim S4x256x256 ![0, 1, 2] bcast_S4x1x1_S4x256x256_0_1_2 (broadcastInDim S4x1x1 ![0] bcast_S4_S4x1x1_0 logT)) (ix3 h r s)
      * max ((((BitVec.ofNat 32 r.val).toInt : ℝ) : EReal) - (((BitVec.ofNat 32 s.val).toInt : ℝ) : EReal))
          (-((((BitVec.ofNat 32 r.val).toInt : ℝ) : EReal) - (((BitVec.ofNat 32 s.val).toInt : ℝ) : EReal)))) = _
    rw [broadcastInDim_apply (k := (ix3 h 0 0 : S4x1x1.Idx)) _ _ _ _ (by intro a; match a with | ⟨0, _⟩ => rfl | ⟨1, _⟩ => rfl | ⟨2, _⟩ => rfl),
      broadcastInDim_apply (k := (ix1 h : S4.Idx)) _ _ _ _ (by intro a; match a with | ⟨0, _⟩ => rfl),
      logT_eq, toInt_small r.val (by omega), toInt_small s.val (by omega), ← EReal.coe_sub, ← EReal.coe_neg, max_coe_neg, ← EReal.coe_mul, Ideal.exp_coe]
  rw [he]
  by_cases hc : s.val / 64 ≤ r.val / 64
  · rw [if_pos hc, if_pos hc, select_one]
  · rw [if_neg hc, if_neg hc, select_zero]
    show Ideal.ofBits .f32 0x00000000#32 = _
    rw [Ideal.ofBits_zero_f32]; rfl
end Cert.KernelIdeal.Value
-- ==== Proof.RetentionBlock.lean ====
/-
  The terms one grid point of the retention kernel computes, read at an index: the rotated rows, the new state, and the
  output block (`newState_apply`, `outBlock_apply`).
-/
module

public import proofs.«01_k».proof.Proof.RetentionBody
public import proofs.«01_k».proof.Proof.RetentionSpec

@[expose] public section

set_option maxRecDepth 16384

noncomputable section

namespace Cert.KernelIdeal.Value

open Cert.KernelIdeal Cert.KernelIdeal.Gen Cert.Retention Idealize.ShloMosaic Idealize.ShloMosaic.TcCoe
open Idealize.ShloMosaic.ValueIdx

/-- Row `r` of a [1, 256, 256] block. -/
abbrev row (x : Vec Ideal S1x256x256 .bf16) (r : Fin 256) : Fin 256 → EReal := fun d => x (ix3 0 r d)
/-- Row `r` of a [256, 128] block. -/
abbrev ang (x : Vec Ideal S256x128 .f32) (r : Fin 256) : Fin 128 → EReal := fun d => x (ix2 r d)

theorem squeeze_apply {φ : FTy} {e : Nat} (x : FVec Ideal ⟨3, ![1, 256, e]⟩ φ) (h : (⟨3, ![1, 256, e]⟩ : Shape).ShapeCasts ⟨2, ![256, e]⟩)
    (r : Fin 256) (d : Fin e) : (shapeCast (⟨2, ![256, e]⟩ : Shape) x h : FVec Ideal ⟨2, ![256, e]⟩ φ) (ix2 r d) = x (ix3 0 r d) :=
  shapeCast_apply _ _ _ _ (by
    rewrite [Shape.rowMajor_val_three, Shape.rowMajor_val_two]
    show (0 * 256 + r.val) * e + d.val = r.val * e + d.val
    simp)

/-- The rotated queries of the block. -/
theorem pay5_apply (x5 x6 : Vec Ideal S256x128 .f32) (x1 : Vec Ideal S1x256x256 .bf16) (r d : Fin 256) :
    k0_pay5 x5 x6 x1 (ix2 r d) = rope (row x1 r) (ang x5 r) (ang x6 r) d := by
  unfold k0_pay5 k0_pay3 k0_pay4 rope
  simp only [shapeCast_self]
  have hd := d.isLt
  by_cases h : d.val < 128
  · rw [dif_pos h, concatenate_pair_apply_left (t := S256x256) (s₁ := S256x128) (s₂ := S256x128) (i := (ix2 r ⟨d.val, h⟩ : S256x128.Idx)) 1 _ _ _ _ rfl
      (by intro b; match b with | ⟨0, _⟩ => rfl | ⟨1, _⟩ => rfl)]
    rw [subf_apply, mulf_apply, mulf_apply,
      extractStridedSlice_apply (k := (ix2 r d : S256x256.Idx)) _ _ _ _ (by
        intro a; match a with | ⟨0, _⟩ => exact (Nat.zero_add _).symm | ⟨1, _⟩ => exact (Nat.zero_add _).symm),
      extractStridedSlice_apply (k := (ix2 r ⟨d.val + 128, by omega⟩ : S256x256.Idx)) _ _ _ _ (by
        intro a; match a with | ⟨0, _⟩ => exact (Nat.zero_add _).symm | ⟨1, _⟩ => exact Nat.add_comm _ _),
      extf_apply, extf_apply, squeeze_apply, squeeze_apply]
  · rw [dif_neg h, concatenate_pair_apply_right (t := S256x256) (s₁ := S256x128) (s₂ := S256x128) (i := (ix2 r ⟨d.val - 128, by omega⟩ : S256x128.Idx)) 1 _ _ _ _ rfl rfl
      (by intro b hb; match b with | ⟨0, _⟩ => rfl | ⟨1, _⟩ => exact absurd rfl hb)
      (by show d.val - 128 + 128 = d.val; omega)]
    rw [addf_apply, mulf_apply, mulf_apply,
      extractStridedSlice_apply (k := (ix2 r d : S256x256.Idx)) _ _ _ _ (by
        intro a; match a with | ⟨0, _⟩ => exact (Nat.zero_add _).symm | ⟨1, _⟩ => show d.val = 128 + (d.val - 128); omega),
      extractStridedSlice_apply (k := (ix2 r ⟨d.val - 128, by omega⟩ : S256x256.Idx)) _ _ _ _ (by
        intro a; match a with | ⟨0, _⟩ => exact (Nat.zero_add _).symm | ⟨1, _⟩ => exact (Nat.zero_add _).symm),
      extf_apply, extf_apply, squeeze_apply, squeeze_apply]

/-- The rotated keys of the block, times 1/16. -/
theorem pay6_apply (x5 x6 : Vec Ideal S256x128 .f32) (x2 : Vec Ideal S1x256x256 .bf16) (r d : Fin 256) :
    k0_pay6 x5 x6 x2 (ix2 r d) = rope (row x2 r) (ang x5 r) (ang x6 r) d * Ideal.ofBits .f32 0x3D800000#32 := by
  have h : k0_pay6 x5 x6 x2 = mulf (k0_pay5 x5 x6 x2) (broadcast S256x256 (Scalar.ofBits .f32 0x3D800000#32 : Ideal .f32)) := rfl
  rw [h, mulf_apply, pay5_apply]
  rfl

/-- A product contracting the left rows' columns with the right matrix's columns. -/
theorem mm_1_1 (a b : FVec Ideal S256x256 .bf16) (r s : Fin 256) :
    (matmul dot_S256x256_S256x256_S256x256_1_1_0_0_n_n none a b (constant S256x256 .f32 0x00000000#32) : FVec Ideal S256x256 .f32) (ix2 r s)
      = ∑ d : Fin 256, a (ix2 r d) * b (ix2 s d) := by
  simp only [matmul]
  rw [Ideal.matmul_constant_zero_apply, ← Equiv.sum_comp (contrEquiv1 dot_S256x256_S256x256_S256x256_1_1_0_0_n_n 256 rfl rfl).symm]
  refine Finset.sum_congr rfl fun k _ => ?_
  have hk := contrEquiv1_symm_val dot_S256x256_S256x256_S256x256_1_1_0_0_n_n 256 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => rfl
    | ⟨1, _⟩ => exact hk

/-- A plain matrix product. -/
theorem mm_1_0 (a : FVec Ideal S256x256 .bf16) (b : FVec Ideal S256x512 .bf16) (r : Fin 256) (e : Fin 512) :
    (matmul dot_S256x256_S256x512_S256x512_1_0_0_1_n_n none a b (constant S256x512 .f32 0x00000000#32) : FVec Ideal S256x512 .f32) (ix2 r e)
      = ∑ d : Fin 256, a (ix2 r d) * b (ix2 d e) := by
  simp only [matmul]
  rw [Ideal.matmul_constant_zero_apply, ← Equiv.sum_comp (contrEquiv1 dot_S256x256_S256x512_S256x512_1_0_0_1_n_n 256 rfl rfl).symm]
  refine Finset.sum_congr rfl fun k _ => ?_
  have hk := contrEquiv1_symm_val dot_S256x256_S256x512_S256x512_1_0_0_1_n_n 256 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => exact hk
    | ⟨1, _⟩ => rfl

/-- A product contracting the rows of both matrices. -/
theorem mm_0_0 (a : FVec Ideal S256x256 .bf16) (b : FVec Ideal S256x512 .bf16) (d : Fin 256) (e : Fin 512) :
    (matmul dot_S256x256_S256x512_S256x512_0_0_1_1_n_n none a b (constant S256x512 .f32 0x00000000#32) : FVec Ideal S256x512 .f32) (ix2 d e)
      = ∑ s : Fin 256, a (ix2 s d) * b (ix2 s e) := by
  simp only [matmul]
  rw [Ideal.matmul_constant_zero_apply, ← Equiv.sum_comp (contrEquiv1 dot_S256x256_S256x512_S256x512_0_0_1_1_n_n 256 rfl rfl).symm]
  refine Finset.sum_congr rfl fun k _ => ?_
  have hk := contrEquiv1_symm_val dot_S256x256_S256x512_S256x512_0_0_1_1_n_n 256 rfl rfl k
  congr 1
  · refine congrArg a (funext fun x => Fin.ext ?_)
    match x with
    | ⟨0, _⟩ => exact hk
    | ⟨1, _⟩ => rfl
  · refine congrArg b (funext fun x => Fin.ext ?_)
    match x with
    | ⟨0, _⟩ => exact hk
    | ⟨1, _⟩ => rfl

/-- The zero state. -/
theorem pay2_apply (d : Fin 256) (e : Fin 512) : (k0_pay2 : FVec Ideal S256x512 .f32) (ix2 d e) = 0 := by
  unfold k0_pay2
  rw [shapeCast_self]
  exact Ideal.ofBits_zero_f32

/-- The state after a point, read at an index. -/
theorem newState_apply (cd : EReal) (x2 : Vec Ideal S1x256x256 .bf16) (x3 : Vec Ideal S1x256x512 .bf16) (x5 x6 : Vec Ideal S256x128 .f32)
    (x9 : Vec Ideal S1x256x256 .f32) (s : Vec Ideal S256x512 .f32) (d : Fin 256) (e : Fin 512) :
    newState (F := Ideal) cd x2 x3 x5 x6 x9 s (ix2 d e) = s (ix2 d e) * cd
      + ∑ r : Fin 256, (rope (row x2 r) (ang x5 r) (ang x6 r) d * Ideal.ofBits .f32 0x3D800000#32 * x9 (ix3 0 r d)) * x3 (ix3 0 r e) := by
  unfold newState k0_pay9 k0_pay7
  dsimp only
  rw [shapeCast_self, addf_apply, mm_0_0]
  congr 1
  refine Finset.sum_congr rfl fun r _ => ?_
  rw [truncf_apply, mulf_apply, pay6_apply, squeeze_apply, squeeze_apply]

/-- An output row of a point before it is normalized. -/
def preRow (x1 x2 : Vec Ideal S1x256x256 .bf16) (x3 : Vec Ideal S1x256x512 .bf16) (x5 x6 : Vec Ideal S256x128 .f32)
    (x7 x8 : Vec Ideal S1x256x256 .f32) (s : Vec Ideal S256x512 .f32) (r : Fin 256) (e : Fin 512) : EReal :=
  ∑ t : Fin 256, ((∑ d : Fin 256, rope (row x1 r) (ang x5 r) (ang x6 r) d
      * (rope (row x2 t) (ang x5 t) (ang x6 t) d * Ideal.ofBits .f32 0x3D800000#32)) * x7 (ix3 0 r t)) * x3 (ix3 0 t e)
    + ∑ d : Fin 256, (rope (row x1 r) (ang x5 r) (ang x6 r) d * x8 (ix3 0 r d)) * s (ix2 d e)

/-- Row normalization as the kernel spells it, read at an index. -/
theorem norm_apply (o : FVec Ideal S256x512 .f32) (r : Fin 256) (e : Fin 512) :
    (mulf o (broadcastTo S256x512 (rsqrt (addf (divf (shapeCast S256x1 (multiReduction .add [1] S256 (mulf o o) 0x00000000#32 reduces_S256x512_S256 (.inl rfl) rfl) shapeCasts_S256_S256x1)
      (broadcast S256x1 (Scalar.ofBits .f32 0x44000000#32))) (broadcast S256x1 (Scalar.ofBits .f32 0x358637BD#32)) : FVec Ideal S256x1 .f32)) broadcasts_S256x1_S256x512) : FVec Ideal S256x512 .f32) (ix2 r e)
      = o (ix2 r e) * Ideal.rsqrt (Ideal.div (∑ j : Fin 512, o (ix2 r j) * o (ix2 r j)) (Ideal.ofBits .f32 0x44000000#32)
        + Ideal.ofBits .f32 0x358637BD#32) := by
  rw [mulf_apply, broadcastTo_apply (k := ix2 r 0) _ _ _ (by intro a; fin_cases a <;> rfl)]
  have e1 : ∀ y : FVec Ideal S256x1 .f32, rsqrt y (ix2 r 0) = Ideal.rsqrt (y (ix2 r 0)) := fun _ => rfl
  rw [e1, addf_apply, divf_apply, shapeCast_apply (k := ix1 r) _ _ _ (by
      rewrite [Shape.rowMajor_val_two, Shape.rowMajor_val_one]; show r.val = r.val * 1 + 0; omega)]
  have l : ∀ j : Fin 512, reduces_S256x512_S256.lift (ix1 r) j = ix2 r j := fun j => funext fun a => Fin.ext (by
    match a with | ⟨0, _⟩ => rfl | ⟨1, _⟩ => rfl)
  have hm : (multiReduction .add [1] S256 (mulf o o : FVec Ideal S256x512 .f32) 0x00000000#32 reduces_S256x512_S256 (.inl rfl) rfl : FVec Ideal S256 .f32) (ix1 r)
      = ∑ j : Fin 512, o (ix2 r j) * o (ix2 r j) := by
    refine (Ideal.multiReduction_add_single (mulf o o) _ reduces_S256x512_S256 (.inl rfl) rfl (ix1 r)).trans ?_
    exact Finset.sum_congr rfl fun j _ => congrArg (mulf o o : FVec Ideal S256x512 .f32) (l j)
  rw [hm]
  rfl

/-- The output block of a point, read at an index. -/
theorem outBlock_apply (x1 x2 : Vec Ideal S1x256x256 .bf16) (x3 x4 : Vec Ideal S1x256x512 .bf16) (x5 x6 : Vec Ideal S256x128 .f32)
    (x7 x8 : Vec Ideal S1x256x256 .f32) (s : Vec Ideal S256x512 .f32) (r : Fin 256) (e : Fin 512) :
    outBlock x1 x2 x3 x4 x5 x6 x7 x8 s (ix3 0 r e) = gated (preRow x1 x2 x3 x5 x6 x7 x8 s r) (x4 (ix3 0 r e)) e := by
  unfold outBlock k0_pay1 k0_pay10 k0_pay11 k0_pay7
  dsimp only
  rw [shapeCast_apply (k := ix2 r e) _ _ _ (by
    rewrite [Shape.rowMajor_val_three, Shape.rowMajor_val_two]
    show r.val * 512 + e.val = (0 * 256 + r.val) * 512 + e.val
    omega), truncf_apply, mulf_apply, norm_apply, mulf_apply]
  have e2 : ∀ y : FVec Ideal S256x512 .f32, logistic y (ix2 r e) = Ideal.logistic (y (ix2 r e)) := fun _ => rfl
  rw [e2, extf_apply, squeeze_apply]
  have ho : ∀ j : Fin 512, (addf (matmul dot_S256x256_S256x512_S256x512_1_0_0_1_n_n none (truncf .bf16 (mulf (k0_pay8 x5 x6 x1 x2) (shapeCast S256x256 x7 shapeCasts_S1x256x256_S256x256 : FVec Ideal S256x256 .f32)) bitsLt_bf16_f32) (shapeCast S256x512 x3 shapeCasts_S1x256x512_S256x512 : FVec Ideal S256x512 .bf16) (constant S256x512 .f32 0x00000000#32))
      (matmul dot_S256x256_S256x512_S256x512_1_0_0_1_n_n none (truncf .bf16 (mulf (k0_pay5 x5 x6 x1) (shapeCast S256x256 x8 shapeCasts_S1x256x256_S256x256 : FVec Ideal S256x256 .f32)) bitsLt_bf16_f32) (truncf .bf16 (s : FVec Ideal S256x512 .f32) bitsLt_bf16_f32) (constant S256x512 .f32 0x00000000#32)) : FVec Ideal S256x512 .f32) (ix2 r j)
      = preRow x1 x2 x3 x5 x6 x7 x8 s r j := by
    intro j
    unfold preRow k0_pay8
    rw [addf_apply, mm_1_0, mm_1_0]
    congr 1
    · refine Finset.sum_congr rfl fun t _ => ?_
      rw [truncf_apply, mulf_apply, mm_1_1, squeeze_apply, squeeze_apply]
      congr 2
      refine Finset.sum_congr rfl fun d _ => ?_
      rw [truncf_apply, truncf_apply, pay5_apply, pay6_apply]
    · refine Finset.sum_congr rfl fun d _ => ?_
      rw [truncf_apply, mulf_apply, pay5_apply, squeeze_apply, truncf_apply]
  simp only [ho]
  rfl

end Cert.KernelIdeal.Value

end
-- ==== Proof.RetentionKernel.lean ====
/-
  The retention kernel's points: the blocks each grid point reads, the state after each block of a
  head by induction, and each point's output block (`out_apply`).
-/
module

public import proofs.«01_k».proof.Proof.RetentionHost
public import proofs.«01_k».proof.Proof.RetentionBlock
public import Idealize.ShloMosaic.Lib.Pipeline.ValueKit.Geometry

@[expose] public section

set_option maxRecDepth 16384

noncomputable section

namespace Cert.KernelIdeal.Value

open Cert.KernelIdeal Cert.KernelIdeal.Gen Cert.Retention Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The projected rows the kernel is given. -/
abbrev argP (c : Dev nD) : S8x4096x9216.Idx → EReal := m ((c : Thread nD τ).loc main_arg0)

/-! ## The point's batch, head and block -/

theorem idx_small : ∀ t : Fin cfg0.N, (grid0.coords t 1).val = t.val / 16 % 4
    ∧ win0_0.index t (0 : Fin 1) = 0
    ∧ win0_5.index t (0 : Fin 2) = t.val % 16 ∧ win0_5.index t (1 : Fin 2) = 0
    ∧ win0_6.index t (0 : Fin 2) = t.val % 16 ∧ win0_6.index t (1 : Fin 2) = 0
    ∧ win0_7.index t (0 : Fin 3) = t.val / 16 % 4 ∧ win0_7.index t (1 : Fin 3) = 0 ∧ win0_7.index t (2 : Fin 3) = 0
    ∧ win0_8.index t (0 : Fin 3) = t.val / 16 % 4 ∧ win0_8.index t (1 : Fin 3) = 0 ∧ win0_8.index t (2 : Fin 3) = 0
    ∧ win0_9.index t (0 : Fin 3) = t.val / 16 % 4 ∧ win0_9.index t (1 : Fin 3) = 0 ∧ win0_9.index t (2 : Fin 3) = 0 :=
  (by decide +kernel : ∀ t : Fin grid0.N, _)

theorem idx_rows : ∀ t : Fin cfg0.N,
    (win0_1.index t (0 : Fin 3) = t.val / 64 ∧ win0_1.index t (1 : Fin 3) = t.val % 16 ∧ win0_1.index t (2 : Fin 3) = 4 + t.val / 16 % 4)
    ∧ (win0_2.index t (0 : Fin 3) = t.val / 64 ∧ win0_2.index t (1 : Fin 3) = t.val % 16 ∧ win0_2.index t (2 : Fin 3) = 8 + t.val / 16 % 4)
    ∧ (win0_3.index t (0 : Fin 3) = t.val / 64 ∧ win0_3.index t (1 : Fin 3) = t.val % 16 ∧ win0_3.index t (2 : Fin 3) = 6 + t.val / 16 % 4)
    ∧ (win0_4.index t (0 : Fin 3) = t.val / 64 ∧ win0_4.index t (1 : Fin 3) = t.val % 16 ∧ win0_4.index t (2 : Fin 3) = 10 + t.val / 16 % 4)
    ∧ (win0_10.index t (0 : Fin 3) = t.val / 64 ∧ win0_10.index t (1 : Fin 3) = t.val % 16 ∧ win0_10.index t (2 : Fin 3) = t.val / 16 % 4) :=
  (by decide +kernel : ∀ t : Fin grid0.N, _)

theorem t_lt (t : Fin cfg0.N) : t.val < 512 := lt_of_lt_of_eq t.isLt (show cfg0.N = 512 from N_0)

/-- Batch, head, and the position of row `r` of the block at a point. -/
abbrev bOf (t : Fin cfg0.N) : Fin 8 := ⟨t.val / 64, by have := t_lt t; omega⟩
abbrev hOf (t : Fin cfg0.N) : Fin 4 := ⟨t.val / 16 % 4, by omega⟩
abbrev lOf (t : Fin cfg0.N) (r : Fin 256) : Fin 4096 := ⟨256 * (t.val % 16) + r.val, by omega⟩

/-! ## The blocks a point reads -/

theorem iblk_cdec (c : Dev nD) (t : Fin cfg0.N) : cdecAt (F := Ideal) (grid0.coords t) (iblk m c 0 t) = ((Real.exp (lg (hOf t) * 256) : ℝ) : EReal) := by
  unfold cdecAt iblk
  rw [View.read_apply]
  obtain ⟨e, e0, -⟩ := idx_small t
  show V m c main_v60 _ = _
  refine (congrArg (V m c main_v60) (?_ : _ = (ix1 (hOf t) : S4.Idx))).trans (cdec_apply m c (hOf t))
  refine funext fun a => Fin.ext ?_
  match a with
  | ⟨0, _⟩ => show win0_0.index t (0 : Fin 1) * 4 + 1 * (grid0.coords t 1).val = t.val / 16 % 4; rw [e0, e]; omega

theorem iblk_q (c : Dev nD) (t : Fin cfg0.N) (r d : Fin 256) :
    (iblk m c 1 t : Vec Ideal S1x256x256 .bf16) (ix3 0 r d) = argP m c (ix3 (bOf t) (lOf t r) ⟨1024 + (256 * (hOf t).val + d.val), by omega⟩) := by
  unfold iblk
  rw [View.read_apply]
  show V m c main_arg0 _ = _
  rw [V_main_arg0]
  obtain ⟨⟨e0, e1, e2⟩, -⟩ := idx_rows t
  refine congrArg (argP m c) (funext fun a => Fin.ext ?_)
  match a with
  | ⟨0, _⟩ => show win0_1.index t (0 : Fin 3) * 1 + 1 * 0 = t.val / 64; rw [e0]; omega
  | ⟨1, _⟩ => show win0_1.index t (1 : Fin 3) * 256 + 1 * r.val = 256 * (t.val % 16) + r.val; rw [e1]; omega
  | ⟨2, _⟩ => show win0_1.index t (2 : Fin 3) * 256 + 1 * d.val = 1024 + (256 * (t.val / 16 % 4) + d.val); rw [e2]; omega

theorem iblk_k (c : Dev nD) (t : Fin cfg0.N) (r d : Fin 256) :
    (iblk m c 2 t : Vec Ideal S1x256x256 .bf16) (ix3 0 r d) = argP m c (ix3 (bOf t) (lOf t r) ⟨1024 + (1024 + (256 * (hOf t).val + d.val)), by omega⟩) := by
  unfold iblk
  rw [View.read_apply]
  show V m c main_arg0 _ = _
  rw [V_main_arg0]
  obtain ⟨-, ⟨e0, e1, e2⟩, -⟩ := idx_rows t
  refine congrArg (argP m c) (funext fun a => Fin.ext ?_)
  match a with
  | ⟨0, _⟩ => show win0_2.index t (0 : Fin 3) * 1 + 1 * 0 = t.val / 64; rw [e0]; omega
  | ⟨1, _⟩ => show win0_2.index t (1 : Fin 3) * 256 + 1 * r.val = 256 * (t.val % 16) + r.val; rw [e1]; omega
  | ⟨2, _⟩ => show win0_2.index t (2 : Fin 3) * 256 + 1 * d.val = 1024 + (1024 + (256 * (t.val / 16 % 4) + d.val)); rw [e2]; omega

theorem iblk_v (c : Dev nD) (t : Fin cfg0.N) (r : Fin 256) (e : Fin 512) :
    (iblk m c 3 t : Vec Ideal S1x256x512 .bf16) (ix3 0 r e) = vE (argP m c) (bOf t) (hOf t) (lOf t r) e := by
  unfold iblk vE
  rw [View.read_apply]
  show V m c main_arg0 _ = _
  rw [V_main_arg0]
  obtain ⟨-, -, ⟨e0, e1, e2⟩, -⟩ := idx_rows t
  refine congrArg (argP m c) (funext fun a => Fin.ext ?_)
  match a with
  | ⟨0, _⟩ => show win0_3.index t (0 : Fin 3) * 1 + 1 * 0 = t.val / 64; rw [e0]; omega
  | ⟨1, _⟩ => show win0_3.index t (1 : Fin 3) * 256 + 1 * r.val = 256 * (t.val % 16) + r.val; rw [e1]; omega
  | ⟨2, _⟩ => show win0_3.index t (2 : Fin 3) * 512 + 1 * e.val = 1024 + (2048 + (512 * (t.val / 16 % 4) + e.val)); rw [e2]; omega

theorem iblk_g (c : Dev nD) (t : Fin cfg0.N) (r : Fin 256) (e : Fin 512) :
    (iblk m c 4 t : Vec Ideal S1x256x512 .bf16) (ix3 0 r e) = gE (argP m c) (bOf t) (hOf t) (lOf t r) e := by
  unfold iblk gE
  rw [View.read_apply]
  show V m c main_arg0 _ = _
  rw [V_main_arg0]
  obtain ⟨-, -, -, ⟨e0, e1, e2⟩, -⟩ := idx_rows t
  refine congrArg (argP m c) (funext fun a => Fin.ext ?_)
  match a with
  | ⟨0, _⟩ => show win0_4.index t (0 : Fin 3) * 1 + 1 * 0 = t.val / 64; rw [e0]; omega
  | ⟨1, _⟩ => show win0_4.index t (1 : Fin 3) * 256 + 1 * r.val = 256 * (t.val % 16) + r.val; rw [e1]; omega
  | ⟨2, _⟩ => show win0_4.index t (2 : Fin 3) * 512 + 1 * e.val = 5120 + (512 * (t.val / 16 % 4) + e.val); rw [e2]; omega

theorem iblk_cos (c : Dev nD) (t : Fin cfg0.N) (r : Fin 256) (j : Fin 128) :
    (iblk m c 5 t : Vec Ideal S256x128 .f32) (ix2 r j) = cosT (lOf t r) j := by
  unfold iblk
  rw [View.read_apply]
  obtain ⟨-, -, e0, e1, -⟩ := idx_small t
  show V m c main_v63 _ = _
  refine (congrArg (V m c main_v63) (?_ : _ = (ix2 (lOf t r) j : S4096x128.Idx))).trans (cos_apply m c (lOf t r) j)
  refine funext fun a => Fin.ext ?_
  match a with
  | ⟨0, _⟩ => show win0_5.index t (0 : Fin 2) * 256 + 1 * r.val = 256 * (t.val % 16) + r.val; rw [e0]; omega
  | ⟨1, _⟩ => show win0_5.index t (1 : Fin 2) * 128 + 1 * j.val = j.val; rw [e1]; omega

theorem iblk_sin (c : Dev nD) (t : Fin cfg0.N) (r : Fin 256) (j : Fin 128) :
    (iblk m c 6 t : Vec Ideal S256x128 .f32) (ix2 r j) = sinT (lOf t r) j := by
  unfold iblk
  rw [View.read_apply]
  obtain ⟨-, -, -, -, e0, e1, -⟩ := idx_small t
  show V m c main_v64 _ = _
  refine (congrArg (V m c main_v64) (?_ : _ = (ix2 (lOf t r) j : S4096x128.Idx))).trans (sin_apply m c (lOf t r) j)
  refine funext fun a => Fin.ext ?_
  match a with
  | ⟨0, _⟩ => show win0_6.index t (0 : Fin 2) * 256 + 1 * r.val = 256 * (t.val % 16) + r.val; rw [e0]; omega
  | ⟨1, _⟩ => show win0_6.index t (1 : Fin 2) * 128 + 1 * j.val = j.val; rw [e1]; omega

theorem iblk_dmask (c : Dev nD) (t : Fin cfg0.N) (r s : Fin 256) :
    (iblk m c 7 t : Vec Ideal S1x256x256 .f32) (ix3 0 r s)
      = (((if s.val / 64 ≤ r.val / 64 then Real.exp (lg (hOf t) * |(r.val : ℝ) - (s.val : ℝ)|) else 0 : ℝ)) : EReal) := by
  unfold iblk
  rw [View.read_apply]
  obtain ⟨-, -, -, -, -, -, e0, e1, e2, -⟩ := idx_small t
  show V m c main_v39 _ = _
  refine (congrArg (V m c main_v39) (?_ : _ = (ix3 (hOf t) r s : S4x256x256.Idx))).trans (dmask_apply m c (hOf t) r s)
  refine funext fun a => Fin.ext ?_
  match a with
  | ⟨0, _⟩ => show win0_7.index t (0 : Fin 3) * 1 + 1 * 0 = t.val / 16 % 4; rw [e0]; omega
  | ⟨1, _⟩ => show win0_7.index t (1 : Fin 3) * 256 + 1 * r.val = r.val; rw [e1]; omega
  | ⟨2, _⟩ => show win0_7.index t (2 : Fin 3) * 256 + 1 * s.val = s.val; rw [e2]; omega

theorem iblk_qdec (c : Dev nD) (t : Fin cfg0.N) (r d : Fin 256) :
    (iblk m c 8 t : Vec Ideal S1x256x256 .f32) (ix3 0 r d) = ((Real.exp (lg (hOf t) * ((r.val : ℝ) + 1)) : ℝ) : EReal) := by
  unfold iblk
  rw [View.read_apply]
  obtain ⟨-, -, -, -, -, -, -, -, -, e0, e1, e2, -⟩ := idx_small t
  show V m c main_v61 _ = _
  refine (congrArg (V m c main_v61) (?_ : _ = (ix3 (hOf t) r d : S4x256x256.Idx))).trans (qdec_apply m c (hOf t) r d)
  refine funext fun a => Fin.ext ?_
  match a with
  | ⟨0, _⟩ => show win0_8.index t (0 : Fin 3) * 1 + 1 * 0 = t.val / 16 % 4; rw [e0]; omega
  | ⟨1, _⟩ => show win0_8.index t (1 : Fin 3) * 256 + 1 * r.val = r.val; rw [e1]; omega
  | ⟨2, _⟩ => show win0_8.index t (2 : Fin 3) * 256 + 1 * d.val = d.val; rw [e2]; omega

theorem iblk_kdec (c : Dev nD) (t : Fin cfg0.N) (r d : Fin 256) :
    (iblk m c 9 t : Vec Ideal S1x256x256 .f32) (ix3 0 r d) = ((Real.exp (lg (hOf t) * (255 - (r.val : ℝ))) : ℝ) : EReal) := by
  unfold iblk
  rw [View.read_apply]
  obtain ⟨-, -, -, -, -, -, -, -, -, -, -, -, e0, e1, e2⟩ := idx_small t
  show V m c main_v62 _ = _
  refine (congrArg (V m c main_v62) (?_ : _ = (ix3 (hOf t) r d : S4x256x256.Idx))).trans (kdec_apply m c (hOf t) r d)
  refine funext fun a => Fin.ext ?_
  match a with
  | ⟨0, _⟩ => show win0_9.index t (0 : Fin 3) * 1 + 1 * 0 = t.val / 16 % 4; rw [e0]; omega
  | ⟨1, _⟩ => show win0_9.index t (1 : Fin 3) * 256 + 1 * r.val = r.val; rw [e1]; omega
  | ⟨2, _⟩ => show win0_9.index t (2 : Fin 3) * 256 + 1 * d.val = d.val; rw [e2]; omega

/-- The rotated query and the rotated, scaled key of row `r` of the point's block. -/
theorem rope_q (c : Dev nD) (t : Fin cfg0.N) (r d : Fin 256) :
    rope (row (iblk m c 1 t) r) (ang (iblk m c 5 t) r) (ang (iblk m c 6 t) r) d = qE (argP m c) (bOf t) (hOf t) (lOf t r) d := by
  unfold qE
  rw [show row (iblk m c 1 t) r = _ from funext fun d => iblk_q m c t r d, show ang (iblk m c 5 t) r = _ from funext fun j => iblk_cos m c t r j,
    show ang (iblk m c 6 t) r = _ from funext fun j => iblk_sin m c t r j]
theorem rope_k (c : Dev nD) (t : Fin cfg0.N) (r d : Fin 256) :
    rope (row (iblk m c 2 t) r) (ang (iblk m c 5 t) r) (ang (iblk m c 6 t) r) d * Ideal.ofBits .f32 0x3D800000#32 = kE (argP m c) (bOf t) (hOf t) (lOf t r) d := by
  unfold kE
  rw [show row (iblk m c 2 t) r = _ from funext fun d => iblk_k m c t r d, show ang (iblk m c 5 t) r = _ from funext fun j => iblk_cos m c t r j,
    show ang (iblk m c 6 t) r = _ from funext fun j => iblk_sin m c t r j]

/-! ## The state and the output block of a point, from the state before it -/

variable {m} {c : Dev nD} (hX : Fin3 (argP m c))
include hX

theorem step_state (t : Fin cfg0.N) (s : Vec Ideal S256x512 .f32)
    (hs : ∀ (d : Fin 256) (e : Fin 512), s (ix2 d e) = ((state (lg (hOf t)) (kR (argP m c) (bOf t) (hOf t)) (vR (argP m c) (bOf t) (hOf t)) (256 * (t.val % 16)) d e : ℝ) : EReal))
    (d : Fin 256) (e : Fin 512) :
    newState (F := Ideal) (cdecAt (F := Ideal) (grid0.coords t) (iblk m c 0 t)) (iblk m c 2 t) (iblk m c 3 t) (iblk m c 5 t) (iblk m c 6 t) (iblk m c 9 t) s (ix2 d e)
      = ((state (lg (hOf t)) (kR (argP m c) (bOf t) (hOf t)) (vR (argP m c) (bOf t) (hOf t)) (256 * (t.val % 16) + 256) d e : ℝ) : EReal) := by
  rw [newState_apply, iblk_cdec, hs, state_add, EReal.coe_add, EReal.coe_mul, coe_sum]
  refine congrArg₂ (· + ·) (by norm_num) (Finset.sum_congr rfl fun r _ => ?_)
  rw [rope_k, iblk_kdec, iblk_v, kE_coe hX, vE_coe hX, ← EReal.coe_mul, ← EReal.coe_mul]
  norm_num

theorem step_out (t : Fin cfg0.N) (s : Vec Ideal S256x512 .f32)
    (hs : ∀ (d : Fin 256) (e : Fin 512), s (ix2 d e) = ((state (lg (hOf t)) (kR (argP m c) (bOf t) (hOf t)) (vR (argP m c) (bOf t) (hOf t)) (256 * (t.val % 16)) d e : ℝ) : EReal))
    (r : Fin 256) (e : Fin 512) :
    outBlock (F := Ideal) (iblk m c 1 t) (iblk m c 2 t) (iblk m c 3 t) (iblk m c 4 t) (iblk m c 5 t) (iblk m c 6 t) (iblk m c 7 t) (iblk m c 8 t) s (ix3 0 r e)
      = outE (argP m c) (bOf t) (hOf t) (lOf t r) e := by
  rw [outBlock_apply, iblk_g]
  unfold outE
  refine congrArg (fun o => gated o _ e) (funext fun e => ?_)
  unfold preRow
  rw [← ret_block (lg (hOf t)) _ _ _ (256 * (t.val % 16)) 256 (by omega) (by omega) r e, EReal.coe_add, coe_sum, coe_sum]
  refine congrArg₂ (· + ·) (Finset.sum_congr rfl fun s _ => ?_) (Finset.sum_congr rfl fun d _ => ?_)
  · rw [iblk_dmask, iblk_v, vE_coe hX, EReal.coe_mul, EReal.coe_mul, coe_sum]
    refine congrArg₂ (· * ·) (congrArg₂ (· * ·) (Finset.sum_congr rfl fun d _ => ?_) rfl) rfl
    rw [rope_q, rope_k, qE_coe hX, kE_coe hX, ← EReal.coe_mul]
  · rw [rope_q, iblk_qdec, hs, qE_coe hX, ← EReal.coe_mul, ← EReal.coe_mul]

/-- The state after a point is the head's state over all rows up to the end of the point's block. -/
theorem state_apply : ∀ (n : ℕ) (hn : n < cfg0.N) (d : Fin 256) (e : Fin 512),
    (outsAt0 m c n hn).2 (ix2 d e) = ((state (lg (hOf ⟨n, hn⟩)) (kR (argP m c) (bOf ⟨n, hn⟩) (hOf ⟨n, hn⟩)) (vR (argP m c) (bOf ⟨n, hn⟩) (hOf ⟨n, hn⟩)) (256 * (n % 16) + 256) d e : ℝ) : EReal) := by
  have key : ∀ (t : Fin cfg0.N) (h0 : t.val % 16 = 0) (d : Fin 256) (e : Fin 512),
      (outsAt0 m c t.val t.isLt).2 (ix2 d e) = ((state (lg (hOf t)) (kR (argP m c) (bOf t) (hOf t)) (vR (argP m c) (bOf t) (hOf t)) (256 * (t.val % 16) + 256) d e : ℝ) : EReal) := by
    intro t h0 d e
    rw [outsAt0_A m c t h0]
    dsimp only
    rw [scratch_A]
    refine step_state hX t _ (fun d e => ?_) d e
    rw [pay2_apply, h0, Nat.mul_zero, state_zero]; rfl
  have step : ∀ (t : Fin cfg0.N) (h0 : ¬t.val % 16 = 0)
      (ih : ∀ (d : Fin 256) (e : Fin 512), (outsAt0 m c (t.val - 1) (Nat.lt_of_le_of_lt (Nat.sub_le _ _) t.isLt)).2 (ix2 d e)
        = ((state (lg (hOf t)) (kR (argP m c) (bOf t) (hOf t)) (vR (argP m c) (bOf t) (hOf t)) (256 * (t.val % 16)) d e : ℝ) : EReal)) (d : Fin 256) (e : Fin 512),
      (outsAt0 m c t.val t.isLt).2 (ix2 d e) = ((state (lg (hOf t)) (kR (argP m c) (bOf t) (hOf t)) (vR (argP m c) (bOf t) (hOf t)) (256 * (t.val % 16) + 256) d e : ℝ) : EReal) := by
    intro t h0 ih d e
    generalize hp : outsAt0 m c (t.val - 1) (Nat.lt_of_le_of_lt (Nat.sub_le _ _) t.isLt) = p at ih
    rw [outsAt0_B m c t h0, hp]
    dsimp only
    rw [scratch_B]
    exact step_state hX t _ ih d e
  intro n
  induction n with
  | zero => intro hn d e; exact key ⟨0, hn⟩ rfl d e
  | succ n ih =>
    intro hn d e
    by_cases h0 : (n + 1) % 16 = 0
    · exact key ⟨n + 1, hn⟩ h0 d e
    · refine step ⟨n + 1, hn⟩ h0 (fun d e => ?_) d e
      refine (ih (by omega) d e).trans ?_
      have hb : bOf ⟨n, by omega⟩ = bOf ⟨n + 1, hn⟩ := Fin.ext (by show n / 64 = (n + 1) / 64; omega)
      have hh : hOf ⟨n, by omega⟩ = hOf ⟨n + 1, hn⟩ := Fin.ext (by show n / 16 % 4 = (n + 1) / 16 % 4; omega)
      rw [hb, hh, show 256 * (n % 16) + 256 = 256 * ((n + 1) % 16) by omega]

/-- The output block of a point. -/
theorem out_apply (t : Fin cfg0.N) (r : Fin 256) (e : Fin 512) :
    (outsAt0 m c t.val t.isLt).1 (ix3 0 r e) = outE (argP m c) (bOf t) (hOf t) (lOf t r) e := by
  by_cases h0 : t.val % 16 = 0
  · rw [outsAt0_A m c t h0]
    dsimp only
    rw [out_A]
    refine step_out hX t _ (fun d e => ?_) r e
    rw [pay2_apply, h0, Nat.mul_zero, state_zero]; rfl
  · have ih : ∀ (d : Fin 256) (e : Fin 512), (outsAt0 m c (t.val - 1) (Nat.lt_of_le_of_lt (Nat.sub_le _ _) t.isLt)).2 (ix2 d e)
        = ((state (lg (hOf t)) (kR (argP m c) (bOf t) (hOf t)) (vR (argP m c) (bOf t) (hOf t)) (256 * (t.val % 16)) d e : ℝ) : EReal) := by
      intro d e
      refine (state_apply hX (t.val - 1) _ d e).trans ?_
      have hl : t.val - 1 < cfg0.N := Nat.lt_of_le_of_lt (Nat.sub_le _ _) t.isLt
      have hb : bOf ⟨t.val - 1, hl⟩ = bOf t := Fin.ext (by show (t.val - 1) / 64 = t.val / 64; omega)
      have hh : hOf ⟨t.val - 1, hl⟩ = hOf t := Fin.ext (by show (t.val - 1) / 16 % 4 = t.val / 16 % 4; omega)
      rw [hb, hh, show 256 * ((t.val - 1) % 16) + 256 = 256 * (t.val % 16) by omega]
    generalize hp : outsAt0 m c (t.val - 1) (Nat.lt_of_le_of_lt (Nat.sub_le _ _) t.isLt) = p at ih
    rw [outsAt0_B m c t h0, hp]
    dsimp only
    rw [out_B]
    exact step_out hX t _ ih r e
omit hX

end Cert.KernelIdeal.Value

end
-- ==== Proof.RetentionFinal.lean ====
/-
  The array the retention kernel's run leaves (`final10`): every point's output block in its place.
-/
module

public import proofs.«01_k».proof.Proof.RetentionKernel
public import Idealize.ShloMosaic.Lib.Pipeline.ValueKit.Geometry

@[expose] public section

set_option maxRecDepth 16384

noncomputable section

namespace Cert.KernelIdeal.Value

open Cert.KernelIdeal Cert.KernelIdeal.Gen Cert.Retention Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What the result holds at an index. -/
def resultP (X : S8x4096x9216.Idx → EReal) : S8x4096x2048.Idx → EReal := fun i =>
  outE X (i 0) ⟨(i 2).val / 512, by have h : (i 2).val < 2048 := (i 2).isLt; omega⟩ (i 1) ⟨(i 2).val % 512, Nat.mod_lt _ (by decide)⟩

/-- THE RESULT ARRAY after the run. -/
theorem final10 {c : Dev nD} (hX : Fin3 (argP m c)) : (dats m 0 c).arrAt 10 cfg0.N = resultP (argP m c) := by
  refine (dats m 0 c).arrAt_eq_of_covers 10 _ (by decide +kernel) fun t hf y => ?_
  blk_simp
  rw [after0_10]
  have hy0 : (y 0).val < 1 := (y 0).isLt
  have hy1 : (y 1).val < 256 := (y 1).isLt
  have hy2 : (y 2).val < 512 := (y 2).isLt
  have hy : (y : S1x256x512.Idx) = ix3 0 ⟨(y 1).val, hy1⟩ ⟨(y 2).val, hy2⟩ := funext fun a => Fin.ext (by
    match a with | ⟨0, _⟩ => show (y 0).val = 0; omega | ⟨1, _⟩ => rfl | ⟨2, _⟩ => rfl)
  refine (congrArg (outsAt0 m c t.val t.isLt).1 hy).trans ((out_apply hX t _ _).trans ?_)
  obtain ⟨-, -, -, -, e0, e1, e2⟩ := idx_rows t
  have h0 : ((win0_10.blk t).view.emb y 0).val = win0_10.index t (0 : Fin 3) * 1 + 1 * (y 0).val := rfl
  have h1 : ((win0_10.blk t).view.emb y 1).val = win0_10.index t (1 : Fin 3) * 256 + 1 * (y 1).val := rfl
  have h2 : ((win0_10.blk t).view.emb y 2).val = win0_10.index t (2 : Fin 3) * 512 + 1 * (y 2).val := rfl
  have ht := t_lt t
  unfold resultP
  have hb : bOf t = (win0_10.blk t).view.emb y 0 := Fin.ext (by rw [h0, e0]; show t.val / 64 = _; omega)
  have hl : lOf t ⟨(y 1).val, hy1⟩ = (win0_10.blk t).view.emb y 1 := Fin.ext (by rw [h1, e1]; show 256 * (t.val % 16) + (y 1).val = _; omega)
  have hh : hOf t = ⟨((win0_10.blk t).view.emb y 2).val / 512, by rw [h2, e2]; omega⟩ := Fin.ext (by show t.val / 16 % 4 = _ / 512; rw [h2, e2]; omega)
  have he : (⟨(y 2).val, hy2⟩ : Fin 512) = ⟨((win0_10.blk t).view.emb y 2).val % 512, Nat.mod_lt _ (by decide)⟩ := Fin.ext (by show (y 2).val = _ % 512; rw [h2, e2]; omega)
  rw [hb, hl, hh, he]

end Cert.KernelIdeal.Value

end
-- ==== Proof.RetentionRefEntry.lean ====
/-
  What the retention reference computes before its loop over the chunks of 64 rows, read at an index: the rotated
  queries and keys and the values by chunk, and the decay tables of a chunk.
-/
module

public import proofs.«01_k».proof.Proof.RetentionTables
public import proofs.«01_k».proof.Proof.Gen.ReferenceIdeal.Run

@[expose] public section

set_option maxRecDepth 16384

noncomputable section

namespace Cert.ReferenceIdeal.Value

open Cert.ReferenceIdeal Cert.ReferenceIdeal.Gen Cert.Retention Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The projected rows the reference is given. -/
abbrev argR (c : Dev nD) : S8x4096x9216.Idx → EReal := m ((c.tc : Thread nD τ).loc main_arg0)

/-- What the buffers hold where the loop begins. -/
abbrev entry (c : Dev nD) : Valuation τ sig (Elt Ideal) := entryContents preI m c

/-- The angle's table spread over batch and head. -/
abbrev spread (x : FVec Ideal S4096x128 .f32) : FVec Ideal S8x4096x4x128 .f32 :=
  broadcastInDim S8x4096x4x128 ![0, 1, 2, 3] bcast_S1x4096x1x128_S8x4096x4x128_0_1_2_3 (broadcastInDim S1x4096x1x128 ![1, 3] bcast_S4096x128_S1x4096x1x128_1_3 x)

/-- The rotary embedding of every row. -/
abbrev ropeT (y : FVec Ideal S8x4096x4x256 .f32) : FVec Ideal S8x4096x4x256 .f32 :=
  concatenate S8x4096x4x256 3
    [⟨S8x4096x4x128, subf (F := Ideal)
        (mulf (F := Ideal) (extractStridedSlice S8x4096x4x128 ![0, 0, 0, 0] y slices_S8x4096x4x256_S8x4096x4x128_0_0_0_0) (spread (Host.cos (F := Ideal) angleT)))
        (mulf (F := Ideal) (extractStridedSlice S8x4096x4x128 ![0, 0, 0, 128] y slices_S8x4096x4x256_S8x4096x4x128_0_0_0_128) (spread (Host.sin (F := Ideal) angleT)))⟩,
     ⟨S8x4096x4x128, addf (F := Ideal)
        (mulf (F := Ideal) (extractStridedSlice S8x4096x4x128 ![0, 0, 0, 128] y slices_S8x4096x4x256_S8x4096x4x128_0_0_0_128) (spread (Host.cos (F := Ideal) angleT)))
        (mulf (F := Ideal) (extractStridedSlice S8x4096x4x128 ![0, 0, 0, 0] y slices_S8x4096x4x256_S8x4096x4x128_0_0_0_0) (spread (Host.sin (F := Ideal) angleT)))⟩]
    concatenates_S8x4096x4x128_S8x4096x4x128_S8x4096x4x256_d3

/-- Rows by chunk: chunk, batch, head, row of the chunk, column. -/
abbrev chunk256 (y : FVec Ideal S8x4096x4x256 .f32) : FVec Ideal S64x8x4x64x256 .f32 :=
  transpose S64x8x4x64x256 [1, 0, 3, 2, 4] (shapeCast S8x64x64x4x256 y shapeCasts_S8x4096x4x256_S8x64x64x4x256 : FVec Ideal S8x64x64x4x256 .f32) transposes_S8x64x64x4x256_S64x8x4x64x256_1_0_3_2_4
abbrev chunk512 (y : FVec Ideal S8x4096x4x512 .f32) : FVec Ideal S64x8x4x64x512 .f32 :=
  transpose S64x8x4x64x512 [1, 0, 3, 2, 4] (shapeCast S8x64x64x4x512 y shapeCasts_S8x4096x4x512_S8x64x64x4x512 : FVec Ideal S8x64x64x4x512 .f32) transposes_S8x64x64x4x512_S64x8x4x64x512_1_0_3_2_4

/-- The query, key and value columns split into heads. -/
abbrev colsQ (X : FVec Ideal S8x4096x9216 .bf16) : FVec Ideal S8x4096x4x256 .f32 :=
  shapeCast S8x4096x4x256 (extf (F := Ideal) .f32 (extractStridedSlice S8x4096x1024 ![0, 0, 1024] X slices_S8x4096x9216_S8x4096x1024_0_0_1024 : FVec Ideal S8x4096x1024 .bf16) bitsLt_bf16_f32) shapeCasts_S8x4096x1024_S8x4096x4x256
abbrev colsK (X : FVec Ideal S8x4096x9216 .bf16) : FVec Ideal S8x4096x4x256 .f32 :=
  shapeCast S8x4096x4x256 (extf (F := Ideal) .f32 (extractStridedSlice S8x4096x1024 ![0, 0, 2048] X slices_S8x4096x9216_S8x4096x1024_0_0_2048 : FVec Ideal S8x4096x1024 .bf16) bitsLt_bf16_f32) shapeCasts_S8x4096x1024_S8x4096x4x256
abbrev colsV (X : FVec Ideal S8x4096x9216 .bf16) : FVec Ideal S8x4096x4x512 .f32 :=
  shapeCast S8x4096x4x512 (extf (F := Ideal) .f32 (extractStridedSlice S8x4096x2048 ![0, 0, 3072] X slices_S8x4096x9216_S8x4096x2048_0_0_3072 : FVec Ideal S8x4096x2048 .bf16) bitsLt_bf16_f32) shapeCasts_S8x4096x2048_S8x4096x4x512

/-- The positions inside a chunk of 64 rows, as numbers. -/
abbrev idxT : FVec Ideal S64 .f32 := sitofp (F := Ideal) .f32 (iotaInDim S64 32 0)

set_option maxRecDepth 100000

theorem entry_q (c : Dev nD) : entry m c (Proc.devRef .tc main_v115_0) = chunk256 (ropeT (colsQ (argR m c))) := by
  simp only [entry, entryContents, afterL_cons, afterL_nil]
  after_results <;> rfl
theorem entry_k (c : Dev nD) : entry m c (Proc.devRef .tc main_v115_1)
    = chunk256 (mulf (F := Ideal) (ropeT (colsK (argR m c))) (broadcastInDim S8x4096x4x256 ![] bcast_S_S8x4096x4x256 (constant (F := Ideal) S_ .f32 0x3D800000#32))) := by
  simp only [entry, entryContents, afterL_cons, afterL_nil]
  after_results <;> rfl
theorem entry_v (c : Dev nD) : entry m c (Proc.devRef .tc main_v115_2) = chunk512 (colsV (argR m c)) := by
  simp only [entry, entryContents, afterL_cons, afterL_nil]
  after_results <;> rfl
theorem entry_intra (c : Dev nD) : entry m c (Proc.devRef .tc main_v115_3) = Host.exp (F := Ideal) (mulf (F := Ideal)
      (broadcastInDim S4x64x64 ![0, 1, 2] bcast_S4x1x1_S4x64x64_0_1_2 (broadcastInDim S4x1x1 ![0] bcast_S4_S4x1x1_0 logT))
      (broadcastInDim S4x64x64 ![0, 1, 2] bcast_S1x64x64_S4x64x64_0_1_2 (broadcastInDim S1x64x64 ![1, 2] bcast_S64x64_S1x64x64_1_2
        (Host.absf (F := Ideal) (subf (F := Ideal)
          (broadcastInDim S64x64 ![0, 1] bcast_S64x1_S64x64_0_1 (broadcastInDim S64x1 ![0] bcast_S64_S64x1_0 idxT))
          (broadcastInDim S64x64 ![0, 1] bcast_S1x64_S64x64_0_1 (broadcastInDim S1x64 ![1] bcast_S64_S1x64_1 idxT))))))) := by
  simp only [entry, entryContents, afterL_cons, afterL_nil]
  after_results <;> rfl
theorem entry_qdec (c : Dev nD) : entry m c (Proc.devRef .tc main_v115_4) = broadcastInDim S4x64x1 ![0, 1] bcast_S4x64_S4x64x1_0_1 (Host.exp (F := Ideal) (mulf (F := Ideal)
      (broadcastInDim S4x64 ![0, 1] bcast_S4x1_S4x64_0_1 (broadcastInDim S4x1 ![0] bcast_S4_S4x1_0 logT))
      (broadcastInDim S4x64 ![0, 1] bcast_S1x64_S4x64_0_1 (broadcastInDim S1x64 ![1] bcast_S64_S1x64_1
        (addf (F := Ideal) idxT (broadcastInDim S64 ![] bcast_S_S64 (constant (F := Ideal) S_ .f32 0x3F800000#32))))))) := by
  simp only [entry, entryContents, afterL_cons, afterL_nil]
  after_results <;> rfl
theorem entry_cdec (c : Dev nD) : entry m c (Proc.devRef .tc main_v115_5) = broadcastInDim S4x1x1 ![0] bcast_S4_S4x1x1_0 (Host.exp (F := Ideal) (mulf (F := Ideal) logT
      (broadcastInDim S4 ![] bcast_S_S4 (constant (F := Ideal) S_ .f32 0x42800000#32)))) := by
  simp only [entry, entryContents, afterL_cons, afterL_nil]
  after_results <;> rfl
theorem entry_kdec (c : Dev nD) : entry m c (Proc.devRef .tc main_v115_6) = broadcastInDim S4x64x1 ![0, 1] bcast_S4x64_S4x64x1_0_1 (Host.exp (F := Ideal) (mulf (F := Ideal)
      (broadcastInDim S4x64 ![0, 1] bcast_S4x1_S4x64_0_1 (broadcastInDim S4x1 ![0] bcast_S4_S4x1_0 logT))
      (broadcastInDim S4x64 ![0, 1] bcast_S1x64_S4x64_0_1 (broadcastInDim S1x64 ![1] bcast_S64_S1x64_1
        (subf (F := Ideal) (broadcastInDim S64 ![] bcast_S_S64 (constant (F := Ideal) S_ .f32 0x427C0000#32)) idxT))))) := by
  simp only [entry, entryContents, afterL_cons, afterL_nil]
  after_results <;> rfl
theorem entry_state (c : Dev nD) : entry m c (Proc.devRef .tc main_v115_8) = broadcastInDim S8x4x256x512 ![] bcast_S_S8x4x256x512 (constant (F := Ideal) S_ .f32 0x00000000#32) := by
  simp only [entry, entryContents, afterL_cons, afterL_nil]
  after_results <;> rfl

/-! ## The entry values at an index -/

/-- A row of chunk `k` is the row at position `64 k + r`. -/
abbrev lAt (k r : Fin 64) : Fin 4096 := ⟨64 * k.val + r.val, by omega⟩

theorem chunk256_apply (y : FVec Ideal S8x4096x4x256 .f32) (k : Fin 64) (b : Fin 8) (h : Fin 4) (r : Fin 64) (d : Fin 256) :
    chunk256 y (ix5 k b h r d) = y (ix4 b (lAt k r) h d) := by
  unfold chunk256
  rw [transpose_apply (k := (ix5 b k r h d : S8x64x64x4x256.Idx)) _ _ _ _ (by
      intro a; match a with | ⟨0, _⟩ => rfl | ⟨1, _⟩ => rfl | ⟨2, _⟩ => rfl | ⟨3, _⟩ => rfl | ⟨4, _⟩ => rfl),
    shapeCast_apply (k := (ix4 b (lAt k r) h d : S8x4096x4x256.Idx)) _ _ _ (by
      rewrite [Shape.rowMajor_val_five, Shape.rowMajor_val_four]
      show ((b.val * 4096 + (64 * k.val + r.val)) * 4 + h.val) * 256 + d.val = (((b.val * 64 + k.val) * 64 + r.val) * 4 + h.val) * 256 + d.val
      omega)]

theorem chunk512_apply (y : FVec Ideal S8x4096x4x512 .f32) (k : Fin 64) (b : Fin 8) (h : Fin 4) (r : Fin 64) (d : Fin 512) :
    chunk512 y (ix5 k b h r d) = y (ix4 b (lAt k r) h d) := by
  unfold chunk512
  rw [transpose_apply (k := (ix5 b k r h d : S8x64x64x4x512.Idx)) _ _ _ _ (by
      intro a; match a with | ⟨0, _⟩ => rfl | ⟨1, _⟩ => rfl | ⟨2, _⟩ => rfl | ⟨3, _⟩ => rfl | ⟨4, _⟩ => rfl),
    shapeCast_apply (k := (ix4 b (lAt k r) h d : S8x4096x4x512.Idx)) _ _ _ (by
      rewrite [Shape.rowMajor_val_five, Shape.rowMajor_val_four]
      show ((b.val * 4096 + (64 * k.val + r.val)) * 4 + h.val) * 512 + d.val = (((b.val * 64 + k.val) * 64 + r.val) * 4 + h.val) * 512 + d.val
      omega)]

theorem colsQ_apply (X : FVec Ideal S8x4096x9216 .bf16) (b : Fin 8) (l : Fin 4096) (h : Fin 4) (d : Fin 256) :
    colsQ X (ix4 b l h d) = X (ix3 b l ⟨1024 + (256 * h.val + d.val), by omega⟩) := by
  unfold colsQ
  rw [shapeCast_apply (k := (ix3 b l ⟨256 * h.val + d.val, by omega⟩ : S8x4096x1024.Idx)) _ _ _ (by
      rewrite [Shape.rowMajor_val_three, Shape.rowMajor_val_four]
      show (b.val * 4096 + l.val) * 1024 + (256 * h.val + d.val) = ((b.val * 4096 + l.val) * 4 + h.val) * 256 + d.val
      omega), extf_apply,
    extractStridedSlice_apply (k := (ix3 b l ⟨1024 + (256 * h.val + d.val), by omega⟩ : S8x4096x9216.Idx)) _ _ _ _ (by
      intro a; match a with | ⟨0, _⟩ => exact (Nat.zero_add _).symm | ⟨1, _⟩ => exact (Nat.zero_add _).symm | ⟨2, _⟩ => rfl)]

theorem colsK_apply (X : FVec Ideal S8x4096x9216 .bf16) (b : Fin 8) (l : Fin 4096) (h : Fin 4) (d : Fin 256) :
    colsK X (ix4 b l h d) = X (ix3 b l ⟨1024 + (1024 + (256 * h.val + d.val)), by omega⟩) := by
  unfold colsK
  rw [shapeCast_apply (k := (ix3 b l ⟨256 * h.val + d.val, by omega⟩ : S8x4096x1024.Idx)) _ _ _ (by
      rewrite [Shape.rowMajor_val_three, Shape.rowMajor_val_four]
      show (b.val * 4096 + l.val) * 1024 + (256 * h.val + d.val) = ((b.val * 4096 + l.val) * 4 + h.val) * 256 + d.val
      omega), extf_apply,
    extractStridedSlice_apply (k := (ix3 b l ⟨1024 + (1024 + (256 * h.val + d.val)), by omega⟩ : S8x4096x9216.Idx)) _ _ _ _ (by
      intro a; match a with
        | ⟨0, _⟩ => exact (Nat.zero_add _).symm | ⟨1, _⟩ => exact (Nat.zero_add _).symm
        | ⟨2, _⟩ => show 1024 + (1024 + (256 * h.val + d.val)) = 2048 + (256 * h.val + d.val); omega)]

theorem colsV_apply (X : FVec Ideal S8x4096x9216 .bf16) (b : Fin 8) (l : Fin 4096) (h : Fin 4) (e : Fin 512) :
    colsV X (ix4 b l h e) = vE X b h l e := by
  unfold colsV vE
  rw [shapeCast_apply (k := (ix3 b l ⟨512 * h.val + e.val, by omega⟩ : S8x4096x2048.Idx)) _ _ _ (by
      rewrite [Shape.rowMajor_val_three, Shape.rowMajor_val_four]
      show (b.val * 4096 + l.val) * 2048 + (512 * h.val + e.val) = ((b.val * 4096 + l.val) * 4 + h.val) * 512 + e.val
      omega), extf_apply,
    extractStridedSlice_apply (k := (ix3 b l ⟨1024 + (2048 + (512 * h.val + e.val)), by omega⟩ : S8x4096x9216.Idx)) _ _ _ _ (by
      intro a; match a with
        | ⟨0, _⟩ => exact (Nat.zero_add _).symm | ⟨1, _⟩ => exact (Nat.zero_add _).symm
        | ⟨2, _⟩ => show 1024 + (2048 + (512 * h.val + e.val)) = 3072 + (512 * h.val + e.val); omega)]

theorem spread_apply (x : FVec Ideal S4096x128 .f32) (b : Fin 8) (l : Fin 4096) (h : Fin 4) (j : Fin 128) : spread x (ix4 b l h j) = x (ix2 l j) := by
  unfold spread
  rw [broadcastInDim_apply (k := (ix4 0 l 0 j : S1x4096x1x128.Idx)) _ _ _ _ (by intro a; match a with | ⟨0, _⟩ => rfl | ⟨1, _⟩ => rfl | ⟨2, _⟩ => rfl | ⟨3, _⟩ => rfl),
    broadcastInDim_apply (k := (ix2 l j : S4096x128.Idx)) _ _ _ _ (by intro a; match a with | ⟨0, _⟩ => rfl | ⟨1, _⟩ => rfl)]

theorem lo_apply (y : FVec Ideal S8x4096x4x256 .f32) (b : Fin 8) (l : Fin 4096) (h : Fin 4) (j : Fin 128) (d : Fin 256) (hd : d.val = j.val) :
    (extractStridedSlice S8x4096x4x128 ![0, 0, 0, 0] y slices_S8x4096x4x256_S8x4096x4x128_0_0_0_0 : FVec Ideal S8x4096x4x128 .f32) (ix4 b l h j) = y (ix4 b l h d) :=
  extractStridedSlice_apply (k := (ix4 b l h d : S8x4096x4x256.Idx)) _ _ _ _ (by
    intro a; match a with
      | ⟨0, _⟩ => exact (Nat.zero_add _).symm | ⟨1, _⟩ => exact (Nat.zero_add _).symm | ⟨2, _⟩ => exact (Nat.zero_add _).symm
      | ⟨3, _⟩ => show d.val = 0 + j.val; omega)
theorem hi_apply (y : FVec Ideal S8x4096x4x256 .f32) (b : Fin 8) (l : Fin 4096) (h : Fin 4) (j : Fin 128) (d : Fin 256) (hd : d.val = 128 + j.val) :
    (extractStridedSlice S8x4096x4x128 ![0, 0, 0, 128] y slices_S8x4096x4x256_S8x4096x4x128_0_0_0_128 : FVec Ideal S8x4096x4x128 .f32) (ix4 b l h j) = y (ix4 b l h d) :=
  extractStridedSlice_apply (k := (ix4 b l h d : S8x4096x4x256.Idx)) _ _ _ _ (by
    intro a; match a with
      | ⟨0, _⟩ => exact (Nat.zero_add _).symm | ⟨1, _⟩ => exact (Nat.zero_add _).symm | ⟨2, _⟩ => exact (Nat.zero_add _).symm
      | ⟨3, _⟩ => exact hd)

theorem ropeT_apply (y : FVec Ideal S8x4096x4x256 .f32) (b : Fin 8) (l : Fin 4096) (h : Fin 4) (d : Fin 256) :
    ropeT y (ix4 b l h d) = rope (fun d => y (ix4 b l h d)) (cosT l) (sinT l) d := by
  unfold ropeT rope
  have hd := d.isLt
  by_cases hlt : d.val < 128
  · rw [dif_pos hlt, concatenate_pair_apply_left (t := S8x4096x4x256) (s₁ := S8x4096x4x128) (s₂ := S8x4096x4x128) (i := (ix4 b l h ⟨d.val, hlt⟩ : S8x4096x4x128.Idx)) 3 _ _ _ _ rfl
      (by intro b; match b with | ⟨0, _⟩ => rfl | ⟨1, _⟩ => rfl | ⟨2, _⟩ => rfl | ⟨3, _⟩ => rfl)]
    rw [subf_apply, mulf_apply, mulf_apply, spread_apply, spread_apply, lo_apply y b l h _ d rfl,
      hi_apply y b l h _ ⟨d.val + 128, by omega⟩ (Nat.add_comm _ _)]
    rfl
  · rw [dif_neg hlt, concatenate_pair_apply_right (t := S8x4096x4x256) (s₁ := S8x4096x4x128) (s₂ := S8x4096x4x128) (i := (ix4 b l h ⟨d.val - 128, by omega⟩ : S8x4096x4x128.Idx)) 3 _ _ _ _ rfl rfl
      (by intro b hb; match b with | ⟨0, _⟩ => rfl | ⟨1, _⟩ => rfl | ⟨2, _⟩ => rfl | ⟨3, _⟩ => exact absurd rfl hb)
      (by show d.val - 128 + 128 = d.val; omega)]
    rw [addf_apply, mulf_apply, mulf_apply, spread_apply, spread_apply, hi_apply y b l h _ d (by show d.val = 128 + (d.val - 128); omega),
      lo_apply y b l h _ ⟨d.val - 128, by omega⟩ rfl]
    rfl

theorem q_apply (c : Dev nD) (k : Fin 64) (b : Fin 8) (h : Fin 4) (r : Fin 64) (d : Fin 256) :
    (entry m c (Proc.devRef .tc main_v115_0) : FVec Ideal S64x8x4x64x256 .f32) (ix5 k b h r d) = qE (argR m c) b h (lAt k r) d := by
  rw [entry_q, chunk256_apply, ropeT_apply]
  unfold qE
  simp only [colsQ_apply]
theorem k_apply (c : Dev nD) (k : Fin 64) (b : Fin 8) (h : Fin 4) (r : Fin 64) (d : Fin 256) :
    (entry m c (Proc.devRef .tc main_v115_1) : FVec Ideal S64x8x4x64x256 .f32) (ix5 k b h r d) = kE (argR m c) b h (lAt k r) d := by
  rw [entry_k, chunk256_apply, mulf_apply, ropeT_apply]
  unfold kE
  simp only [colsK_apply]
  rfl
theorem v_apply (c : Dev nD) (k : Fin 64) (b : Fin 8) (h : Fin 4) (r : Fin 64) (e : Fin 512) :
    (entry m c (Proc.devRef .tc main_v115_2) : FVec Ideal S64x8x4x64x512 .f32) (ix5 k b h r e) = vE (argR m c) b h (lAt k r) e := by
  rw [entry_v, chunk512_apply, colsV_apply]

theorem intra_apply (c : Dev nD) (h : Fin 4) (r s : Fin 64) :
    (entry m c (Proc.devRef .tc main_v115_3) : FVec Ideal S4x64x64 .f32) (ix3 h r s) = ((Real.exp (lg h * |(r.val : ℝ) - (s.val : ℝ)|) : ℝ) : EReal) := by
  rw [entry_intra]
  show Ideal.exp ((broadcastInDim S4x64x64 ![0, 1, 2] bcast_S4x1x1_S4x64x64_0_1_2 (broadcastInDim S4x1x1 ![0] bcast_S4_S4x1x1_0 logT)) (ix3 h r s)
      * max ((((BitVec.ofNat 32 r.val).toInt : ℝ) : EReal) - (((BitVec.ofNat 32 s.val).toInt : ℝ) : EReal))
          (-((((BitVec.ofNat 32 r.val).toInt : ℝ) : EReal) - (((BitVec.ofNat 32 s.val).toInt : ℝ) : EReal)))) = _
  rw [broadcastInDim_apply (k := (ix3 h 0 0 : S4x1x1.Idx)) _ _ _ _ (by intro a; match a with | ⟨0, _⟩ => rfl | ⟨1, _⟩ => rfl | ⟨2, _⟩ => rfl),
      broadcastInDim_apply (k := (ix1 h : S4.Idx)) _ _ _ _ (by intro a; match a with | ⟨0, _⟩ => rfl),
      logT_eq, toInt_small r.val (by omega), toInt_small s.val (by omega), ← EReal.coe_sub, ← EReal.coe_neg, max_coe_neg, ← EReal.coe_mul, Ideal.exp_coe]
theorem qdec_apply (c : Dev nD) (h : Fin 4) (r : Fin 64) :
    (entry m c (Proc.devRef .tc main_v115_4) : FVec Ideal S4x64x1 .f32) (ix3 h r 0) = ((Real.exp (lg h * ((r.val : ℝ) + 1)) : ℝ) : EReal) := by
  rw [entry_qdec, broadcastInDim_apply (k := (ix2 h r : S4x64.Idx)) _ _ _ _ (by intro a; match a with | ⟨0, _⟩ => rfl | ⟨1, _⟩ => rfl)]
  show Ideal.exp ((broadcastInDim S4x64 ![0, 1] bcast_S4x1_S4x64_0_1 (broadcastInDim S4x1 ![0] bcast_S4_S4x1_0 logT)) (ix2 h r)
    * ((((BitVec.ofNat 32 r.val).toInt : ℝ) : EReal) + Ideal.ofBits .f32 0x3F800000#32)) = _
  rw [broadcastInDim_apply (k := (ix2 h 0 : S4x1.Idx)) _ _ _ _ (by intro a; match a with | ⟨0, _⟩ => rfl | ⟨1, _⟩ => rfl),
    broadcastInDim_apply (k := (ix1 h : S4.Idx)) _ _ _ _ (by intro a; match a with | ⟨0, _⟩ => rfl),
    logT_eq, bits_1, toInt_small r.val (by omega), ← EReal.coe_add, ← EReal.coe_mul, Ideal.exp_coe]
theorem cdec_apply (c : Dev nD) (h : Fin 4) :
    (entry m c (Proc.devRef .tc main_v115_5) : FVec Ideal S4x1x1 .f32) (ix3 h 0 0) = ((Real.exp (lg h * 64) : ℝ) : EReal) := by
  rw [entry_cdec, broadcastInDim_apply (k := (ix1 h : S4.Idx)) _ _ _ _ (by intro a; match a with | ⟨0, _⟩ => rfl)]
  show Ideal.exp (logT (ix1 h) * Ideal.ofBits .f32 0x42800000#32) = _
  rw [logT_eq, bits_64, ← EReal.coe_mul, Ideal.exp_coe]
theorem kdec_apply (c : Dev nD) (h : Fin 4) (r : Fin 64) :
    (entry m c (Proc.devRef .tc main_v115_6) : FVec Ideal S4x64x1 .f32) (ix3 h r 0) = ((Real.exp (lg h * (63 - (r.val : ℝ))) : ℝ) : EReal) := by
  rw [entry_kdec, broadcastInDim_apply (k := (ix2 h r : S4x64.Idx)) _ _ _ _ (by intro a; match a with | ⟨0, _⟩ => rfl | ⟨1, _⟩ => rfl)]
  show Ideal.exp ((broadcastInDim S4x64 ![0, 1] bcast_S4x1_S4x64_0_1 (broadcastInDim S4x1 ![0] bcast_S4_S4x1_0 logT)) (ix2 h r)
    * (Ideal.ofBits .f32 0x427C0000#32 - (((BitVec.ofNat 32 r.val).toInt : ℝ) : EReal))) = _
  rw [broadcastInDim_apply (k := (ix2 h 0 : S4x1.Idx)) _ _ _ _ (by intro a; match a with | ⟨0, _⟩ => rfl | ⟨1, _⟩ => rfl),
    broadcastInDim_apply (k := (ix1 h : S4.Idx)) _ _ _ _ (by intro a; match a with | ⟨0, _⟩ => rfl),
    logT_eq, bits_63, toInt_small r.val (by omega), ← EReal.coe_sub, ← EReal.coe_mul, Ideal.exp_coe]
theorem state0_apply (c : Dev nD) (b : Fin 8) (h : Fin 4) (d : Fin 256) (e : Fin 512) :
    (entry m c (Proc.devRef .tc main_v115_8) : FVec Ideal S8x4x256x512 .f32) (ix4 b h d e) = (0 : EReal) := by
  rw [entry_state]
  exact Ideal.ofBits_zero_f32

end Cert.ReferenceIdeal.Value

end
-- ==== Proof.RetentionRefStep.lean ====
/-
  The retention reference's loop: after `k` trips the carried state is the state over the first `64 k` rows, and the
  first `k` chunks of the collected rows are the retention's rows (`inv_iter`).
-/
module

public import proofs.«01_k».proof.Proof.RetentionRefEntry
public import Idealize.ShloMosaic.Lib.WordCmp

@[expose] public section

set_option maxRecDepth 16384

noncomputable section

namespace Cert.ReferenceIdeal.Value

open Cert.ReferenceIdeal Cert.ReferenceIdeal.Gen Cert.Retention Idealize.ShloMosaic Idealize.ShloMosaic.TcCoe Idealize.SL.Sem
open Idealize.ShloMosaic.ValueIdx Idealize.ShloMosaic.StableHlo

/-! ## A chunk's slice and its place -/

theorem toInt_nat (n : Nat) (h : n < 2 ^ 31) : (BitVec.ofNat 32 n).toInt = (n : Int) := by
  have hn : (BitVec.ofNat 32 n).toNat = n := by rw [BitVec.toNat_ofNat]; omega
  rw [BitVec.toInt_eq_toNat_of_lt (by rw [hn]; omega), hn]

theorem fits256 (k : Fin 64) : S64x8x4x64x256.Slices ![k.val, 0, 0, 0, 0] S1x8x4x64x256 := ⟨rfl, fun a => by
  have hk := k.isLt
  match a with
  | ⟨0, _⟩ => show k.val + 1 ≤ 64; omega
  | ⟨1, _⟩ => exact Nat.le_refl _
  | ⟨2, _⟩ => exact Nat.le_refl _
  | ⟨3, _⟩ => exact Nat.le_refl _
  | ⟨4, _⟩ => exact Nat.le_refl _⟩
theorem fits512 (k : Fin 64) : S64x8x4x64x512.Slices ![k.val, 0, 0, 0, 0] S1x8x4x64x512 := ⟨rfl, fun a => by
  have hk := k.isLt
  match a with
  | ⟨0, _⟩ => show k.val + 1 ≤ 64; omega
  | ⟨1, _⟩ => exact Nat.le_refl _
  | ⟨2, _⟩ => exact Nat.le_refl _
  | ⟨3, _⟩ => exact Nat.le_refl _
  | ⟨4, _⟩ => exact Nat.le_refl _⟩

/-- The loop's counter holds `k`. -/
def AtK (V0 : Valuation τ sig (Elt Ideal)) (k : ℕ) : Prop := V0 (Proc.devRef .tc main_v115_7) = fun _ => BitVec.ofNat 32 k

theorem starts {V0 : Valuation τ sig (Elt Ideal)} {k : Fin 64} (hk : AtK V0 k.val) (a : Fin 5) :
    ((![V0 (Proc.devRef .tc main_v115_7), constantI S_ 32 0#32, constantI S_ 32 0#32, constantI S_ 32 0#32, constantI S_ 32 0#32] : Fin 5 → (⟨S_, .i32⟩ : BufTy).Contents (Elt Ideal)) a (Shape.Idx.first h_S_)).toInt
      = (((![k.val, 0, 0, 0, 0] : Fin 5 → ℕ) a : ℕ) : Int) := by
  match a with
  | ⟨0, _⟩ =>
    show (V0 (Proc.devRef .tc main_v115_7) (Shape.Idx.first h_S_) : BitVec 32).toInt = (k.val : Int)
    rw [hk]; exact toInt_nat _ (by omega)
  | ⟨1, _⟩ => rfl
  | ⟨2, _⟩ => rfl
  | ⟨3, _⟩ => rfl
  | ⟨4, _⟩ => rfl

theorem chunkAt256 (x : FVec Ideal S64x8x4x64x256 .f32) (k : Fin 64) (b : Fin 8) (h : Fin 4) (r : Fin 64) (d : Fin 256) :
    (shapeCast S8x4x64x256 (extractStridedSlice S1x8x4x64x256 ![k.val, 0, 0, 0, 0] x (fits256 k) : FVec Ideal S1x8x4x64x256 .f32) shapeCasts_S1x8x4x64x256_S8x4x64x256 : FVec Ideal S8x4x64x256 .f32)
      (ix4 b h r d) = x (ix5 k b h r d) := by
  rw [shapeCast_apply (k := (ix5 0 b h r d : S1x8x4x64x256.Idx)) _ _ _ (by
      rewrite [Shape.rowMajor_val_five, Shape.rowMajor_val_four]
      show (((0 * 8 + b.val) * 4 + h.val) * 64 + r.val) * 256 + d.val = ((b.val * 4 + h.val) * 64 + r.val) * 256 + d.val
      omega),
    extractStridedSlice_apply (k := (ix5 k b h r d : S64x8x4x64x256.Idx)) _ _ _ _ (by
      intro a; match a with
        | ⟨0, _⟩ => rfl | ⟨1, _⟩ => exact (Nat.zero_add _).symm | ⟨2, _⟩ => exact (Nat.zero_add _).symm
        | ⟨3, _⟩ => exact (Nat.zero_add _).symm | ⟨4, _⟩ => exact (Nat.zero_add _).symm)]

theorem chunkAt512 (x : FVec Ideal S64x8x4x64x512 .f32) (k : Fin 64) (b : Fin 8) (h : Fin 4) (r : Fin 64) (d : Fin 512) :
    (shapeCast S8x4x64x512 (extractStridedSlice S1x8x4x64x512 ![k.val, 0, 0, 0, 0] x (fits512 k) : FVec Ideal S1x8x4x64x512 .f32) shapeCasts_S1x8x4x64x512_S8x4x64x512 : FVec Ideal S8x4x64x512 .f32)
      (ix4 b h r d) = x (ix5 k b h r d) := by
  rw [shapeCast_apply (k := (ix5 0 b h r d : S1x8x4x64x512.Idx)) _ _ _ (by
      rewrite [Shape.rowMajor_val_five, Shape.rowMajor_val_four]
      show (((0 * 8 + b.val) * 4 + h.val) * 64 + r.val) * 512 + d.val = ((b.val * 4 + h.val) * 64 + r.val) * 512 + d.val
      omega),
    extractStridedSlice_apply (k := (ix5 k b h r d : S64x8x4x64x512.Idx)) _ _ _ _ (by
      intro a; match a with
        | ⟨0, _⟩ => rfl | ⟨1, _⟩ => exact (Nat.zero_add _).symm | ⟨2, _⟩ => exact (Nat.zero_add _).symm
        | ⟨3, _⟩ => exact (Nat.zero_add _).symm | ⟨4, _⟩ => exact (Nat.zero_add _).symm)]

theorem qc_apply {V0 : Valuation τ sig (Elt Ideal)} {k : Fin 64} (hk : AtK V0 k.val) (b : Fin 8) (h : Fin 4) (r : Fin 64) (d : Fin 256) :
    (res_main_while0b_v134 V0 : FVec Ideal S8x4x64x256 .f32) (ix4 b h r d) = (V0 (Proc.devRef .tc main_v115_0) : FVec Ideal S64x8x4x64x256 .f32) (ix5 k b h r d) := by
  unfold res_main_while0b_v134
  exact (congrFun (congrArg (fun z : FVec Ideal S1x8x4x64x256 .f32 => (shapeCast S8x4x64x256 z shapeCasts_S1x8x4x64x256_S8x4x64x256 : FVec Ideal S8x4x64x256 .f32))
    (WordCmp.dynamicSlice_eq_extract _ _ _ sliceFits_S64x8x4x64x256_S1x8x4x64x256 _ (fits256 k) (starts hk))) (ix4 b h r d)).trans (chunkAt256 _ k b h r d)
theorem kc_apply {V0 : Valuation τ sig (Elt Ideal)} {k : Fin 64} (hk : AtK V0 k.val) (b : Fin 8) (h : Fin 4) (r : Fin 64) (d : Fin 256) :
    (res_main_while0b_v135 V0 : FVec Ideal S8x4x64x256 .f32) (ix4 b h r d) = (V0 (Proc.devRef .tc main_v115_1) : FVec Ideal S64x8x4x64x256 .f32) (ix5 k b h r d) := by
  unfold res_main_while0b_v135
  exact (congrFun (congrArg (fun z : FVec Ideal S1x8x4x64x256 .f32 => (shapeCast S8x4x64x256 z shapeCasts_S1x8x4x64x256_S8x4x64x256 : FVec Ideal S8x4x64x256 .f32))
    (WordCmp.dynamicSlice_eq_extract _ _ _ sliceFits_S64x8x4x64x256_S1x8x4x64x256 _ (fits256 k) (starts hk))) (ix4 b h r d)).trans (chunkAt256 _ k b h r d)
theorem vc_apply {V0 : Valuation τ sig (Elt Ideal)} {k : Fin 64} (hk : AtK V0 k.val) (b : Fin 8) (h : Fin 4) (r : Fin 64) (d : Fin 512) :
    (res_main_while0b_v136 V0 : FVec Ideal S8x4x64x512 .f32) (ix4 b h r d) = (V0 (Proc.devRef .tc main_v115_2) : FVec Ideal S64x8x4x64x512 .f32) (ix5 k b h r d) := by
  unfold res_main_while0b_v136
  exact (congrFun (congrArg (fun z : FVec Ideal S1x8x4x64x512 .f32 => (shapeCast S8x4x64x512 z shapeCasts_S1x8x4x64x512_S8x4x64x512 : FVec Ideal S8x4x64x512 .f32))
    (WordCmp.dynamicSlice_eq_extract _ _ _ sliceFits_S64x8x4x64x512_S1x8x4x64x512 _ (fits512 k) (starts hk))) (ix4 b h r d)).trans (chunkAt512 _ k b h r d)

/-- Chunk `k` is the update, the other chunks are as before. -/
theorem upd_apply (x : FVec Ideal S64x8x4x64x512 .f32) (u : FVec Ideal S1x8x4x64x512 .f32) (k j : Fin 64) (b : Fin 8) (h : Fin 4) (r : Fin 64) (e : Fin 512) :
    updateSlice x u ![k.val, 0, 0, 0, 0] (fits512 k) (ix5 j b h r e) = if j = k then u (ix5 0 b h r e) else x (ix5 j b h r e) := by
  unfold updateSlice
  by_cases hj : j = k
  · subst hj
    rw [if_pos rfl, dif_pos (by
      intro a; match a with
        | ⟨0, _⟩ => exact ⟨Nat.le_refl _, Nat.lt_succ_self _⟩
        | ⟨1, _⟩ => exact ⟨Nat.zero_le _, by show b.val < 0 + 8; omega⟩
        | ⟨2, _⟩ => exact ⟨Nat.zero_le _, by show h.val < 0 + 4; omega⟩
        | ⟨3, _⟩ => exact ⟨Nat.zero_le _, by show r.val < 0 + 64; omega⟩
        | ⟨4, _⟩ => exact ⟨Nat.zero_le _, by show e.val < 0 + 512; omega⟩)]
    refine congrArg u (funext fun a => Fin.ext ?_)
    match a with
    | ⟨0, _⟩ => exact Nat.sub_self _
    | ⟨1, _⟩ => rfl
    | ⟨2, _⟩ => rfl
    | ⟨3, _⟩ => rfl
    | ⟨4, _⟩ => rfl
  · rw [if_neg hj, dif_neg]
    intro hin
    have h0 := hin ⟨0, (by decide : 0 < 5)⟩
    change k.val ≤ j.val ∧ j.val < k.val + 1 at h0
    exact hj (Fin.ext (by omega))

/-! ## The products of a trip -/

theorem dot_qk (a b' : FVec Ideal S8x4x64x256 .f32) (b : Fin 8) (h : Fin 4) (r s : Fin 64) :
    (Host.dotGeneral dot_S8x4x64x256_S8x4x64x256_S8x4x64x64_3_3_2_2_01_01 none a b' : FVec Ideal S8x4x64x64 .f32) (ix4 b h r s)
      = ∑ d : Fin 256, a (ix4 b h r d) * b' (ix4 b h s d) := by
  simp only [Host.dotGeneral]
  rw [Ideal.dotGeneral_apply, ← Equiv.sum_comp (contrEquiv1 dot_S8x4x64x256_S8x4x64x256_S8x4x64x64_3_3_2_2_01_01 256 rfl rfl).symm]
  refine Finset.sum_congr rfl fun k _ => ?_
  have hk := contrEquiv1_symm_val dot_S8x4x64x256_S8x4x64x256_S8x4x64x64_3_3_2_2_01_01 256 rfl rfl k
  congr 1
  · refine congrArg a (funext fun x => Fin.ext ?_)
    match x with
    | ⟨0, _⟩ => rfl
    | ⟨1, _⟩ => rfl
    | ⟨2, _⟩ => rfl
    | ⟨3, _⟩ => exact hk
  · refine congrArg b' (funext fun x => Fin.ext ?_)
    match x with
    | ⟨0, _⟩ => rfl
    | ⟨1, _⟩ => rfl
    | ⟨2, _⟩ => rfl
    | ⟨3, _⟩ => exact hk

theorem dot_sv (a : FVec Ideal S8x4x64x64 .f32) (v : FVec Ideal S8x4x64x512 .f32) (b : Fin 8) (h : Fin 4) (r : Fin 64) (e : Fin 512) :
    (Host.dotGeneral dot_S8x4x64x64_S8x4x64x512_S8x4x64x512_3_2_2_3_01_01 none a v : FVec Ideal S8x4x64x512 .f32) (ix4 b h r e)
      = ∑ s : Fin 64, a (ix4 b h r s) * v (ix4 b h s e) := by
  simp only [Host.dotGeneral]
  rw [Ideal.dotGeneral_apply, ← Equiv.sum_comp (contrEquiv1 dot_S8x4x64x64_S8x4x64x512_S8x4x64x512_3_2_2_3_01_01 64 rfl rfl).symm]
  refine Finset.sum_congr rfl fun k _ => ?_
  have hk := contrEquiv1_symm_val dot_S8x4x64x64_S8x4x64x512_S8x4x64x512_3_2_2_3_01_01 64 rfl rfl k
  congr 1
  · refine congrArg a (funext fun x => Fin.ext ?_)
    match x with
    | ⟨0, _⟩ => rfl
    | ⟨1, _⟩ => rfl
    | ⟨2, _⟩ => rfl
    | ⟨3, _⟩ => exact hk
  · refine congrArg v (funext fun x => Fin.ext ?_)
    match x with
    | ⟨0, _⟩ => rfl
    | ⟨1, _⟩ => rfl
    | ⟨2, _⟩ => exact hk
    | ⟨3, _⟩ => rfl

theorem dot_qs (a : FVec Ideal S8x4x64x256 .f32) (v : FVec Ideal S8x4x256x512 .f32) (b : Fin 8) (h : Fin 4) (r : Fin 64) (e : Fin 512) :
    (Host.dotGeneral dot_S8x4x64x256_S8x4x256x512_S8x4x64x512_3_2_2_3_01_01 none a v : FVec Ideal S8x4x64x512 .f32) (ix4 b h r e)
      = ∑ d : Fin 256, a (ix4 b h r d) * v (ix4 b h d e) := by
  simp only [Host.dotGeneral]
  rw [Ideal.dotGeneral_apply, ← Equiv.sum_comp (contrEquiv1 dot_S8x4x64x256_S8x4x256x512_S8x4x64x512_3_2_2_3_01_01 256 rfl rfl).symm]
  refine Finset.sum_congr rfl fun k _ => ?_
  have hk := contrEquiv1_symm_val dot_S8x4x64x256_S8x4x256x512_S8x4x64x512_3_2_2_3_01_01 256 rfl rfl k
  congr 1
  · refine congrArg a (funext fun x => Fin.ext ?_)
    match x with
    | ⟨0, _⟩ => rfl
    | ⟨1, _⟩ => rfl
    | ⟨2, _⟩ => rfl
    | ⟨3, _⟩ => exact hk
  · refine congrArg v (funext fun x => Fin.ext ?_)
    match x with
    | ⟨0, _⟩ => rfl
    | ⟨1, _⟩ => rfl
    | ⟨2, _⟩ => exact hk
    | ⟨3, _⟩ => rfl

theorem dot_kv (a : FVec Ideal S8x4x64x256 .f32) (v : FVec Ideal S8x4x64x512 .f32) (b : Fin 8) (h : Fin 4) (d : Fin 256) (e : Fin 512) :
    (Host.dotGeneral dot_S8x4x64x256_S8x4x64x512_S8x4x256x512_2_2_3_3_01_01 none a v : FVec Ideal S8x4x256x512 .f32) (ix4 b h d e)
      = ∑ s : Fin 64, a (ix4 b h s d) * v (ix4 b h s e) := by
  simp only [Host.dotGeneral]
  rw [Ideal.dotGeneral_apply, ← Equiv.sum_comp (contrEquiv1 dot_S8x4x64x256_S8x4x64x512_S8x4x256x512_2_2_3_3_01_01 64 rfl rfl).symm]
  refine Finset.sum_congr rfl fun k _ => ?_
  have hk := contrEquiv1_symm_val dot_S8x4x64x256_S8x4x64x512_S8x4x256x512_2_2_3_3_01_01 64 rfl rfl k
  congr 1
  · refine congrArg a (funext fun x => Fin.ext ?_)
    match x with
    | ⟨0, _⟩ => rfl
    | ⟨1, _⟩ => rfl
    | ⟨2, _⟩ => exact hk
    | ⟨3, _⟩ => rfl
  · refine congrArg v (funext fun x => Fin.ext ?_)
    match x with
    | ⟨0, _⟩ => rfl
    | ⟨1, _⟩ => rfl
    | ⟨2, _⟩ => exact hk
    | ⟨3, _⟩ => rfl

theorem rowDec_apply (T : FVec Ideal S4x64x1 .f32) (b : Fin 8) (h : Fin 4) (r : Fin 64) (d : Fin 256) :
    (broadcastInDim S8x4x64x256 ![0, 1, 2, 3] bcast_S1x4x64x1_S8x4x64x256_0_1_2_3 (broadcastInDim S1x4x64x1 ![1, 2, 3] bcast_S4x64x1_S1x4x64x1_1_2_3 T) : FVec Ideal S8x4x64x256 .f32)
      (ix4 b h r d) = T (ix3 h r 0) := by
  rw [broadcastInDim_apply (k := (ix4 0 h r 0 : S1x4x64x1.Idx)) _ _ _ _ (by intro a; match a with | ⟨0, _⟩ => rfl | ⟨1, _⟩ => rfl | ⟨2, _⟩ => rfl | ⟨3, _⟩ => rfl),
    broadcastInDim_apply (k := (ix3 h r 0 : S4x64x1.Idx)) _ _ _ _ (by intro a; match a with | ⟨0, _⟩ => rfl | ⟨1, _⟩ => rfl | ⟨2, _⟩ => rfl)]
theorem intraDec_apply (T : FVec Ideal S4x64x64 .f32) (b : Fin 8) (h : Fin 4) (r s : Fin 64) :
    (broadcastInDim S8x4x64x64 ![0, 1, 2, 3] bcast_S1x4x64x64_S8x4x64x64_0_1_2_3 (broadcastInDim S1x4x64x64 ![1, 2, 3] bcast_S4x64x64_S1x4x64x64_1_2_3 T) : FVec Ideal S8x4x64x64 .f32)
      (ix4 b h r s) = T (ix3 h r s) := by
  rw [broadcastInDim_apply (k := (ix4 0 h r s : S1x4x64x64.Idx)) _ _ _ _ (by intro a; match a with | ⟨0, _⟩ => rfl | ⟨1, _⟩ => rfl | ⟨2, _⟩ => rfl | ⟨3, _⟩ => rfl),
    broadcastInDim_apply (k := (ix3 h r s : S4x64x64.Idx)) _ _ _ _ (by intro a; match a with | ⟨0, _⟩ => rfl | ⟨1, _⟩ => rfl | ⟨2, _⟩ => rfl)]
theorem stateDec_apply (T : FVec Ideal S4x1x1 .f32) (b : Fin 8) (h : Fin 4) (d : Fin 256) (e : Fin 512) :
    (broadcastInDim S8x4x256x512 ![0, 1, 2, 3] bcast_S1x4x1x1_S8x4x256x512_0_1_2_3 (broadcastInDim S1x4x1x1 ![1, 2, 3] bcast_S4x1x1_S1x4x1x1_1_2_3 T) : FVec Ideal S8x4x256x512 .f32)
      (ix4 b h d e) = T (ix3 h 0 0) := by
  rw [broadcastInDim_apply (k := (ix4 0 h 0 0 : S1x4x1x1.Idx)) _ _ _ _ (by intro a; match a with | ⟨0, _⟩ => rfl | ⟨1, _⟩ => rfl | ⟨2, _⟩ => rfl | ⟨3, _⟩ => rfl),
    broadcastInDim_apply (k := (ix3 h 0 0 : S4x1x1.Idx)) _ _ _ _ (by intro a; match a with | ⟨0, _⟩ => rfl | ⟨1, _⟩ => rfl | ⟨2, _⟩ => rfl)]

/-! ## A trip's values at an index -/

abbrev Q0 (V0 : Valuation τ sig (Elt Ideal)) : FVec Ideal S64x8x4x64x256 .f32 := V0 (Proc.devRef .tc main_v115_0)
abbrev K0 (V0 : Valuation τ sig (Elt Ideal)) : FVec Ideal S64x8x4x64x256 .f32 := V0 (Proc.devRef .tc main_v115_1)
abbrev W0 (V0 : Valuation τ sig (Elt Ideal)) : FVec Ideal S64x8x4x64x512 .f32 := V0 (Proc.devRef .tc main_v115_2)
abbrev I0 (V0 : Valuation τ sig (Elt Ideal)) : FVec Ideal S4x64x64 .f32 := V0 (Proc.devRef .tc main_v115_3)
abbrev QD0 (V0 : Valuation τ sig (Elt Ideal)) : FVec Ideal S4x64x1 .f32 := V0 (Proc.devRef .tc main_v115_4)
abbrev CD0 (V0 : Valuation τ sig (Elt Ideal)) : FVec Ideal S4x1x1 .f32 := V0 (Proc.devRef .tc main_v115_5)
abbrev KD0 (V0 : Valuation τ sig (Elt Ideal)) : FVec Ideal S4x64x1 .f32 := V0 (Proc.devRef .tc main_v115_6)
abbrev S0 (V0 : Valuation τ sig (Elt Ideal)) : FVec Ideal S8x4x256x512 .f32 := V0 (Proc.devRef .tc main_v115_8)
abbrev O0 (V0 : Valuation τ sig (Elt Ideal)) : FVec Ideal S64x8x4x64x512 .f32 := V0 (Proc.devRef .tc main_v115_9)

theorem step_state_apply {V0 : Valuation τ sig (Elt Ideal)} {k : Fin 64} (hk : AtK V0 k.val) (b : Fin 8) (h : Fin 4) (d : Fin 256) (e : Fin 512) :
    (step_main_v115_8 V0 : FVec Ideal S8x4x256x512 .f32) (ix4 b h d e) = S0 V0 (ix4 b h d e) * CD0 V0 (ix3 h 0 0)
      + ∑ s : Fin 64, (K0 V0 (ix5 k b h s d) * KD0 V0 (ix3 h s 0)) * W0 V0 (ix5 k b h s e) := by
  unfold step_main_v115_8
  rw [id_eq, addf_apply, mulf_apply, stateDec_apply, dot_kv]
  refine congrArg₂ (· + ·) rfl (Finset.sum_congr rfl fun s _ => ?_)
  rw [mulf_apply, kc_apply hk, vc_apply hk, rowDec_apply]

theorem step_rows_apply {V0 : Valuation τ sig (Elt Ideal)} {k : Fin 64} (hk : AtK V0 k.val) (j : Fin 64) (b : Fin 8) (h : Fin 4) (r : Fin 64) (e : Fin 512) :
    (step_main_v115_9 V0 : FVec Ideal S64x8x4x64x512 .f32) (ix5 j b h r e) = if j = k then
        ∑ s : Fin 64, ((∑ d : Fin 256, Q0 V0 (ix5 k b h r d) * K0 V0 (ix5 k b h s d)) * I0 V0 (ix3 h r s)) * W0 V0 (ix5 k b h s e)
          + ∑ d : Fin 256, (Q0 V0 (ix5 k b h r d) * QD0 V0 (ix3 h r 0)) * S0 V0 (ix4 b h d e)
      else O0 V0 (ix5 j b h r e) := by
  unfold step_main_v115_9
  rw [id_eq]
  refine (congrFun (WordCmp.dynamicUpdateSlice_eq_update _ _ _ updateFits_S64x8x4x64x512_S1x8x4x64x512 _ (fits512 k) (starts hk)) (ix5 j b h r e)).trans ?_
  refine (upd_apply _ _ k j b h r e).trans ?_
  by_cases hj : j = k
  · rw [if_pos hj, if_pos hj, broadcastInDim_apply (k := (ix4 b h r e : S8x4x64x512.Idx)) _ _ _ _ (by intro a; match a with | ⟨0, _⟩ => rfl | ⟨1, _⟩ => rfl | ⟨2, _⟩ => rfl | ⟨3, _⟩ => rfl),
      addf_apply, dot_sv, dot_qs]
    refine congrArg₂ (· + ·) (Finset.sum_congr rfl fun s _ => ?_) (Finset.sum_congr rfl fun d _ => ?_)
    · rw [mulf_apply, dot_qk, intraDec_apply, vc_apply hk]
      simp only [qc_apply hk, kc_apply hk]
    · rw [mulf_apply, qc_apply hk, rowDec_apply]
  · rw [if_neg hj, if_neg hj]

/-! ## The loop -/

variable (m : (ℓ : Loc nD τ sig) → Buf (Elt Ideal) ℓ)

/-- After `k` trips: the operands as they were, the counter at `k`, the state over `64 k` rows, the first `k` chunks. -/
structure Inv (c : Dev nD) (k : ℕ) (V0 : Valuation τ sig (Elt Ideal)) : Prop where
  hq : Q0 V0 = Q0 (entry m c)
  hk : K0 V0 = K0 (entry m c)
  hv : W0 V0 = W0 (entry m c)
  hi : I0 V0 = I0 (entry m c)
  qd : QD0 V0 = QD0 (entry m c)
  cd : CD0 V0 = CD0 (entry m c)
  kd : KD0 V0 = KD0 (entry m c)
  ctr : AtK V0 k
  st : ∀ (b : Fin 8) (h : Fin 4) (d : Fin 256) (e : Fin 512),
    S0 V0 (ix4 b h d e) = ((state (lg h) (kR (argR m c) b h) (vR (argR m c) b h) (64 * k) d e : ℝ) : EReal)
  rows : ∀ (j : Fin 64), j.val < k → ∀ (b : Fin 8) (h : Fin 4) (r : Fin 64) (e : Fin 512),
    O0 V0 (ix5 j b h r e) = ((ret (lg h) (qR (argR m c) b h) (kR (argR m c) b h) (vR (argR m c) b h) (64 * j.val + r.val) e : ℝ) : EReal)

theorem inv_zero (c : Dev nD) : Inv m c 0 (entry m c) where
  hq := rfl
  hk := rfl
  hv := rfl
  hi := rfl
  qd := rfl
  cd := rfl
  kd := rfl
  ctr := ctr_entry m c
  st := fun b h d e => by rw [Nat.mul_zero, state_zero]; exact state0_apply m c b h d e
  rows := fun j hj => absurd hj (Nat.not_lt_zero _)

theorem inv_step {c : Dev nD} (hX : Fin3 (argR m c)) {V0 : Valuation τ sig (Elt Ideal)} (k : Fin 64) (I : Inv m c k.val V0) : Inv m c (k.val + 1) (STEP V0) where
  hq := (STEP_main_v115_0 V0).trans I.hq
  hk := (STEP_main_v115_1 V0).trans I.hk
  hv := (STEP_main_v115_2 V0).trans I.hv
  hi := (STEP_main_v115_3 V0).trans I.hi
  qd := (STEP_main_v115_4 V0).trans I.qd
  cd := (STEP_main_v115_5 V0).trans I.cd
  kd := (STEP_main_v115_6 V0).trans I.kd
  ctr := by
    refine (STEP_main_v115_7 V0).trans ?_
    unfold step_main_v115_7
    rw [id_eq, I.ctr]
    refine funext fun _ => ?_
    show BitVec.ofNat 32 k.val + 1#32 = _
    exact BitVec.ofNat_add_ofNat _ _
  st := fun b h d e => by
    refine (congrFun (STEP_main_v115_8 V0) (ix4 b h d e)).trans ((step_state_apply I.ctr b h d e).trans ?_)
    rw [I.st, I.hk, I.hv, I.cd, I.kd, show 64 * (k.val + 1) = 64 * k.val + 64 by omega, state_add, EReal.coe_add, EReal.coe_mul, coe_sum]
    refine congrArg₂ (· + ·) (congrArg₂ (· * ·) rfl ((cdec_apply m c h).trans (by norm_num))) (Finset.sum_congr rfl fun s _ => ?_)
    rw [show K0 (entry m c) (ix5 k b h s d) = _ from k_apply m c k b h s d, show W0 (entry m c) (ix5 k b h s e) = _ from v_apply m c k b h s e,
      show KD0 (entry m c) (ix3 h s 0) = _ from kdec_apply m c h s, kE_coe hX, vE_coe hX, ← EReal.coe_mul, ← EReal.coe_mul]
    norm_num
  rows := fun j hj b h r e => by
    refine (congrFun (STEP_main_v115_9 V0) (ix5 j b h r e)).trans ((step_rows_apply I.ctr j b h r e).trans ?_)
    by_cases hjk : j = k
    · rw [if_pos hjk, hjk, I.hq, I.hk, I.hv, I.hi, I.qd, ← ret_block (lg h) _ _ _ (64 * k.val) 64 (Dvd.intro _ rfl) (Nat.dvd_refl _) r e, EReal.coe_add, coe_sum, coe_sum]
      refine congrArg₂ (· + ·) (Finset.sum_congr rfl fun s _ => ?_) (Finset.sum_congr rfl fun d _ => ?_)
      · rw [if_pos (by omega), show W0 (entry m c) (ix5 k b h s e) = _ from v_apply m c k b h s e, show I0 (entry m c) (ix3 h r s) = _ from intra_apply m c h r s,
          vE_coe hX, EReal.coe_mul, EReal.coe_mul, coe_sum]
        refine congrArg₂ (· * ·) (congrArg₂ (· * ·) (Finset.sum_congr rfl fun d _ => ?_) rfl) rfl
        rw [show Q0 (entry m c) (ix5 k b h r d) = _ from q_apply m c k b h r d, show K0 (entry m c) (ix5 k b h s d) = _ from k_apply m c k b h s d,
          qE_coe hX, kE_coe hX, ← EReal.coe_mul]
      · rw [show Q0 (entry m c) (ix5 k b h r d) = _ from q_apply m c k b h r d, show QD0 (entry m c) (ix3 h r 0) = _ from qdec_apply m c h r, I.st, qE_coe hX,
          ← EReal.coe_mul, ← EReal.coe_mul]
    · rw [if_neg hjk]
      exact I.rows j (by have : j.val ≠ k.val := fun h => hjk (Fin.ext h); omega) b h r e

/-- What holds after `k` trips. -/
theorem inv_iter {c : Dev nD} (hX : Fin3 (argR m c)) : ∀ (k : ℕ), k ≤ 64 → Inv m c k (STEP^[k] (entry m c))
  | 0, _ => inv_zero m c
  | k + 1, hk => by
    rw [Function.iterate_succ_apply']
    exact inv_step m hX ⟨k, by omega⟩ (inv_iter hX k (by omega))

end Cert.ReferenceIdeal.Value

end
-- ==== Proof.RetentionRefOut.lean ====
/-
  The retention reference's result at an index: the rows the loop collected, normalized and gated (`ref_out`).
-/
module

public import proofs.«01_k».proof.Proof.RetentionRefStep

@[expose] public section

set_option maxRecDepth 16384

noncomputable section

namespace Cert.ReferenceIdeal.Value

open Cert.ReferenceIdeal Cert.ReferenceIdeal.Gen Cert.Retention Idealize.ShloMosaic Idealize.ShloMosaic.TcCoe Idealize.SL.Sem
open Idealize.ShloMosaic.ValueIdx Idealize.ShloMosaic.StableHlo

/-- The collected rows in the rows' own order. -/
abbrev rowsOf (o : FVec Ideal S64x8x4x64x512 .f32) : FVec Ideal S8x4096x4x512 .f32 :=
  shapeCast S8x4096x4x512 (transpose S8x64x64x4x512 [1, 0, 3, 2, 4] o transposes_S64x8x4x64x512_S8x64x64x4x512_1_0_3_2_4 : FVec Ideal S8x64x64x4x512 .f32) shapeCasts_S8x64x64x4x512_S8x4096x4x512

theorem rowsOf_apply (o : FVec Ideal S64x8x4x64x512 .f32) (b : Fin 8) (l : Fin 4096) (h : Fin 4) (e : Fin 512) :
    rowsOf o (ix4 b l h e) = o (ix5 ⟨l.val / 64, by omega⟩ b h ⟨l.val % 64, by omega⟩ e) := by
  unfold rowsOf
  rw [shapeCast_apply (k := (ix5 b ⟨l.val / 64, by omega⟩ ⟨l.val % 64, by omega⟩ h e : S8x64x64x4x512.Idx)) _ _ _ (by
      rewrite [Shape.rowMajor_val_five, Shape.rowMajor_val_four]
      show (((b.val * 64 + l.val / 64) * 64 + l.val % 64) * 4 + h.val) * 512 + e.val = ((b.val * 4096 + l.val) * 4 + h.val) * 512 + e.val
      omega),
    transpose_apply (k := (ix5 ⟨l.val / 64, by omega⟩ b h ⟨l.val % 64, by omega⟩ e : S64x8x4x64x512.Idx)) _ _ _ _ (by
      intro a; match a with | ⟨0, _⟩ => rfl | ⟨1, _⟩ => rfl | ⟨2, _⟩ => rfl | ⟨3, _⟩ => rfl | ⟨4, _⟩ => rfl)]

/-- The rows divided by the root of their mean square. -/
abbrev normOf (o : FVec Ideal S8x4096x4x512 .f32) : FVec Ideal S8x4096x4x512 .f32 :=
  mulf (F := Ideal) o (broadcastInDim S8x4096x4x512 ![0, 1, 2, 3] bcast_S8x4096x4x1_S8x4096x4x512_0_1_2_3 (Host.rsqrt (F := Ideal) (addf (F := Ideal) (Host.divf (F := Ideal)
    (broadcastInDim S8x4096x4x1 ![0, 1, 2] bcast_S8x4096x4_S8x4096x4x1_0_1_2 (Host.reduceAdd (F := Ideal) (mulf (F := Ideal) o o) (constant (F := Ideal) S_ .f32 0x00000000#32) reducesTo_S8x4096x4x512_S8x4096x4_d3 h_S_))
    (broadcastInDim S8x4096x4x1 ![] bcast_S_S8x4096x4x1 (constant (F := Ideal) S_ .f32 0x44000000#32))) (broadcastInDim S8x4096x4x1 ![] bcast_S_S8x4096x4x1 (constant (F := Ideal) S_ .f32 0x358637BD#32)))))

theorem normOf_apply (o : FVec Ideal S8x4096x4x512 .f32) (b : Fin 8) (l : Fin 4096) (h : Fin 4) (e : Fin 512) :
    normOf o (ix4 b l h e) = o (ix4 b l h e) * Ideal.rsqrt (Ideal.div (∑ j : Fin 512, o (ix4 b l h j) * o (ix4 b l h j)) (Ideal.ofBits .f32 0x44000000#32)
        + Ideal.ofBits .f32 0x358637BD#32) := by
  unfold normOf
  rw [mulf_apply, broadcastInDim_apply (k := (ix4 b l h 0 : S8x4096x4x1.Idx)) _ _ _ _ (by intro a; match a with | ⟨0, _⟩ => rfl | ⟨1, _⟩ => rfl | ⟨2, _⟩ => rfl | ⟨3, _⟩ => rfl)]
  have e1 : ∀ y : FVec Ideal S8x4096x4x1 .f32, Host.rsqrt (F := Ideal) y (ix4 b l h 0) = Ideal.rsqrt (y (ix4 b l h 0)) := fun _ => rfl
  have e2 : ∀ y z : FVec Ideal S8x4096x4x1 .f32, Host.divf (F := Ideal) y z (ix4 b l h 0) = Ideal.div (y (ix4 b l h 0)) (z (ix4 b l h 0)) := fun _ _ => rfl
  rw [e1, addf_apply, e2, broadcastInDim_apply (k := (ix3 b l h : S8x4096x4.Idx)) _ _ _ _ (by intro a; match a with | ⟨0, _⟩ => rfl | ⟨1, _⟩ => rfl | ⟨2, _⟩ => rfl)]
  have hm : (Host.reduceAdd (F := Ideal) (mulf (F := Ideal) o o) (constant (F := Ideal) S_ .f32 0x00000000#32) reducesTo_S8x4096x4x512_S8x4096x4_d3 h_S_ : FVec Ideal S8x4096x4 .f32) (ix3 b l h)
      = ∑ j : Fin 512, o (ix4 b l h j) * o (ix4 b l h j) := by
    have hr : S8x4096x4x512.Reduces [3] S8x4096x4 := by decide
    have lft : ∀ j : Fin 512, hr.lift (ix3 b l h) j = ix4 b l h j := fun j => funext fun a => Fin.ext (by
      match a with | ⟨0, _⟩ => rfl | ⟨1, _⟩ => rfl | ⟨2, _⟩ => rfl | ⟨3, _⟩ => rfl)
    refine (Ideal.hostReduceAdd_single reducesTo_S8x4096x4x512_S8x4096x4_d3 hr (mulf (F := Ideal) o o) _ (ix3 b l h)).trans ?_
    refine (congrArg₂ (· + ·) Ideal.ofBits_zero_f32 rfl).trans ((zero_add _).trans ?_)
    exact Finset.sum_congr rfl fun j _ => congrArg (mulf (F := Ideal) o o : FVec Ideal S8x4096x4x512 .f32) (lft j)
  rw [hm]
  rfl

/-- The gate: a number times its logistic. -/
abbrev gateOf (g : FVec Ideal S8x4096x2048 .f32) : FVec Ideal S8x4096x2048 .f32 :=
  mulf (F := Ideal) g (Host.divf (F := Ideal) (broadcastInDim S8x4096x2048 ![] bcast_S_S8x4096x2048 (constant (F := Ideal) S_ .f32 0x3F800000#32))
    (addf (F := Ideal) (broadcastInDim S8x4096x2048 ![] bcast_S_S8x4096x2048 (constant (F := Ideal) S_ .f32 0x3F800000#32)) (Host.exp (F := Ideal) (Host.negf (F := Ideal) g))))

theorem gateOf_apply (g : FVec Ideal S8x4096x2048 .f32) (i : S8x4096x2048.Idx) : gateOf g i = g i * Ideal.logistic (g i) := by
  show g i * Ideal.div (Ideal.ofBits .f32 0x3F800000#32) (Ideal.ofBits .f32 0x3F800000#32 + Ideal.exp (-(g i))) = _
  rw [bits_1, EReal.coe_one]
  rfl

/-- The gate's columns. -/
abbrev colsG (X : FVec Ideal S8x4096x9216 .bf16) : FVec Ideal S8x4096x2048 .f32 :=
  extf (F := Ideal) .f32 (extractStridedSlice S8x4096x2048 ![0, 0, 5120] X slices_S8x4096x9216_S8x4096x2048_0_0_5120 : FVec Ideal S8x4096x2048 .bf16) bitsLt_bf16_f32

theorem colsG_apply (X : FVec Ideal S8x4096x9216 .bf16) (b : Fin 8) (l : Fin 4096) (h : Fin 4) (e : Fin 512) :
    colsG X (ix3 b l ⟨512 * h.val + e.val, by omega⟩) = gE X b h l e := by
  unfold colsG gE
  rw [extf_apply, extractStridedSlice_apply (k := (ix3 b l ⟨5120 + (512 * h.val + e.val), by omega⟩ : S8x4096x9216.Idx)) _ _ _ _ (by
      intro a; match a with | ⟨0, _⟩ => exact (Nat.zero_add _).symm | ⟨1, _⟩ => exact (Nat.zero_add _).symm | ⟨2, _⟩ => rfl)]

theorem out_eq (V0 : Valuation τ sig (Elt Ideal)) : (out_main_v133 V0 : FVec Ideal S8x4096x2048 .bf16)
    = truncf (F := Ideal) .bf16 (mulf (F := Ideal) (shapeCast S8x4096x2048 (normOf (rowsOf (O0 V0))) shapeCasts_S8x4096x4x512_S8x4096x2048)
        (gateOf (colsG (V0 (Proc.devRef .tc main_arg0))))) bitsLt_bf16_f32 := rfl

theorem ref_out (V0 : Valuation τ sig (Elt Ideal)) (b : Fin 8) (l : Fin 4096) (h : Fin 4) (e : Fin 512) :
    (out_main_v133 V0 : FVec Ideal S8x4096x2048 .bf16) (ix3 b l ⟨512 * h.val + e.val, by omega⟩)
      = gated (fun e => O0 V0 (ix5 ⟨l.val / 64, by omega⟩ b h ⟨l.val % 64, by omega⟩ e)) (gE (V0 (Proc.devRef .tc main_arg0)) b h l e) e := by
  rw [out_eq, truncf_apply, mulf_apply, gateOf_apply, colsG_apply, shapeCast_apply (k := (ix4 b l h e : S8x4096x4x512.Idx)) _ _ _ (by
      rewrite [Shape.rowMajor_val_three, Shape.rowMajor_val_four]
      show ((b.val * 4096 + l.val) * 4 + h.val) * 512 + e.val = (b.val * 4096 + l.val) * 2048 + (512 * h.val + e.val)
      omega), normOf_apply]
  simp only [rowsOf_apply]
  rfl

variable (m : (ℓ : Loc nD τ sig) → Buf (Elt Ideal) ℓ)

/-- THE REFERENCE'S RESULT at an index. -/
theorem ref_result {c : Dev nD} (hX : Fin3 (argR m c)) (b : Fin 8) (l : Fin 4096) (h : Fin 4) (e : Fin 512) :
    (out_main_v133 (STEP^[64] (entry m c)) : FVec Ideal S8x4096x2048 .bf16) (ix3 b l ⟨512 * h.val + e.val, by omega⟩) = outE (argR m c) b h l e := by
  rw [ref_out, iter_main_arg0 m c 64]
  unfold outE
  refine congrArg (fun o => gated o _ e) (funext fun e => ?_)
  rw [(inv_iter m hX 64 (Nat.le_refl _)).rows ⟨l.val / 64, by omega⟩ (by show l.val / 64 < 64; omega) b h ⟨l.val % 64, by omega⟩ e]
  rw [show 64 * (l.val / 64) + l.val % 64 = l.val by omega]

end Cert.ReferenceIdeal.Value

end
-- ==== Proof.RetentionAlgebraic.lean ====
/-
  The retention: the kernel's result array equals the reference's over the extended reals, where the projection's
  query, key, value and gate columns are finite. Both are `outE` at every row, head and column.
-/
module

public import proofs.«01_k».proof.Defs
public import proofs.«01_k».proof.Proof.RetentionFinal
public import proofs.«01_k».proof.Proof.RetentionRefOut

@[expose] public section

set_option maxRecDepth 16384

noncomputable section

namespace Cert.Proof

open Idealize.ShloMosaic Idealize.ShloMosaic.TcCoe Idealize.SL.Sem Idealize.ShloMosaic.ValueIdx
open Cert.Retention

/-- The side conditions of the precondition's operations. -/
instance finite_facts : Cert.Pre_finite_qkv.Facts where
  slices_S8x4096x9216_S8x4096x4096_0_0_1024 := by decide
  bitsLt_bf16_f32 := by decide
  bcast_S_S8x4096x4096 := by decide

/-- A number whose size is below infinity is real. -/
theorem isReal_of_abs_lt {x : EReal} (h : max x (-x) < ⊤) : IsReal x := by
  induction x with
  | bot => exact absurd h (by simp)
  | coe r => exact ⟨r, rfl⟩
  | top => exact absurd h (by simp)

theorem bits_infinity : Ideal.ofBits .f32 0x7F800000#32 = ⊤ := by simp [Ideal.ofBits, Ideal.ieee]

/-- The precondition says the entries the retention reads are real. -/
theorem fin3_of_pre (X : FVec Ideal Cert.Pre_finite_qkv.S8x4096x9216 .bf16)
    (h : Cert.Pre_finite_qkv.fn (F := Ideal) X = fun _ => 1#1) : Fin3 X := by
  intro b l j
  have hj := congrFun h (ix3 b l j)
  refine isReal_of_abs_lt ?_
  have e : Cert.Pre_finite_qkv.fn (F := Ideal) X (ix3 b l j)
      = Ideal.cmp .olt (max (extractStridedSlice Cert.Pre_finite_qkv.S8x4096x4096 ![0, 0, 1024] X finite_facts.slices_S8x4096x9216_S8x4096x4096_0_0_1024 (ix3 b l j))
          (-(extractStridedSlice Cert.Pre_finite_qkv.S8x4096x4096 ![0, 0, 1024] X finite_facts.slices_S8x4096x9216_S8x4096x4096_0_0_1024 (ix3 b l j))))
          (Ideal.ofBits .f32 0x7F800000#32) := rfl
  have hs : extractStridedSlice Cert.Pre_finite_qkv.S8x4096x4096 ![0, 0, 1024] X finite_facts.slices_S8x4096x9216_S8x4096x4096_0_0_1024 (ix3 b l j)
      = X (ix3 b l ⟨1024 + j.val, by omega⟩) :=
    extractStridedSlice_apply _ _ _ _ _ (fun d => by fin_cases d <;> first | exact (Nat.zero_add _).symm | rfl)
  rw [e, bits_infinity, hs] at hj
  by_contra hn
  rw [Ideal.cmp] at hj
  simp only [hn, decide_false] at hj
  exact absurd hj (by decide)

set_option maxHeartbeats 1000000 in
/-- THE RETENTION: kernel and reference leave the same array. -/
theorem retention_algebraic :
    Cert.algebraic_KernelIdeal_ReferenceIdeal_pre_finite_qkv (hKernelIdeal := Cert.KernelIdeal.Gen.facts)
      (hReferenceIdeal := Cert.ReferenceIdeal.Gen.facts) (hPre_finite_qkv := finite_facts) := by
  intro m g m' g' hpre hargs
  have hX : ∀ c, Fin3 (Cert.KernelIdeal.Value.argP m c) := fun c => fin3_of_pre _ (hpre c)
  refine ⟨fun c => Cert.KernelIdeal.Value.resultP (Cert.KernelIdeal.Value.argP m c),
    (θ_run Cert.KernelIdeal.defs _ _).mono (fun r h c => ⟨(h c).1.trans (Cert.KernelIdeal.Value.final10 m (hX c)), (h c).2⟩)
      (Cert.KernelIdeal.Value.run_blocks m g), ?_⟩
  refine (θ_run Cert.ReferenceIdeal.defs _ _).mono (fun r h c => ⟨(h c).1.trans ?_, (h c).2⟩) (Cert.ReferenceIdeal.Value.run m' g')
  have ha : Cert.ReferenceIdeal.Value.argR m' c = Cert.KernelIdeal.Value.argP m c := hargs c
  have hX' : Fin3 (Cert.ReferenceIdeal.Value.argR m' c) := by rw [ha]; exact hX c
  funext i
  have h2 : (i 2).val < 2048 := (i 2).isLt
  have key := Cert.ReferenceIdeal.Value.ref_result m' hX' (i 0) (i 1) ⟨(i 2).val / 512, by omega⟩ ⟨(i 2).val % 512, Nat.mod_lt _ (by decide)⟩
  rw [ha] at key
  refine Eq.trans (congrArg _ ?_) key
  funext d
  fin_cases d
  · rfl
  · rfl
  · exact Fin.ext (by show (i 2).val = 512 * ((i 2).val / 512) + (i 2).val % 512; omega)

end Cert.Proof

end
-- ==== Proof.ExpertsTables.lean ====
/-
  What the precondition on the integer tables says: every entry of the first is an expert's number below 32, and the one
  of the second a number of blocks from 1 to 544; and what the mask of used rows says of a row.
-/
module

public import proofs.«01_k».proof.Defs
public import Idealize.ShloMosaic.Lib.WordCmp
public import Idealize.ShloMosaic.Lib.ValueIdx
public import Idealize.ShloMosaic.Lib.Pipeline.Value

@[expose] public section

noncomputable section

namespace Cert.ExpertsTables

open Idealize.ShloMosaic Idealize.ShloMosaic.ValueIdx

instance tables_facts : Cert.Pre_tables_in_range.Facts where
  bcast_S_S544 := by decide
  bcast_S_S1 := by decide
  bcast_S1_S544_0 := by decide

instance used_facts : Cert.On_used_rows.Facts where
  shapeCasts_S1_S_ := by decide
  bcast_S_S139264x1024 := by decide

theorem and_one {a b : BitVec 1} (h : a &&& b = 1#1) : a = 1#1 ∧ b = 1#1 := by revert a b; decide

theorem ofBool_one {b : Bool} (h : BitVec.ofBool b = 1#1) : b = true := by cases b <;> simp_all

theorem nat_of_int {w : BitVec 32} {a b : ℕ} (ha : (a : Int) ≤ w.toInt) (hb : w.toInt ≤ (b : Int)) : a ≤ w.toNat ∧ w.toNat ≤ b := by
  rw [BitVec.toInt_eq_toNat_cond] at ha hb
  split at ha <;> omega

variable {F : FTy → Type} [FloatOps F]
variable (a0 : FVec F Cert.Pre_tables_in_range.S139264x1024 .f32) (a1 : IVec Cert.Pre_tables_in_range.S544 32) (a2 : IVec Cert.Pre_tables_in_range.S1 32)
  (a3 : FVec F Cert.Pre_tables_in_range.S32x1024x2048 .f32) (a4 : FVec F Cert.Pre_tables_in_range.S32x1x2048 .f32)
  (a5 : FVec F Cert.Pre_tables_in_range.S32x1024x1024 .f32) (a6 : FVec F Cert.Pre_tables_in_range.S32x1x1024 .f32)

/-- The precondition at an entry. -/
theorem at_entry (h : Cert.Pre_tables_in_range.fn (F := F) a0 a1 a2 a3 a4 a5 a6 = fun _ => 1#1) (j : Fin 544) :
    (a1 (ix1 j)).toNat < 32 ∧ 1 ≤ (a2 (ix1 0)).toNat ∧ (a2 (ix1 0)).toNat ≤ 544 := by
  have h' := congrFun h (ix1 j)
  have e : Cert.Pre_tables_in_range.fn (F := F) a0 a1 a2 a3 a4 a5 a6 (ix1 j)
      = ((IntOp.cmpi .sge (a1 (ix1 j)) 0#32 &&& IntOp.cmpi .slt (a1 (ix1 j)) 32#32) &&& IntOp.cmpi .sge (a2 (ix1 0)) 1#32) &&& IntOp.cmpi .sle (a2 (ix1 0)) 544#32 := by
    have eb : ∀ x : IVec Cert.Pre_tables_in_range.S1 1, (broadcastInDim Cert.Pre_tables_in_range.S544 ![0] Cert.Pre_tables_in_range.Facts.bcast_S1_S544_0 x : IVec Cert.Pre_tables_in_range.S544 1) (ix1 j) = x (ix1 0) := fun x =>
      broadcastInDim_apply (k := (ix1 0 : Cert.Pre_tables_in_range.S1.Idx)) _ _ _ _ (by intro a; match a with | ⟨0, _⟩ => rfl)
    unfold Cert.Pre_tables_in_range.fn
    exact congrArg₂ (fun x y : BitVec 1 => ((IntOp.cmpi .sge (a1 (ix1 j)) 0#32 &&& IntOp.cmpi .slt (a1 (ix1 j)) 32#32) &&& x) &&& y) (eb _) (eb _)
  rw [e] at h'
  obtain ⟨h1, h4⟩ := and_one h'
  obtain ⟨h2, h3⟩ := and_one h1
  obtain ⟨h5, h6⟩ := and_one h2
  rw [WordCmp.cmpi_sge_eq] at h3 h5
  rw [WordCmp.cmpi_slt_eq] at h6
  rw [WordCmp.cmpi_sle_eq] at h4
  have q3 := of_decide_eq_true (ofBool_one h3)
  have q4 := of_decide_eq_true (ofBool_one h4)
  have q5 := of_decide_eq_true (ofBool_one h5)
  have q6 := of_decide_eq_true (ofBool_one h6)
  have c0 : (0#32 : BitVec 32).toInt = 0 := by decide
  have c1 : (1#32 : BitVec 32).toInt = 1 := by decide
  have c2 : (32#32 : BitVec 32).toInt = 32 := by decide
  have c3 : (544#32 : BitVec 32).toInt = 544 := by decide
  rw [c1] at q3
  rw [c3] at q4
  rw [c0] at q5
  rw [c2] at q6
  refine ⟨?_, nat_of_int (by omega) (by omega)⟩
  have := nat_of_int (w := a1 (ix1 j)) (a := 0) (b := 31) (by omega) (by omega)
  omega

/-- A row the mask marks lies in a used block. -/
theorem used (i : Cert.On_used_rows.S139264x1024.Idx) (h2 : (a2 (ix1 0)).toNat ≤ 544)
    (h : Cert.On_used_rows.fn (F := F) a0 a1 a2 a3 a4 a5 a6 i = 1#1) : (i 0).val < (a2 (ix1 0)).toNat * 256 := by
  have hi : (i 0).val < 139264 := (i 0).isLt
  have es : ∀ z : Cert.On_used_rows.S_.Idx, (shapeCast Cert.On_used_rows.S_ a2 Cert.On_used_rows.Facts.shapeCasts_S1_S_ : IVec Cert.On_used_rows.S_ 32) z = a2 (ix1 0) := fun z =>
    congrArg a2 (funext fun a => Fin.ext (by
      match a with
      | ⟨0, h⟩ => have := ((shapeCast Cert.On_used_rows.S_ (fun x : Cert.On_used_rows.S1.Idx => x) Cert.On_used_rows.Facts.shapeCasts_S1_S_ z) ⟨0, h⟩).isLt; show _ = 0; exact Nat.lt_one_iff.mp this))
  have e : Cert.On_used_rows.fn (F := F) a0 a1 a2 a3 a4 a5 a6 i = IntOp.cmpi .slt (BitVec.ofNat 32 (i 0).val) (a2 (ix1 0) * 256#32) := by
    unfold Cert.On_used_rows.fn
    exact congrArg (fun x : BitVec 32 => IntOp.cmpi .slt (BitVec.ofNat 32 (i 0).val) (x * 256#32)) (es _)
  rw [e, WordCmp.cmpi_slt_eq] at h
  have q := of_decide_eq_true (ofBool_one h)
  have n1 : (BitVec.ofNat 32 (i 0).val).toNat = (i 0).val := by rw [BitVec.toNat_ofNat]; omega
  have n2 : (a2 (ix1 0) * 256#32).toNat = (a2 (ix1 0)).toNat * 256 := by
    rw [BitVec.toNat_mul]
    show (a2 (ix1 0)).toNat * 256 % 2 ^ 32 = _
    omega
  rw [BitVec.toInt_eq_toNat_of_lt (by rw [n1]; omega), BitVec.toInt_eq_toNat_of_lt (by rw [n2]; omega), n1, n2] at q
  omega

end Cert.ExpertsTables

end
-- ==== Proof.ExpertsSched.lean ====
/-
  The schedule of the experts kernel at any admissible tables: which block of rows and which expert a grid point works
  on, at which points the body computes, at which it takes new weights, and when the output block is written back.
-/
module

public import proofs.«01_k».proof.Proof.Gen.ExpertsIdeal.Flash.Runs
public import Idealize.ShloMosaic.Lib.ValueIdx

@[expose] public section

set_option maxRecDepth 16384

noncomputable section

namespace Cert.ExpertsIdeal.Tab

open Cert.ExpertsIdeal Cert.ExpertsIdeal.Gen Idealize.ShloMosaic Idealize.ShloMosaic.TcCoe Idealize.SL.Sem
open Idealize.ShloMosaic.ValueIdx
open Idealize.ShloMosaic.Pipeline (Dat Cfg Window)

/-- The two tables the kernel reads, in their ranges: an expert number per block, and the number of blocks used. -/
structure Tabs where
  be : S544.Idx → BitVec 32
  cnt : S1.Idx → BitVec 32
  be_lt : ∀ x, (be x).toNat < 32
  cnt_pos : 1 ≤ (cnt (ix1 0)).toNat
  cnt_le : (cnt (ix1 0)).toNat ≤ 544

variable (tb : Tabs)

/-- The number of blocks used. -/
def Tabs.nu : ℕ := (tb.cnt (ix1 0)).toNat
theorem Tabs.nu_pos : 1 ≤ tb.nu := tb.cnt_pos
theorem Tabs.nu_le : tb.nu ≤ 544 := tb.cnt_le

set_option backward.proofsInPublic true in
/-- The tables as the pipeline reads them. -/
def pf : pre0.Contents (Elt Ideal) := fun | ⟨0, _⟩ => tb.be | ⟨1, _⟩ => tb.cnt | ⟨_ + 2, h⟩ => absurd h (by simp)

/-- The word of the second table, wherever it is read. -/
theorem cnt_at (x : S1.Idx) : tb.cnt x = tb.cnt (ix1 0) := congrArg tb.cnt (funext fun a => by
  fin_cases a; exact Fin.ext (by have : (x 0).val < 1 := (x 0).isLt; show (x 0).val = 0; omega))

theorem read_cnt (x) : View.readAt (Elt Ideal) (tbM0_1).view (Rect.unit (s := S1) ![0] S1.size inb_S1_S1_0).toLoadRect tb.cnt x = tb.cnt (ix1 0) :=
  cnt_at tb _

theorem small_toInt (n : ℕ) (h : n ≤ 544) : (BitVec.ofNat 32 n).toInt = n := by
  have e : (BitVec.ofNat 32 n).toNat = n := by rw [BitVec.toNat_ofNat]; omega
  rw [BitVec.toInt_eq_toNat_cond, e]; omega

theorem word_toInt (w : BitVec 32) (h : w.toNat ≤ 544) : w.toInt = w.toNat := by
  rw [BitVec.toInt_eq_toNat_cond]; omega

theorem ext_ne (b : Bool) : Scalar.cmpi .ne (Scalar.extui (BitVec.ofBool b) : BitVec 32) 0#32 = 1#1 ↔ b = true := by cases b <;> decide

/-- The body computes at a point exactly when the point is below the number of blocks used. -/
theorem cond_iff (i : grid0.Coords) (w : BitVec 32) (hw : w.toNat ≤ 544) : k0_cond1 i w = 1#1 ↔ (i 0).val < w.toNat := by
  have hi : (i 0).val < 544 := (i 0).isLt
  unfold k0_cond1
  show Scalar.cmpi .ne (Scalar.extui (BitVec.ofBool (BitVec.slt _ _)) : BitVec 32) 0#32 = 1#1 ↔ _
  rw [ext_ne]
  rw [BitVec.slt_eq_decide, decide_eq_true_iff, small_toInt _ (by omega), word_toInt w hw]
  omega

/-- The least of a point and the last block used, as the words compute it. -/
theorem min_word (n : ℕ) (w : BitVec 32) (hn : n < 544) (h1 : 1 ≤ w.toNat) (h2 : w.toNat ≤ 544) :
    (Scalar.minsi (BitVec.ofNat 32 n) (Scalar.subi w 1#32)).toNat = min n (w.toNat - 1) := by
  have hs : (w - 1#32).toNat = w.toNat - 1 := by
    rw [BitVec.toNat_sub_of_le (by rw [BitVec.le_def]; exact h1)]; rfl
  have e : (BitVec.ofNat 32 n).toNat = n := by rw [BitVec.toNat_ofNat]; omega
  have hc : (Scalar.minsi (BitVec.ofNat 32 n) (Scalar.subi w 1#32)) = if BitVec.slt (BitVec.ofNat 32 n) (w - 1#32) then BitVec.ofNat 32 n else w - 1#32 := rfl
  rw [hc, BitVec.slt_eq_decide, small_toInt _ (by omega), word_toInt _ (by rw [hs]; omega), hs]
  by_cases h : n < w.toNat - 1
  · rw [if_pos (by simpa using h), e]; omega
  · rw [if_neg (by simpa using h), hs]; omega

/-- The point before a point, as the words compute it. -/
theorem prev_word (n : ℕ) (hn : n < 544) (h1 : 1 ≤ n) : (Scalar.maxsi (Scalar.subi (BitVec.ofNat 32 n) 1#32) 0#32).toNat = n - 1 := by
  have e : (BitVec.ofNat 32 n).toNat = n := by rw [BitVec.toNat_ofNat]; omega
  have hs : (BitVec.ofNat 32 n - 1#32).toNat = n - 1 := by
    rw [BitVec.toNat_sub_of_le (by rw [BitVec.le_def, e]; exact h1), e]; rfl
  have hm : Scalar.maxsi (Scalar.subi (BitVec.ofNat 32 n) 1#32) 0#32 = if BitVec.slt 0#32 (BitVec.ofNat 32 n - 1#32) then BitVec.ofNat 32 n - 1#32 else 0#32 := rfl
  have hw := word_toInt (BitVec.ofNat 32 n - 1#32) (by rw [hs]; omega)
  rw [hm, BitVec.slt_eq_decide, hw, hs, show (0#32 : BitVec 32).toInt = 0 from rfl]
  by_cases h : 0 < n - 1
  · rw [if_pos (by simpa using h), hs]
  · rw [if_neg (by simpa using h)]; show 0 = _; omega

/-- The block of rows of a point: the point, cut at the last block used. -/
theorem rows_at (i : grid0.Coords) : cc0_transform_0 inb_S1_S1_0 numel1_S1 (pf tb) i = ![min (i 0).val (tb.nu - 1), 0] := by
  unfold cc0_transform_0
  have e : (pf tb).at 1 (Rect.unit (s := S1) ![0] S1.size inb_S1_S1_0) numel1_S1 = tb.cnt (ix1 0) := cnt_at tb _
  dsimp only
  rw [e, min_word _ _ (i 0).isLt tb.cnt_pos tb.cnt_le]
  rfl

theorem rows_at5 (i : grid0.Coords) : cc0_transform_5 inb_S1_S1_0 numel1_S1 (pf tb) i = ![min (i 0).val (tb.nu - 1), 0] := by
  unfold cc0_transform_5
  have e : (pf tb).at 1 (Rect.unit (s := S1) ![0] S1.size inb_S1_S1_0) numel1_S1 = tb.cnt (ix1 0) := cnt_at tb _
  dsimp only
  rw [e, min_word _ _ (i 0).isLt tb.cnt_pos tb.cnt_le]
  rfl

/-- The number of the expert of a block. -/
def Tabs.ex (n : Fin 544) : ℕ := (tb.be (ix1 n)).toNat
theorem Tabs.ex_lt (n : Fin 544) : tb.ex n < 32 := tb.be_lt _

theorem be_at (i : grid0.Coords) : (pf tb).at 0 (Rect.unit (s := S544) (k0_off1 i) S1.size (k0_off1_inb i)) numel1_S1 = tb.be (ix1 (i 0)) := by
  refine congrArg tb.be (funext fun a => Fin.ext ?_)
  have hi : (i 0).val < 544 := (i 0).isLt
  fin_cases a
  show (BitVec.ofNat 32 (i 0).val).toNat + 1 * 0 = (i 0).val
  rw [BitVec.toNat_ofNat, Nat.mod_eq_of_lt (by omega)]
  omega

theorem expert_at1 (i : grid0.Coords) : cc0_transform_1 k0_off1_inb numel1_S1 (pf tb) i = ![tb.ex (i 0), 0, 0] := by
  exact congrArg (fun w : BitVec 32 => (![w.toNat, 0, 0] : Fin 3 → ℕ)) (be_at tb i)
theorem expert_at2 (i : grid0.Coords) : cc0_transform_2 k0_off1_inb numel1_S1 (pf tb) i = ![tb.ex (i 0), 0, 0] := by
  exact congrArg (fun w : BitVec 32 => (![w.toNat, 0, 0] : Fin 3 → ℕ)) (be_at tb i)
theorem expert_at3 (i : grid0.Coords) : cc0_transform_3 k0_off1_inb numel1_S1 (pf tb) i = ![tb.ex (i 0), 0, 0] := by
  exact congrArg (fun w : BitVec 32 => (![w.toNat, 0, 0] : Fin 3 → ℕ)) (be_at tb i)
theorem expert_at4 (i : grid0.Coords) : cc0_transform_4 k0_off1_inb numel1_S1 (pf tb) i = ![tb.ex (i 0), 0, 0] := by
  exact congrArg (fun w : BitVec 32 => (![w.toNat, 0, 0] : Fin 3 → ℕ)) (be_at tb i)

/-- Every block lies inside its array. -/
theorem ok : ok0 (F := Ideal) (pf tb) := by
  have hr : ∀ i : grid0.Coords, min (i 0).val (tb.nu - 1) < 544 := fun i => lt_of_le_of_lt (min_le_left _ _) (i 0).isLt
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [rows_at]; intro a
    have := hr i
    fin_cases a
    · show (min (i 0).val (tb.nu - 1) + 1) * 256 ≤ 139264; omega
    · show (0 + 1) * 1024 ≤ 1024; omega
  · rw [expert_at1]; intro a
    have := tb.ex_lt (i 0)
    fin_cases a
    · show (tb.ex (i 0) + 1) * 1 ≤ 32; omega
    · show (0 + 1) * 1024 ≤ 1024; omega
    · show (0 + 1) * 2048 ≤ 2048; omega
  · rw [expert_at2]; intro a
    have := tb.ex_lt (i 0)
    fin_cases a
    · show (tb.ex (i 0) + 1) * 1 ≤ 32; omega
    · show (0 + 1) * 1 ≤ 1; omega
    · show (0 + 1) * 2048 ≤ 2048; omega
  · rw [expert_at3]; intro a
    have := tb.ex_lt (i 0)
    fin_cases a
    · show (tb.ex (i 0) + 1) * 1 ≤ 32; omega
    · show (0 + 1) * 1024 ≤ 1024; omega
    · show (0 + 1) * 1024 ≤ 1024; omega
  · rw [expert_at4]; intro a
    have := tb.ex_lt (i 0)
    fin_cases a
    · show (tb.ex (i 0) + 1) * 1 ≤ 32; omega
    · show (0 + 1) * 1 ≤ 1; omega
    · show (0 + 1) * 1024 ≤ 1024; omega
  · rw [rows_at5]; intro a
    have := hr i
    fin_cases a
    · show (min (i 0).val (tb.nu - 1) + 1) * 256 ≤ 139264; omega
    · show (0 + 1) * 1024 ≤ 1024; omega

/-- The pipeline at the tables. -/
def adm : (pcfg0 (F := Ideal)).Adm := ⟨pf tb, ok tb⟩
abbrev cfgT : Pipeline.Cfg sig Λ₀ := cfg0 (F := Ideal) (adm tb)

/-- Point `t`'s coordinates. -/
abbrev crd (t : Fin (cfgT tb).N) : (cfgT tb).grid.Coords := (cfgT tb).grid.coords t

theorem pts_lt (t : Fin (cfgT tb).N) : t.val < 544 := t.isLt

theorem crd_val (t : Fin (cfgT tb).N) : ((crd tb t) 0).val = t.val := by
  rw [Pipeline.Grid.coords_val (G := grid0) t 0 (S := 1) (B := 544) (by decide) rfl]
  have := pts_lt tb t
  omega

/-- The point below the number of blocks used that a point repeats. -/
def last (t : Fin (cfgT tb).N) : Fin (cfgT tb).N := ⟨min t.val (tb.nu - 1), lt_of_le_of_lt (min_le_left _ _) t.isLt⟩

/-- Where the body computes. -/
abbrev act (t : Fin (cfgT tb).N) : Prop := k0_cond1 (crd tb t) (View.readAt (Elt Ideal) (tbM0_1).view (Rect.unit (s := S1) ![0] S1.size inb_S1_S1_0).toLoadRect (tb.cnt) (Shape.Idx.first (numel1_S1.symm ▸ Nat.one_pos))) = 1#1
/-- Where the body takes new weights. -/
abbrev rel (t : Fin (cfgT tb).N) : Prop := (Scalar.cmpi .ne (Scalar.extui (Scalar.ori (Scalar.cmpi .eq (BitVec.ofNat 32 ((crd tb t) 0).val) 0#32) (Scalar.cmpi .ne (View.readAt (Elt Ideal) (tbM0_0).view (Rect.unit (s := S544) (k0_off3 (crd tb t)) S1.size (k0_off3_inb (crd tb t))).toLoadRect (tb.be) (Shape.Idx.first (numel1_S1.symm ▸ Nat.one_pos))) (View.readAt (Elt Ideal) (tbM0_0).view (Rect.unit (s := S544) (k0_off2 (crd tb t)) S1.size (k0_off2_inb (crd tb t))).toLoadRect (tb.be) (Shape.Idx.first (numel1_S1.symm ▸ Nat.one_pos)))))) 0#32) = 1#1

theorem act_iff (t : Fin (cfgT tb).N) : act tb t ↔ t.val < tb.nu := by
  unfold act
  rw [read_cnt, cond_iff _ _ tb.cnt_le, crd_val]; rfl

theorem or_zero (b : Bool) (x : BitVec 1) (h : ¬ Scalar.cmpi .ne (Scalar.extui (Scalar.ori (BitVec.ofBool b) x) : BitVec 32) 0#32 = 1#1) : b = false ∧ x = 0#1 := by
  revert h; revert x; cases b <;> decide

/-- Where the body keeps the weights, the point is not the first and the expert is the one of the point before. -/
theorem keep (t : Fin (cfgT tb).N) (h : ¬ rel tb t) : t.val ≠ 0 ∧ ∀ hp : t.val - 1 < 544, tb.ex ⟨t.val, pts_lt tb t⟩ = tb.ex ⟨t.val - 1, hp⟩ := by
  have ht := pts_lt tb t
  have hc := crd_val tb t
  obtain ⟨h1, h2⟩ := or_zero _ _ h
  have h0 : t.val ≠ 0 := by
    intro h0
    rw [hc, h0] at h1
    exact absurd h1 (by decide)
  refine ⟨h0, fun hp => ?_⟩
  have h3 : ∀ a b : BitVec 32, Scalar.cmpi .ne a b = 0#1 → a = b := by
    intro a b hab
    have : BitVec.ofBool (a != b) = 0#1 := hab
    by_contra hne
    rw [show (a != b) = true from by simpa using hne] at this
    exact absurd this (by decide)
  have h4 := h3 _ _ h2
  have e1 : View.readAt (Elt Ideal) (tbM0_0).view (Rect.unit (s := S544) (k0_off3 (crd tb t)) S1.size (k0_off3_inb (crd tb t))).toLoadRect (tb.be) (Shape.Idx.first (numel1_S1.symm ▸ Nat.one_pos)) = tb.be (ix1 ⟨t.val, ht⟩) := by
    refine congrArg tb.be (funext fun a => Fin.ext ?_)
    fin_cases a
    show (BitVec.ofNat 32 ((crd tb t) 0).val).toNat + 1 * 0 = t.val
    rw [hc, BitVec.toNat_ofNat, Nat.mod_eq_of_lt (by omega)]; omega
  have e2 : View.readAt (Elt Ideal) (tbM0_0).view (Rect.unit (s := S544) (k0_off2 (crd tb t)) S1.size (k0_off2_inb (crd tb t))).toLoadRect (tb.be) (Shape.Idx.first (numel1_S1.symm ▸ Nat.one_pos)) = tb.be (ix1 ⟨t.val - 1, hp⟩) := by
    refine congrArg tb.be (funext fun a => Fin.ext ?_)
    fin_cases a
    show (Scalar.maxsi (Scalar.subi (BitVec.ofNat 32 ((crd tb t) 0).val) 1#32) 0#32).toNat + 1 * 0 = t.val - 1
    rw [hc, prev_word _ ht (by omega)]
    omega
  rw [e1, e2] at h4
  unfold Tabs.ex
  rw [h4]

/-- The output window is idle exactly where the body does not compute. -/
theorem idle_eq (t : Fin (cfgT tb).N) : (cfgT tb).idle (5 : Fin 6) ((cfgT tb).grid.coords t) = !decide (t.val < tb.nu) := by
  have e : (cfgT tb).idle (5 : Fin 6) ((cfgT tb).grid.coords t) = !(k0_cond1 (crd tb t) (tb.cnt (ix1 0)) == 1#1) := by
    have h0 : (pf tb).atD 1 ![0] = tb.cnt (ix1 0) := by
      unfold Pipeline.Prefetch.Contents.atD
      rw [dif_pos (by intro a; fin_cases a; decide)]
      exact cnt_at tb _
    exact congrArg (fun w => !(k0_cond1 (crd tb t) w == 1#1)) h0
  rw [e]
  congr 1
  rw [Bool.eq_iff_iff, decide_eq_true_iff, beq_iff_eq, cond_iff _ _ tb.cnt_le, crd_val]; rfl

theorem index5 (t : Fin (cfgT tb).N) : ((cfgT tb).win (5 : Fin 6)).index t = ![min t.val (tb.nu - 1), 0] := by
  show cc0_transform_5 inb_S1_S1_0 numel1_S1 (pf tb) (crd tb t) = _
  rw [rows_at5, crd_val]

/-- The output block is written back at every used point but the last used one, and at the last point of the grid. -/
theorem flush_eq (t : Fin (cfgT tb).N) : ((cfgT tb).win (5 : Fin 6)).flush t = decide (t.val < tb.nu - 1 ∨ t.val = 543) := by
  have ht := pts_lt tb t
  have hnu := tb.nu_le
  have hn1 := tb.nu_pos
  unfold Window.flush
  rw [show ((cfgT tb).win (5 : Fin 6)).isOut = true from rfl, Bool.true_and, Bool.eq_iff_iff]
  simp only [Bool.or_eq_true, decide_eq_true_iff]
  constructor
  · rintro (h | ⟨h, hx⟩)
    · right; have : t.val + 1 = 544 := h
      omega
    · left
      by_contra hge
      refine hx ?_
      rw [index5, index5]
      have : min (t.val + 1) (tb.nu - 1) = min t.val (tb.nu - 1) := by omega
      show ![min (t.val + 1) (tb.nu - 1), 0] = _
      rw [this]
  · rintro (h | h)
    · right
      have hN : t.val + 1 < (cfgT tb).N := by show t.val + 1 < 544; omega
      refine ⟨hN, fun hx => ?_⟩
      rw [index5, index5] at hx
      have := congrFun hx 0
      have : min (t.val + 1) (tb.nu - 1) = min t.val (tb.nu - 1) := this
      omega
    · left
      show t.val + 1 = 544
      omega

/-- Before a used point the output buffer holds nothing; before a later point it holds what the last used one stored. -/
theorem fresh_eq (t : Fin (cfgT tb).N) : (cfgT tb).fresh (5 : Fin 6) t.val = decide (t.val < tb.nu) := by
  have hnu := tb.nu_le
  have hn1 := tb.nu_pos
  refine Pipeline.Cfg.fresh_tab (cfgT tb) (5 : Fin 6) (fun n => decide (n < tb.nu ∨ n = 544)) (by simp; omega) (fun t => ?_) t.val (Nat.le_of_lt t.isLt) |>.trans ?_
  · have ht := pts_lt tb t
    rw [flush_eq, idle_eq, Bool.eq_iff_iff]
    simp only [Bool.or_eq_true, Bool.and_eq_true, Bool.not_eq_true', decide_eq_true_iff, decide_eq_false_iff_not]
    omega
  · have ht := pts_lt tb t
    rw [Bool.eq_iff_iff]; simp only [decide_eq_true_iff]; omega

end Cert.ExpertsIdeal.Tab

end
-- ==== Proof.ExpertsRuns.lean ====
/-
  What one grid point of the experts kernel leaves behind: the two weight buffers and the output block, each as one term
  of the point's input blocks and of the buffers before it.
-/
module

public import proofs.«01_k».proof.Proof.ExpertsSched
public import Idealize.ShloMosaic.Lib.StableHlo.Run
public import Idealize.ShloMosaic.PureOps.Ideal.Laws
public import Idealize.ShloMosaic.Lib.Tactic
public import Idealize.ShloMosaic.Lib.Pipeline.Value

@[expose] public section

set_option maxRecDepth 16384

noncomputable section

namespace Cert.ExpertsIdeal.Tab

open Cert.ExpertsIdeal Cert.ExpertsIdeal.Gen Idealize.ShloMosaic Idealize.ShloMosaic.TcCoe Idealize.SL.Sem
open Idealize.ShloMosaic.ValueIdx
open Idealize.ShloMosaic.Pipeline (Dat Cfg Window)

theorem zero_off : (![0, 0] : Fin 2 → Nat) = fun _ => 0 := funext fun a => by fin_cases a <;> rfl
theorem zero_off3 : (![0, 0, 0] : Fin 3 → Nat) = fun _ => 0 := funext fun a => by fin_cases a <;> rfl

/-- The output block of a point, from its rows, its two weights in the kernel's format and its two biases. -/
def blockOut (x0 : Vec Ideal S256x1024 .f32) (w1 : Vec Ideal S1024x2048 .bf16) (x2 : Vec Ideal S1x1x2048 .f32)
    (w3 : Vec Ideal S1024x1024 .bf16) (x4 : Vec Ideal S1x1x1024 .f32) : FVec Ideal S256x1024 .f32 :=
  k0_pay1 (k0_pay4 x0 w1 x2 w3) x4

/-- One whole store into a weight buffer leaves what was stored. -/
theorem scr0_writes (f : (View.whole cc0_scratch0 : View sig .tc .vmem S1024x2048 .bf16).ty.Contents (Elt Ideal)) (w : S1024x2048.Idx → Elt Ideal .bf16) (inb) :
    (View.whole cc0_scratch0 : View sig .tc .vmem S1024x2048 .bf16).writes (Elt Ideal) f [⟨Rect.unit (s := S1024x2048) ![0, 0] S1024x2048.size inb, w⟩] = w := by
  have h := View.read_writes_eq_canon (View.whole cc0_scratch0 : View sig .tc .vmem S1024x2048 .bf16) f [⟨Rect.unit (s := S1024x2048) ![0, 0] S1024x2048.size inb, w⟩] (fun y => ⟨_, List.mem_singleton_self _, View.mem_set_unit_zero zero_off inb y⟩)
  rw [View.read_whole] at h
  exact h.trans (View.canon_unit_zero (S := S1024x2048) zero_off inb w)

theorem scr1_writes (f : (View.whole cc0_scratch1 : View sig .tc .vmem S1024x1024 .bf16).ty.Contents (Elt Ideal)) (w : S1024x1024.Idx → Elt Ideal .bf16) (inb) :
    (View.whole cc0_scratch1 : View sig .tc .vmem S1024x1024 .bf16).writes (Elt Ideal) f [⟨Rect.unit (s := S1024x1024) ![0, 0] S1024x1024.size inb, w⟩] = w := by
  have h := View.read_writes_eq_canon (View.whole cc0_scratch1 : View sig .tc .vmem S1024x1024 .bf16) f [⟨Rect.unit (s := S1024x1024) ![0, 0] S1024x1024.size inb, w⟩] (fun y => ⟨_, List.mem_singleton_self _, View.mem_set_unit_zero zero_off inb y⟩)
  rw [View.read_whole] at h
  exact h.trans (View.canon_unit_zero (S := S1024x1024) zero_off inb w)

section Runs
variable (c : Dev nD) (i : grid0.Coords)
  (a3 : Memref sig .tc .vmem S256x1024 .f32) (h3 : a3.IsWhole) (a4 : Memref sig .tc .vmem S1x1024x2048 .f32) (h4 : a4.IsWhole)
  (a5 : Memref sig .tc .vmem S1x1x2048 .f32) (h5 : a5.IsWhole) (a6 : Memref sig .tc .vmem S1x1024x1024 .f32) (h6 : a6.IsWhole)
  (a7 : Memref sig .tc .vmem S1x1x1024 .f32) (h7 : a7.IsWhole) (a8 : Memref sig .tc .vmem S256x1024 .f32) (h8 : a8.IsWhole)
  (T0 : S544.Idx → Elt Ideal .i32) (T1 : S1.Idx → Elt Ideal .i32)
  (x0 : S256x1024.Idx → Elt Ideal .f32) (x1 : S1x1024x2048.Idx → Elt Ideal .f32) (x2 : S1x1x2048.Idx → Elt Ideal .f32)
  (x3 : S1x1024x1024.Idx → Elt Ideal .f32) (x4 : S1x1x1024.Idx → Elt Ideal .f32)
  (xa0 : Buf (Elt Ideal) ((c : Thread nD τ).loc cc0_scratch0)) (xa1 : Buf (Elt Ideal) ((c : Thread nD τ).loc cc0_scratch1))

/-- Where new weights are taken, the first weight buffer ends with the point's first weights. -/
theorem A_scr0 (q0) (q1) : (kernelRun0_A c i a3 h3 a4 h4 a5 h5 a6 h6 a7 h7 a8 h8 T0 T1 x0 x1 x2 x3 x4 q0 q1).2.1 = k0_pay2 x1 := by
  unfold kernelRun0_A
  dsimp only
  sl_unfold_words
  rw [scr0_writes, View.readAt_eq_ld, View.read_rep, View.ld_unit_zero (S := S1x1024x2048) zero_off3]

theorem A_scr1 (q0) (q1) : (kernelRun0_A c i a3 h3 a4 h4 a5 h5 a6 h6 a7 h7 a8 h8 T0 T1 x0 x1 x2 x3 x4 q0 q1).2.2.1 = k0_pay3 x3 := by
  unfold kernelRun0_A
  dsimp only
  sl_unfold_words
  rw [scr1_writes, View.readAt_eq_ld, View.read_rep, View.ld_unit_zero (S := S1x1024x1024) zero_off3]

/-- The output block where new weights are taken. -/
theorem A_out (q0) (q1) : out0_A_5 c i a3 h3 a4 h4 a5 h5 a6 h6 a7 h7 a8 h8 T0 T1 x0 x1 x2 x3 x4 q0 q1 = blockOut x0 (k0_pay2 x1) x2 (k0_pay3 x3) x4 := by
  unfold out0_A_5
  rw [View.read_writes_eq_canon _ _ _ (cover0_A_5 c i a3 h3 a4 h4 a5 h5 a6 h6 a7 h7 a8 h8 T0 T1 x0 x1 x2 x3 x4 q0 q1)]
  unfold kernelRun0_A
  dsimp only
  sl_unfold_words
  rw [View.canon_unit_zero zero_off]
  simp only [View.readCov_unit_zero (S := S1024x2048) _ zero_off, View.readCov_unit_zero (S := S1024x1024) _ zero_off, View.readAt_eq_ld, View.read_rep,
    View.ld_unit_zero (S := S256x1024) zero_off, View.ld_unit_zero (S := S1x1024x2048) zero_off3, View.ld_unit_zero (S := S1x1x2048) zero_off3,
    View.ld_unit_zero (S := S1x1024x1024) zero_off3, View.ld_unit_zero (S := S1x1x1024) zero_off3, View.ld_unit_zero (S := S1024x2048) zero_off, View.ld_unit_zero (S := S1024x1024) zero_off]
  rfl

theorem B_scr0 (q0) (q1) : (kernelRun0_B c i a3 h3 a4 h4 a5 h5 a6 h6 a7 h7 a8 h8 T0 T1 x0 x1 x2 x3 x4 xa0 xa1 q0 q1).2.1 = xa0 := by
  rfl
theorem B_scr1 (q0) (q1) : (kernelRun0_B c i a3 h3 a4 h4 a5 h5 a6 h6 a7 h7 a8 h8 T0 T1 x0 x1 x2 x3 x4 xa0 xa1 q0 q1).2.2.1 = xa1 := by
  rfl

/-- The output block where the weights are kept. -/
theorem B_out (q0) (q1) : out0_B_5 c i a3 h3 a4 h4 a5 h5 a6 h6 a7 h7 a8 h8 T0 T1 x0 x1 x2 x3 x4 xa0 xa1 q0 q1 = blockOut x0 xa0 x2 xa1 x4 := by
  unfold out0_B_5
  rw [View.read_writes_eq_canon _ _ _ (cover0_B_5 c i a3 h3 a4 h4 a5 h5 a6 h6 a7 h7 a8 h8 T0 T1 x0 x1 x2 x3 x4 xa0 xa1 q0 q1)]
  unfold kernelRun0_B
  dsimp only
  sl_unfold_words
  rw [View.canon_unit_zero zero_off]
  simp only [View.readCov_unit_zero (S := S1024x2048) _ zero_off, View.readCov_unit_zero (S := S1024x1024) _ zero_off, View.readAt_eq_ld, View.read_rep,
    View.ld_unit_zero (S := S256x1024) zero_off, View.ld_unit_zero (S := S1x1024x2048) zero_off3, View.ld_unit_zero (S := S1x1x2048) zero_off3,
    View.ld_unit_zero (S := S1x1024x1024) zero_off3, View.ld_unit_zero (S := S1x1x1024) zero_off3, View.ld_unit_zero (S := S1024x2048) zero_off, View.ld_unit_zero (S := S1024x1024) zero_off]
  rfl

theorem C_scr0 (q0) : (kernelRun0_C c i a3 h3 a4 h4 a5 h5 a6 h6 a7 h7 a8 h8 T0 T1 x0 x1 x2 x3 x4 xa0 xa1 q0).1 = xa0 := by
  rfl
theorem C_scr1 (q0) : (kernelRun0_C c i a3 h3 a4 h4 a5 h5 a6 h6 a7 h7 a8 h8 T0 T1 x0 x1 x2 x3 x4 xa0 xa1 q0).2.1 = xa1 := by
  rfl
end Runs

end Cert.ExpertsIdeal.Tab

end
-- ==== Proof.ExpertsBody.lean ====
/-
  The body of the experts kernel at every grid point, at any admissible tables: what the weight buffers and the output
  block hold before and after the point.
-/
module

public import proofs.«01_k».proof.Proof.ExpertsRuns

@[expose] public section

set_option maxRecDepth 16384

noncomputable section

namespace Cert.ExpertsIdeal.Tab

open Cert.ExpertsIdeal Cert.ExpertsIdeal.Gen
open Idealize.ShloMosaic
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (tb : Tabs) (m : (ℓ : Loc nD τ sig) → Buf (Elt Ideal) ℓ) (ρ : Dev nD → PrngReg)

/-- The launch memory holds the tables. -/
def Pinned : Prop :=
  (∀ c : Dev nD, m ((c : Thread nD τ).loc main_arg1) = tb.be)
  ∧ (∀ c : Dev nD, m ((c : Thread nD τ).loc main_arg2) = tb.cnt)

/-- Each window's current staging memref at point `t`. -/
abbrev ms0 (t : Fin (cfgT tb).N) : Memref sig .tc .vmem S256x1024 .f32 := spec0_0.stage ((cfgT tb).slots t (0 : Fin 6))
abbrev hs0 (t : Fin (cfgT tb).N) : (ms0 tb t).IsWhole := hstage0_0 (((cfgT tb).slots t (0 : Fin 6)).cast nbuf0_0)
abbrev ms1 (t : Fin (cfgT tb).N) : Memref sig .tc .vmem S1x1024x2048 .f32 := spec0_1.stage ((cfgT tb).slots t (1 : Fin 6))
abbrev hs1 (t : Fin (cfgT tb).N) : (ms1 tb t).IsWhole := hstage0_1 (((cfgT tb).slots t (1 : Fin 6)).cast nbuf0_1)
abbrev ms2 (t : Fin (cfgT tb).N) : Memref sig .tc .vmem S1x1x2048 .f32 := spec0_2.stage ((cfgT tb).slots t (2 : Fin 6))
abbrev hs2 (t : Fin (cfgT tb).N) : (ms2 tb t).IsWhole := hstage0_2 (((cfgT tb).slots t (2 : Fin 6)).cast nbuf0_2)
abbrev ms3 (t : Fin (cfgT tb).N) : Memref sig .tc .vmem S1x1024x1024 .f32 := spec0_3.stage ((cfgT tb).slots t (3 : Fin 6))
abbrev hs3 (t : Fin (cfgT tb).N) : (ms3 tb t).IsWhole := hstage0_3 (((cfgT tb).slots t (3 : Fin 6)).cast nbuf0_3)
abbrev ms4 (t : Fin (cfgT tb).N) : Memref sig .tc .vmem S1x1x1024 .f32 := spec0_4.stage ((cfgT tb).slots t (4 : Fin 6))
abbrev hs4 (t : Fin (cfgT tb).N) : (ms4 tb t).IsWhole := hstage0_4 (((cfgT tb).slots t (4 : Fin 6)).cast nbuf0_4)
abbrev ms5 (t : Fin (cfgT tb).N) : Memref sig .tc .vmem S256x1024 .f32 := spec0_5.stage ((cfgT tb).slots t (5 : Fin 6))
abbrev hs5 (t : Fin (cfgT tb).N) : (ms5 tb t).IsWhole := hstage0_5 (((cfgT tb).slots t (5 : Fin 6)).cast nbuf0_5)

/-- Window `w`'s block at point `t`, read off its array at launch. -/
def iblk (c : Dev nD) (w : Fin (cfgT tb).W) (t : Fin (cfgT tb).N) : (((cfgT tb).win w).xblock (crd tb t)).Idx → Elt Ideal ((cfgT tb).win w).elt :=
  (((cfgT tb).win w).blk t).view.read (Elt Ideal) ((s₀ m ρ).mem (((cfgT tb).win w).arr.view.loc (c : Thread nD τ)))

theorem index1 (t : Fin (cfgT tb).N) : ((cfgT tb).win (1 : Fin 6)).index t = ![tb.ex ⟨t.val, pts_lt tb t⟩, 0, 0] := by
  show cc0_transform_1 k0_off1_inb numel1_S1 (pf tb) (crd tb t) = _
  rw [expert_at1, show ((crd tb t) 0 : Fin 544) = ⟨t.val, pts_lt tb t⟩ from Fin.ext (crd_val tb t)]; rfl
theorem index2 (t : Fin (cfgT tb).N) : ((cfgT tb).win (2 : Fin 6)).index t = ![tb.ex ⟨t.val, pts_lt tb t⟩, 0, 0] := by
  show cc0_transform_2 k0_off1_inb numel1_S1 (pf tb) (crd tb t) = _
  rw [expert_at2, show ((crd tb t) 0 : Fin 544) = ⟨t.val, pts_lt tb t⟩ from Fin.ext (crd_val tb t)]; rfl
theorem index3 (t : Fin (cfgT tb).N) : ((cfgT tb).win (3 : Fin 6)).index t = ![tb.ex ⟨t.val, pts_lt tb t⟩, 0, 0] := by
  show cc0_transform_3 k0_off1_inb numel1_S1 (pf tb) (crd tb t) = _
  rw [expert_at3, show ((crd tb t) 0 : Fin 544) = ⟨t.val, pts_lt tb t⟩ from Fin.ext (crd_val tb t)]; rfl
theorem index4 (t : Fin (cfgT tb).N) : ((cfgT tb).win (4 : Fin 6)).index t = ![tb.ex ⟨t.val, pts_lt tb t⟩, 0, 0] := by
  show cc0_transform_4 k0_off1_inb numel1_S1 (pf tb) (crd tb t) = _
  rw [expert_at4, show ((crd tb t) 0 : Fin 544) = ⟨t.val, pts_lt tb t⟩ from Fin.ext (crd_val tb t)]; rfl
theorem index0 (t : Fin (cfgT tb).N) : ((cfgT tb).win (0 : Fin 6)).index t = ![min t.val (tb.nu - 1), 0] := by
  show cc0_transform_0 inb_S1_S1_0 numel1_S1 (pf tb) (crd tb t) = _
  rw [rows_at, crd_val]

/-- The first weights of a block's expert. -/
def wgu (c : Dev nD) (n : Fin 544) : S1x1024x2048.Idx → Elt Ideal .f32 := fun y => m ((c : Thread nD τ).loc main_arg3) (ix3 ⟨tb.ex n, tb.ex_lt n⟩ (y 1) (y 2))
/-- The first bias of a block's expert. -/
def bgu (c : Dev nD) (n : Fin 544) : S1x1x2048.Idx → Elt Ideal .f32 := fun y => m ((c : Thread nD τ).loc main_arg4) (ix3 ⟨tb.ex n, tb.ex_lt n⟩ (y 1) (y 2))
/-- The second weights of a block's expert. -/
def wdn (c : Dev nD) (n : Fin 544) : S1x1024x1024.Idx → Elt Ideal .f32 := fun y => m ((c : Thread nD τ).loc main_arg5) (ix3 ⟨tb.ex n, tb.ex_lt n⟩ (y 1) (y 2))
/-- The second bias of a block's expert. -/
def bdn (c : Dev nD) (n : Fin 544) : S1x1x1024.Idx → Elt Ideal .f32 := fun y => m ((c : Thread nD τ).loc main_arg6) (ix3 ⟨tb.ex n, tb.ex_lt n⟩ (y 1) (y 2))
/-- The rows of a block. -/
def xrows (c : Dev nD) (n : Fin 544) : S256x1024.Idx → Elt Ideal .f32 := fun y => m ((c : Thread nD τ).loc main_arg0) (ix2 ⟨n.val * 256 + (y 0).val, by have := n.isLt; have : (y 0).val < 256 := (y 0).isLt; omega⟩ (y 1))

/-- A point as a block number. -/
abbrev pt (t : Fin (cfgT tb).N) : Fin 544 := ⟨t.val, pts_lt tb t⟩

theorem blk1 (c : Dev nD) (t : Fin (cfgT tb).N) : iblk tb m ρ c (1 : Fin 6) t = wgu tb m c (pt tb t) := by
  funext y
  unfold iblk wgu
  show m ((c : Thread nD τ).loc main_arg3) ((((cfgT tb).win (1 : Fin 6)).rect t).emb y) = _
  refine congrArg _ (funext fun a => Fin.ext ?_)
  have h := index1 tb t
  have hy : (y 0).val < 1 := (y 0).isLt
  rw [Window.rect_emb_val _ t y a rfl, h]
  fin_cases a
  · show tb.ex (pt tb t) * 1 + (y 0).val = tb.ex (pt tb t); omega
  · show 0 * 1024 + (y 1).val = (y 1).val; omega
  · show 0 * 2048 + (y 2).val = (y 2).val; omega
theorem blk2 (c : Dev nD) (t : Fin (cfgT tb).N) : iblk tb m ρ c (2 : Fin 6) t = bgu tb m c (pt tb t) := by
  funext y
  unfold iblk bgu
  show m ((c : Thread nD τ).loc main_arg4) ((((cfgT tb).win (2 : Fin 6)).rect t).emb y) = _
  refine congrArg _ (funext fun a => Fin.ext ?_)
  have h := index2 tb t
  have hy : (y 0).val < 1 := (y 0).isLt
  rw [Window.rect_emb_val _ t y a rfl, h]
  fin_cases a
  · show tb.ex (pt tb t) * 1 + (y 0).val = tb.ex (pt tb t); omega
  · show 0 * 1 + (y 1).val = (y 1).val; omega
  · show 0 * 2048 + (y 2).val = (y 2).val; omega
theorem blk3 (c : Dev nD) (t : Fin (cfgT tb).N) : iblk tb m ρ c (3 : Fin 6) t = wdn tb m c (pt tb t) := by
  funext y
  unfold iblk wdn
  show m ((c : Thread nD τ).loc main_arg5) ((((cfgT tb).win (3 : Fin 6)).rect t).emb y) = _
  refine congrArg _ (funext fun a => Fin.ext ?_)
  have h := index3 tb t
  have hy : (y 0).val < 1 := (y 0).isLt
  rw [Window.rect_emb_val _ t y a rfl, h]
  fin_cases a
  · show tb.ex (pt tb t) * 1 + (y 0).val = tb.ex (pt tb t); omega
  · show 0 * 1024 + (y 1).val = (y 1).val; omega
  · show 0 * 1024 + (y 2).val = (y 2).val; omega
theorem blk4 (c : Dev nD) (t : Fin (cfgT tb).N) : iblk tb m ρ c (4 : Fin 6) t = bdn tb m c (pt tb t) := by
  funext y
  unfold iblk bdn
  show m ((c : Thread nD τ).loc main_arg6) ((((cfgT tb).win (4 : Fin 6)).rect t).emb y) = _
  refine congrArg _ (funext fun a => Fin.ext ?_)
  have h := index4 tb t
  have hy : (y 0).val < 1 := (y 0).isLt
  rw [Window.rect_emb_val _ t y a rfl, h]
  fin_cases a
  · show tb.ex (pt tb t) * 1 + (y 0).val = tb.ex (pt tb t); omega
  · show 0 * 1 + (y 1).val = (y 1).val; omega
  · show 0 * 1024 + (y 2).val = (y 2).val; omega
theorem blk0 (c : Dev nD) (t : Fin (cfgT tb).N) : iblk tb m ρ c (0 : Fin 6) t = xrows m c (pt tb (last tb t)) := by
  funext y
  unfold iblk xrows
  show m ((c : Thread nD τ).loc main_arg0) ((((cfgT tb).win (0 : Fin 6)).rect t).emb y) = _
  refine congrArg _ (funext fun a => Fin.ext ?_)
  have h := index0 tb t
  rw [Window.rect_emb_val _ t y a rfl, h]
  fin_cases a
  · show (min t.val (tb.nu - 1)) * 256 + (y 0).val = (min t.val (tb.nu - 1)) * 256 + (y 0).val; rfl
  · show 0 * 1024 + (y 1).val = (y 1).val; omega

/-- What the first weight buffer holds after a point that computes. -/
def scrA (c : Dev nD) (n : Fin 544) : Buf (Elt Ideal) ((c : Thread nD τ).loc cc0_scratch0) := k0_pay2 (F := Ideal) (wgu tb m c n)
/-- What the second weight buffer holds after a point that computes. -/
def scrB (c : Dev nD) (n : Fin 544) : Buf (Elt Ideal) ((c : Thread nD τ).loc cc0_scratch1) := k0_pay3 (F := Ideal) (wdn tb m c n)
/-- What the output block holds after a point that computes. -/
def outAt (c : Dev nD) (n : Fin 544) : S256x1024.Idx → Elt Ideal .f32 :=
  blockOut (xrows m c n) (k0_pay2 (wgu tb m c n)) (bgu tb m c n) (k0_pay3 (wdn tb m c n)) (bdn tb m c n)

theorem last_of_lt (t : Fin (cfgT tb).N) (h : t.val < tb.nu) : last tb t = t := Fin.ext (by show min t.val (tb.nu - 1) = t.val; omega)

/-- Where the weights are kept they are the ones of the point before. -/
theorem scrA_keep (c : Dev nD) (t : Fin (cfgT tb).N) (h : ¬ rel tb t) (hp : t.val - 1 < 544) : scrA tb m c ⟨t.val - 1, hp⟩ = scrA tb m c (pt tb t) := by
  have e := (keep tb t h).2 hp
  unfold scrA wgu
  rw [show (⟨tb.ex ⟨t.val - 1, hp⟩, tb.ex_lt _⟩ : Fin 32) = ⟨tb.ex (pt tb t), tb.ex_lt _⟩ from Fin.ext e.symm]
theorem scrB_keep (c : Dev nD) (t : Fin (cfgT tb).N) (h : ¬ rel tb t) (hp : t.val - 1 < 544) : scrB tb m c ⟨t.val - 1, hp⟩ = scrB tb m c (pt tb t) := by
  have e := (keep tb t h).2 hp
  unfold scrB wdn
  rw [show (⟨tb.ex ⟨t.val - 1, hp⟩, tb.ex_lt _⟩ : Fin 32) = ⟨tb.ex (pt tb t), tb.ex_lt _⟩ from Fin.ext e.symm]

/-- The last used block below a position. -/
def lastN (n : ℕ) : Fin 544 := ⟨min (n - 1) (tb.nu - 1), by have := tb.nu_le; have := tb.nu_pos; omega⟩

/-- Before point `t` the weight buffers hold the weights of the last point that computed, if there was one. -/
def Phi (c : Dev nD) (t : Fin ((cfgT tb).N + 1)) : sProp 𝕄 :=
  iprop((∃ a, ⌜t.val ≠ 0 → a = scrA tb m c (lastN tb t.val)⌝ ∗ (scM0_0.view.loc (c : Thread nD τ) ↦{fullShare} a)) ∗ (∃ a, ⌜t.val ≠ 0 → a = scrB tb m c (lastN tb t.val)⌝ ∗ (scM0_1.view.loc (c : Thread nD τ) ↦{fullShare} a)) ∗ (tbM0_0.view.loc (c : Thread nD τ) ↦{fullShare.right} tb.be) ∗ (tbM0_1.view.loc (c : Thread nD τ) ↦{fullShare.right} tb.cnt))

/-- The proof data of the one pipeline on core `c`. -/
def dats (_ : Fin 1) (c : Dev nD) : Dat τ (Elt Ideal) Unit ℕ (UR sig nD τ) ℕ (cfgT tb) c where
  A w := (s₀ m ρ).mem (((cfgT tb).win w).arr.view.loc (c : Thread nD τ))
  after w t := match w with
    | ⟨0, _⟩ => iblk tb m ρ c (0 : Fin 6) t
    | ⟨1, _⟩ => iblk tb m ρ c (1 : Fin 6) t
    | ⟨2, _⟩ => iblk tb m ρ c (2 : Fin 6) t
    | ⟨3, _⟩ => iblk tb m ρ c (3 : Fin 6) t
    | ⟨4, _⟩ => iblk tb m ρ c (4 : Fin 6) t
    | ⟨5, _⟩ => outAt tb m c (pt tb (last tb t))
  Φ t := Phi tb m c t
  q _ := fullShare
  owed _ := 0

theorem after0 (c : Dev nD) (t : Fin (cfgT tb).N) : (dats tb m ρ 0 c).after (0 : Fin 6) t = iblk tb m ρ c (0 : Fin 6) t := rfl
theorem after1 (c : Dev nD) (t : Fin (cfgT tb).N) : (dats tb m ρ 0 c).after (1 : Fin 6) t = iblk tb m ρ c (1 : Fin 6) t := rfl
theorem after2 (c : Dev nD) (t : Fin (cfgT tb).N) : (dats tb m ρ 0 c).after (2 : Fin 6) t = iblk tb m ρ c (2 : Fin 6) t := rfl
theorem after3 (c : Dev nD) (t : Fin (cfgT tb).N) : (dats tb m ρ 0 c).after (3 : Fin 6) t = iblk tb m ρ c (3 : Fin 6) t := rfl
theorem after4 (c : Dev nD) (t : Fin (cfgT tb).N) : (dats tb m ρ 0 c).after (4 : Fin 6) t = iblk tb m ρ c (4 : Fin 6) t := rfl
theorem after5 (c : Dev nD) (t : Fin (cfgT tb).N) : (dats tb m ρ 0 c).after (5 : Fin 6) t = outAt tb m c (pt tb (last tb t)) := rfl

/-- Each input window holds its block when the body runs. -/
theorem before0 (c : Dev nD) (t : Fin (cfgT tb).N) (d) : (dats tb m ρ 0 c).before (0 : Fin 6) t d = iblk tb m ρ c (0 : Fin 6) t :=
  ((dats tb m ρ 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgT tb).N) (d) : (dats tb m ρ 0 c).before (1 : Fin 6) t d = iblk tb m ρ c (1 : Fin 6) t :=
  ((dats tb m ρ 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgT tb).N) (d) : (dats tb m ρ 0 c).before (2 : Fin 6) t d = iblk tb m ρ c (2 : Fin 6) t :=
  ((dats tb m ρ 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgT tb).N) (d) : (dats tb m ρ 0 c).before (3 : Fin 6) t d = iblk tb m ρ c (3 : Fin 6) t :=
  ((dats tb m ρ 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgT tb).N) (d) : (dats tb m ρ 0 c).before (4 : Fin 6) t d = iblk tb m ρ c (4 : Fin 6) t :=
  ((dats tb m ρ 0 c).before_in_eq_fetched (4 : Fin 6) rfl (fun _ => rfl) (fun _ _ _ => rfl) (fun t => by rw [after4]; unfold Dat.blockOf iblk; rfl) t d).trans
    (by unfold Dat.fetched Dat.blockOf iblk; rfl)

/-- A point past the used blocks leaves the output block as the point before left it. -/
theorem carry5 (c : Dev nD) : ∀ (t : Fin (cfgT tb).N) (ht : t.val ≠ 0), (cfgT tb).idle (5 : Fin 6) ((cfgT tb).grid.coords t) = true → (cfgT tb).fresh (5 : Fin 6) t.val = false →
    (dats tb m ρ 0 c).after (5 : Fin 6) t = (dats tb m ρ 0 c).after (5 : Fin 6) ⟨t.val - 1, by omega⟩ := by
  intro t ht hi hf
  rw [idle_eq] at hi
  have h : ¬ t.val < tb.nu := by simpa using hi
  rw [after5, after5]
  refine congrArg (outAt tb m c) (Fin.ext ?_)
  show min t.val (tb.nu - 1) = min (t.val - 1) (tb.nu - 1)
  omega

/-- What the output window holds when the body runs. -/
theorem before5 (c : Dev nD) (t : Fin (cfgT tb).N) (d) :
    (dats tb m ρ 0 c).before (5 : Fin 6) t d = if t.val < tb.nu then d else outAt tb m c (pt tb (last tb t)) := by
  rw [(dats tb m ρ 0 c).before_out_traj (5 : Fin 6) rfl (fun _ _ => rfl) (carry5 tb m ρ c) t.val t rfl d, fresh_eq]
  by_cases h : t.val < tb.nu
  · simp only [h, decide_true, ↓reduceIte]
  · have hn := tb.nu_pos
    simp only [h, decide_false, Bool.false_eq_true, ↓reduceIte, after5]
    refine congrArg (outAt tb m c) (Fin.ext ?_)
    show min (t.val - 1) (tb.nu - 1) = min t.val (tb.nu - 1)
    omega

end Cert.ExpertsIdeal.Tab

end
-- ==== Proof.ExpertsPoint.lean ====
/-
  The experts kernel from launch to end, at any admissible tables: the body at every grid point, the launch, and what
  the memory holds at the end.
-/
module

public import proofs.«01_k».proof.Proof.ExpertsBody

@[expose] public section

set_option maxRecDepth 16384

noncomputable section

namespace Cert.ExpertsIdeal.Tab

open Cert.ExpertsIdeal Cert.ExpertsIdeal.Gen
open Idealize.ShloMosaic
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (tb : Tabs) (m : (ℓ : Loc nD τ sig) → Buf (Elt Ideal) ℓ) (ρ : Dev nD → PrngReg)

/-- The body at point `t` on its staging memrefs. -/
abbrev bodyAt (t : Fin (cfgT tb).N) : Prog (TpuEff nD τ sig (Elt Ideal) Λ₀ .tc) PUnit :=
  cc0_experts (crd tb t) (Memref.whole main_arg1) (Memref.isWhole_whole _) (Memref.whole main_arg2) (Memref.isWhole_whole _) (ms0 tb t) (hs0 tb t) (ms1 tb t) (hs1 tb t) (ms2 tb t) (hs2 tb t) (ms3 tb t) (hs3 tb t) (ms4 tb t) (hs4 tb t) (ms5 tb t) (hs5 tb t) (Memref.whole cc0_scratch0) (Memref.isWhole_whole _) (Memref.whole cc0_scratch1) (Memref.isWhole_whole _)

theorem lastN_succ (t : Fin (cfgT tb).N) : lastN tb (t.val + 1) = pt tb (last tb t) := Fin.ext rfl

theorem lastN_used (t : Fin (cfgT tb).N) (h : t.val < tb.nu) (hp : t.val - 1 < 544) : lastN tb t.val = ⟨t.val - 1, hp⟩ :=
  Fin.ext (by show min (t.val - 1) (tb.nu - 1) = t.val - 1; omega)

theorem lastN_past (t : Fin (cfgT tb).N) (h : ¬ t.val < tb.nu) : lastN tb t.val = pt tb (last tb t) :=
  Fin.ext (by show min (t.val - 1) (tb.nu - 1) = min t.val (tb.nu - 1); have := tb.nu_pos; omega)

/-- A buffer whose contents are known is that buffer. -/
theorem held {ℓ : Loc nD τ sig} {p : Prop} (hp : p) (v : Buf (Elt Ideal) ℓ) (q : PosShare TreeShare) :
    (iprop(∃ a, ⌜p → a = v⌝ ∗ (ℓ ↦{q} a)) : sProp 𝕄) ⊢ (ℓ ↦{q} v) := by
  iintro ⟨%a, %ha, H⟩
  obtain rfl := ha hp
  iexact H

set_option maxHeartbeats 4000000 in
/-- The body at point `t`: it turns the buffers before the point into the buffers after it. -/
theorem sound_body (c : Dev nD) (t : Fin (cfgT tb).N) :
    iprop((dats tb m ρ 0 c).Φ t.castSucc ∗ (dats tb m ρ 0 c).owesAt () t.castSucc
        ∗ (∃ d, owns (c : Thread nD τ) (ms0 tb t) fullShare ((dats tb m ρ 0 c).before (0 : Fin 6) t d))
        ∗ (∃ d, owns (c : Thread nD τ) (ms1 tb t) fullShare ((dats tb m ρ 0 c).before (1 : Fin 6) t d))
        ∗ (∃ d, owns (c : Thread nD τ) (ms2 tb t) fullShare ((dats tb m ρ 0 c).before (2 : Fin 6) t d))
        ∗ (∃ d, owns (c : Thread nD τ) (ms3 tb t) fullShare ((dats tb m ρ 0 c).before (3 : Fin 6) t d))
        ∗ (∃ d, owns (c : Thread nD τ) (ms4 tb t) fullShare ((dats tb m ρ 0 c).before (4 : Fin 6) t d))
        ∗ (∃ d, owns (c : Thread nD τ) (ms5 tb t) fullShare ((dats tb m ρ 0 c).before (5 : Fin 6) t d)))
      ⊢ wp frame (wpE (defs₀ (F := Ideal)) Variants.none c none) Set.univ (bodyAt tb t) fun _ =>
          iprop((dats tb m ρ 0 c).Φ t.succ ∗ (dats tb m ρ 0 c).owesAt () t.succ
            ∗ bigSep Finset.univ fun w : Fin (cfgT tb).W =>
                match (cfgT tb).idle w ((cfgT tb).grid.coords t) with
                | true =>
                  match ((cfgT tb).win w).flush t with
                  | false => iprop(∃ d, owns (c : Thread nD τ) (((cfgT tb).win w).stage ((cfgT tb).slots t w)) fullShare ((dats tb m ρ 0 c).before w t d))
                  | true => owns (c : Thread nD τ) (((cfgT tb).win w).stage ((cfgT tb).slots t w)) fullShare ((dats tb m ρ 0 c).after w t)
                | false => owns (c : Thread nD τ) (((cfgT tb).win w).stage ((cfgT tb).slots t w)) fullShare ((dats tb m ρ 0 c).after w t)) := by
  rw [bigSep_W0]
  have hi := idle_eq tb t
  have hS : (dats tb m ρ 0 c).Φ t.succ = Phi tb m c t.succ := rfl
  have hC : (dats tb m ρ 0 c).Φ t.castSucc = Phi tb m c t.castSucc := rfl
  have hO : (dats tb m ρ 0 c).owesAt () t.succ = (dats tb m ρ 0 c).owesAt () t.castSucc := rfl
  have ht := pts_lt tb t
  by_cases q0 : act tb t
  · have hlt := (act_iff tb t).mp q0
    have hl := last_of_lt tb t hlt
    have b0 := blk0 tb m ρ c t
    rw [hl] at b0
    rewrite [hi, show (!decide (t.val < tb.nu)) = false from by simp [hlt]]
    by_cases q1 : rel tb t
    · simp only [before0, before1, before2, before3, before4, before5, after0, after1, after2, after3, after4, after5]
      simp only [hlt, Bool.false_eq_true, ↓reduceIte]
      rewrite [hS, hC, hO]
      unfold Phi
      simp only [Fin.val_castSucc, Fin.val_succ, lastN_succ, hl]
      iintro ⟨⟨⟨%a0, -, HS0⟩, ⟨%a1, -, HS1⟩, HT0, HT1⟩, Ho, ⟨%d0, H0⟩, ⟨%d1, H1⟩, ⟨%d2, H2⟩, ⟨%d3, H3⟩, ⟨%d4, H4⟩, ⟨%d5, H5⟩⟩
      iapply ((kernelRun0_A c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt (iblk tb m ρ c (0 : Fin 6) t) (iblk tb m ρ c (1 : Fin 6) t) (iblk tb m ρ c (2 : Fin 6) t) (iblk tb m ρ c (3 : Fin 6) t) (iblk tb m ρ c (4 : Fin 6) t) q0 q1).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; intro _; exact (A_scr0 c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt _ _ _ _ _ q0 q1).trans (by rw [blk1]; rfl)
        isplitl [HS1]
        · iexists _; isplitr; swap
          · iexact HS1
          · ipureintro; intro _; exact (A_scr1 c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt _ _ _ _ _ q0 q1).trans (by rw [blk3]; rfl)
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; exact (View.read_writes_of_cover _ _ _ _ _ (cover0_A_5 c _ _ _ _ _ _ _ _ _ _ _ _ _ _ _ _ _ _ _ _ q0 q1)).trans ((A_out c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt _ _ _ _ _ q0 q1).trans (by rw [b0, blk1, blk2, blk3, blk4]; rfl))
    · have hz : t.val ≠ 0 := (keep tb t q1).1
      have hp : t.val - 1 < 544 := by omega
      have eA : scrA tb m c (lastN tb t.val) = scrA tb m c (pt tb t) := by rw [lastN_used tb t hlt hp]; exact scrA_keep tb m c t q1 hp
      have eB : scrB tb m c (lastN tb t.val) = scrB tb m c (pt tb t) := by rw [lastN_used tb t hlt hp]; exact scrB_keep tb m c t q1 hp
      simp only [before0, before1, before2, before3, before4, before5, after0, after1, after2, after3, after4, after5]
      simp only [hlt, Bool.false_eq_true, ↓reduceIte]
      rewrite [hS, hC, hO]
      unfold Phi
      simp only [Fin.val_castSucc, Fin.val_succ, lastN_succ, hl]
      iintro ⟨⟨HS0, HS1, HT0, HT1⟩, Ho, ⟨%d0, H0⟩, ⟨%d1, H1⟩, ⟨%d2, H2⟩, ⟨%d3, H3⟩, ⟨%d4, H4⟩, ⟨%d5, H5⟩⟩
      ihave HS0 := held hz _ _ $$ HS0
      ihave HS1 := held hz _ _ $$ HS1
      iapply ((kernelRun0_B c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt (iblk tb m ρ c (0 : Fin 6) t) (iblk tb m ρ c (1 : Fin 6) t) (iblk tb m ρ c (2 : Fin 6) t) (iblk tb m ρ c (3 : Fin 6) t) (iblk tb m ρ c (4 : Fin 6) t) _ _ q0 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; intro _; exact (B_scr0 c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt _ _ _ _ _ _ _ q0 q1).trans eA
        isplitl [HS1]
        · iexists _; isplitr; swap
          · iexact HS1
          · ipureintro; intro _; exact (B_scr1 c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt _ _ _ _ _ _ _ q0 q1).trans eB
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; exact (View.read_writes_of_cover _ _ _ _ _ (cover0_B_5 c _ _ _ _ _ _ _ _ _ _ _ _ _ _ _ _ _ _ _ _ _ _ q0 q1)).trans ((B_out c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt _ _ _ _ _ _ _ q0 q1).trans (by rw [b0, blk2, blk4, eA, eB]; rfl))
  · have hlt : ¬ t.val < tb.nu := fun h => q0 ((act_iff tb t).mpr h)
    have hz : t.val ≠ 0 := by have := tb.nu_pos; omega
    have eL := lastN_past tb t hlt
    rewrite [hi, show (!decide (t.val < tb.nu)) = true from by simp [hlt]]
    cases f5 : ((cfgT tb).win (5 : Fin 6)).flush t
    · simp only [before0, before1, before2, before3, before4, before5, after0, after1, after2, after3, after4, after5, f5]
      simp only [hlt, Bool.false_eq_true, ↓reduceIte]
      rewrite [hS, hC, hO]
      unfold Phi
      simp only [Fin.val_castSucc, Fin.val_succ, lastN_succ]
      iintro ⟨⟨HS0, HS1, HT0, HT1⟩, Ho, ⟨%d0, H0⟩, ⟨%d1, H1⟩, ⟨%d2, H2⟩, ⟨%d3, H3⟩, ⟨%d4, H4⟩, ⟨%d5, H5⟩⟩
      ihave HS0 := held hz _ _ $$ HS0
      ihave HS1 := held hz _ _ $$ HS1
      iapply ((kernelRun0_C c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt (iblk tb m ρ c (0 : Fin 6) t) (iblk tb m ρ c (1 : Fin 6) t) (iblk tb m ρ c (2 : Fin 6) t) (iblk tb m ρ c (3 : Fin 6) t) (iblk tb m ρ c (4 : Fin 6) t) _ _ q0).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, H5, HS0, HS1⟩
      isplitl [HS0 HS1 HT0 HT1]
      · isplitl [HS0]
        · iexists _; isplitr; swap
          · iexact HS0
          · ipureintro; intro _; exact (C_scr0 c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt _ _ _ _ _ _ _ q0).trans (by rw [eL])
        isplitl [HS1]
        · iexists _; isplitr; swap
          · iexact HS1
          · ipureintro; intro _; exact (C_scr1 c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt _ _ _ _ _ _ _ q0).trans (by rw [eL])
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5
    · simp only [before0, before1, before2, before3, before4, before5, after0, after1, after2, after3, after4, after5, f5]
      simp only [hlt, Bool.false_eq_true, ↓reduceIte]
      rewrite [hS, hC, hO]
      unfold Phi
      simp only [Fin.val_castSucc, Fin.val_succ, lastN_succ]
      iintro ⟨⟨HS0, HS1, HT0, HT1⟩, Ho, ⟨%d0, H0⟩, ⟨%d1, H1⟩, ⟨%d2, H2⟩, ⟨%d3, H3⟩, ⟨%d4, H4⟩, ⟨%d5, H5⟩⟩
      ihave HS0 := held hz _ _ $$ HS0
      ihave HS1 := held hz _ _ $$ HS1
      iapply ((kernelRun0_C c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt (iblk tb m ρ c (0 : Fin 6) t) (iblk tb m ρ c (1 : Fin 6) t) (iblk tb m ρ c (2 : Fin 6) t) (iblk tb m ρ c (3 : Fin 6) t) (iblk tb m ρ c (4 : Fin 6) t) _ _ q0).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, H5, HS0, HS1⟩
      isplitl [HS0 HS1 HT0 HT1]
      · isplitl [HS0]
        · iexists _; isplitr; swap
          · iexact HS0
          · ipureintro; intro _; exact (C_scr0 c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt _ _ _ _ _ _ _ q0).trans (by rw [eL])
        isplitl [HS1]
        · iexists _; isplitr; swap
          · iexact HS1
          · ipureintro; intro _; exact (C_scr1 c (crd tb t) (ms0 tb t) (hs0 tb t) (ms1 tb t) (hs1 tb t) (ms2 tb t) (hs2 tb t) (ms3 tb t) (hs3 tb t) (ms4 tb t) (hs4 tb t) (ms5 tb t) (hs5 tb t) tb.be tb.cnt _ _ _ _ _ _ _ q0).trans (by rw [eL])
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5

/-- The body obligation, at every point. -/
theorem body_obligation (c : Dev nD) : BodyObligation (dats tb m ρ 0 c) (defs₀ (F := Ideal)) Variants.none () Set.univ := fun t => by
  rw [bigSep_W0]
  exact sound_body tb m ρ c t

end Cert.ExpertsIdeal.Tab

end
-- ==== Proof.ExpertsLaunch.lean ====
/-
  The experts kernel from launch to end, at any admissible tables: the launch, and what the memory holds at the end.
-/
module

public import proofs.«01_k».proof.Proof.ExpertsPoint
public import Idealize.ShloMosaic.Lib.Pipeline.Quiescent
public import Idealize.ShloMosaic.Lib.Claim

@[expose] public section

set_option maxRecDepth 16384

noncomputable section

namespace Cert.ExpertsIdeal.Tab

open Cert.ExpertsIdeal Cert.ExpertsIdeal.Gen
open Idealize.ShloMosaic
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the staging cells' rounds, the whole of it. -/
abbrev EP : Emb (UR sig nD τ) 𝕄 := emb₁

variable (tb : Tabs) (m : (ℓ : Loc nD τ sig) → Buf (Elt Ideal) ℓ) (ρ : Dev nD → PrngReg)

abbrev pcs : Fin 1 → Pipeline.Cfg sig Λ₀ := Pipeline.pin (pcfgs (F := Ideal)) fun _ => adm tb

/-- What the launch starts from. -/
def u₀ : UR sig nD τ :=
  initOf (Pipeline.cells (pcs tb) ((launch0 (F := Ideal)).cellOf_inj fun _ => adm tb))
    (Pipeline.launchToks (pcs tb) ((launch0 (F := Ideal)).cellOf_inj fun _ => adm tb))

theorem share_eq (c : Dev nD) (w : Fin (cfgT tb).W) : (dats tb m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The first point starts from the tables and the weight buffers. -/
theorem phi0_intro (c : Dev nD) :
    iprop(BI.emp ∗ Pipeline.prefHeld pre0 c (fun _ => fullShare.right) (adm tb).1 ∗ Pipeline.scopedRest spec0 c) ⊢ (dats tb m ρ 0 c).Φ 0 := by
  rw [prefHeld_eq, scopedRest0_eq, show (dats tb m ρ 0 c).Φ 0 = Phi tb m c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

/-- After the last point the weight buffers are given back. -/
theorem phiN_exit (c : Dev nD) : (dats tb m ρ 0 c).Φ (Fin.last (cfgT tb).N) ⊢ iprop(BI.emp ∗ Pipeline.scopedRest spec0 c) := by
  rw [scopedRest0_eq, show (dats tb m ρ 0 c).Φ (Fin.last (cfgT tb).N) = Phi tb m c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- At the end every array holds what the write-backs left, every table what it held. -/
def QC : PUnit × MemSt nD τ sig (Elt Ideal) → Prop := fun r =>
  ∀ c : Dev nD, (∀ w : Fin (cfgT tb).W, r.2.mem (((cfgT tb).win w).arr.view.loc (c : Thread nD τ)) = (dats tb m ρ 0 c).arrAt w (cfgT tb).N)
    ∧ ∀ j, r.2.mem ((c : Thread nD τ).loc (pre0.ref j)) = (adm tb).1 j

theorem V_pre (hp : Pinned tb m) (c : Dev nD) (j : Fin 2) : m ((c : Thread nD τ).loc (pre0.ref j)) = (adm tb).1 j := by
  fin_cases j
  · exact hp.1 c
  · exact hp.2 c

set_option backward.isDefEq.respectTransparency.types false in
set_option maxHeartbeats 4000000 in
/-- The run ends, with the arrays as `QC` says and every semaphore counter at zero. -/
theorem run_main_quiescent (hp : Pinned tb m) : θ_run (defs (F := Ideal)) (onTc (τ := τ) (main (F := Ideal))) (s₀ m ρ) (fun r => QC tb m ρ r ∧ r.2.sem = fun _ => 0) :=
  Pipeline.θ_run_region_noSem_pf_quiescent pcfgs (fun _ => adm tb) (dats tb m ρ) () ((launch0 (F := Ideal)).cellOf_inj fun _ => adm tb) (0 : Fin 1)
    (launch0 (F := Ideal)).win.to₀ (launch0 (F := Ideal)).pre EP defs₀ Variants.none m ρ main
    (hbody := fun c => (body_obligation tb m ρ c).loose) (hne := (launch0 (F := Ideal)).block_pos)
    (harr := (launch0 (F := Ideal)).arr_whole) (hstage := (launch0 (F := Ideal)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Ideal)).win.arr_inj c (launch0 (F := Ideal)).arr_whole
      (share_eq tb m ρ c) _ _ fun _ => rfl)
    (hpf := V_pre tb m hp)
    (X := fun _ => iprop(emp)) (Y := fun _ => iprop(emp)) (Z := fun _ => iprop(emp))
    (hX := fun c => by rw [unscopedRestP0_eq]; iintro -; isplitr <;> iempintro)
    (hin := phi0_intro tb m ρ)
    (hout := phiN_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result on the used rows: each row's block, computed with the block's expert. -/
def resultAt (c : Dev nD) : S139264x1024.Idx → Elt Ideal .f32 := fun i =>
  outAt tb m c ⟨(i 0).val / 256, by have : (i 0).val < 139264 := (i 0).isLt; omega⟩ (ix2 ⟨(i 0).val % 256, Nat.mod_lt _ (by omega)⟩ (i 1))

theorem blk_emb5 (t : Fin (cfgT tb).N) (y : S256x1024.Idx) :
    (((cfgT tb).win (5 : Fin 6)).rect t).emb y = (ix2 ⟨(last tb t).val * 256 + (y 0).val, by have := pts_lt tb (last tb t); have : (y 0).val < 256 := (y 0).isLt; omega⟩ (y 1) : S139264x1024.Idx) := by
  refine funext fun a => Fin.ext ?_
  have h := index5 tb t
  rw [Window.rect_emb_val _ t y a rfl, h]
  fin_cases a
  · show (min t.val (tb.nu - 1)) * 256 + (y 0).val = (min t.val (tb.nu - 1)) * 256 + (y 0).val; rfl
  · show 0 * 1024 + (y 1).val = (y 1).val; omega

theorem flushed5 (c : Dev nD) (t : Fin (cfgT tb).N) :
    (dats tb m ρ 0 c).flushed (5 : Fin 6) t = (((cfgT tb).win (5 : Fin 6)).blk t).view.read (Elt Ideal) (resultAt tb m c) := by
  funext y
  have hy : (y 0).val < 256 := (y 0).isLt
  show outAt tb m c (pt tb (last tb t)) y = resultAt tb m c ((((cfgT tb).win (5 : Fin 6)).rect t).emb y)
  rw [blk_emb5]
  unfold resultAt
  have h1 : ((last tb t).val * 256 + (y 0).val) / 256 = (last tb t).val := by omega
  have h2 : ((last tb t).val * 256 + (y 0).val) % 256 = (y 0).val := by omega
  congr 1
  · exact Fin.ext h1.symm
  · refine funext fun a => Fin.ext ?_
    fin_cases a
    · exact h2.symm
    · rfl

/-- A row of a used block lies in a block that is written back. -/
theorem used_mem (i : S139264x1024.Idx) (h : (i 0).val < tb.nu * 256) :
    ∃ t : Fin (cfgT tb).N, ((cfgT tb).win (5 : Fin 6)).flush t = true ∧ i ∈ (((cfgT tb).win (5 : Fin 6)).blk t).view.set := by
  have hnu := tb.nu_le
  have hn1 := tb.nu_pos
  have hb : (i 0).val / 256 < tb.nu := by omega
  have key : ∀ t : Fin (cfgT tb).N, (last tb t).val = (i 0).val / 256 → i ∈ (((cfgT tb).win (5 : Fin 6)).blk t).view.set := by
    intro t ht
    have e := blk_emb5 tb t (ix2 ⟨(i 0).val % 256, Nat.mod_lt _ (by omega)⟩ (i 1))
    have e2 : (((cfgT tb).win (5 : Fin 6)).rect t).emb (ix2 ⟨(i 0).val % 256, Nat.mod_lt _ (by omega)⟩ (i 1)) = i := by
      rw [e]
      refine funext fun a => Fin.ext ?_
      fin_cases a
      · show (last tb t).val * 256 + (i 0).val % 256 = (i 0).val; omega
      · rfl
    rw [← e2]
    exact View.emb_mem_set _ _
  by_cases h1 : (i 0).val / 256 < tb.nu - 1
  · refine ⟨⟨(i 0).val / 256, by show _ < 544; omega⟩, ?_, key _ ?_⟩
    · rw [flush_eq]; simp [h1]
    · show min ((i 0).val / 256) (tb.nu - 1) = _; omega
  · refine ⟨⟨543, by show _ < 544; omega⟩, ?_, key _ ?_⟩
    · rw [flush_eq]; simp
    · show min 543 (tb.nu - 1) = _; omega

/-- The result array at the end, on the used rows. -/
theorem arr5 (c : Dev nD) (i : S139264x1024.Idx) (h : (i 0).val < tb.nu * 256) : (dats tb m ρ 0 c).arrAt (5 : Fin 6) (cfgT tb).N i = resultAt tb m c i := by
  obtain ⟨t, hf, hi⟩ := used_mem tb i h
  exact (dats tb m ρ 0 c).arrAt_apply_of_mem (5 : Fin 6) (resultAt tb m c) (fun t _ => flushed5 tb m ρ c t) (cfgT tb).N t i t.isLt hf hi

/-- The arguments end unchanged, and the result holds on the used rows what the blocks compute. -/
theorem final (hp : Pinned tb m) :
    θ_run (defs (F := Ideal)) (onTc (τ := τ) (main (F := Ideal))) ⟨m, fun _ => 0, ρ⟩ (fun r => ∀ c : Dev nD,
      (∀ i : S139264x1024.Idx, (i 0).val < tb.nu * 256 → r.2.mem ((c.tc : Thread nD τ).loc main_v0) i = resultAt tb m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨fun i hi => (congrFun ((h.1 c).1 (5 : Fin 6)) i).trans (arr5 tb m ρ c i hi), ((h.1 c).1 (0 : Fin 6)).trans ((dats tb m ρ 0 c).arrAt_in (0 : Fin 6) rfl _), ((h.1 c).2 0).trans (hp.1 c).symm, ((h.1 c).2 1).trans (hp.2 c).symm, ((h.1 c).1 (1 : Fin 6)).trans ((dats tb m ρ 0 c).arrAt_in (1 : Fin 6) rfl _), ((h.1 c).1 (2 : Fin 6)).trans ((dats tb m ρ 0 c).arrAt_in (2 : Fin 6) rfl _), ((h.1 c).1 (3 : Fin 6)).trans ((dats tb m ρ 0 c).arrAt_in (3 : Fin 6) rfl _), ((h.1 c).1 (4 : Fin 6)).trans ((dats tb m ρ 0 c).arrAt_in (4 : Fin 6) rfl _)⟩) (run_main_quiescent tb m ρ hp)

/-- The frame: the run ends, the arguments are unchanged and every semaphore counter is zero. -/
theorem frame (hp : Pinned tb m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (final tb m ρ hp)) ((θ_run defs _ _).mono (fun _ h => h.2) (run_main_quiescent tb m ρ hp))

end Cert.ExpertsIdeal.Tab

end
-- ==== Proof.ExpertsSpec.lean ====
/-
  What an expert makes of one row, over the extended reals: a linear map to 2048 columns, the clamped gated unit of its
  two halves, and a linear map back to 1024 columns (`expertRow`).
-/
module

public import Idealize.ShloMosaic.Lib.ValueIdx
public import Idealize.ShloMosaic.PureOps.Ideal.Laws

@[expose] public section

noncomputable section

namespace Cert.ExpertsSpec

open Idealize.ShloMosaic

/-- Column `j` of the first linear map. -/
def columns (x : Fin 1024 → EReal) (w : Fin 1024 → Fin 2048 → EReal) (b : Fin 2048 → EReal) (j : Fin 2048) : EReal :=
  (∑ k : Fin 1024, x k * w k j) + b j

/-- The gated unit: the first half clamped above by 7 and gated by its own logistic at slope 1.702, times one more than
    the second half clamped to [-7, 7]. -/
def unit (h : Fin 2048 → EReal) (j : Fin 1024) : EReal :=
  (min (h ⟨j.val, by omega⟩) (Ideal.ofBits .f32 0x40E00000#32)
      * Ideal.logistic (Ideal.ofBits .f32 0x3FD9DB23#32 * min (h ⟨j.val, by omega⟩) (Ideal.ofBits .f32 0x40E00000#32)))
    * (min (Ideal.ofBits .f32 0x40E00000#32) (max (Ideal.ofBits .f32 0xC0E00000#32) (h ⟨1024 + j.val, by omega⟩))
      + Ideal.ofBits .f32 0x3F800000#32)

/-- Column `e` of an expert's output row. -/
def expertRow (x : Fin 1024 → EReal) (w : Fin 1024 → Fin 2048 → EReal) (b : Fin 2048 → EReal)
    (v : Fin 1024 → Fin 1024 → EReal) (d : Fin 1024 → EReal) (e : Fin 1024) : EReal :=
  (∑ k : Fin 1024, unit (columns x w b) k * v k e) + d e

end Cert.ExpertsSpec

end
-- ==== Proof.ExpertsValue.lean ====
/-
  The experts kernel's block at an index: each element is the expert's row function of the block's row
  (`blockOut_apply`), hence so is the result on the used rows (`resultAt_apply`).
-/
module

public import proofs.«01_k».proof.Proof.ExpertsLaunch
public import proofs.«01_k».proof.Proof.ExpertsSpec

@[expose] public section

set_option maxRecDepth 16384

noncomputable section

namespace Cert.ExpertsIdeal.Tab

open Cert.ExpertsIdeal Cert.ExpertsIdeal.Gen Cert.ExpertsSpec Idealize.ShloMosaic Idealize.ShloMosaic.TcCoe
open Idealize.ShloMosaic.ValueIdx

/-- The first product of a block. -/
theorem mm_up (a : FVec Ideal S256x1024 .bf16) (b : FVec Ideal S1024x2048 .bf16) (r : Fin 256) (j : Fin 2048) :
    (matmul dot_S256x1024_S1024x2048_S256x2048_1_0_0_1_n_n none a b (constant S256x2048 .f32 0x00000000#32) : FVec Ideal S256x2048 .f32) (ix2 r j)
      = ∑ k : Fin 1024, a (ix2 r k) * b (ix2 k j) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => exact hk
    | ⟨1, _⟩ => rfl

/-- The second product of a block. -/
theorem mm_down (a : FVec Ideal S256x1024 .bf16) (b : FVec Ideal S1024x1024 .bf16) (r : Fin 256) (e : Fin 1024) :
    (matmul dot_S256x1024_S1024x1024_S256x1024_1_0_0_1_n_n none a b (constant S256x1024 .f32 0x00000000#32) : FVec Ideal S256x1024 .f32) (ix2 r e)
      = ∑ k : Fin 1024, a (ix2 r k) * b (ix2 k e) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => exact hk
    | ⟨1, _⟩ => rfl

/-- A stacked matrix of one layer, without the layer axis. -/
theorem drop_layer {n c : Nat} {α : Type} (x : (⟨3, ![1, n, c]⟩ : Shape).Idx → α) (h : (⟨3, ![1, n, c]⟩ : Shape).ShapeCasts ⟨2, ![n, c]⟩) (r : Fin n) (d : Fin c) :
    shapeCast (⟨2, ![n, c]⟩ : Shape) x h (ix2 r d) = x (ix3 0 r d) :=
  shapeCast_apply _ _ _ _ (by
    rewrite [Shape.rowMajor_val_three, Shape.rowMajor_val_two]
    show (0 * n + r.val) * c + d.val = r.val * c + d.val
    rw [Nat.zero_mul, Nat.zero_add])

theorem up_apply (w : Vec Ideal S1x1024x2048 .f32) (k : Fin 1024) (j : Fin 2048) : k0_pay2 w (ix2 k j) = w (ix3 0 k j) := by
  unfold k0_pay2
  rw [shapeCast_self, truncf_apply, drop_layer]
theorem down_apply (w : Vec Ideal S1x1024x1024 .f32) (k e : Fin 1024) : k0_pay3 w (ix2 k e) = w (ix3 0 k e) := by
  unfold k0_pay3
  rw [shapeCast_self, truncf_apply, drop_layer]

/-- The first bias over the rows. -/
theorem bias_up (x : Vec Ideal S1x1x2048 .f32) (r : Fin 256) (j : Fin 2048) :
    (broadcastTo S256x2048 (shapeCast S1x2048 x shapeCasts_S1x1x2048_S1x2048 : FVec Ideal S1x2048 .f32) broadcasts_S1x2048_S256x2048 : FVec Ideal S256x2048 .f32) (ix2 r j) = x (ix3 0 0 j) := by
  rw [broadcastTo_apply (k := (ix2 0 j : S1x2048.Idx)) _ _ _ (by intro a; match a with | ⟨0, _⟩ => rfl | ⟨1, _⟩ => rfl), drop_layer]
/-- The second bias over the rows. -/
theorem bias_down (x : Vec Ideal S1x1x1024 .f32) (r : Fin 256) (j : Fin 1024) :
    (broadcastTo S256x1024 (shapeCast S1x1024 x shapeCasts_S1x1x1024_S1x1024 : FVec Ideal S1x1024 .f32) broadcasts_S1x1024_S256x1024 : FVec Ideal S256x1024 .f32) (ix2 r j) = x (ix3 0 0 j) := by
  rw [broadcastTo_apply (k := (ix2 0 j : S1x1024.Idx)) _ _ _ (by intro a; match a with | ⟨0, _⟩ => rfl | ⟨1, _⟩ => rfl), drop_layer]

/-- The first half of the columns. -/
theorem half0 (x : FVec Ideal S256x2048 .f32) (r : Fin 256) (k : Fin 1024) :
    (extractStridedSlice S256x1024 ![0, 0] x slices_S256x2048_o0_0_S256x1024 : FVec Ideal S256x1024 .f32) (ix2 r k) = x (ix2 r ⟨k.val, by omega⟩) :=
  extractStridedSlice_apply _ _ _ _ _ (by intro a; match a with | ⟨0, _⟩ => exact (Nat.zero_add _).symm | ⟨1, _⟩ => exact (Nat.zero_add _).symm)
/-- The second half of the columns. -/
theorem half1 (x : FVec Ideal S256x2048 .f32) (r : Fin 256) (k : Fin 1024) :
    (extractStridedSlice S256x1024 ![0, 1024] x slices_S256x2048_o0_1024_S256x1024 : FVec Ideal S256x1024 .f32) (ix2 r k) = x (ix2 r ⟨1024 + k.val, by omega⟩) :=
  extractStridedSlice_apply _ _ _ _ _ (by intro a; match a with | ⟨0, _⟩ => exact (Nat.zero_add _).symm | ⟨1, _⟩ => rfl)

/-- The columns of the first linear map, as the kernel computes them. -/
abbrev hid (x : Vec Ideal S256x1024 .f32) (w : Vec Ideal S1024x2048 .bf16) (b : Vec Ideal S1x1x2048 .f32) : FVec Ideal S256x2048 .f32 :=
  addf (F := Ideal) (matmul (φ₂ := .bf16) dot_S256x1024_S1024x2048_S256x2048_1_0_0_1_n_n none (truncf (F := Ideal) .bf16 x bitsLt_bf16_f32) w (constant S256x2048 .f32 0x00000000#32))
    (broadcastTo S256x2048 (shapeCast S1x2048 b shapeCasts_S1x1x2048_S1x2048 : FVec Ideal S1x2048 .f32) broadcasts_S1x2048_S256x2048)

theorem hid_apply (x : Vec Ideal S256x1024 .f32) (w : Vec Ideal S1024x2048 .bf16) (b : Vec Ideal S1x1x2048 .f32) (r : Fin 256) (j : Fin 2048) :
    hid x w b (ix2 r j) = columns (fun k => x (ix2 r k)) (fun k j => w (ix2 k j)) (fun j => b (ix3 0 0 j)) j := by
  unfold hid columns
  rw [addf_apply, mm_up, bias_up]
  rfl

/-- The gated unit, as the kernel computes it from the columns. -/
abbrev gat (h : FVec Ideal S256x2048 .f32) : FVec Ideal S256x1024 .f32 :=
  mulf (F := Ideal)
    (mulf (F := Ideal) (minimumf (F := Ideal) (extractStridedSlice S256x1024 ![0, 0] h slices_S256x2048_o0_0_S256x1024) (broadcast S256x1024 (Scalar.ofBits (F := Ideal) .f32 0x40E00000#32)))
      (logistic (F := Ideal) (mulf (F := Ideal) (broadcast S256x1024 (Scalar.ofBits (F := Ideal) .f32 0x3FD9DB23#32))
        (minimumf (F := Ideal) (extractStridedSlice S256x1024 ![0, 0] h slices_S256x2048_o0_0_S256x1024) (broadcast S256x1024 (Scalar.ofBits (F := Ideal) .f32 0x40E00000#32))))))
    (addf (F := Ideal) (minimumf (F := Ideal) (broadcast S256x1024 (Scalar.ofBits (F := Ideal) .f32 0x40E00000#32))
        (maximumf (F := Ideal) (broadcast S256x1024 (Scalar.ofBits (F := Ideal) .f32 0xC0E00000#32)) (extractStridedSlice S256x1024 ![0, 1024] h slices_S256x2048_o0_1024_S256x1024)))
      (broadcast S256x1024 (Scalar.ofBits (F := Ideal) .f32 0x3F800000#32)))

theorem gat_apply (h : FVec Ideal S256x2048 .f32) (r : Fin 256) (k : Fin 1024) : gat h (ix2 r k) = unit (fun j => h (ix2 r j)) k := by
  unfold unit
  refine Eq.trans ?_ (congrArg₂ (fun a b : EReal => (min a (Ideal.ofBits .f32 0x40E00000#32)
      * Ideal.logistic (Ideal.ofBits .f32 0x3FD9DB23#32 * min a (Ideal.ofBits .f32 0x40E00000#32)))
    * (min (Ideal.ofBits .f32 0x40E00000#32) (max (Ideal.ofBits .f32 0xC0E00000#32) b) + Ideal.ofBits .f32 0x3F800000#32)) (half0 h r k) (half1 h r k))
  rfl

theorem blockOut_eq (x : Vec Ideal S256x1024 .f32) (w : Vec Ideal S1024x2048 .bf16) (b : Vec Ideal S1x1x2048 .f32) (v : Vec Ideal S1024x1024 .bf16) (d : Vec Ideal S1x1x1024 .f32) :
    blockOut x w b v d = addf (F := Ideal) (matmul (φ₂ := .bf16) dot_S256x1024_S1024x1024_S256x1024_1_0_0_1_n_n none (truncf (F := Ideal) .bf16 (gat (hid x w b)) bitsLt_bf16_f32) v (constant S256x1024 .f32 0x00000000#32))
      (broadcastTo S256x1024 (shapeCast S1x1024 d shapeCasts_S1x1x1024_S1x1024 : FVec Ideal S1x1024 .f32) broadcasts_S1x1024_S256x1024) := rfl

/-- An element of the block. -/
theorem blockOut_apply (x : Vec Ideal S256x1024 .f32) (w : Vec Ideal S1024x2048 .bf16) (b : Vec Ideal S1x1x2048 .f32) (v : Vec Ideal S1024x1024 .bf16) (d : Vec Ideal S1x1x1024 .f32)
    (r : Fin 256) (e : Fin 1024) :
    blockOut x w b v d (ix2 r e) = expertRow (fun k => x (ix2 r k)) (fun k j => w (ix2 k j)) (fun j => b (ix3 0 0 j)) (fun k e => v (ix2 k e)) (fun e => d (ix3 0 0 e)) e := by
  rw [blockOut_eq, addf_apply, mm_down, bias_down]
  unfold expertRow
  refine congrArg₂ (· + ·) (Finset.sum_congr rfl fun k _ => ?_) rfl
  rw [truncf_apply, gat_apply]
  simp only [hid_apply]

variable (tb : Tabs)
variable (m : (ℓ : Loc nD τ sig) → Buf (Elt Ideal) ℓ)

/-- The result on the used rows, at an index: the row function of the block's expert. -/
theorem resultAt_apply (c : Dev nD) (i : S139264x1024.Idx) (n : Fin 544) (hn : n.val = (i 0).val / 256) :
    resultAt tb m c i = expertRow (fun k => m ((c.tc : Thread nD τ).loc main_arg0) (ix2 (i 0) k))
      (fun k j => m ((c.tc : Thread nD τ).loc main_arg3) (ix3 ⟨tb.ex n, tb.ex_lt n⟩ k j)) (fun j => m ((c.tc : Thread nD τ).loc main_arg4) (ix3 ⟨tb.ex n, tb.ex_lt n⟩ 0 j))
      (fun k e => m ((c.tc : Thread nD τ).loc main_arg5) (ix3 ⟨tb.ex n, tb.ex_lt n⟩ k e)) (fun e => m ((c.tc : Thread nD τ).loc main_arg6) (ix3 ⟨tb.ex n, tb.ex_lt n⟩ 0 e)) (i 1) := by
  unfold resultAt outAt
  rw [show (⟨(i 0).val / 256, by have : (i 0).val < 139264 := (i 0).isLt; omega⟩ : Fin 544) = n from Fin.ext hn.symm]
  refine (blockOut_apply _ _ _ _ _ _ (i 1)).trans ?_
  simp only [up_apply, down_apply]
  refine congrArg (fun x : Fin 1024 → EReal => expertRow x _ _ _ _ (i 1)) (funext fun k => ?_)
  unfold xrows
  refine congrArg _ (funext fun a => Fin.ext ?_)
  fin_cases a
  · show n.val * 256 + (i 0).val % 256 = (i 0).val; omega
  · rfl

end Cert.ExpertsIdeal.Tab

end
-- ==== Proof.ExpertsBitsRuns.lean ====
/-
  What one grid point of the experts kernel leaves behind: the two weight buffers and the output block, each as one term
  of the point's input blocks and of the buffers before it.
-/
module

public import proofs.«01_k».proof.Proof.ExpertsBitsSched
public import Idealize.ShloMosaic.Lib.StableHlo.Run
public import Idealize.ShloMosaic.PureOps.Ideal.Laws
public import Idealize.ShloMosaic.Lib.Tactic
public import Idealize.ShloMosaic.Lib.Pipeline.Value

@[expose] public section

set_option maxRecDepth 16384

noncomputable section

namespace Cert.Experts.Tab

open Cert.Experts Cert.Experts.Gen Idealize.ShloMosaic Idealize.ShloMosaic.TcCoe Idealize.SL.Sem
open Idealize.ShloMosaic.ValueIdx
open Idealize.ShloMosaic.Pipeline (Dat Cfg Window)

theorem zero_off : (![0, 0] : Fin 2 → Nat) = fun _ => 0 := funext fun a => by fin_cases a <;> rfl
theorem zero_off3 : (![0, 0, 0] : Fin 3 → Nat) = fun _ => 0 := funext fun a => by fin_cases a <;> rfl

/-- The output block of a point, from its rows, its two weights in the kernel's format and its two biases. -/
def blockOut (x0 : Vec Bits S256x1024 .f32) (w1 : Vec Bits S1024x2048 .bf16) (x2 : Vec Bits S1x1x2048 .f32)
    (w3 : Vec Bits S1024x1024 .bf16) (x4 : Vec Bits S1x1x1024 .f32) : FVec Bits S256x1024 .f32 :=
  k0_pay1 (k0_pay4 x0 w1 x2 w3) x4

/-- One whole store into a weight buffer leaves what was stored. -/
theorem scr0_writes (f : (View.whole cc0_scratch0 : View sig .tc .vmem S1024x2048 .bf16).ty.Contents (Elt Bits)) (w : S1024x2048.Idx → Elt Bits .bf16) (inb) :
    (View.whole cc0_scratch0 : View sig .tc .vmem S1024x2048 .bf16).writes (Elt Bits) f [⟨Rect.unit (s := S1024x2048) ![0, 0] S1024x2048.size inb, w⟩] = w := by
  have h := View.read_writes_eq_canon (View.whole cc0_scratch0 : View sig .tc .vmem S1024x2048 .bf16) f [⟨Rect.unit (s := S1024x2048) ![0, 0] S1024x2048.size inb, w⟩] (fun y => ⟨_, List.mem_singleton_self _, View.mem_set_unit_zero zero_off inb y⟩)
  rw [View.read_whole] at h
  exact h.trans (View.canon_unit_zero (S := S1024x2048) zero_off inb w)

theorem scr1_writes (f : (View.whole cc0_scratch1 : View sig .tc .vmem S1024x1024 .bf16).ty.Contents (Elt Bits)) (w : S1024x1024.Idx → Elt Bits .bf16) (inb) :
    (View.whole cc0_scratch1 : View sig .tc .vmem S1024x1024 .bf16).writes (Elt Bits) f [⟨Rect.unit (s := S1024x1024) ![0, 0] S1024x1024.size inb, w⟩] = w := by
  have h := View.read_writes_eq_canon (View.whole cc0_scratch1 : View sig .tc .vmem S1024x1024 .bf16) f [⟨Rect.unit (s := S1024x1024) ![0, 0] S1024x1024.size inb, w⟩] (fun y => ⟨_, List.mem_singleton_self _, View.mem_set_unit_zero zero_off inb y⟩)
  rw [View.read_whole] at h
  exact h.trans (View.canon_unit_zero (S := S1024x1024) zero_off inb w)

section Runs
variable (c : Dev nD) (i : grid0.Coords)
  (a3 : Memref sig .tc .vmem S256x1024 .f32) (h3 : a3.IsWhole) (a4 : Memref sig .tc .vmem S1x1024x2048 .f32) (h4 : a4.IsWhole)
  (a5 : Memref sig .tc .vmem S1x1x2048 .f32) (h5 : a5.IsWhole) (a6 : Memref sig .tc .vmem S1x1024x1024 .f32) (h6 : a6.IsWhole)
  (a7 : Memref sig .tc .vmem S1x1x1024 .f32) (h7 : a7.IsWhole) (a8 : Memref sig .tc .vmem S256x1024 .f32) (h8 : a8.IsWhole)
  (T0 : S544.Idx → Elt Bits .i32) (T1 : S1.Idx → Elt Bits .i32)
  (x0 : S256x1024.Idx → Elt Bits .f32) (x1 : S1x1024x2048.Idx → Elt Bits .f32) (x2 : S1x1x2048.Idx → Elt Bits .f32)
  (x3 : S1x1024x1024.Idx → Elt Bits .f32) (x4 : S1x1x1024.Idx → Elt Bits .f32)
  (xa0 : Buf (Elt Bits) ((c : Thread nD τ).loc cc0_scratch0)) (xa1 : Buf (Elt Bits) ((c : Thread nD τ).loc cc0_scratch1))

/-- Where new weights are taken, the first weight buffer ends with the point's first weights. -/
theorem A_scr0 (q0) (q1) : (kernelRun0_A c i a3 h3 a4 h4 a5 h5 a6 h6 a7 h7 a8 h8 T0 T1 x0 x1 x2 x3 x4 q0 q1).2.1 = k0_pay2 x1 := by
  unfold kernelRun0_A
  dsimp only
  sl_unfold_words
  rw [scr0_writes, View.readAt_eq_ld, View.read_rep, View.ld_unit_zero (S := S1x1024x2048) zero_off3]

theorem A_scr1 (q0) (q1) : (kernelRun0_A c i a3 h3 a4 h4 a5 h5 a6 h6 a7 h7 a8 h8 T0 T1 x0 x1 x2 x3 x4 q0 q1).2.2.1 = k0_pay3 x3 := by
  unfold kernelRun0_A
  dsimp only
  sl_unfold_words
  rw [scr1_writes, View.readAt_eq_ld, View.read_rep, View.ld_unit_zero (S := S1x1024x1024) zero_off3]

/-- The output block where new weights are taken. -/
theorem A_out (q0) (q1) : out0_A_5 c i a3 h3 a4 h4 a5 h5 a6 h6 a7 h7 a8 h8 T0 T1 x0 x1 x2 x3 x4 q0 q1 = blockOut x0 (k0_pay2 x1) x2 (k0_pay3 x3) x4 := by
  unfold out0_A_5
  rw [View.read_writes_eq_canon _ _ _ (cover0_A_5 c i a3 h3 a4 h4 a5 h5 a6 h6 a7 h7 a8 h8 T0 T1 x0 x1 x2 x3 x4 q0 q1)]
  unfold kernelRun0_A
  dsimp only
  sl_unfold_words
  rw [View.canon_unit_zero zero_off]
  simp only [View.readCov_unit_zero (S := S1024x2048) _ zero_off, View.readCov_unit_zero (S := S1024x1024) _ zero_off, View.readAt_eq_ld, View.read_rep,
    View.ld_unit_zero (S := S256x1024) zero_off, View.ld_unit_zero (S := S1x1024x2048) zero_off3, View.ld_unit_zero (S := S1x1x2048) zero_off3,
    View.ld_unit_zero (S := S1x1024x1024) zero_off3, View.ld_unit_zero (S := S1x1x1024) zero_off3, View.ld_unit_zero (S := S1024x2048) zero_off, View.ld_unit_zero (S := S1024x1024) zero_off]
  rfl

theorem B_scr0 (q0) (q1) : (kernelRun0_B c i a3 h3 a4 h4 a5 h5 a6 h6 a7 h7 a8 h8 T0 T1 x0 x1 x2 x3 x4 xa0 xa1 q0 q1).2.1 = xa0 := by
  rfl
theorem B_scr1 (q0) (q1) : (kernelRun0_B c i a3 h3 a4 h4 a5 h5 a6 h6 a7 h7 a8 h8 T0 T1 x0 x1 x2 x3 x4 xa0 xa1 q0 q1).2.2.1 = xa1 := by
  rfl

/-- The output block where the weights are kept. -/
theorem B_out (q0) (q1) : out0_B_5 c i a3 h3 a4 h4 a5 h5 a6 h6 a7 h7 a8 h8 T0 T1 x0 x1 x2 x3 x4 xa0 xa1 q0 q1 = blockOut x0 xa0 x2 xa1 x4 := by
  unfold out0_B_5
  rw [View.read_writes_eq_canon _ _ _ (cover0_B_5 c i a3 h3 a4 h4 a5 h5 a6 h6 a7 h7 a8 h8 T0 T1 x0 x1 x2 x3 x4 xa0 xa1 q0 q1)]
  unfold kernelRun0_B
  dsimp only
  sl_unfold_words
  rw [View.canon_unit_zero zero_off]
  simp only [View.readCov_unit_zero (S := S1024x2048) _ zero_off, View.readCov_unit_zero (S := S1024x1024) _ zero_off, View.readAt_eq_ld, View.read_rep,
    View.ld_unit_zero (S := S256x1024) zero_off, View.ld_unit_zero (S := S1x1024x2048) zero_off3, View.ld_unit_zero (S := S1x1x2048) zero_off3,
    View.ld_unit_zero (S := S1x1024x1024) zero_off3, View.ld_unit_zero (S := S1x1x1024) zero_off3, View.ld_unit_zero (S := S1024x2048) zero_off, View.ld_unit_zero (S := S1024x1024) zero_off]
  rfl

theorem C_scr0 (q0) : (kernelRun0_C c i a3 h3 a4 h4 a5 h5 a6 h6 a7 h7 a8 h8 T0 T1 x0 x1 x2 x3 x4 xa0 xa1 q0).1 = xa0 := by
  rfl
theorem C_scr1 (q0) : (kernelRun0_C c i a3 h3 a4 h4 a5 h5 a6 h6 a7 h7 a8 h8 T0 T1 x0 x1 x2 x3 x4 xa0 xa1 q0).2.1 = xa1 := by
  rfl
end Runs

end Cert.Experts.Tab

end
-- ==== Proof.ExpertsBitsLaunch.lean ====
/-
  The experts kernel from launch to end, at any admissible tables: the launch, and what the memory holds at the end.
-/
module

public import proofs.«01_k».proof.Proof.ExpertsBitsPoint
public import Idealize.ShloMosaic.Lib.Pipeline.Quiescent
public import Idealize.ShloMosaic.Lib.Claim

@[expose] public section

set_option maxRecDepth 16384

noncomputable section

namespace Cert.Experts.Tab

open Cert.Experts Cert.Experts.Gen
open Idealize.ShloMosaic
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the staging cells' rounds, the whole of it. -/
abbrev EP : Emb (UR sig nD τ) 𝕄 := emb₁

variable (tb : Tabs) (m : (ℓ : Loc nD τ sig) → Buf (Elt Bits) ℓ) (ρ : Dev nD → PrngReg)

abbrev pcs : Fin 1 → Pipeline.Cfg sig Λ₀ := Pipeline.pin (pcfgs (F := Bits)) fun _ => adm tb

/-- What the launch starts from. -/
def u₀ : UR sig nD τ :=
  initOf (Pipeline.cells (pcs tb) ((launch0 (F := Bits)).cellOf_inj fun _ => adm tb))
    (Pipeline.launchToks (pcs tb) ((launch0 (F := Bits)).cellOf_inj fun _ => adm tb))

theorem share_eq (c : Dev nD) (w : Fin (cfgT tb).W) : (dats tb m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The first point starts from the tables and the weight buffers. -/
theorem phi0_intro (c : Dev nD) :
    iprop(BI.emp ∗ Pipeline.prefHeld pre0 c (fun _ => fullShare.right) (adm tb).1 ∗ Pipeline.scopedRest spec0 c) ⊢ (dats tb m ρ 0 c).Φ 0 := by
  rw [prefHeld_eq, scopedRest0_eq, show (dats tb m ρ 0 c).Φ 0 = Phi tb m c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

/-- After the last point the weight buffers are given back. -/
theorem phiN_exit (c : Dev nD) : (dats tb m ρ 0 c).Φ (Fin.last (cfgT tb).N) ⊢ iprop(BI.emp ∗ Pipeline.scopedRest spec0 c) := by
  rw [scopedRest0_eq, show (dats tb m ρ 0 c).Φ (Fin.last (cfgT tb).N) = Phi tb m c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- At the end every array holds what the write-backs left, every table what it held. -/
def QC : PUnit × MemSt nD τ sig (Elt Bits) → Prop := fun r =>
  ∀ c : Dev nD, (∀ w : Fin (cfgT tb).W, r.2.mem (((cfgT tb).win w).arr.view.loc (c : Thread nD τ)) = (dats tb m ρ 0 c).arrAt w (cfgT tb).N)
    ∧ ∀ j, r.2.mem ((c : Thread nD τ).loc (pre0.ref j)) = (adm tb).1 j

theorem V_pre (hp : Pinned tb m) (c : Dev nD) (j : Fin 2) : m ((c : Thread nD τ).loc (pre0.ref j)) = (adm tb).1 j := by
  fin_cases j
  · exact hp.1 c
  · exact hp.2 c

set_option backward.isDefEq.respectTransparency.types false in
set_option maxHeartbeats 4000000 in
/-- The run ends, with the arrays as `QC` says and every semaphore counter at zero. -/
theorem run_main_quiescent (hp : Pinned tb m) : θ_run (defs (F := Bits)) (onTc (τ := τ) (main (F := Bits))) (s₀ m ρ) (fun r => QC tb m ρ r ∧ r.2.sem = fun _ => 0) :=
  Pipeline.θ_run_region_noSem_pf_quiescent pcfgs (fun _ => adm tb) (dats tb m ρ) () ((launch0 (F := Bits)).cellOf_inj fun _ => adm tb) (0 : Fin 1)
    (launch0 (F := Bits)).win.to₀ (launch0 (F := Bits)).pre EP defs₀ Variants.none m ρ main
    (hbody := fun c => (body_obligation tb m ρ c).loose) (hne := (launch0 (F := Bits)).block_pos)
    (harr := (launch0 (F := Bits)).arr_whole) (hstage := (launch0 (F := Bits)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Bits)).win.arr_inj c (launch0 (F := Bits)).arr_whole
      (share_eq tb m ρ c) _ _ fun _ => rfl)
    (hpf := V_pre tb m hp)
    (X := fun _ => iprop(emp)) (Y := fun _ => iprop(emp)) (Z := fun _ => iprop(emp))
    (hX := fun c => by rw [unscopedRestP0_eq]; iintro -; isplitr <;> iempintro)
    (hin := phi0_intro tb m ρ)
    (hout := phiN_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result on the used rows: each row's block, computed with the block's expert. -/
def resultAt (c : Dev nD) : S139264x1024.Idx → Elt Bits .f32 := fun i =>
  outAt tb m c ⟨(i 0).val / 256, by have : (i 0).val < 139264 := (i 0).isLt; omega⟩ (ix2 ⟨(i 0).val % 256, Nat.mod_lt _ (by omega)⟩ (i 1))

theorem blk_emb5 (t : Fin (cfgT tb).N) (y : S256x1024.Idx) :
    (((cfgT tb).win (5 : Fin 6)).rect t).emb y = (ix2 ⟨(last tb t).val * 256 + (y 0).val, by have := pts_lt tb (last tb t); have : (y 0).val < 256 := (y 0).isLt; omega⟩ (y 1) : S139264x1024.Idx) := by
  refine funext fun a => Fin.ext ?_
  have h := index5 tb t
  rw [Window.rect_emb_val _ t y a rfl, h]
  fin_cases a
  · show (min t.val (tb.nu - 1)) * 256 + (y 0).val = (min t.val (tb.nu - 1)) * 256 + (y 0).val; rfl
  · show 0 * 1024 + (y 1).val = (y 1).val; omega

theorem flushed5 (c : Dev nD) (t : Fin (cfgT tb).N) :
    (dats tb m ρ 0 c).flushed (5 : Fin 6) t = (((cfgT tb).win (5 : Fin 6)).blk t).view.read (Elt Bits) (resultAt tb m c) := by
  funext y
  have hy : (y 0).val < 256 := (y 0).isLt
  show outAt tb m c (pt tb (last tb t)) y = resultAt tb m c ((((cfgT tb).win (5 : Fin 6)).rect t).emb y)
  rw [blk_emb5]
  unfold resultAt
  have h1 : ((last tb t).val * 256 + (y 0).val) / 256 = (last tb t).val := by omega
  have h2 : ((last tb t).val * 256 + (y 0).val) % 256 = (y 0).val := by omega
  congr 1
  · exact Fin.ext h1.symm
  · refine funext fun a => Fin.ext ?_
    fin_cases a
    · exact h2.symm
    · rfl

/-- A row of a used block lies in a block that is written back. -/
theorem used_mem (i : S139264x1024.Idx) (h : (i 0).val < tb.nu * 256) :
    ∃ t : Fin (cfgT tb).N, ((cfgT tb).win (5 : Fin 6)).flush t = true ∧ i ∈ (((cfgT tb).win (5 : Fin 6)).blk t).view.set := by
  have hnu := tb.nu_le
  have hn1 := tb.nu_pos
  have hb : (i 0).val / 256 < tb.nu := by omega
  have key : ∀ t : Fin (cfgT tb).N, (last tb t).val = (i 0).val / 256 → i ∈ (((cfgT tb).win (5 : Fin 6)).blk t).view.set := by
    intro t ht
    have e := blk_emb5 tb t (ix2 ⟨(i 0).val % 256, Nat.mod_lt _ (by omega)⟩ (i 1))
    have e2 : (((cfgT tb).win (5 : Fin 6)).rect t).emb (ix2 ⟨(i 0).val % 256, Nat.mod_lt _ (by omega)⟩ (i 1)) = i := by
      rw [e]
      refine funext fun a => Fin.ext ?_
      fin_cases a
      · show (last tb t).val * 256 + (i 0).val % 256 = (i 0).val; omega
      · rfl
    rw [← e2]
    exact View.emb_mem_set _ _
  by_cases h1 : (i 0).val / 256 < tb.nu - 1
  · refine ⟨⟨(i 0).val / 256, by show _ < 544; omega⟩, ?_, key _ ?_⟩
    · rw [flush_eq]; simp [h1]
    · show min ((i 0).val / 256) (tb.nu - 1) = _; omega
  · refine ⟨⟨543, by show _ < 544; omega⟩, ?_, key _ ?_⟩
    · rw [flush_eq]; simp
    · show min 543 (tb.nu - 1) = _; omega

/-- The result array at the end, on the used rows. -/
theorem arr5 (c : Dev nD) (i : S139264x1024.Idx) (h : (i 0).val < tb.nu * 256) : (dats tb m ρ 0 c).arrAt (5 : Fin 6) (cfgT tb).N i = resultAt tb m c i := by
  obtain ⟨t, hf, hi⟩ := used_mem tb i h
  exact (dats tb m ρ 0 c).arrAt_apply_of_mem (5 : Fin 6) (resultAt tb m c) (fun t _ => flushed5 tb m ρ c t) (cfgT tb).N t i t.isLt hf hi

/-- The arguments end unchanged, and the result holds on the used rows what the blocks compute. -/
theorem final (hp : Pinned tb m) :
    θ_run (defs (F := Bits)) (onTc (τ := τ) (main (F := Bits))) ⟨m, fun _ => 0, ρ⟩ (fun r => ∀ c : Dev nD,
      (∀ i : S139264x1024.Idx, (i 0).val < tb.nu * 256 → r.2.mem ((c.tc : Thread nD τ).loc main_v0) i = resultAt tb m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨fun i hi => (congrFun ((h.1 c).1 (5 : Fin 6)) i).trans (arr5 tb m ρ c i hi), ((h.1 c).1 (0 : Fin 6)).trans ((dats tb m ρ 0 c).arrAt_in (0 : Fin 6) rfl _), ((h.1 c).2 0).trans (hp.1 c).symm, ((h.1 c).2 1).trans (hp.2 c).symm, ((h.1 c).1 (1 : Fin 6)).trans ((dats tb m ρ 0 c).arrAt_in (1 : Fin 6) rfl _), ((h.1 c).1 (2 : Fin 6)).trans ((dats tb m ρ 0 c).arrAt_in (2 : Fin 6) rfl _), ((h.1 c).1 (3 : Fin 6)).trans ((dats tb m ρ 0 c).arrAt_in (3 : Fin 6) rfl _), ((h.1 c).1 (4 : Fin 6)).trans ((dats tb m ρ 0 c).arrAt_in (4 : Fin 6) rfl _)⟩) (run_main_quiescent tb m ρ hp)

/-- The frame: the run ends, the arguments are unchanged and every semaphore counter is zero. -/
theorem frame (hp : Pinned tb m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (final tb m ρ hp)) ((θ_run defs _ _).mono (fun _ h => h.2) (run_main_quiescent tb m ρ hp))

end Cert.Experts.Tab

end
-- ==== Proof.ExpertsRef.lean ====
/-
  The experts reference's loop: block `k` of its result is the row function of the block's rows with the matrices of the
  block's expert, whose number its table gives (`ref_result`).
-/
module

public import proofs.«01_k».proof.Proof.ExpertsSpec
public import proofs.«01_k».proof.Proof.RetentionTables
public import proofs.«01_k».proof.Proof.Gen.ExpertsRefIdeal.Run
public import Idealize.ShloMosaic.Lib.WordCmp

@[expose] public section

set_option maxRecDepth 16384

noncomputable section

namespace Cert.ExpertsRefIdeal.Value

open Cert.ExpertsRefIdeal Cert.ExpertsRefIdeal.Gen Cert.ExpertsSpec Idealize.ShloMosaic Idealize.ShloMosaic.TcCoe Idealize.SL.Sem
open Idealize.ShloMosaic.ValueIdx Idealize.ShloMosaic.StableHlo

/-! ## Places of slices -/

theorem nat_toInt (n : ℕ) (h : n < 1024) : (BitVec.ofNat 32 n).toInt = (n : Int) := by
  have hn : (BitVec.ofNat 32 n).toNat = n := by rw [BitVec.toNat_ofNat]; omega
  rw [BitVec.toInt_eq_toNat_of_lt (by rw [hn]; omega), hn]

/-- Layer `k` of a stack. -/
theorem fitsLayer {N n c : ℕ} (k : Fin N) : (⟨3, ![N, n, c]⟩ : Shape).Slices ![k.val, 0, 0] ⟨3, ![1, n, c]⟩ := ⟨rfl, fun a => by
  have hk := k.isLt
  match a with
  | ⟨0, _⟩ => show k.val + 1 ≤ N; omega
  | ⟨1, _⟩ => show 0 + n ≤ n; omega
  | ⟨2, _⟩ => show 0 + c ≤ c; omega⟩
theorem fitsEntry {N : ℕ} (k : Fin N) : (⟨1, ![N]⟩ : Shape).Slices ![k.val] ⟨1, ![1]⟩ := ⟨rfl, fun a => by
  have hk := k.isLt
  match a with
  | ⟨0, _⟩ => show k.val + 1 ≤ N; omega⟩

/-- A slice beginning at the word `w` of the first axis, whose value is `n`. -/
theorem starts3 {w c1 c2 : IVec S_ 32} {n : ℕ} (hn : n < 1024) (hw : w (Shape.Idx.first h_S_) = BitVec.ofNat 32 n)
    (h1 : c1 (Shape.Idx.first h_S_) = 0#32) (h2 : c2 (Shape.Idx.first h_S_) = 0#32) (a : Fin 3) :
    ((![w, c1, c2] : Fin 3 → (⟨S_, .i32⟩ : BufTy).Contents (Elt Ideal)) a (Shape.Idx.first h_S_)).toInt = (((![n, 0, 0] : Fin 3 → ℕ) a : ℕ) : Int) := by
  match a with
  | ⟨0, _⟩ => show (w (Shape.Idx.first h_S_)).toInt = (n : Int); rw [hw]; exact nat_toInt _ hn
  | ⟨1, _⟩ => show (c1 (Shape.Idx.first h_S_)).toInt = ((0 : ℕ) : Int); rw [h1]; rfl
  | ⟨2, _⟩ => show (c2 (Shape.Idx.first h_S_)).toInt = ((0 : ℕ) : Int); rw [h2]; rfl

/-- A word that is not negative is not moved by the wrap of negative indices. -/
theorem wrap_nonneg {w : IVec S_ 32} {n : ℕ} (hn : n < 1024) (hw : w (Shape.Idx.first h_S_) = BitVec.ofNat 32 n) (u : BitVec 32) :
    (select (cmpi .slt w (constantI S_ 32 0#32)) (addi w (constantI S_ 32 u)) w : IVec S_ 32) (Shape.Idx.first h_S_) = BitVec.ofNat 32 n := by
  rw [select_apply]
  have hc : cmpi .slt w (constantI S_ 32 0#32) (Shape.Idx.first h_S_) = 0#1 := by
    show IntOp.cmpi .slt (w (Shape.Idx.first h_S_)) 0#32 = 0#1
    rw [WordCmp.cmpi_slt_eq, hw, nat_toInt _ hn]
    rw [decide_eq_false (by show ¬ ((n : Int) < 0); omega)]
    rfl
  rw [hc, hw]
  rfl
theorem wrap_zero (u : BitVec 32) :
    (select (cmpi .slt (constantI S_ 32 0#32) (constantI S_ 32 0#32)) (addi (constantI S_ 32 0#32) (constantI S_ 32 u)) (constantI S_ 32 0#32) : IVec S_ 32) (Shape.Idx.first h_S_) = 0#32 :=
  wrap_nonneg (n := 0) (by decide) rfl u

/-- The layer a slice at `start` takes, without the layer axis. -/
theorem slice_layer {N n c : ℕ} {α : Type} (x : (⟨3, ![N, n, c]⟩ : Shape).Idx → α) (start : Fin 3 → Int) (h : (⟨3, ![N, n, c]⟩ : Shape).Slices (fun _ => 0) ⟨3, ![1, n, c]⟩)
    (h' : (⟨3, ![1, n, c]⟩ : Shape).ShapeCasts ⟨2, ![n, c]⟩) (k : Fin N) (e : ∀ a, start a = (((![k.val, 0, 0] : Fin 3 → ℕ) a : ℕ) : Int)) (r : Fin n) (d : Fin c) :
    shapeCast (⟨2, ![n, c]⟩ : Shape) (Host.dynamicSlice (⟨3, ![1, n, c]⟩ : Shape) x start h) h' (ix2 r d) = x (ix3 k r d) := by
  refine (congrFun (congrArg (fun z => shapeCast (⟨2, ![n, c]⟩ : Shape) z h') (WordCmp.dynamicSlice_eq_extract _ x start h _ (fitsLayer k) e)) (ix2 r d)).trans ?_
  rw [shapeCast_apply (k := (ix3 0 r d : (⟨3, ![1, n, c]⟩ : Shape).Idx)) _ _ _ (by
      rewrite [Shape.rowMajor_val_three, Shape.rowMajor_val_two]
      show (0 * n + r.val) * c + d.val = r.val * c + d.val
      rw [Nat.zero_mul, Nat.zero_add]),
    extractStridedSlice_apply (k := (ix3 k r d : (⟨3, ![N, n, c]⟩ : Shape).Idx)) _ _ _ _ (by
      intro a; match a with
        | ⟨0, _⟩ => rfl | ⟨1, _⟩ => exact (Nat.zero_add _).symm | ⟨2, _⟩ => exact (Nat.zero_add _).symm)]

/-- Layer `k` is the update, the other layers are as before. -/
theorem upd_apply (x : FVec Ideal S544x256x1024 .f32) (u : FVec Ideal S1x256x1024 .f32) (k j : Fin 544) (r : Fin 256) (e : Fin 1024) :
    updateSlice x u ![k.val, 0, 0] (fitsLayer k) (ix3 j r e) = if j = k then u (ix3 0 r e) else x (ix3 j r e) := by
  unfold updateSlice
  by_cases hj : j = k
  · subst hj
    rw [if_pos rfl, dif_pos (by
      intro a; match a with
        | ⟨0, _⟩ => exact ⟨Nat.le_refl _, Nat.lt_succ_self _⟩
        | ⟨1, _⟩ => exact ⟨Nat.zero_le _, by show r.val < 0 + 256; omega⟩
        | ⟨2, _⟩ => exact ⟨Nat.zero_le _, by show e.val < 0 + 1024; omega⟩)]
    refine congrArg u (funext fun a => Fin.ext ?_)
    match a with
    | ⟨0, _⟩ => exact Nat.sub_self _
    | ⟨1, _⟩ => rfl
    | ⟨2, _⟩ => rfl
  · rw [if_neg hj, dif_neg]
    intro hin
    have h0 := hin ⟨0, (by decide : 0 < 3)⟩
    change k.val ≤ j.val ∧ j.val < k.val + 1 at h0
    exact hj (Fin.ext (by omega))

/-! ## The products of a trip -/

theorem dot_up (a : FVec Ideal S256x1024 .f32) (b : FVec Ideal S1024x2048 .f32) (r : Fin 256) (j : Fin 2048) :
    (Host.dotGeneral dot_S256x1024_S1024x2048_S256x2048_1_0_0_1_n_n none a b : FVec Ideal S256x2048 .f32) (ix2 r j)
      = ∑ k : Fin 1024, a (ix2 r k) * b (ix2 k j) := by
  simp only [Host.dotGeneral]
  rw [Ideal.dotGeneral_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => exact hk
    | ⟨1, _⟩ => rfl
theorem dot_down (a : FVec Ideal S256x1024 .f32) (b : FVec Ideal S1024x1024 .f32) (r : Fin 256) (e : Fin 1024) :
    (Host.dotGeneral dot_S256x1024_S1024x1024_S256x1024_1_0_0_1_n_n none a b : FVec Ideal S256x1024 .f32) (ix2 r e)
      = ∑ k : Fin 1024, a (ix2 r k) * b (ix2 k e) := by
  simp only [Host.dotGeneral]
  rw [Ideal.dotGeneral_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  congr 1
  · refine congrArg a (funext fun x => Fin.ext ?_)
    match x with
    | ⟨0, _⟩ => rfl
    | ⟨1, _⟩ => exact hk
  · refine congrArg b (funext fun x => Fin.ext ?_)
    match x with
    | ⟨0, _⟩ => exact hk
    | ⟨1, _⟩ => rfl

theorem rows_bias {c : ℕ} (x : FVec Ideal (⟨2, ![1, c]⟩ : Shape) .f32) (h : (⟨2, ![1, c]⟩ : Shape).BroadcastsInDim ⟨2, ![256, c]⟩ ![0, 1]) (hc : c ≠ 1) (r : Fin 256) (j : Fin c) :
    (broadcastInDim (⟨2, ![256, c]⟩ : Shape) ![0, 1] h x : FVec Ideal (⟨2, ![256, c]⟩ : Shape) .f32) (ix2 r j) = x (ix2 0 j) := by
  rw [broadcastInDim_apply (k := (ix2 0 j : (⟨2, ![1, c]⟩ : Shape).Idx)) _ _ _ _ (by
    intro a; match a with
      | ⟨0, _⟩ => rfl
      | ⟨1, _⟩ => show j.val = if c = 1 then 0 else j.val; rw [if_neg hc])]

theorem half0 (x : FVec Ideal S256x2048 .f32) (r : Fin 256) (k : Fin 1024) :
    (extractStridedSlice S256x1024 ![0, 0] x slices_S256x2048_S256x1024_0_0 : FVec Ideal S256x1024 .f32) (ix2 r k) = x (ix2 r ⟨k.val, by omega⟩) :=
  extractStridedSlice_apply _ _ _ _ _ (by intro a; match a with | ⟨0, _⟩ => exact (Nat.zero_add _).symm | ⟨1, _⟩ => exact (Nat.zero_add _).symm)
theorem half1 (x : FVec Ideal S256x2048 .f32) (r : Fin 256) (k : Fin 1024) :
    (extractStridedSlice S256x1024 ![0, 1024] x slices_S256x2048_S256x1024_0_1024 : FVec Ideal S256x1024 .f32) (ix2 r k) = x (ix2 r ⟨1024 + k.val, by omega⟩) :=
  extractStridedSlice_apply _ _ _ _ _ (by intro a; match a with | ⟨0, _⟩ => exact (Nat.zero_add _).symm | ⟨1, _⟩ => rfl)

/-! ## A trip's values at an index -/

abbrev X0 (V0 : Valuation τ sig (Elt Ideal)) : FVec Ideal S544x256x1024 .f32 := V0 (Proc.devRef .tc main_v2_0)
abbrev E0 (V0 : Valuation τ sig (Elt Ideal)) : IVec S544 32 := V0 (Proc.devRef .tc main_v2_1)
abbrev W0 (V0 : Valuation τ sig (Elt Ideal)) : FVec Ideal S32x1024x2048 .f32 := V0 (Proc.devRef .tc main_v2_2)
abbrev B0 (V0 : Valuation τ sig (Elt Ideal)) : FVec Ideal S32x1x2048 .f32 := V0 (Proc.devRef .tc main_v2_3)
abbrev D0 (V0 : Valuation τ sig (Elt Ideal)) : FVec Ideal S32x1024x1024 .f32 := V0 (Proc.devRef .tc main_v2_4)
abbrev C0 (V0 : Valuation τ sig (Elt Ideal)) : FVec Ideal S32x1x1024 .f32 := V0 (Proc.devRef .tc main_v2_5)
abbrev O0 (V0 : Valuation τ sig (Elt Ideal)) : FVec Ideal S544x256x1024 .f32 := V0 (Proc.devRef .tc main_v2_7)

/-- The loop's counter holds `k`. -/
def AtK (V0 : Valuation τ sig (Elt Ideal)) (k : ℕ) : Prop := V0 (Proc.devRef .tc main_v2_6) = fun _ => BitVec.ofNat 32 k

/-- The expert of the trip. -/
theorem expert_word {V0 : Valuation τ sig (Elt Ideal)} {k : Fin 544} (hk : AtK V0 k.val) :
    (res_main_while0b_v5 V0 : IVec S_ 32) (Shape.Idx.first h_S_) = E0 V0 (ix1 k) := by
  unfold res_main_while0b_v5
  refine (congrFun (congrArg (fun z : IVec S1 32 => (shapeCast S_ z shapeCasts_S1_S_ : IVec S_ 32))
    (WordCmp.dynamicSlice_eq_extract _ _ _ sliceFits_S544_S1 ![k.val] (fitsEntry k) (fun a => ?_))) (Shape.Idx.first h_S_)).trans ?_
  · match a with
    | ⟨0, _⟩ =>
      show (V0 (Proc.devRef .tc main_v2_6) (Shape.Idx.first h_S_) : BitVec 32).toInt = (k.val : Int)
      rw [hk]; exact nat_toInt _ (by omega)
  · refine (shapeCast_apply (k := (ix1 0 : S1.Idx)) _ _ _ (by rfl)).trans ?_
    exact extractStridedSlice_apply (k := (ix1 k : S544.Idx)) _ _ _ _ (by intro a; match a with | ⟨0, _⟩ => rfl)

variable {V0 : Valuation τ sig (Elt Ideal)} {k : Fin 544} {n : Fin 32}

theorem expert_word' (hk : AtK V0 k.val) (hn : (E0 V0 (ix1 k)).toNat = n.val) :
    (res_main_while0b_v5 V0 : IVec S_ 32) (Shape.Idx.first h_S_) = BitVec.ofNat 32 n.val := by
  rw [expert_word hk, ← hn, BitVec.ofNat_toNat, BitVec.setWidth_eq]

/-- The columns of the first linear map. -/
theorem columns_apply (hk : AtK V0 k.val) (hn : (E0 V0 (ix1 k)).toNat = n.val) (r : Fin 256) (j : Fin 2048) :
    (res_main_while0b_v30 V0 : FVec Ideal S256x2048 .f32) (ix2 r j)
      = columns (fun d => X0 V0 (ix3 k r d)) (fun d j => W0 V0 (ix3 n d j)) (fun j => B0 V0 (ix3 n 0 j)) j := by
  have hw := expert_word' hk hn
  have hn' : n.val < 1024 := by omega
  unfold res_main_while0b_v30 columns
  rw [addf_apply, dot_up]
  refine congrArg₂ (· + ·) (Finset.sum_congr rfl fun d _ => congrArg₂ (· * ·) ?_ ?_) ?_
  · exact slice_layer _ _ _ _ k (starts3 (by omega) (congrFun hk _) rfl rfl) r d
  · exact slice_layer _ _ _ _ n (starts3 hn' (wrap_nonneg hn' hw _) (wrap_zero _) (wrap_zero _)) d j
  · exact (rows_bias _ _ (by decide) r j).trans (slice_layer _ _ _ _ n (starts3 hn' (wrap_nonneg hn' hw _) (wrap_zero _) (wrap_zero _)) 0 j)

/-- The gated unit from the columns, as the reference writes it. -/
abbrev gat (h : FVec Ideal S256x2048 .f32) : FVec Ideal S256x1024 .f32 :=
  mulf (F := Ideal)
    (mulf (F := Ideal) (minimumf (F := Ideal) (extractStridedSlice S256x1024 ![0, 0] h slices_S256x2048_S256x1024_0_0) (broadcastInDim S256x1024 ![] bcast_S_S256x1024 (constant (F := Ideal) S_ .f32 0x40E00000#32)))
      (Host.divf (F := Ideal) (broadcastInDim S256x1024 ![] bcast_S_S256x1024 (constant (F := Ideal) S_ .f32 0x3F800000#32))
        (addf (F := Ideal) (broadcastInDim S256x1024 ![] bcast_S_S256x1024 (constant (F := Ideal) S_ .f32 0x3F800000#32))
          (Host.exp (F := Ideal) (Host.negf (F := Ideal) (mulf (F := Ideal) (broadcastInDim S256x1024 ![] bcast_S_S256x1024 (constant (F := Ideal) S_ .f32 0x3FD9DB23#32))
            (minimumf (F := Ideal) (extractStridedSlice S256x1024 ![0, 0] h slices_S256x2048_S256x1024_0_0) (broadcastInDim S256x1024 ![] bcast_S_S256x1024 (constant (F := Ideal) S_ .f32 0x40E00000#32)))))))))
    (addf (F := Ideal) (minimumf (F := Ideal) (broadcastInDim S256x1024 ![] bcast_S_S256x1024 (id (constant (F := Ideal) S_ .f32 0x40E00000#32)))
        (maximumf (F := Ideal) (broadcastInDim S256x1024 ![] bcast_S_S256x1024 (id (constant (F := Ideal) S_ .f32 0xC0E00000#32))) (extractStridedSlice S256x1024 ![0, 1024] h slices_S256x2048_S256x1024_0_1024)))
      (broadcastInDim S256x1024 ![] bcast_S_S256x1024 (constant (F := Ideal) S_ .f32 0x3F800000#32)))

theorem gat_apply (h : FVec Ideal S256x2048 .f32) (r : Fin 256) (d : Fin 1024) : gat h (ix2 r d) = unit (fun j => h (ix2 r j)) d := by
  unfold unit Ideal.logistic
  refine Eq.trans ?_ (congrArg₂ (fun a b : EReal => (min a (Ideal.ofBits .f32 0x40E00000#32)
      * Ideal.div 1 (1 + Ideal.exp (-(Ideal.ofBits .f32 0x3FD9DB23#32 * min a (Ideal.ofBits .f32 0x40E00000#32)))))
    * (min (Ideal.ofBits .f32 0x40E00000#32) (max (Ideal.ofBits .f32 0xC0E00000#32) b) + Ideal.ofBits .f32 0x3F800000#32)) (half0 h r d) (half1 h r d))
  have h1 : Ideal.ofBits .f32 0x3F800000#32 = 1 := by rw [Cert.Retention.bits_1, EReal.coe_one]
  have e : ∀ (u : EReal), u = 1 → ∀ a b : EReal, (min a (Ideal.ofBits .f32 0x40E00000#32)
      * Ideal.div u (u + Ideal.exp (-(Ideal.ofBits .f32 0x3FD9DB23#32 * min a (Ideal.ofBits .f32 0x40E00000#32)))))
    * (min (Ideal.ofBits .f32 0x40E00000#32) (max (Ideal.ofBits .f32 0xC0E00000#32) b) + Ideal.ofBits .f32 0x3F800000#32)
    = (min a (Ideal.ofBits .f32 0x40E00000#32)
      * Ideal.div 1 (1 + Ideal.exp (-(Ideal.ofBits .f32 0x3FD9DB23#32 * min a (Ideal.ofBits .f32 0x40E00000#32)))))
    * (min (Ideal.ofBits .f32 0x40E00000#32) (max (Ideal.ofBits .f32 0xC0E00000#32) b) + Ideal.ofBits .f32 0x3F800000#32) := by
    intro u hu a b; rw [hu]
  refine Eq.trans ?_ (e _ h1 _ _)
  rfl

/-- The rows after a trip. -/
theorem step_rows_apply (hk : AtK V0 k.val) (hn : (E0 V0 (ix1 k)).toNat = n.val) (j : Fin 544) (r : Fin 256) (e : Fin 1024) :
    (step_main_v2_7 V0 : FVec Ideal S544x256x1024 .f32) (ix3 j r e) = if j = k then
        expertRow (fun d => X0 V0 (ix3 k r d)) (fun d j => W0 V0 (ix3 n d j)) (fun j => B0 V0 (ix3 n 0 j)) (fun d e => D0 V0 (ix3 n d e)) (fun e => C0 V0 (ix3 n 0 e)) e
      else O0 V0 (ix3 j r e) := by
  have hw := expert_word' hk hn
  have hn' : n.val < 1024 := by omega
  unfold step_main_v2_7
  rw [id_eq]
  refine (congrFun (WordCmp.dynamicUpdateSlice_eq_update _ _ _ updateFits_S544x256x1024_S1x256x1024 _ (fitsLayer k) (starts3 (by omega) (congrFun hk _) rfl rfl)) (ix3 j r e)).trans ?_
  refine (upd_apply _ _ k j r e).trans ?_
  by_cases hj : j = k
  · rw [if_pos hj, if_pos hj, broadcastInDim_apply (k := (ix2 r e : S256x1024.Idx)) _ _ _ _ (by intro a; match a with | ⟨0, _⟩ => rfl | ⟨1, _⟩ => rfl),
      addf_apply, dot_down]
    unfold expertRow
    refine congrArg₂ (· + ·) (Finset.sum_congr rfl fun d _ => congrArg₂ (· * ·) ?_ ?_) ?_
    · refine Eq.trans (b := gat (res_main_while0b_v30 V0) (ix2 r d)) rfl ((gat_apply _ r d).trans ?_)
      exact congrArg (fun h => unit h d) (funext fun j => columns_apply hk hn r j)
    · exact slice_layer _ _ _ _ n (starts3 hn' (wrap_nonneg hn' hw _) (wrap_zero _) (wrap_zero _)) d e
    · exact (rows_bias _ _ (by decide) r e).trans (slice_layer _ _ _ _ n (starts3 hn' (wrap_nonneg hn' hw _) (wrap_zero _) (wrap_zero _)) 0 e)
  · rw [if_neg hj, if_neg hj]

/-! ## The loop -/

variable (m : (ℓ : Loc nD τ sig) → Buf (Elt Ideal) ℓ)

/-- What the buffers hold where the loop begins. -/
abbrev entry (c : Dev nD) : Valuation τ sig (Elt Ideal) := entryContents preI m c

abbrev argX (c : Dev nD) : FVec Ideal S139264x1024 .f32 := m ((c.tc : Thread nD τ).loc main_arg0)
abbrev argE (c : Dev nD) : IVec S544 32 := m ((c.tc : Thread nD τ).loc main_arg1)
abbrev argW (c : Dev nD) : FVec Ideal S32x1024x2048 .f32 := m ((c.tc : Thread nD τ).loc main_arg3)
abbrev argB (c : Dev nD) : FVec Ideal S32x1x2048 .f32 := m ((c.tc : Thread nD τ).loc main_arg4)
abbrev argD (c : Dev nD) : FVec Ideal S32x1024x1024 .f32 := m ((c.tc : Thread nD τ).loc main_arg5)
abbrev argC (c : Dev nD) : FVec Ideal S32x1x1024 .f32 := m ((c.tc : Thread nD τ).loc main_arg6)

/-- Row `r` of block `j`, with the matrices of expert `n`. -/
def rowOf (c : Dev nD) (n : Fin 32) (j : Fin 544) (r : Fin 256) (e : Fin 1024) : EReal :=
  expertRow (fun d => argX m c (ix2 ⟨j.val * 256 + r.val, by omega⟩ d)) (fun d j => argW m c (ix3 n d j)) (fun j => argB m c (ix3 n 0 j))
    (fun d e => argD m c (ix3 n d e)) (fun e => argC m c (ix3 n 0 e)) e

theorem entry_x (c : Dev nD) : X0 (entry m c) = shapeCast S544x256x1024 (argX m c) shapeCasts_S139264x1024_S544x256x1024 := by
  simp only [X0, entry, entryContents, afterL_cons, afterL_nil]
  after_results <;> rfl
theorem entry_e (c : Dev nD) : E0 (entry m c) = argE m c := by
  simp only [E0, entry, entryContents, afterL_cons, afterL_nil]
  after_results <;> rfl
theorem entry_w (c : Dev nD) : W0 (entry m c) = argW m c := by
  simp only [W0, entry, entryContents, afterL_cons, afterL_nil]
  after_results <;> rfl
theorem entry_b (c : Dev nD) : B0 (entry m c) = argB m c := by
  simp only [B0, entry, entryContents, afterL_cons, afterL_nil]
  after_results <;> rfl
theorem entry_d (c : Dev nD) : D0 (entry m c) = argD m c := by
  simp only [D0, entry, entryContents, afterL_cons, afterL_nil]
  after_results <;> rfl
theorem entry_c (c : Dev nD) : C0 (entry m c) = argC m c := by
  simp only [C0, entry, entryContents, afterL_cons, afterL_nil]
  after_results <;> rfl

theorem x_apply (c : Dev nD) (j : Fin 544) (r : Fin 256) (d : Fin 1024) : X0 (entry m c) (ix3 j r d) = argX m c (ix2 ⟨j.val * 256 + r.val, by omega⟩ d) := by
  rw [entry_x, shapeCast_apply (k := (ix2 ⟨j.val * 256 + r.val, by omega⟩ d : S139264x1024.Idx)) _ _ _ (by
    rewrite [Shape.rowMajor_val_three, Shape.rowMajor_val_two]; rfl)]

/-- After `k` trips: the operands as they were, the counter at `k`, the first `k` blocks. -/
structure Inv (c : Dev nD) (ex : Fin 544 → Fin 32) (k : ℕ) (V0 : Valuation τ sig (Elt Ideal)) : Prop where
  hx : X0 V0 = X0 (entry m c)
  he : E0 V0 = E0 (entry m c)
  hw : W0 V0 = W0 (entry m c)
  hb : B0 V0 = B0 (entry m c)
  hd : D0 V0 = D0 (entry m c)
  hc : C0 V0 = C0 (entry m c)
  ctr : AtK V0 k
  rows : ∀ (j : Fin 544), j.val < k → ∀ (r : Fin 256) (e : Fin 1024), O0 V0 (ix3 j r e) = rowOf m c (ex j) j r e

variable (ex : Fin 544 → Fin 32)

theorem inv_zero (c : Dev nD) : Inv m c ex 0 (entry m c) where
  hx := rfl
  he := rfl
  hw := rfl
  hb := rfl
  hd := rfl
  hc := rfl
  ctr := ctr_entry m c
  rows := fun j hj => absurd hj (Nat.not_lt_zero _)

theorem inv_step {c : Dev nD} (hex : ∀ j, (argE m c (ix1 j)).toNat = (ex j).val) {V0 : Valuation τ sig (Elt Ideal)} (k : Fin 544) (I : Inv m c ex k.val V0) :
    Inv m c ex (k.val + 1) (STEP V0) where
  hx := (STEP_main_v2_0 V0).trans I.hx
  he := (STEP_main_v2_1 V0).trans I.he
  hw := (STEP_main_v2_2 V0).trans I.hw
  hb := (STEP_main_v2_3 V0).trans I.hb
  hd := (STEP_main_v2_4 V0).trans I.hd
  hc := (STEP_main_v2_5 V0).trans I.hc
  ctr := by
    refine (STEP_main_v2_6 V0).trans ?_
    unfold step_main_v2_6
    rw [id_eq, I.ctr]
    refine funext fun _ => ?_
    show BitVec.ofNat 32 k.val + 1#32 = _
    exact BitVec.ofNat_add_ofNat _ _
  rows := fun j hj r e => by
    have hn : (E0 V0 (ix1 k)).toNat = (ex k).val := by rw [I.he, entry_e]; exact hex k
    refine (congrFun (STEP_main_v2_7 V0) (ix3 j r e)).trans ((step_rows_apply I.ctr hn j r e).trans ?_)
    by_cases hjk : j = k
    · rw [if_pos hjk, hjk, I.hx, I.hw, I.hb, I.hd, I.hc, entry_w, entry_b, entry_d, entry_c]
      exact congrArg (fun x : Fin 1024 → EReal => expertRow x _ _ _ _ e) (funext fun d => x_apply m c k r d)
    · rw [if_neg hjk]
      exact I.rows j (by have : j.val ≠ k.val := fun h => hjk (Fin.ext h); omega) r e

theorem inv_iter {c : Dev nD} (hex : ∀ j, (argE m c (ix1 j)).toNat = (ex j).val) : ∀ (k : ℕ), k ≤ 544 → Inv m c ex k (STEP^[k] (entry m c))
  | 0, _ => inv_zero m ex c
  | k + 1, h => by
    rw [Function.iterate_succ_apply']
    exact inv_step m ex hex ⟨k, by omega⟩ (inv_iter hex k (by omega))

/-- The blocks one after the other. -/
theorem flat_apply (x : FVec Ideal S544x256x1024 .f32) (i : S139264x1024.Idx) (n : Fin 544) (hn : n.val = (i 0).val / 256) :
    (shapeCast S139264x1024 x shapeCasts_S544x256x1024_S139264x1024 : FVec Ideal S139264x1024 .f32) i = x (ix3 n (⟨(i 0).val % 256, Nat.mod_lt _ (by decide)⟩ : Fin 256) (i 1 : Fin 1024)) := by
  have hi : (i 0).val < 139264 := (i 0).isLt
  exact shapeCast_apply (k := ix3 n (⟨(i 0).val % 256, Nat.mod_lt _ (by decide)⟩ : Fin 256) (i 1 : Fin 1024)) _ _ _ (by
    refine (Shape.rowMajor_val_three _).trans (Eq.trans ?_ (Shape.rowMajor_val_two _).symm)
    show (n.val * 256 + (i 0).val % 256) * 1024 + (i 1).val = (i 0).val * 1024 + (i 1).val
    omega)

/-- The reference's result at an index. -/
theorem ref_result {c : Dev nD} (hex : ∀ j, (argE m c (ix1 j)).toNat = (ex j).val) (i : S139264x1024.Idx) (n : Fin 544) (hn : n.val = (i 0).val / 256) :
    (out_main_v3 (STEP^[544] (entry m c)) : FVec Ideal S139264x1024 .f32) i
      = expertRow (fun d => argX m c (ix2 (i 0) d)) (fun d j => argW m c (ix3 (ex n) d j)) (fun j => argB m c (ix3 (ex n) 0 j))
          (fun d e => argD m c (ix3 (ex n) d e)) (fun e => argC m c (ix3 (ex n) 0 e)) (i 1) := by
  have I := inv_iter m ex hex 544 (Nat.le_refl _)
  have hi : (i 0).val < 139264 := (i 0).isLt
  unfold out_main_v3
  refine (flat_apply _ i n hn).trans ?_
  refine (I.rows n n.isLt _ _).trans ?_
  unfold rowOf
  refine congrArg (fun x : Fin 1024 → EReal => expertRow x _ _ _ _ (i 1)) (funext fun d => congrArg (argX m c) (funext fun a => Fin.ext ?_))
  match a with
  | ⟨0, _⟩ => show n.val * 256 + (i 0).val % 256 = (i 0).val; omega
  | ⟨1, _⟩ => rfl

end Cert.ExpertsRefIdeal.Value

end
-- ==== Proof.ExpertsAlgebraic.lean ====
/-
  The experts' claims: at tables in range the kernel runs to its end with its arguments unchanged and the counters at zero,
  its idealization likewise, and on the used rows the idealization's result is the reference's.
-/
module

public import proofs.«01_k».proof.Defs
public import proofs.«01_k».proof.Proof.ExpertsTables
public import proofs.«01_k».proof.Proof.ExpertsValue
public import proofs.«01_k».proof.Proof.ExpertsBitsLaunch
public import proofs.«01_k».proof.Proof.ExpertsRef

@[expose] public section

set_option maxRecDepth 16384

noncomputable section

namespace Cert.Proof

open Idealize.ShloMosaic Idealize.ShloMosaic.TcCoe Idealize.SL.Sem Idealize.ShloMosaic.ValueIdx
open Cert.ExpertsTables

/-- The tables of a memory of the kernel that satisfies the precondition. -/
def expertsTabs {m : (ℓ : Loc Cert.Experts.nD Cert.Experts.τ Cert.Experts.sig) → Buf (Elt Bits) ℓ} (h : Cert.Pre_Experts m) : Cert.Experts.Tab.Tabs where
  be := m (((0 : Dev Cert.Experts.nD).tc : Thread Cert.Experts.nD Cert.Experts.τ).loc Cert.Experts.main_arg1)
  cnt := m (((0 : Dev Cert.Experts.nD).tc : Thread Cert.Experts.nD Cert.Experts.τ).loc Cert.Experts.main_arg2)
  be_lt := fun x => by
    rw [show x = ix1 (x 0) from funext fun a => by match a with | ⟨0, _⟩ => rfl]
    exact (at_entry _ _ _ _ _ _ _ (h 0) (x 0)).1
  cnt_pos := (at_entry _ _ _ _ _ _ _ (h 0) 0).2.1
  cnt_le := (at_entry _ _ _ _ _ _ _ (h 0) 0).2.2

theorem experts_pinned {m : (ℓ : Loc Cert.Experts.nD Cert.Experts.τ Cert.Experts.sig) → Buf (Elt Bits) ℓ} (h : Cert.Pre_Experts m) :
    Cert.Experts.Tab.Pinned (expertsTabs h) m :=
  ⟨fun c => by rw [Subsingleton.elim c 0]; rfl, fun c => by rw [Subsingleton.elim c 0]; rfl⟩

/-- The kernel's frame. -/
theorem experts_frame : Cert.quiescent_Experts := fun m g h => Cert.Experts.Tab.frame (expertsTabs h) m g (experts_pinned h)

/-- The tables of a memory of the idealization that satisfies the precondition. -/
def expertsIdealTabs {m : (ℓ : Loc Cert.ExpertsIdeal.nD Cert.ExpertsIdeal.τ Cert.ExpertsIdeal.sig) → Buf (Elt Ideal) ℓ} (h : Cert.Pre_ExpertsIdeal m) :
    Cert.ExpertsIdeal.Tab.Tabs where
  be := m (((0 : Dev Cert.ExpertsIdeal.nD).tc : Thread Cert.ExpertsIdeal.nD Cert.ExpertsIdeal.τ).loc Cert.ExpertsIdeal.main_arg1)
  cnt := m (((0 : Dev Cert.ExpertsIdeal.nD).tc : Thread Cert.ExpertsIdeal.nD Cert.ExpertsIdeal.τ).loc Cert.ExpertsIdeal.main_arg2)
  be_lt := fun x => by
    rw [show x = ix1 (x 0) from funext fun a => by match a with | ⟨0, _⟩ => rfl]
    exact (at_entry _ _ _ _ _ _ _ (h 0) (x 0)).1
  cnt_pos := (at_entry _ _ _ _ _ _ _ (h 0) 0).2.1
  cnt_le := (at_entry _ _ _ _ _ _ _ (h 0) 0).2.2

theorem expertsIdeal_pinned {m : (ℓ : Loc Cert.ExpertsIdeal.nD Cert.ExpertsIdeal.τ Cert.ExpertsIdeal.sig) → Buf (Elt Ideal) ℓ} (h : Cert.Pre_ExpertsIdeal m) :
    Cert.ExpertsIdeal.Tab.Pinned (expertsIdealTabs h) m :=
  ⟨fun c => by rw [Subsingleton.elim c 0]; rfl, fun c => by rw [Subsingleton.elim c 0]; rfl⟩

/-- The idealization's frame. -/
theorem expertsIdeal_frame : Cert.quiescent_ExpertsIdeal := fun m g h => Cert.ExpertsIdeal.Tab.frame (expertsIdealTabs h) m g (expertsIdeal_pinned h)

/-- The reference's frame. -/
theorem expertsRef_frame : Cert.quiescent_ExpertsRefIdeal := fun m g _ =>
  (θ_run Cert.ExpertsRefIdeal.defs _ _).mono (fun r h => ⟨fun c => (h c).2, sem_eq_zero_of_no_sems (by decide) r.2⟩)
    (Cert.ExpertsRefIdeal.Value.run (F := Ideal) m g)

/-- On the rows of the used blocks the idealized kernel's result is the reference's. -/
theorem experts_algebraic : Cert.algebraic_ExpertsIdeal_ExpertsRefIdeal_on_used_rows := by
  intro m g m' g' hpre hargs
  have hp := expertsIdeal_pinned hpre
  have lim : ∀ (c : Dev Cert.ExpertsIdeal.nD) (i : (⟨2, ![139264, 1024]⟩ : Shape).Idx),
      Cert.On_used_rows.fn (F := Ideal) (m ((c.tc : Thread Cert.ExpertsIdeal.nD Cert.ExpertsIdeal.τ).loc Cert.ExpertsIdeal.main_arg0))
        (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2))
        (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))
        (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) i = 1#1 →
      (i 0).val < (expertsIdealTabs hpre).nu * 256 := by
    intro c i h
    have h2 := (at_entry _ _ _ _ _ _ _ (hpre c) 0).2.2
    have := used _ _ _ _ _ _ _ i h2 h
    rwa [hp.2 c] at this
  refine ⟨fun c i => Cert.ExpertsIdeal.Tab.resultAt (expertsIdealTabs hpre) m c i, ?_, ?_⟩
  · refine (θ_run Cert.ExpertsIdeal.defs _ _).mono (fun r h c => ⟨fun i hi => (h c).1 i (lim c i hi), (h c).2⟩) (Cert.ExpertsIdeal.Tab.final (expertsIdealTabs hpre) m g hp)
  · refine (θ_run Cert.ExpertsRefIdeal.defs _ _).mono (fun r h c => ⟨fun i hi => ?_, (h c).2⟩) (Cert.ExpertsRefIdeal.Value.run (F := Ideal) m' g')
    obtain ⟨a0, a1, a2, a3, a4, a5, a6⟩ := hargs c
    have hi0 : (i 0).val < 139264 := (i 0).isLt
    have hex : ∀ j, (Cert.ExpertsRefIdeal.Value.argE m' c (ix1 j)).toNat = (⟨(expertsIdealTabs hpre).ex j, (expertsIdealTabs hpre).ex_lt j⟩ : Fin 32).val := by
      intro j
      rw [show Cert.ExpertsRefIdeal.Value.argE m' c = (expertsIdealTabs hpre).be from a1.trans (hp.1 c)]
      rfl
    refine (congrFun (h c).1 i).trans ((Cert.ExpertsRefIdeal.Value.ref_result m' _ hex i ⟨(i 0).val / 256, by omega⟩ rfl).trans ?_)
    rw [show Cert.ExpertsRefIdeal.Value.argX m' c = _ from a0, show Cert.ExpertsRefIdeal.Value.argW m' c = _ from a3, show Cert.ExpertsRefIdeal.Value.argB m' c = _ from a4,
      show Cert.ExpertsRefIdeal.Value.argD m' c = _ from a5, show Cert.ExpertsRefIdeal.Value.argC m' c = _ from a6]
    exact (Cert.ExpertsIdeal.Tab.resultAt_apply (expertsIdealTabs hpre) m c i ⟨(i 0).val / 256, by omega⟩ rfl).symm

end Cert.Proof

end
-- ==== Proof.MixBody.lean ====
/-
  The mixing kernel's two result blocks at a point, as the composition of its payloads over the blocks the point reads
  (`x1Block`, `h2Block`).
-/
module

public import proofs.«01_k».proof.Proof.Gen.MixIdeal.Value
public import Idealize.ShloMosaic.Lib.Pipeline.Value
public import Idealize.ShloMosaic.Lib.ValueIdx
public import Idealize.ShloMosaic.Lib.Pipeline.ValueKit.Geometry

@[expose] public section

set_option maxRecDepth 16384

noncomputable section

namespace Cert.MixIdeal.Value

open Cert.MixIdeal Cert.MixIdeal.Gen Idealize.ShloMosaic Idealize.ShloMosaic.TcCoe Idealize.SL.Sem
open Idealize.ShloMosaic.ValueIdx
open Idealize.ShloMosaic.Pipeline (Dat)

theorem zero_off : (![0, 0] : Fin 2 → Nat) = fun _ => 0 := funext fun a => by fin_cases a <;> rfl

section Bodies
variable {F : FTy → Type} [FloatOps F]

/-- The four groups' pooled columns through their matrices, the last group's as its window sums. -/
def group0 (i : grid0.Coords) (x0 : Vec F S512x1024 .bf16) (x1 : Vec F S16x1024 .bf16) (x6 : Vec F S4x256x256 .bf16) : FVec F S512x256 .f32 :=
  k0_pay6 i x0 x1 (View.ld x6 (Rect.unit ![0, 0, 0] ![1, 256, 256] inb_S4x256x256_S1x256x256_0_0_0))

def group1 (i : grid0.Coords) (x0 : Vec F S512x1024 .bf16) (x1 : Vec F S16x1024 .bf16) (x6 : Vec F S4x256x256 .bf16) : FVec F S512x256 .f32 :=
  k0_pay8 (k0_pay3 x0) (k0_pay5 i) (k0_pay7 i x0 x1) (View.ld x6 (Rect.unit ![1, 0, 0] ![1, 256, 256] inb_S4x256x256_S1x256x256_1_0_0))

def group2 (i : grid0.Coords) (x0 : Vec F S512x1024 .bf16) (x1 : Vec F S16x1024 .bf16) (x6 : Vec F S4x256x256 .bf16) : FVec F S512x256 .f32 :=
  k0_pay9 (k0_pay3 x0) (k0_pay4 i x0 x1) (k0_pay5 i) (View.ld x6 (Rect.unit ![2, 0, 0] ![1, 256, 256] inb_S4x256x256_S1x256x256_2_0_0))

/-- The residual rows a point makes. -/
def x1Block (i : grid0.Coords) (x0 : Vec F S512x1024 .bf16) (x1 : Vec F S16x1024 .bf16) (x2 : Vec F S512x1024 .bf16) (x3 : Vec F S512x1024 .bf16)
    (x4 : Vec F S512x2048 .bf16) (x5 : Vec F S512x1024 .f32) (x6 : Vec F S4x256x256 .bf16) (x7 : Vec F S1x1024 .f32) (x8 : Vec F S2048x1024 .bf16)
    (x9 : Vec F S1024x1024 .bf16) : FVec F S512x1024 .f32 :=
  k0_pay11 (k0_pay3 x0) (k0_pay5 i) (group0 i x0 x1 x6) (group1 i x0 x1 x6) (group2 i x0 x1 x6) (k0_pay10 (k0_pay4 i x0 x1))
    (View.ld x6 (Rect.unit ![3, 0, 0] ![1, 256, 256] inb_S4x256x256_S1x256x256_3_0_0)) x7 x4 x8 x2 x3 x5 x9

/-- The residual rows at the first point. -/
theorem x1_A (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S2048x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x32 .bf16) (harg12 : arg12.IsWhole) (arg13 : Memref sig .tc .vmem S1024x32 .bf16) (harg13 : arg13.IsWhole) (arg14 : Memref sig .tc .vmem S1x32 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S512x128 .f32) (harg17 : arg17.IsWhole) (arg18 : Memref sig .tc .vmem S1x32 .f32) (harg18 : arg18.IsWhole) (hc0 : cond0_0 i)
    (x0 : Vec F S512x1024 .bf16) (x1 : Vec F S16x1024 .bf16) (x2 : Vec F S512x1024 .bf16) (x3 : Vec F S512x1024 .bf16) (x4 : Vec F S512x2048 .bf16) (x5 : Vec F S512x1024 .f32) (x6 : Vec F S4x256x256 .bf16) (x7 : Vec F S1x1024 .f32) (x8 : Vec F S2048x1024 .bf16) (x9 : Vec F S1024x1024 .bf16) (x10 : Vec F S1x1024 .f32) (x11 : Vec F S1024x32 .bf16) (x12 : Vec F S1024x32 .bf16) (x13 : Vec F S1x32 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13
      = x1Block i x0 x1 x2 x3 x4 x5 x6 x7 x8 x9 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13)]
  unfold kernelRun0_A
  dsimp only
  sl_unfold_words
  rw [View.canon_unit_zero zero_off]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S512x1024) zero_off, View.ld_unit_zero (S := S16x1024) zero_off, View.ld_unit_zero (S := S512x2048) zero_off,
    View.ld_unit_zero (S := S1x1024) zero_off, View.ld_unit_zero (S := S2048x1024) zero_off, View.ld_unit_zero (S := S1024x1024) zero_off]
  rfl

/-- The residual rows at a later point. -/
theorem x1_B (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S2048x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x32 .bf16) (harg12 : arg12.IsWhole) (arg13 : Memref sig .tc .vmem S1024x32 .bf16) (harg13 : arg13.IsWhole) (arg14 : Memref sig .tc .vmem S1x32 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S512x128 .f32) (harg17 : arg17.IsWhole) (arg18 : Memref sig .tc .vmem S1x32 .f32) (harg18 : arg18.IsWhole) (hc0 : ¬cond0_0 i)
    (x0 : Vec F S512x1024 .bf16) (x1 : Vec F S16x1024 .bf16) (x2 : Vec F S512x1024 .bf16) (x3 : Vec F S512x1024 .bf16) (x4 : Vec F S512x2048 .bf16) (x5 : Vec F S512x1024 .f32) (x6 : Vec F S4x256x256 .bf16) (x7 : Vec F S1x1024 .f32) (x8 : Vec F S2048x1024 .bf16) (x9 : Vec F S1024x1024 .bf16) (x10 : Vec F S1x1024 .f32) (x11 : Vec F S1024x32 .bf16) (x12 : Vec F S1024x32 .bf16) (x13 : Vec F S1x32 .f32) (xo17 : Vec F S1x32 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xo17
      = x1Block i x0 x1 x2 x3 x4 x5 x6 x7 x8 x9 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xo17)]
  unfold kernelRun0_B
  dsimp only
  sl_unfold_words
  rw [View.canon_unit_zero zero_off]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S512x1024) zero_off, View.ld_unit_zero (S := S16x1024) zero_off, View.ld_unit_zero (S := S512x2048) zero_off,
    View.ld_unit_zero (S := S1x1024) zero_off, View.ld_unit_zero (S := S2048x1024) zero_off, View.ld_unit_zero (S := S1024x1024) zero_off]
  rfl

/-- The normed rows at the first point. -/
theorem h2_A (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S2048x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x32 .bf16) (harg12 : arg12.IsWhole) (arg13 : Memref sig .tc .vmem S1024x32 .bf16) (harg13 : arg13.IsWhole) (arg14 : Memref sig .tc .vmem S1x32 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S512x128 .f32) (harg17 : arg17.IsWhole) (arg18 : Memref sig .tc .vmem S1x32 .f32) (harg18 : arg18.IsWhole) (hc0 : cond0_0 i)
    (x0 : Vec F S512x1024 .bf16) (x1 : Vec F S16x1024 .bf16) (x2 : Vec F S512x1024 .bf16) (x3 : Vec F S512x1024 .bf16) (x4 : Vec F S512x2048 .bf16) (x5 : Vec F S512x1024 .f32) (x6 : Vec F S4x256x256 .bf16) (x7 : Vec F S1x1024 .f32) (x8 : Vec F S2048x1024 .bf16) (x9 : Vec F S1024x1024 .bf16) (x10 : Vec F S1x1024 .f32) (x11 : Vec F S1024x32 .bf16) (x12 : Vec F S1024x32 .bf16) (x13 : Vec F S1x32 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13
      = k0_pay12 (x1Block i x0 x1 x2 x3 x4 x5 x6 x7 x8 x9) x10 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13)]
  unfold kernelRun0_A
  dsimp only
  sl_unfold_words
  rw [View.canon_unit_zero zero_off]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S512x1024) zero_off, View.ld_unit_zero (S := S16x1024) zero_off, View.ld_unit_zero (S := S512x2048) zero_off,
    View.ld_unit_zero (S := S1x1024) zero_off, View.ld_unit_zero (S := S2048x1024) zero_off, View.ld_unit_zero (S := S1024x1024) zero_off]
  rfl

/-- The normed rows at a later point. -/
theorem h2_B (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S2048x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x32 .bf16) (harg12 : arg12.IsWhole) (arg13 : Memref sig .tc .vmem S1024x32 .bf16) (harg13 : arg13.IsWhole) (arg14 : Memref sig .tc .vmem S1x32 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S512x128 .f32) (harg17 : arg17.IsWhole) (arg18 : Memref sig .tc .vmem S1x32 .f32) (harg18 : arg18.IsWhole) (hc0 : ¬cond0_0 i)
    (x0 : Vec F S512x1024 .bf16) (x1 : Vec F S16x1024 .bf16) (x2 : Vec F S512x1024 .bf16) (x3 : Vec F S512x1024 .bf16) (x4 : Vec F S512x2048 .bf16) (x5 : Vec F S512x1024 .f32) (x6 : Vec F S4x256x256 .bf16) (x7 : Vec F S1x1024 .f32) (x8 : Vec F S2048x1024 .bf16) (x9 : Vec F S1024x1024 .bf16) (x10 : Vec F S1x1024 .f32) (x11 : Vec F S1024x32 .bf16) (x12 : Vec F S1024x32 .bf16) (x13 : Vec F S1x32 .f32) (xo17 : Vec F S1x32 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xo17
      = k0_pay12 (x1Block i x0 x1 x2 x3 x4 x5 x6 x7 x8 x9) x10 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xo17)]
  unfold kernelRun0_B
  dsimp only
  sl_unfold_words
  rw [View.canon_unit_zero zero_off]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S512x1024) zero_off, View.ld_unit_zero (S := S16x1024) zero_off, View.ld_unit_zero (S := S512x2048) zero_off,
    View.ld_unit_zero (S := S1x1024) zero_off, View.ld_unit_zero (S := S2048x1024) zero_off, View.ld_unit_zero (S := S1024x1024) zero_off]
  rfl

end Bodies

end Cert.MixIdeal.Value

end
-- ==== Proof.MixSpec.lean ====
/-
  What the mixing call makes of a token's rows, over the extended reals: the pooled columns (a window's mean less the
  column itself), the two gated branches, the residual row `x1E` and its root-mean-square norm `h2E`. And the two ways
  of summing a window that meet in it: by doubling, and as a difference of running sums.
-/
module

public import Idealize.ShloMosaic.Lib.ValueIdx
public import Idealize.ShloMosaic.PureOps.Ideal.Laws

@[expose] public section

noncomputable section

namespace Cert.MixSpec

open Idealize.ShloMosaic Idealize.ShloMosaic.ValueIdx

/-- The sum of the last `w` entries of `U` up to position `p`; there is nothing before position 0. -/
def windowSum (w : ℕ) (U : ℕ → EReal) (p : ℕ) : EReal := ∑ k ∈ Finset.range w, if k ≤ p then U (p - k) else 0

/-- The window sums by doubling: each step adds the sums of two neighbouring windows. -/
def doubled (E : ℕ → EReal) : ℕ → ℕ → EReal
  | 0, j => E j
  | g + 1, j => doubled E g (2 ^ g + j) + doubled E g j

/-- A doubled sum is the sum of the `2 ^ g` entries from its start. -/
theorem doubled_eq (E : ℕ → EReal) (g j : ℕ) : doubled E g j = ∑ k ∈ Finset.range (2 ^ g), E (j + k) := by
  induction g generalizing j with
  | zero => simp [doubled]
  | succ g ih =>
    rw [doubled, ih, ih, pow_succ, mul_two, Finset.sum_range_add, add_comm]
    refine congrArg₂ (· + ·) rfl (Finset.sum_congr rfl fun k _ => congrArg E ?_)
    omega

/-- The doubled sum that ends at row `16 + r` of a tile with its 16 rows before it is the window sum at the row's position,
    where those rows hold the entries before the tile, or zero where the tile begins a sequence. -/
theorem doubled_window (E U : ℕ → EReal) (g r p : ℕ) (hg : 2 ^ g ≤ 16)
    (h : ∀ k < 16, E (16 + r - k) = if k ≤ p then U (p - k) else 0) :
    doubled E g (17 - 2 ^ g + r) = windowSum (2 ^ g) U p := by
  rw [doubled_eq, windowSum, ← Finset.sum_range_reflect]
  refine Finset.sum_congr rfl fun k hk => ?_
  have hk' := Finset.mem_range.mp hk
  rw [← h k (by omega)]
  refine congrArg E ?_
  omega

/-- A finite sum of real entries is real. -/
theorem windowSum_real (w : ℕ) (U : ℕ → EReal) (p : ℕ) (h : ∀ n, ∃ r : ℝ, U n = (r : EReal)) :
    ∃ r : ℝ, windowSum w U p = (r : EReal) := by
  unfold windowSum
  induction w with
  | zero => exact ⟨0, by simp⟩
  | succ w ih =>
    obtain ⟨a, ha⟩ := ih
    rw [Finset.sum_range_succ, ha]
    by_cases hw : w ≤ p
    · obtain ⟨b, hb⟩ := h (p - w)
      exact ⟨a + b, by rw [if_pos hw, hb, EReal.coe_add]⟩
    · exact ⟨a, by rw [if_neg hw, add_zero]⟩

/-- The running sum less the running sum `w` positions earlier is the window's sum, for real entries. -/
theorem running_sub (w : ℕ) (U : ℕ → EReal) (p : ℕ) (hw : w ≤ 4096) (hp : p < 4096)
    (h : ∀ n, ∃ r : ℝ, U n = (r : EReal)) :
    windowSum 4096 U p - (if w ≤ p then windowSum 4096 U (p - w) else 0) = windowSum w U p := by
  have split : windowSum 4096 U p = windowSum w U p + (if w ≤ p then windowSum 4096 U (p - w) else 0) := by
    rw [windowSum, show 4096 = w + (4096 - w) by omega, Finset.sum_range_add]
    refine congrArg₂ (· + ·) rfl ?_
    by_cases hwp : w ≤ p
    · rw [if_pos hwp, windowSum, show w + (4096 - w) = (4096 - w) + w by omega, Finset.sum_range_add]
      rw [Finset.sum_eq_zero (s := Finset.range w), add_zero]
      · refine Finset.sum_congr rfl fun k _ => ?_
        by_cases hk : w + k ≤ p
        · rw [if_pos hk, if_pos (by omega), Nat.sub_sub]
        · rw [if_neg hk, if_neg (by omega)]
      · intro k hk
        rw [if_neg (by omega)]
    · rw [if_neg hwp]
      exact Finset.sum_eq_zero fun k _ => if_neg (by omega)
  have real : ∃ r : ℝ, (if w ≤ p then windowSum 4096 U (p - w) else 0) = (r : EReal) := by
    by_cases hwp : w ≤ p
    · rw [if_pos hwp]; exact windowSum_real 4096 U (p - w) h
    · rw [if_neg hwp]; exact ⟨0, rfl⟩
  obtain ⟨r, hr⟩ := real
  rw [split, hr]
  exact EReal.add_sub_cancel_right

/-! ## The rows -/

section Rows
variable (X : (⟨2, ![32768, 9216]⟩ : Shape).Idx → EReal) (R : (⟨2, ![32768, 2048]⟩ : Shape).Idx → EReal)
  (Y : (⟨2, ![32768, 1024]⟩ : Shape).Idx → EReal) (P : (⟨3, ![4, 256, 256]⟩ : Shape).Idx → EReal)
  (S : (⟨2, ![1, 1024]⟩ : Shape).Idx → EReal) (A : (⟨2, ![2048, 1024]⟩ : Shape).Idx → EReal)
  (B : (⟨2, ![1024, 1024]⟩ : Shape).Idx → EReal) (G : (⟨2, ![1, 1024]⟩ : Shape).Idx → EReal)

/-- Column `d` of the projected rows of sequence `b`, by position. -/
def column (b : ℕ) (d : Fin 1024) (n : ℕ) : EReal :=
  X (ix2 ⟨(b * 4096 + n) % 32768, Nat.mod_lt _ (by decide)⟩ ⟨d.val, by omega⟩)

/-- The windows' lengths as the two programs hold them. -/
def lengthBits : Fin 4 → BitVec 32
  | 0 => 0x40000000#32
  | 1 => 0x40800000#32
  | 2 => 0x41000000#32
  | 3 => 0x41800000#32

/-- How many entries the window of group `g` has at position `p`. -/
def count (g : Fin 4) (p : ℕ) : EReal :=
  min ((((BitVec.ofNat 32 p).toInt : ℝ) : EReal) + Ideal.ofBits .f32 0x3F800000#32) (Ideal.ofBits .f32 (lengthBits g))

/-- A token's pooled column: its window's mean less the column itself. -/
def pooledE (g : Fin 4) (i : Fin 32768) (k : Fin 256) : EReal :=
  Ideal.div (windowSum (2 ^ (g.val + 1)) (column X (i.val / 4096) ⟨256 * g.val + k.val, by omega⟩) (i.val % 4096)) (count g (i.val % 4096))
    - X (ix2 i ⟨256 * g.val + k.val, by omega⟩)

/-- The pooled columns of group `g` through the group's matrix. -/
def groupE (g : Fin 4) (i : Fin 32768) (e : Fin 256) : EReal := ∑ k : Fin 256, pooledE X g i k * P (ix3 g k e)

/-- The retention branch's column. -/
def retE (i : Fin 32768) (d : Fin 1024) : EReal := ∑ k : Fin 2048, R (ix2 i k) * A (ix2 k d)

/-- The two branches, each scaled by the logistic of its gate, added. -/
def mergedE (i : Fin 32768) (d : Fin 1024) : EReal :=
  Ideal.logistic (X (ix2 i ⟨7168 + d.val, by omega⟩))
      * (groupE X P ⟨d.val / 256, by omega⟩ i ⟨d.val % 256, Nat.mod_lt _ (by decide)⟩ * S (ix2 0 d))
    + Ideal.logistic (X (ix2 i ⟨8192 + d.val, by omega⟩)) * retE R A i d

/-- The residual row. -/
def x1E (i : Fin 32768) (d : Fin 1024) : EReal := Y (ix2 i d) + ∑ k : Fin 1024, mergedE X R P S A i k * B (ix2 k d)

/-- The residual row's norm. -/
def h2E (i : Fin 32768) (d : Fin 1024) : EReal :=
  x1E X R Y P S A B i d
    * Ideal.rsqrt (Ideal.div (∑ j : Fin 1024, x1E X R Y P S A B i j * x1E X R Y P S A B i j) (Ideal.ofBits .f32 0x44800000#32)
      + Ideal.ofBits .f32 0x358637BD#32) * G (ix2 0 d)

end Rows

end Cert.MixSpec

end
-- ==== Proof.MixPayload.lean ====
/-
  The mixing kernel's payloads read at an index: the tile with the rows before it, its window sums by doubling, the pooled
  columns through a group's matrix, the gated sum through the output matrix, and the norm.
-/
module

public import proofs.«01_k».proof.Proof.MixBody
public import proofs.«01_k».proof.Proof.MixSpec

@[expose] public section

set_option maxRecDepth 16384

noncomputable section

namespace Cert.MixIdeal.Value

open Cert.MixIdeal Cert.MixIdeal.Gen Cert.MixSpec Idealize.ShloMosaic Idealize.ShloMosaic.TcCoe Idealize.SL.Sem
open Idealize.ShloMosaic.ValueIdx

/-! ## The doublings -/

theorem step1 (f : Fin 256 → ℕ → EReal) (v : FVec Ideal S528x256 .f32) (h : ∀ (j : Fin 528) k, v (ix2 j k) = f k j.val)
    (j : Fin 527) (k : Fin 256) :
    (addf (extractStridedSlice S527x256 ![1, 0] v slices_S528x256_o1_0_S527x256) (extractStridedSlice S527x256 ![0, 0] v slices_S528x256_o0_0_S527x256) : FVec Ideal S527x256 .f32) (ix2 j k)
      = doubled (f k) 1 j.val := by
  rw [addf_apply, extractStridedSlice_apply (k := ix2 ⟨1 + j.val, by omega⟩ k) _ _ _ _ (by intro a; match a with | ⟨0, _⟩ => rfl | ⟨1, _⟩ => exact (Nat.zero_add _).symm),
    extractStridedSlice_apply (k := ix2 ⟨j.val, by omega⟩ k) _ _ _ _ (by intro a; match a with | ⟨0, _⟩ => exact (Nat.zero_add _).symm | ⟨1, _⟩ => exact (Nat.zero_add _).symm), h, h]
  rfl

theorem step2 (f : Fin 256 → ℕ → EReal) (v : FVec Ideal S527x256 .f32) (h : ∀ (j : Fin 527) k, v (ix2 j k) = doubled (f k) 1 j.val)
    (j : Fin 525) (k : Fin 256) :
    (addf (extractStridedSlice S525x256 ![2, 0] v slices_S527x256_o2_0_S525x256) (extractStridedSlice S525x256 ![0, 0] v slices_S527x256_o0_0_S525x256) : FVec Ideal S525x256 .f32) (ix2 j k)
      = doubled (f k) 2 j.val := by
  rw [addf_apply, extractStridedSlice_apply (k := ix2 ⟨2 + j.val, by omega⟩ k) _ _ _ _ (by intro a; match a with | ⟨0, _⟩ => rfl | ⟨1, _⟩ => exact (Nat.zero_add _).symm),
    extractStridedSlice_apply (k := ix2 ⟨j.val, by omega⟩ k) _ _ _ _ (by intro a; match a with | ⟨0, _⟩ => exact (Nat.zero_add _).symm | ⟨1, _⟩ => exact (Nat.zero_add _).symm), h, h]
  rfl

theorem step3 (f : Fin 256 → ℕ → EReal) (v : FVec Ideal S525x256 .f32) (h : ∀ (j : Fin 525) k, v (ix2 j k) = doubled (f k) 2 j.val)
    (j : Fin 521) (k : Fin 256) :
    (addf (extractStridedSlice S521x256 ![4, 0] v slices_S525x256_o4_0_S521x256) (extractStridedSlice S521x256 ![0, 0] v slices_S525x256_o0_0_S521x256) : FVec Ideal S521x256 .f32) (ix2 j k)
      = doubled (f k) 3 j.val := by
  rw [addf_apply, extractStridedSlice_apply (k := ix2 ⟨4 + j.val, by omega⟩ k) _ _ _ _ (by intro a; match a with | ⟨0, _⟩ => rfl | ⟨1, _⟩ => exact (Nat.zero_add _).symm),
    extractStridedSlice_apply (k := ix2 ⟨j.val, by omega⟩ k) _ _ _ _ (by intro a; match a with | ⟨0, _⟩ => exact (Nat.zero_add _).symm | ⟨1, _⟩ => exact (Nat.zero_add _).symm), h, h]
  rfl

theorem step4 (f : Fin 256 → ℕ → EReal) (v : FVec Ideal S521x256 .f32) (h : ∀ (j : Fin 521) k, v (ix2 j k) = doubled (f k) 3 j.val)
    (j : Fin 513) (k : Fin 256) :
    (addf (extractStridedSlice S513x256 ![8, 0] v slices_S521x256_o8_0_S513x256) (extractStridedSlice S513x256 ![0, 0] v slices_S521x256_o0_0_S513x256) : FVec Ideal S513x256 .f32) (ix2 j k)
      = doubled (f k) 4 j.val := by
  rw [addf_apply, extractStridedSlice_apply (k := ix2 ⟨8 + j.val, by omega⟩ k) _ _ _ _ (by intro a; match a with | ⟨0, _⟩ => rfl | ⟨1, _⟩ => exact (Nat.zero_add _).symm),
    extractStridedSlice_apply (k := ix2 ⟨j.val, by omega⟩ k) _ _ _ _ (by intro a; match a with | ⟨0, _⟩ => exact (Nat.zero_add _).symm | ⟨1, _⟩ => exact (Nat.zero_add _).symm), h, h]
  rfl

/-- Columns `o` to `o + 255` of a block. -/
theorem cols {n : ℕ} (o : ℕ) (v : FVec Ideal (⟨2, ![n, 1024]⟩ : Shape) .f32) (h : (⟨2, ![n, 1024]⟩ : Shape).Slices ![0, o] ⟨2, ![n, 256]⟩)
    (ho : o + 256 ≤ 1024) (j : Fin n) (k : Fin 256) :
    (extractStridedSlice ⟨2, ![n, 256]⟩ ![0, o] v h) (ix2 j k) = v (ix2 j ⟨o + k.val, by omega⟩) :=
  extractStridedSlice_apply (k := ix2 j ⟨o + k.val, by omega⟩) _ _ _ _ (by intro a; match a with | ⟨0, _⟩ => exact (Nat.zero_add _).symm | ⟨1, _⟩ => rfl)

/-- Rows `s` to `s + 511` of a block of window sums. -/
theorem rows512 {n : ℕ} (s : ℕ) (v : FVec Ideal (⟨2, ![n, 256]⟩ : Shape) .f32) (h : (⟨2, ![n, 256]⟩ : Shape).Slices ![s, 0] ⟨2, ![512, 256]⟩)
    (hs : s + 512 ≤ n) (r : Fin 512) (k : Fin 256) :
    (extractStridedSlice ⟨2, ![512, 256]⟩ ![s, 0] v h) (ix2 r k) = v (ix2 ⟨s + r.val, by omega⟩ k) :=
  extractStridedSlice_apply (k := ix2 ⟨s + r.val, by omega⟩ k) _ _ _ _ (by intro a; match a with | ⟨0, _⟩ => rfl | ⟨1, _⟩ => exact (Nat.zero_add _).symm)

/-! ## The tile with the rows before it, by column -/

/-- Column `d` of the extended tile. -/
def ext (i : grid0.Coords) (x0 : Vec Ideal S512x1024 .bf16) (x1 : Vec Ideal S16x1024 .bf16) (d : Fin 1024) (j : ℕ) : EReal :=
  if h : j < 528 then k0_pay4 i x0 x1 (ix2 ⟨j, h⟩ d) else 0

theorem ext_cols (i : grid0.Coords) (x0 : Vec Ideal S512x1024 .bf16) (x1 : Vec Ideal S16x1024 .bf16) (o : ℕ)
    (h : S528x1024.Slices ![0, o] S528x256) (ho : o + 256 ≤ 1024) (j : Fin 528) (k : Fin 256) :
    (extractStridedSlice S528x256 ![0, o] (k0_pay4 (F := Ideal) i x0 x1) h) (ix2 j k) = ext i x0 x1 ⟨o + k.val, by omega⟩ j.val := by
  refine (cols o (k0_pay4 (F := Ideal) i x0 x1) h ho j k).trans ?_
  unfold ext
  rw [dif_pos j.isLt]

/-- The rows before the tile are zero where a sequence begins. -/
theorem pay4_before (i : grid0.Coords) (x0 : Vec Ideal S512x1024 .bf16) (x1 : Vec Ideal S16x1024 .bf16) (j : Fin 16) (d : Fin 1024) :
    k0_pay4 i x0 x1 (ix2 ⟨j.val, by omega⟩ d)
      = Scalar.select (Scalar.cmpi .eq (Scalar.remsi (Scalar.muli (BitVec.ofNat 32 (i 0).val) 512#32) 4096#32) 0#32)
          (Ideal.ofBits .f32 0x00000000#32) (x1 (ix2 j d)) := by
  unfold k0_pay4
  refine (concatenate_pair_apply_left (t := S528x1024) (s₁ := S16x1024) (s₂ := S512x1024) (i := (ix2 j d : S16x1024.Idx)) 0 _ _ _ _ rfl
    (by intro b; match b with | ⟨0, _⟩ => rfl | ⟨1, _⟩ => rfl)).trans ?_
  dsimp only
  unfold Scalar.select
  split <;> rfl

theorem pay4_tile (i : grid0.Coords) (x0 : Vec Ideal S512x1024 .bf16) (x1 : Vec Ideal S16x1024 .bf16) (j : Fin 512) (d : Fin 1024) :
    k0_pay4 i x0 x1 (ix2 ⟨16 + j.val, by omega⟩ d) = x0 (ix2 j d) := by
  unfold k0_pay4
  refine (concatenate_pair_apply_right (t := S528x1024) (s₁ := S16x1024) (s₂ := S512x1024) (i := (ix2 j d : S512x1024.Idx)) 0 _ _ _ _ rfl rfl
    (by intro b hb; match b with | ⟨0, _⟩ => exact absurd rfl hb | ⟨1, _⟩ => rfl) (by show j.val + 16 = 16 + j.val; omega)).trans ?_
  rfl

/-! ## The groups -/

/-- A group's window sums over its counts, less the group's columns, through the group's matrix. -/
theorem pool_apply (ws : FVec Ideal S512x256 .f32) (p : FVec Ideal S512x1 .f32) (len : BitVec 32) (o : ℕ) (h : S512x1024.Slices ![0, o] S512x256)
    (ho : o + 256 ≤ 1024) (u : FVec Ideal S512x1024 .f32) (w : Vec Ideal S1x256x256 .bf16) (r : Fin 512) (e : Fin 256) :
    (matmul (φ₂ := .bf16) dot_S512x256_S256x256_S512x256_1_0_0_1_n_n none
        (truncf .bf16 (subf (divf ws (broadcastTo S512x256 (minimumf (addf p (broadcast S512x1 (Scalar.ofBits (F := Ideal) .f32 0x3F800000#32))) (broadcast S512x1 (Scalar.ofBits (F := Ideal) .f32 len))) broadcasts_S512x1_S512x256))
          (extractStridedSlice S512x256 ![0, o] u h) : FVec Ideal S512x256 .f32) bitsLt_bf16_f32)
        (shapeCast S256x256 w shapeCasts_S1x256x256_S256x256) (constant S512x256 .f32 0x00000000#32) : FVec Ideal S512x256 .f32) (ix2 r e)
      = ∑ k : Fin 256, (Ideal.div (ws (ix2 r k)) (min (p (ix2 r 0) + Ideal.ofBits .f32 0x3F800000#32) (Ideal.ofBits .f32 len))
          - u (ix2 r ⟨o + k.val, by omega⟩)) * w (ix3 0 k e) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  congr 1
  · refine (congrArg (truncf .bf16 (subf (divf ws (broadcastTo S512x256 (minimumf (addf p (broadcast S512x1 (Scalar.ofBits (F := Ideal) .f32 0x3F800000#32))) (broadcast S512x1 (Scalar.ofBits (F := Ideal) .f32 len))) broadcasts_S512x1_S512x256))
          (extractStridedSlice S512x256 ![0, o] u h) : FVec Ideal S512x256 .f32) bitsLt_bf16_f32) (?_ : _ = (ix2 r k : S512x256.Idx))).trans ?_
    · refine funext fun a => Fin.ext ?_
      match a with
      | ⟨0, _⟩ => rfl
      | ⟨1, _⟩ => exact hk
    · rw [truncf_apply, subf_apply, divf_apply, broadcastTo_apply (k := ix2 r 0) _ _ _ (by intro a; fin_cases a <;> rfl)]
      exact congrArg₂ (fun a b => a - b) rfl (cols o u h ho r k)
  · refine (congrArg (shapeCast S256x256 w shapeCasts_S1x256x256_S256x256) (?_ : _ = (ix2 k e : S256x256.Idx))).trans ?_
    · refine funext fun a => Fin.ext ?_
      match a with
      | ⟨0, _⟩ => exact hk
      | ⟨1, _⟩ => rfl
    · refine shapeCast_apply (k := ix3 0 k e) _ _ _ ?_
      rewrite [Shape.rowMajor_val_three, Shape.rowMajor_val_two]
      show (0 * 256 + k.val) * 256 + e.val = k.val * 256 + e.val
      omega

section Groups
variable (i : grid0.Coords) (x0 : Vec Ideal S512x1024 .bf16) (x1 : Vec Ideal S16x1024 .bf16) (x6 : Vec Ideal S4x256x256 .bf16)

/-- A group's value from its window sums. -/
def fromSums (g : Fin 4) (ws : Fin 256 → EReal) (r : Fin 512) (e : Fin 256) : EReal :=
  ∑ k : Fin 256, (Ideal.div (ws k) (min (k0_pay5 (F := Ideal) i (ix2 r 0) + Ideal.ofBits .f32 0x3F800000#32) (Ideal.ofBits .f32 (lengthBits g)))
    - x0 (ix2 r ⟨256 * g.val + k.val, by omega⟩)) * x6 (ix3 g k e)

theorem layer (g : Fin 4) (inb : ∀ a, (![g.val, 0, 0] : Fin 3 → ℕ) a + (![1, 256, 256] : Fin 3 → ℕ) a ≤ S4x256x256.size a) (k e : Fin 256) :
    View.ld x6 (Rect.unit ![g.val, 0, 0] ![1, 256, 256] inb) (ix3 0 k e : S1x256x256.Idx) = x6 (ix3 g k e) :=
  congrArg x6 (funext fun a => Fin.ext (by
    match a with
    | ⟨0, _⟩ => show g.val + 1 * 0 = g.val; omega
    | ⟨1, _⟩ => show 0 + 1 * k.val = k.val; omega
    | ⟨2, _⟩ => show 0 + 1 * e.val = e.val; omega))

theorem sums0 (r : Fin 512) (k : Fin 256) :
    (extractStridedSlice S512x256 ![15, 0] (addf (extractStridedSlice S527x256 ![1, 0] (extractStridedSlice S528x256 ![0, 0] (k0_pay4 (F := Ideal) i x0 x1) slices_S528x1024_o0_0_S528x256) slices_S528x256_o1_0_S527x256)
      (extractStridedSlice S527x256 ![0, 0] (extractStridedSlice S528x256 ![0, 0] (k0_pay4 (F := Ideal) i x0 x1) slices_S528x1024_o0_0_S528x256) slices_S528x256_o0_0_S527x256) : FVec Ideal S527x256 .f32) slices_S527x256_o15_0_S512x256) (ix2 r k)
      = doubled (ext i x0 x1 ⟨256 * 0 + k.val, by omega⟩) 1 (15 + r.val) := by
  refine (rows512 15 _ _ (by decide) r k).trans ?_
  refine (step1 (fun k => ext i x0 x1 ⟨256 * 0 + k.val, by omega⟩) _ (fun j k => ext_cols i x0 x1 0 _ (by decide) j k) ⟨15 + r.val, by omega⟩ k)

theorem group0_apply (r : Fin 512) (e : Fin 256) :
    group0 i x0 x1 x6 (ix2 r e) = fromSums i x0 x6 0 (fun k => doubled (ext i x0 x1 ⟨256 * 0 + k.val, by omega⟩) 1 (15 + r.val)) r e := by
  unfold group0 k0_pay6
  refine (pool_apply _ _ _ 0 slices_S512x1024_o0_0_S512x256 (by decide) _ _ r e).trans ?_
  refine Finset.sum_congr rfl fun k _ => ?_
  rw [sums0]
  exact congrArg₂ (fun a b => a * b) rfl (layer x6 0 _ k e)

theorem pay7_apply (r : Fin 512) (k : Fin 256) :
    k0_pay7 i x0 x1 (ix2 r k) = doubled (ext i x0 x1 ⟨256 * 1 + k.val, by omega⟩) 2 (13 + r.val) := by
  unfold k0_pay7
  refine (rows512 13 _ _ (by decide) r k).trans ?_
  refine step2 (fun k => ext i x0 x1 ⟨256 * 1 + k.val, by omega⟩) _ (fun j k => ?_) ⟨13 + r.val, by omega⟩ k
  exact step1 (fun k => ext i x0 x1 ⟨256 * 1 + k.val, by omega⟩) _ (fun j k => ext_cols i x0 x1 256 _ (by decide) j k) j k

theorem group1_apply (r : Fin 512) (e : Fin 256) :
    group1 i x0 x1 x6 (ix2 r e) = fromSums i x0 x6 1 (fun k => doubled (ext i x0 x1 ⟨256 * 1 + k.val, by omega⟩) 2 (13 + r.val)) r e := by
  unfold group1 k0_pay8
  refine (pool_apply _ _ _ 256 slices_S512x1024_o0_256_S512x256 (by decide) _ _ r e).trans ?_
  refine Finset.sum_congr rfl fun k _ => ?_
  rw [pay7_apply]
  exact congrArg₂ (fun a b => a * b) rfl (layer x6 1 _ k e)

theorem group2_apply (r : Fin 512) (e : Fin 256) :
    group2 i x0 x1 x6 (ix2 r e) = fromSums i x0 x6 2 (fun k => doubled (ext i x0 x1 ⟨256 * 2 + k.val, by omega⟩) 3 (9 + r.val)) r e := by
  unfold group2 k0_pay9
  refine (pool_apply _ _ _ 512 slices_S512x1024_o0_512_S512x256 (by decide) _ _ r e).trans ?_
  refine Finset.sum_congr rfl fun k _ => congrArg₂ (fun a b => a * b) (congrArg₂ (fun a b => a - b) (congrArg₂ Ideal.div ?_ rfl) rfl) (layer x6 2 _ k e)
  refine (rows512 9 _ _ (by decide) r k).trans ?_
  refine step3 (fun k => ext i x0 x1 ⟨256 * 2 + k.val, by omega⟩) _ (fun j k => ?_) ⟨9 + r.val, by omega⟩ k
  refine step2 (fun k => ext i x0 x1 ⟨256 * 2 + k.val, by omega⟩) _ (fun j k => ?_) j k
  exact step1 (fun k => ext i x0 x1 ⟨256 * 2 + k.val, by omega⟩) _ (fun j k => ext_cols i x0 x1 512 _ (by decide) j k) j k

theorem pay10_apply (j : Fin 513) (k : Fin 256) :
    k0_pay10 (k0_pay4 i x0 x1) (ix2 j k) = doubled (ext i x0 x1 ⟨256 * 3 + k.val, by omega⟩) 4 j.val := by
  unfold k0_pay10
  refine step4 (fun k => ext i x0 x1 ⟨256 * 3 + k.val, by omega⟩) _ (fun j k => ?_) j k
  refine step3 (fun k => ext i x0 x1 ⟨256 * 3 + k.val, by omega⟩) _ (fun j k => ?_) j k
  refine step2 (fun k => ext i x0 x1 ⟨256 * 3 + k.val, by omega⟩) _ (fun j k => ?_) j k
  exact step1 (fun k => ext i x0 x1 ⟨256 * 3 + k.val, by omega⟩) _ (fun j k => ext_cols i x0 x1 768 _ (by decide) j k) j k

/-- The last group. -/
def group3 : FVec Ideal S512x256 .f32 :=
  matmul (φ₂ := .bf16) dot_S512x256_S256x256_S512x256_1_0_0_1_n_n none
    (truncf .bf16 (subf (divf (extractStridedSlice S512x256 ![1, 0] (k0_pay10 (k0_pay4 i x0 x1)) slices_S513x256_o1_0_S512x256) (broadcastTo S512x256 (minimumf (addf (k0_pay5 i) (broadcast S512x1 (Scalar.ofBits (F := Ideal) .f32 0x3F800000#32))) (broadcast S512x1 (Scalar.ofBits (F := Ideal) .f32 0x41800000#32))) broadcasts_S512x1_S512x256))
      (extractStridedSlice S512x256 ![0, 768] (k0_pay3 x0) slices_S512x1024_o0_768_S512x256) : FVec Ideal S512x256 .f32) bitsLt_bf16_f32)
    (shapeCast S256x256 (View.ld x6 (Rect.unit ![3, 0, 0] ![1, 256, 256] inb_S4x256x256_S1x256x256_3_0_0) : Vec Ideal S1x256x256 .bf16) shapeCasts_S1x256x256_S256x256) (constant S512x256 .f32 0x00000000#32)

theorem group3_apply (r : Fin 512) (e : Fin 256) :
    group3 i x0 x1 x6 (ix2 r e) = fromSums i x0 x6 3 (fun k => doubled (ext i x0 x1 ⟨256 * 3 + k.val, by omega⟩) 4 (1 + r.val)) r e := by
  unfold group3
  refine (pool_apply _ _ _ 768 slices_S512x1024_o0_768_S512x256 (by decide) _ _ r e).trans ?_
  refine Finset.sum_congr rfl fun k _ => congrArg₂ (fun a b => a * b) (congrArg₂ (fun a b => a - b) (congrArg₂ Ideal.div ?_ rfl) rfl) (layer x6 3 _ k e)
  refine (rows512 1 _ _ (by decide) r k).trans ?_
  exact pay10_apply i x0 x1 ⟨1 + r.val, by omega⟩ k

end Groups

end Cert.MixIdeal.Value

end
-- ==== Proof.MixRows.lean ====
/-
  The mixing kernel's two result blocks read at an index, from the blocks the point reads.
-/
module

public import proofs.«01_k».proof.Proof.MixPayload

@[expose] public section

set_option maxRecDepth 16384

noncomputable section

namespace Cert.MixIdeal.Value

open Cert.MixIdeal Cert.MixIdeal.Gen Cert.MixSpec Idealize.ShloMosaic Idealize.ShloMosaic.TcCoe Idealize.SL.Sem
open Idealize.ShloMosaic.ValueIdx

section Rows
variable (i : grid0.Coords) (x0 : Vec Ideal S512x1024 .bf16) (x1 : Vec Ideal S16x1024 .bf16) (x2 x3 : Vec Ideal S512x1024 .bf16)
  (x4 : Vec Ideal S512x2048 .bf16) (x5 : Vec Ideal S512x1024 .f32) (x6 : Vec Ideal S4x256x256 .bf16) (x7 : Vec Ideal S1x1024 .f32)
  (x8 : Vec Ideal S2048x1024 .bf16) (x9 : Vec Ideal S1024x1024 .bf16)

/-- The four groups by number. -/
def groups (g : Fin 4) : FVec Ideal S512x256 .f32 :=
  match g with
  | 0 => group0 i x0 x1 x6
  | 1 => group1 i x0 x1 x6
  | 2 => group2 i x0 x1 x6
  | 3 => group3 i x0 x1 x6

theorem groups_apply (g : Fin 4) (r : Fin 512) (e : Fin 256) :
    groups i x0 x1 x6 g (ix2 r e)
      = fromSums i x0 x6 g (fun k => doubled (ext i x0 x1 ⟨256 * g.val + k.val, by omega⟩) (g.val + 1) (17 - 2 ^ (g.val + 1) + r.val)) r e := by
  match g with
  | 0 => exact group0_apply i x0 x1 x6 r e
  | 1 => exact group1_apply i x0 x1 x6 r e
  | 2 => exact group2_apply i x0 x1 x6 r e
  | 3 => exact group3_apply i x0 x1 x6 r e

/-- The four groups side by side. -/
theorem joined_apply (r : Fin 512) (k : Fin 1024) :
    concatenate S512x1024 1 [⟨S512x256, group0 i x0 x1 x6⟩, ⟨S512x256, group1 i x0 x1 x6⟩, ⟨S512x256, group2 i x0 x1 x6⟩, ⟨S512x256, group3 i x0 x1 x6⟩]
        concatenates_S512x256_S512x256_S512x256_S512x256_S512x1024_d1 (ix2 r k)
      = groups i x0 x1 x6 ⟨k.val / 256, by omega⟩ (ix2 r ⟨k.val % 256, Nat.mod_lt _ (by decide)⟩) := by
  have hk := k.isLt
  have off : ∀ (e : Fin 256) (b : Fin 2), b ≠ 1 → ((ix2 r e : S512x256.Idx) b).val = ((ix2 r k : S512x1024.Idx) b).val := by
    intro e b hb
    match b with
    | ⟨0, _⟩ => rfl
    | ⟨1, _⟩ => exact absurd rfl hb
  have h : k.val / 256 = 0 ∨ k.val / 256 = 1 ∨ k.val / 256 = 2 ∨ k.val / 256 = 3 := by omega
  rcases h with h | h | h | h
  · rw [show (⟨k.val / 256, by omega⟩ : Fin 4) = 0 from Fin.ext h]
    exact concatenate_apply_piece (t := S512x1024) 1 _ _ _ 0 (by simp) S512x256 (group0 i x0 x1 x6) rfl rfl 0 rfl _
      (fun b hb => off _ b hb) (by show 0 + k.val % 256 = k.val; omega)
  · rw [show (⟨k.val / 256, by omega⟩ : Fin 4) = 1 from Fin.ext h]
    exact concatenate_apply_piece (t := S512x1024) 1 _ _ _ 1 (by simp) S512x256 (group1 i x0 x1 x6) rfl rfl 256 rfl _
      (fun b hb => off _ b hb) (by show 256 + k.val % 256 = k.val; omega)
  · rw [show (⟨k.val / 256, by omega⟩ : Fin 4) = 2 from Fin.ext h]
    exact concatenate_apply_piece (t := S512x1024) 1 _ _ _ 2 (by simp) S512x256 (group2 i x0 x1 x6) rfl rfl 512 rfl _
      (fun b hb => off _ b hb) (by show 512 + k.val % 256 = k.val; omega)
  · rw [show (⟨k.val / 256, by omega⟩ : Fin 4) = 3 from Fin.ext h]
    exact concatenate_apply_piece (t := S512x1024) 1 _ _ _ 3 (by simp) S512x256 (group3 i x0 x1 x6) rfl rfl 768 rfl _
      (fun b hb => off _ b hb) (by show 768 + k.val % 256 = k.val; omega)

/-- The retention branch's product. -/
theorem ret_apply (r : Fin 512) (d : Fin 1024) :
    (matmul (φ₁ := .bf16) (φ₂ := .bf16) dot_S512x2048_S2048x1024_S512x1024_1_0_0_1_n_n none x4 x8 (constant S512x1024 .f32 0x00000000#32) : FVec Ideal S512x1024 .f32) (ix2 r d)
      = ∑ k : Fin 2048, x4 (ix2 r k) * x8 (ix2 k d) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  congr 1
  · refine congrArg x4 (funext fun a => Fin.ext ?_)
    match a with
    | ⟨0, _⟩ => rfl
    | ⟨1, _⟩ => exact hk
  · refine congrArg x8 (funext fun a => Fin.ext ?_)
    match a with
    | ⟨0, _⟩ => exact hk
    | ⟨1, _⟩ => rfl

/-- The output matrix's product. -/
theorem out_apply (v : FVec Ideal S512x1024 .bf16) (r : Fin 512) (d : Fin 1024) :
    (matmul (φ₂ := .bf16) dot_S512x1024_S1024x1024_S512x1024_1_0_0_1_n_n none v x9 (constant S512x1024 .f32 0x00000000#32) : FVec Ideal S512x1024 .f32) (ix2 r d)
      = ∑ k : Fin 1024, v (ix2 r k) * x9 (ix2 k d) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  congr 1
  · refine congrArg v (funext fun a => Fin.ext ?_)
    match a with
    | ⟨0, _⟩ => rfl
    | ⟨1, _⟩ => exact hk
  · refine congrArg x9 (funext fun a => Fin.ext ?_)
    match a with
    | ⟨0, _⟩ => exact hk
    | ⟨1, _⟩ => rfl

/-- THE RESIDUAL BLOCK at an index. -/
theorem x1Block_apply (r : Fin 512) (d : Fin 1024) :
    x1Block i x0 x1 x2 x3 x4 x5 x6 x7 x8 x9 (ix2 r d)
      = x5 (ix2 r d) + ∑ k : Fin 1024,
          (Ideal.logistic (x2 (ix2 r k)) * (groups i x0 x1 x6 ⟨k.val / 256, by omega⟩ (ix2 r ⟨k.val % 256, Nat.mod_lt _ (by decide)⟩) * x7 (ix2 0 k))
            + Ideal.logistic (x3 (ix2 r k)) * ∑ l : Fin 2048, x4 (ix2 r l) * x8 (ix2 l k)) * x9 (ix2 k d) := by
  unfold x1Block k0_pay11
  rw [addf_apply]
  refine congrArg₂ (fun a b => a + b) rfl ((out_apply x9 _ r d).trans ?_)
  refine Finset.sum_congr rfl fun k _ => congrArg₂ (fun a b => a * b) ?_ rfl
  refine Eq.trans ?_ (congrArg₂ (fun a b => Ideal.logistic (x2 (ix2 r k)) * (a * x7 (ix2 0 k)) + Ideal.logistic (x3 (ix2 r k)) * b) (joined_apply i x0 x1 x6 r k) (ret_apply x4 x8 r k))
  rw [truncf_apply, addf_apply, mulf_apply, mulf_apply, mulf_apply, broadcastTo_apply (k := ix2 0 k) _ _ _ (by intro a; fin_cases a <;> rfl)]
  rfl

/-- THE NORMED BLOCK at an index. -/
theorem pay12_apply (x : FVec Ideal S512x1024 .f32) (g : Vec Ideal S1x1024 .f32) (r : Fin 512) (k : Fin 1024) :
    k0_pay12 x g (ix2 r k) = x (ix2 r k) * Ideal.rsqrt (Ideal.div (∑ j : Fin 1024, x (ix2 r j) * x (ix2 r j))
      (Ideal.ofBits .f32 0x44800000#32) + Ideal.ofBits .f32 0x358637BD#32) * g (ix2 0 k) := by
  unfold k0_pay12
  simp only [mulf_apply]
  rw [broadcastTo_apply (k := ix2 r 0) _ _ _ (by intro a; fin_cases a <;> rfl),
    broadcastTo_apply (k := ix2 0 k) _ _ _ (by intro a; fin_cases a <;> rfl)]
  have e : ∀ y : FVec Ideal S512x1 .f32, rsqrt y (ix2 r 0) = Ideal.rsqrt (y (ix2 r 0)) := fun _ => rfl
  rw [e, addf_apply, divf_apply, shapeCast_apply (k := ix1 r) _ _ _ (by
      rewrite [Shape.rowMajor_val_two, Shape.rowMajor_val_one]; show r.val = r.val * 1 + 0; omega)]
  have l : ∀ j : Fin 1024, reduces_S512x1024_S512.lift (ix1 r) j = ix2 r j := fun j => funext fun a => Fin.ext (by
    match a with | ⟨0, _⟩ => rfl | ⟨1, _⟩ => rfl)
  have hm : (multiReduction .add [1] S512 (mulf x x : FVec Ideal S512x1024 .f32) 0x00000000#32 reduces_S512x1024_S512 (.inl rfl) rfl : FVec Ideal S512 .f32) (ix1 r)
      = ∑ j : Fin 1024, x (ix2 r j) * x (ix2 r j) := by
    refine (Ideal.multiReduction_add_single (mulf x x) _ reduces_S512x1024_S512 (.inl rfl) rfl (ix1 r)).trans ?_
    exact Finset.sum_congr rfl fun j _ => congrArg (mulf x x : FVec Ideal S512x1024 .f32) (l j)
  rw [hm]
  rfl

end Rows

end Cert.MixIdeal.Value

end
-- ==== Proof.MixFinal.lean ====
/-
  The arrays the mixing kernel's run leaves: every point's blocks in their places, as the rows of `x1E` and `h2E`.
-/
module

public import proofs.«01_k».proof.Proof.MixRows
public import Idealize.ShloMosaic.Lib.Pipeline.ValueKit.Geometry

@[expose] public section

set_option maxRecDepth 16384

noncomputable section

namespace Cert.MixIdeal.Value

open Cert.MixIdeal Cert.MixIdeal.Gen Cert.MixSpec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The arguments -/

abbrev argX (c : Dev nD) : S32768x9216.Idx → EReal := m ((c : Thread nD τ).loc main_arg0)
abbrev argR (c : Dev nD) : S32768x2048.Idx → EReal := m ((c : Thread nD τ).loc main_arg1)
abbrev argY (c : Dev nD) : S32768x1024.Idx → EReal := m ((c : Thread nD τ).loc main_arg2)
abbrev argP (c : Dev nD) : S4x256x256.Idx → EReal := m ((c : Thread nD τ).loc main_arg3)
abbrev argS (c : Dev nD) : S1x1024.Idx → EReal := m ((c : Thread nD τ).loc main_arg4)
abbrev argA (c : Dev nD) : S2048x1024.Idx → EReal := m ((c : Thread nD τ).loc main_arg5)
abbrev argB (c : Dev nD) : S1024x1024.Idx → EReal := m ((c : Thread nD τ).loc main_arg6)
abbrev argG (c : Dev nD) : S1x1024.Idx → EReal := m ((c : Thread nD τ).loc main_arg7)

theorem idx_tile : ∀ t : Fin cfg0.N, (grid0.coords t 0).val = t.val
    ∧ win0_0.index t (0 : Fin 2) = t.val ∧ win0_0.index t (1 : Fin 2) = 0
    ∧ win0_1.index t (0 : Fin 2) = 32 * t.val - 1 ∧ win0_1.index t (1 : Fin 2) = 0
    ∧ win0_2.index t (0 : Fin 2) = t.val ∧ win0_2.index t (1 : Fin 2) = 7
    ∧ win0_3.index t (0 : Fin 2) = t.val ∧ win0_3.index t (1 : Fin 2) = 8
    ∧ win0_4.index t (0 : Fin 2) = t.val ∧ win0_4.index t (1 : Fin 2) = 0
    ∧ win0_5.index t (0 : Fin 2) = t.val ∧ win0_5.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

theorem idx_whole : ∀ t : Fin cfg0.N, win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem t_lt (t : Fin cfg0.N) : t.val < 64 := lt_of_lt_of_eq t.isLt (show cfg0.N = 64 from N_0)

/-- The row of the arrays that row `r` of a point's tile is. -/
abbrev rowOf (t : Fin cfg0.N) (r : Fin 512) : Fin 32768 := ⟨t.val * 512 + r.val, by have := t_lt t; omega⟩

/-! ## The blocks a point reads -/

theorem iblk_u (c : Dev nD) (t : Fin cfg0.N) (r : Fin 512) (d : Fin 1024) :
    (iblk m c 0 t : Vec Ideal S512x1024 .bf16) (ix2 r d) = argX m c (ix2 (rowOf t r) ⟨d.val, by omega⟩) := by
  unfold iblk
  rw [View.read_apply]
  show V m c main_arg0 _ = _
  rw [V_main_arg0]
  obtain ⟨-, e0, e1, -⟩ := idx_tile t
  refine congrArg (argX m c) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 1024 + 1 * d.val = d.val; rw [e1]; omega

theorem iblk_before (c : Dev nD) (t : Fin cfg0.N) (j : Fin 16) (d : Fin 1024) (ht : t.val % 8 ≠ 0) :
    (iblk m c 1 t : Vec Ideal S16x1024 .bf16) (ix2 j d) = argX m c (ix2 ⟨t.val * 512 - 16 + j.val, by have := t_lt t; omega⟩ ⟨d.val, by omega⟩) := by
  unfold iblk
  rw [View.read_apply]
  show V m c main_arg0 _ = _
  rw [V_main_arg0]
  obtain ⟨-, -, -, e0, e1, -⟩ := idx_tile t
  refine congrArg (argX m c) (funext fun a => Fin.ext ?_)
  match a with
  | ⟨0, _⟩ => show win0_1.index t (0 : Fin 2) * 16 + 1 * j.val = t.val * 512 - 16 + j.val; rw [e0]; omega
  | ⟨1, _⟩ => show win0_1.index t (1 : Fin 2) * 1024 + 1 * d.val = d.val; rw [e1]; omega

theorem iblk_ga (c : Dev nD) (t : Fin cfg0.N) (r : Fin 512) (d : Fin 1024) :
    (iblk m c 2 t : Vec Ideal S512x1024 .bf16) (ix2 r d) = argX m c (ix2 (rowOf t r) ⟨7168 + d.val, by omega⟩) := by
  unfold iblk
  rw [View.read_apply]
  show V m c main_arg0 _ = _
  rw [V_main_arg0]
  obtain ⟨-, -, -, -, -, e0, e1, -⟩ := idx_tile t
  refine congrArg (argX m c) (funext fun a => Fin.ext ?_)
  match a with
  | ⟨0, _⟩ => show win0_2.index t (0 : Fin 2) * 512 + 1 * r.val = t.val * 512 + r.val; rw [e0]; omega
  | ⟨1, _⟩ => show win0_2.index t (1 : Fin 2) * 1024 + 1 * d.val = 7168 + d.val; rw [e1]; omega

theorem iblk_gb (c : Dev nD) (t : Fin cfg0.N) (r : Fin 512) (d : Fin 1024) :
    (iblk m c 3 t : Vec Ideal S512x1024 .bf16) (ix2 r d) = argX m c (ix2 (rowOf t r) ⟨8192 + d.val, by omega⟩) := by
  unfold iblk
  rw [View.read_apply]
  show V m c main_arg0 _ = _
  rw [V_main_arg0]
  obtain ⟨-, -, -, -, -, -, -, e0, e1, -⟩ := idx_tile t
  refine congrArg (argX m c) (funext fun a => Fin.ext ?_)
  match a with
  | ⟨0, _⟩ => show win0_3.index t (0 : Fin 2) * 512 + 1 * r.val = t.val * 512 + r.val; rw [e0]; omega
  | ⟨1, _⟩ => show win0_3.index t (1 : Fin 2) * 1024 + 1 * d.val = 8192 + d.val; rw [e1]; omega

theorem iblk_ret (c : Dev nD) (t : Fin cfg0.N) (r : Fin 512) (k : Fin 2048) :
    (iblk m c 4 t : Vec Ideal S512x2048 .bf16) (ix2 r k) = argR m c (ix2 (rowOf t r) k) := by
  unfold iblk
  rw [View.read_apply]
  show V m c main_arg1 _ = _
  rw [V_main_arg1]
  obtain ⟨-, -, -, -, -, -, -, -, -, e0, e1, -⟩ := idx_tile t
  refine congrArg (argR m c) (funext fun a => Fin.ext ?_)
  match a with
  | ⟨0, _⟩ => show win0_4.index t (0 : Fin 2) * 512 + 1 * r.val = t.val * 512 + r.val; rw [e0]; omega
  | ⟨1, _⟩ => show win0_4.index t (1 : Fin 2) * 2048 + 1 * k.val = k.val; rw [e1]; omega

theorem iblk_x (c : Dev nD) (t : Fin cfg0.N) (r : Fin 512) (d : Fin 1024) :
    (iblk m c 5 t : Vec Ideal S512x1024 .f32) (ix2 r d) = argY m c (ix2 (rowOf t r) d) := by
  unfold iblk
  rw [View.read_apply]
  show V m c main_arg2 _ = _
  rw [V_main_arg2]
  obtain ⟨-, -, -, -, -, -, -, -, -, -, -, e0, e1, -⟩ := idx_tile t
  refine congrArg (argY m c) (funext fun a => Fin.ext ?_)
  match a with
  | ⟨0, _⟩ => show win0_5.index t (0 : Fin 2) * 512 + 1 * r.val = t.val * 512 + r.val; rw [e0]; omega
  | ⟨1, _⟩ => show win0_5.index t (1 : Fin 2) * 1024 + 1 * d.val = d.val; rw [e1]; omega

theorem iblk_pool (c : Dev nD) (t : Fin cfg0.N) : (iblk m c 6 t : Vec Ideal S4x256x256 .bf16) = argP m c := by
  funext j
  unfold iblk
  rw [View.read_apply]
  show V m c main_arg3 _ = _
  rw [V_main_arg3]
  obtain ⟨e0, e1, e2, -⟩ := idx_whole t
  refine congrArg (argP m c) (funext fun a => Fin.ext ?_)
  match a with
  | ⟨0, _⟩ => show win0_6.index t (0 : Fin 3) * 4 + 1 * (j 0).val = (j 0).val; rw [e0]; omega
  | ⟨1, _⟩ => show win0_6.index t (1 : Fin 3) * 256 + 1 * (j 1).val = (j 1).val; rw [e1]; omega
  | ⟨2, _⟩ => show win0_6.index t (2 : Fin 3) * 256 + 1 * (j 2).val = (j 2).val; rw [e2]; omega

theorem iblk_scale (c : Dev nD) (t : Fin cfg0.N) : (iblk m c 7 t : Vec Ideal S1x1024 .f32) = argS m c := by
  funext j
  unfold iblk
  rw [View.read_apply]
  show V m c main_arg4 _ = _
  rw [V_main_arg4]
  obtain ⟨-, -, -, e0, e1, -⟩ := idx_whole t
  refine congrArg (argS m c) (funext fun a => Fin.ext ?_)
  match a with
  | ⟨0, _⟩ => show win0_7.index t (0 : Fin 2) * 1 + 1 * (j 0).val = (j 0).val; rw [e0]; omega
  | ⟨1, _⟩ => show win0_7.index t (1 : Fin 2) * 1024 + 1 * (j 1).val = (j 1).val; rw [e1]; omega

theorem iblk_reto (c : Dev nD) (t : Fin cfg0.N) : (iblk m c 8 t : Vec Ideal S2048x1024 .bf16) = argA m c := by
  funext j
  unfold iblk
  rw [View.read_apply]
  show V m c main_arg5 _ = _
  rw [V_main_arg5]
  obtain ⟨-, -, -, -, -, e0, e1, -⟩ := idx_whole t
  refine congrArg (argA m c) (funext fun a => Fin.ext ?_)
  match a with
  | ⟨0, _⟩ => show win0_8.index t (0 : Fin 2) * 2048 + 1 * (j 0).val = (j 0).val; rw [e0]; omega
  | ⟨1, _⟩ => show win0_8.index t (1 : Fin 2) * 1024 + 1 * (j 1).val = (j 1).val; rw [e1]; omega

theorem iblk_out (c : Dev nD) (t : Fin cfg0.N) : (iblk m c 9 t : Vec Ideal S1024x1024 .bf16) = argB m c := by
  funext j
  unfold iblk
  rw [View.read_apply]
  show V m c main_arg6 _ = _
  rw [V_main_arg6]
  obtain ⟨-, -, -, -, -, -, -, e0, e1, -⟩ := idx_whole t
  refine congrArg (argB m c) (funext fun a => Fin.ext ?_)
  match a with
  | ⟨0, _⟩ => show win0_9.index t (0 : Fin 2) * 1024 + 1 * (j 0).val = (j 0).val; rw [e0]; omega
  | ⟨1, _⟩ => show win0_9.index t (1 : Fin 2) * 1024 + 1 * (j 1).val = (j 1).val; rw [e1]; omega

theorem iblk_gain (c : Dev nD) (t : Fin cfg0.N) : (iblk m c 10 t : Vec Ideal S1x1024 .f32) = argG m c := by
  funext j
  unfold iblk
  rw [View.read_apply]
  show V m c main_arg7 _ = _
  rw [V_main_arg7]
  obtain ⟨-, -, -, -, -, -, -, -, -, e0, e1⟩ := idx_whole t
  refine congrArg (argG m c) (funext fun a => Fin.ext ?_)
  match a with
  | ⟨0, _⟩ => show win0_10.index t (0 : Fin 2) * 1 + 1 * (j 0).val = (j 0).val; rw [e0]; omega
  | ⟨1, _⟩ => show win0_10.index t (1 : Fin 2) * 1024 + 1 * (j 1).val = (j 1).val; rw [e1]; omega

/-! ## Positions and windows -/

theorem word_pos : ∀ t : Fin 64, Scalar.remsi (Scalar.muli (BitVec.ofNat 32 t.val) 512#32) 4096#32 = BitVec.ofNat 32 (512 * (t.val % 8)) := by
  decide +kernel

theorem word_start : ∀ t : Fin 64, Scalar.cmpi .eq (Scalar.remsi (Scalar.muli (BitVec.ofNat 32 t.val) 512#32) 4096#32) 0#32 = if t.val % 8 = 0 then 1#1 else 0#1 := by
  decide +kernel

/-- The position a tile's row holds. -/
theorem pos_apply (t : Fin cfg0.N) (r : Fin 512) :
    k0_pay5 (F := Ideal) (grid0.coords t) (ix2 r 0) = (((BitVec.ofNat 32 ((rowOf t r).val % 4096)).toInt : ℝ) : EReal) := by
  have h := word_pos ⟨t.val, t_lt t⟩
  have e : (grid0.coords t 0).val = t.val := (idx_tile t).1
  have w : Scalar.remsi (Scalar.muli (BitVec.ofNat 32 (grid0.coords t 0).val) 512#32) 4096#32 + BitVec.ofNat 32 r.val = BitVec.ofNat 32 ((rowOf t r).val % 4096) := by
    rw [e]
    refine (congrArg (· + BitVec.ofNat 32 r.val) h).trans ?_
    rw [← BitVec.ofNat_add]
    refine congrArg _ ?_
    show 512 * (t.val % 8) + r.val = (t.val * 512 + r.val) % 4096
    omega
  rw [← w]
  unfold k0_pay5
  show (((Scalar.remsi (Scalar.muli (BitVec.ofNat 32 (grid0.coords t 0).val) 512#32) 4096#32 + BitVec.ofNat 32 (0 * 512 + r.val)).toInt : ℝ) : EReal) = _
  rw [Nat.zero_mul, Nat.zero_add]

/-- The extended tile holds a column's last entries, and zeros before its sequence. -/
theorem ext_window (c : Dev nD) (t : Fin cfg0.N) (r : Fin 512) (d : Fin 1024) (k : ℕ) (hk : k < 16) :
    ext (grid0.coords t) (iblk m c 0 t) (iblk m c 1 t) d (16 + r.val - k)
      = if k ≤ (rowOf t r).val % 4096 then column (argX m c) ((rowOf t r).val / 4096) d ((rowOf t r).val % 4096 - k) else 0 := by
  have ht := t_lt t
  have hr := r.isLt
  have e : (grid0.coords t 0).val = t.val := (idx_tile t).1
  have hp : (rowOf t r).val % 4096 = 512 * (t.val % 8) + r.val := by show (t.val * 512 + r.val) % 4096 = _; omega
  have hb : (rowOf t r).val / 4096 = t.val / 8 := by show (t.val * 512 + r.val) / 4096 = _; omega
  rw [hp, hb]
  unfold ext
  rw [dif_pos (by omega)]
  by_cases hkr : k ≤ r.val
  · rw [if_pos (by omega)]
    have hj : (⟨16 + r.val - k, by omega⟩ : Fin 528) = ⟨16 + (⟨r.val - k, by omega⟩ : Fin 512).val, by show 16 + (r.val - k) < 528; omega⟩ := Fin.ext (by show 16 + r.val - k = 16 + (r.val - k); omega)
    rw [hj, pay4_tile, iblk_u]
    refine congrArg (argX m c) (congrArg₂ ix2 (Fin.ext ?_) rfl)
    show t.val * 512 + (r.val - k) = (t.val / 8 * 4096 + (512 * (t.val % 8) + r.val - k)) % 32768
    omega
  · have hj : (⟨16 + r.val - k, by omega⟩ : Fin 528) = ⟨(⟨16 + r.val - k, by omega⟩ : Fin 16).val, by show 16 + r.val - k < 528; omega⟩ := rfl
    rw [hj, pay4_before, e]
    have hs := word_start ⟨t.val, ht⟩
    dsimp only at hs
    rw [hs]
    by_cases h0 : t.val % 8 = 0
    · rw [if_pos h0, if_neg (by omega)]
      exact Eq.trans (by unfold Scalar.select; exact if_pos (by decide)) Ideal.ofBits_zero_f32
    · rw [if_neg h0, if_pos (by omega)]
      refine Eq.trans (by unfold Scalar.select; exact if_neg (by decide)) ((iblk_before m c t _ d h0).trans ?_)
      refine congrArg (argX m c) (congrArg₂ ix2 (Fin.ext ?_) rfl)
      show t.val * 512 - 16 + (16 + r.val - k) = (t.val / 8 * 4096 + (512 * (t.val % 8) + r.val - k)) % 32768
      omega

/-- A group's value at a row. -/
theorem group_value (c : Dev nD) (t : Fin cfg0.N) (r : Fin 512) (g : Fin 4) (e : Fin 256) :
    groups (grid0.coords t) (iblk m c 0 t) (iblk m c 1 t) (iblk m c 6 t) g (ix2 r e) = groupE (argX m c) (argP m c) g (rowOf t r) e := by
  rw [groups_apply]
  unfold fromSums groupE pooledE MixSpec.count
  refine Finset.sum_congr rfl fun k _ => ?_
  have hg : 2 ^ (g.val + 1) ≤ 16 := by have := g.isLt; calc 2 ^ (g.val + 1) ≤ 2 ^ 4 := Nat.pow_le_pow_right (by decide) (by omega)
    _ = 16 := rfl
  beta_reduce
  rw [doubled_window _ (column (argX m c) ((rowOf t r).val / 4096) ⟨256 * g.val + k.val, by omega⟩) (g.val + 1) r.val ((rowOf t r).val % 4096) hg
    (fun k' hk' => ext_window m c t r _ k' hk'), pos_apply, iblk_u, iblk_pool]

/-! ## The two results -/

/-- The residual row at an index. -/
abbrev x1At (c : Dev nD) : Fin 32768 → Fin 1024 → EReal := x1E (argX m c) (argR m c) (argY m c) (argP m c) (argS m c) (argA m c) (argB m c)
abbrev h2At (c : Dev nD) : Fin 32768 → Fin 1024 → EReal := h2E (argX m c) (argR m c) (argY m c) (argP m c) (argS m c) (argA m c) (argB m c) (argG m c)

/-- The residual rows a point makes. -/
abbrev x1Pt (c : Dev nD) (t : Fin cfg0.N) : FVec Ideal S512x1024 .f32 :=
  x1Block (grid0.coords t) (iblk m c 0 t) (iblk m c 1 t) (iblk m c 2 t) (iblk m c 3 t) (iblk m c 4 t) (iblk m c 5 t) (iblk m c 6 t) (iblk m c 7 t) (iblk m c 8 t) (iblk m c 9 t)

theorem x1Pt_apply (c : Dev nD) (t : Fin cfg0.N) (r : Fin 512) (d : Fin 1024) : x1Pt m c t (ix2 r d) = x1At m c (rowOf t r) d := by
  unfold x1Pt x1At
  rw [x1Block_apply]
  unfold x1E mergedE retE
  simp only [group_value, iblk_x, iblk_ga, iblk_gb, iblk_ret, iblk_scale, iblk_reto, iblk_out]

theorem h2Pt_apply (c : Dev nD) (t : Fin cfg0.N) (r : Fin 512) (d : Fin 1024) :
    k0_pay12 (x1Pt m c t) (iblk m c 10 t) (ix2 r d) = h2At m c (rowOf t r) d := by
  rw [pay12_apply]
  unfold h2At h2E
  simp only [x1Pt_apply, iblk_gain]

theorem outs_x1 (c : Dev nD) (t : Fin cfg0.N) : (outsAt0 m c t.val t.isLt).1 = x1Pt m c t := by
  by_cases h0 : t.val % 64 = 0
  · rw [outsAt0_A m c t h0]
    dsimp only
    rw [x1_A]
  · rw [outsAt0_B m c t h0]
    dsimp only
    rw [x1_B]

theorem outs_h2 (c : Dev nD) (t : Fin cfg0.N) : (outsAt0 m c t.val t.isLt).2.1 = k0_pay12 (x1Pt m c t) (iblk m c 10 t) := by
  by_cases h0 : t.val % 64 = 0
  · rw [outsAt0_A m c t h0]
    dsimp only
    rw [h2_A]
  · rw [outsAt0_B m c t h0]
    dsimp only
    rw [h2_B]

/-- THE RESIDUAL ARRAY after the run. -/
theorem final14 (c : Dev nD) : (dats m 0 c).arrAt 14 cfg0.N = (fun i => x1At m c (i 0) (i 1) : S32768x1024.Idx → EReal) := by
  refine (dats m 0 c).arrAt_eq_of_covers 14 _ (by decide +kernel) fun t hf y => ?_
  blk_simp
  rw [after0_14, outs_x1]
  have hy : (y : S512x1024.Idx) = ix2 (y 0 : Fin 512) (y 1 : Fin 1024) := funext fun a => by match a with | ⟨0, _⟩ => rfl | ⟨1, _⟩ => rfl
  refine (congrArg (x1Pt m c t) hy).trans ((x1Pt_apply m c t _ _).trans ?_)
  obtain ⟨-, -, -, -, -, -, -, -, -, -, -, -, -, e0, e1, -⟩ := idx_tile t
  refine congrArg₂ (x1At m c) (Fin.ext ?_) (Fin.ext ?_)
  · show t.val * 512 + (y 0).val = win0_14.index t (0 : Fin 2) * 512 + 1 * (y 0).val; rw [e0]; omega
  · show (y 1).val = win0_14.index t (1 : Fin 2) * 1024 + 1 * (y 1).val; rw [e1]; omega

/-- THE NORMED ARRAY after the run. -/
theorem final15 (c : Dev nD) : (dats m 0 c).arrAt 15 cfg0.N = (fun i => h2At m c (i 0) (i 1) : S32768x1024.Idx → EReal) := by
  refine (dats m 0 c).arrAt_eq_of_covers 15 _ (by decide +kernel) fun t hf y => ?_
  blk_simp
  rw [after0_15, outs_h2]
  have hy : (y : S512x1024.Idx) = ix2 (y 0 : Fin 512) (y 1 : Fin 1024) := funext fun a => by match a with | ⟨0, _⟩ => rfl | ⟨1, _⟩ => rfl
  refine (congrArg (k0_pay12 (x1Pt m c t) (iblk m c 10 t)) hy).trans ((h2Pt_apply m c t _ _).trans ?_)
  obtain ⟨-, -, -, -, -, -, -, -, -, -, -, -, -, -, -, e0, e1⟩ := idx_tile t
  refine congrArg₂ (h2At m c) (Fin.ext ?_) (Fin.ext ?_)
  · show t.val * 512 + (y 0).val = win0_15.index t (0 : Fin 2) * 512 + 1 * (y 0).val; rw [e0]; omega
  · show (y 1).val = win0_15.index t (1 : Fin 2) * 1024 + 1 * (y 1).val; rw [e1]; omega

end Cert.MixIdeal.Value

end
-- ==== Proof.MixRefRead.lean ====
/-
  The reference, one operation at a time: the value each operation writes, as a function of the arguments it depends on, and
  that value read at an index from the operands at an index.
-/
module

public import proofs.«01_k».proof.Proof.Gen.MixRefIdeal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.MixRefIdeal.Read

open Cert.MixRefIdeal Cert.MixRefIdeal.Gen Idealize.ShloMosaic Idealize.ShloMosaic.TcCoe Idealize.SL.Sem Idealize.ShloMosaic.StableHlo

/-- The contents of an array. -/
abbrev T (F : FTy → Type) (s : Shape) (e : EltTy) : Type := (⟨s, e⟩ : BufTy).Contents (Elt F)

variable {F : FTy → Type} [FloatOps F]
variable (x0 : T F S32768x9216 .bf16) (x1 : T F S32768x2048 .bf16) (x2 : T F S32768x1024 .f32) (x3 : T F S4x256x256 .bf16) (x4 : T F S1x1024 .f32) (x5 : T F S2048x1024 .bf16) (x6 : T F S1024x1024 .bf16) (x7 : T F S1x1024 .f32)

-- %0 = stablehlo.reshape %arg0
def val_main_v0 : T F S8x4096x9216 .bf16 :=
  shapeCast _ (x0) shapeCasts_S32768x9216_S8x4096x9216
set_option backward.proofsInPublic true in
abbrev idx_main_v0 (i : S8x4096x9216.Idx) : S32768x9216.Idx := fun a => match a with
  | ⟨0, _⟩ => ⟨(((i 0).val * 4096 + (i 1).val) * 9216 + (i 2).val) / 9216, by have h0 : (i 0).val < 8 := (i 0).isLt; have h1 : (i 1).val < 4096 := (i 1).isLt; have h2 : (i 2).val < 9216 := (i 2).isLt; show (((i 0).val * 4096 + (i 1).val) * 9216 + (i 2).val) / 9216 < 32768; omega⟩
  | ⟨1, _⟩ => ⟨(((i 0).val * 4096 + (i 1).val) * 9216 + (i 2).val) % 9216, by have h0 : (i 0).val < 8 := (i 0).isLt; have h1 : (i 1).val < 4096 := (i 1).isLt; have h2 : (i 2).val < 9216 := (i 2).isLt; show (((i 0).val * 4096 + (i 1).val) * 9216 + (i 2).val) % 9216 < 9216; omega⟩
theorem val_main_v0_apply (i : S8x4096x9216.Idx) :
    val_main_v0 (F := F) x0 i = x0 (idx_main_v0 i) := by
  unfold val_main_v0
  exact shapeCast_apply x0 shapeCasts_S32768x9216_S8x4096x9216 i (idx_main_v0 i)
    (by rewrite [Shape.rowMajor_val_two, Shape.rowMajor_val_three]; have h0 : (i 0).val < 8 := (i 0).isLt; have h1 : (i 1).val < 4096 := (i 1).isLt; have h2 : (i 2).val < 9216 := (i 2).isLt; show (((i 0).val * 4096 + (i 1).val) * 9216 + (i 2).val) / 9216 * 9216 + (((i 0).val * 4096 + (i 1).val) * 9216 + (i 2).val) % 9216 = ((i 0).val * 4096 + (i 1).val) * 9216 + (i 2).val; omega)

-- %1 = stablehlo.convert %0
def val_main_v1 : T F S8x4096x9216 .f32 :=
  extf .f32 (val_main_v0 (F := F) x0) bitsLt_bf16_f32
theorem val_main_v1_apply (i : S8x4096x9216.Idx) :
    val_main_v1 (F := F) x0 i = FloatOps.extf .f32 bitsLt_bf16_f32 (val_main_v0 (F := F) x0 i) := rfl

-- %2 = stablehlo.reshape %arg2
def val_main_v2 : T F S8x4096x1024 .f32 :=
  shapeCast _ (x2) shapeCasts_S32768x1024_S8x4096x1024
set_option backward.proofsInPublic true in
abbrev idx_main_v2 (i : S8x4096x1024.Idx) : S32768x1024.Idx := fun a => match a with
  | ⟨0, _⟩ => ⟨(((i 0).val * 4096 + (i 1).val) * 1024 + (i 2).val) / 1024, by have h0 : (i 0).val < 8 := (i 0).isLt; have h1 : (i 1).val < 4096 := (i 1).isLt; have h2 : (i 2).val < 1024 := (i 2).isLt; show (((i 0).val * 4096 + (i 1).val) * 1024 + (i 2).val) / 1024 < 32768; omega⟩
  | ⟨1, _⟩ => ⟨(((i 0).val * 4096 + (i 1).val) * 1024 + (i 2).val) % 1024, by have h0 : (i 0).val < 8 := (i 0).isLt; have h1 : (i 1).val < 4096 := (i 1).isLt; have h2 : (i 2).val < 1024 := (i 2).isLt; show (((i 0).val * 4096 + (i 1).val) * 1024 + (i 2).val) % 1024 < 1024; omega⟩
theorem val_main_v2_apply (i : S8x4096x1024.Idx) :
    val_main_v2 (F := F) x2 i = x2 (idx_main_v2 i) := by
  unfold val_main_v2
  exact shapeCast_apply x2 shapeCasts_S32768x1024_S8x4096x1024 i (idx_main_v2 i)
    (by rewrite [Shape.rowMajor_val_two, Shape.rowMajor_val_three]; have h0 : (i 0).val < 8 := (i 0).isLt; have h1 : (i 1).val < 4096 := (i 1).isLt; have h2 : (i 2).val < 1024 := (i 2).isLt; show (((i 0).val * 4096 + (i 1).val) * 1024 + (i 2).val) / 1024 * 1024 + (((i 0).val * 4096 + (i 1).val) * 1024 + (i 2).val) % 1024 = ((i 0).val * 4096 + (i 1).val) * 1024 + (i 2).val; omega)

-- %3 = stablehlo.slice %1
def val_main_v3 : T F S8x4096x1024 .f32 :=
  extractStridedSlice S8x4096x1024 ![0, 0, 0] (val_main_v1 (F := F) x0) slices_S8x4096x9216_S8x4096x1024_0_0_0
set_option backward.proofsInPublic true in
abbrev idx_main_v3 (i : S8x4096x1024.Idx) : S8x4096x9216.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1024 := (i 2).isLt; show (i 2).val < 9216; omega⟩
theorem val_main_v3_apply (i : S8x4096x1024.Idx) :
    val_main_v3 (F := F) x0 i = val_main_v1 (F := F) x0 (idx_main_v3 i) := by
  unfold val_main_v3
  generalize val_main_v1 (F := F) x0 = y
  exact extractStridedSlice_apply ![0, 0, 0] y slices_S8x4096x9216_S8x4096x1024_0_0_0 i (idx_main_v3 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %4 = stablehlo.reshape %arg4
def val_main_v4 : T F S1024 .f32 :=
  shapeCast _ (x4) shapeCasts_S1x1024_S1024
set_option backward.proofsInPublic true in
abbrev idx_main_v4 (i : S1024.Idx) : S1x1024.Idx := fun a => match a with
  | ⟨0, _⟩ => ⟨0, Nat.one_pos⟩
  | ⟨1, _⟩ => ⟨((i 0).val) % 1024, by have h0 : (i 0).val < 1024 := (i 0).isLt; show ((i 0).val) % 1024 < 1024; omega⟩
theorem val_main_v4_apply (i : S1024.Idx) :
    val_main_v4 (F := F) x4 i = x4 (idx_main_v4 i) := by
  unfold val_main_v4
  exact shapeCast_apply x4 shapeCasts_S1x1024_S1024 i (idx_main_v4 i)
    (by rewrite [Shape.rowMajor_val_two, Shape.rowMajor_val_one]; have h0 : (i 0).val < 1024 := (i 0).isLt; show 0 * 1024 + ((i 0).val) % 1024 = (i 0).val; omega)

-- %5 = stablehlo.reshape %3
def val_main_v5 : T F S8x4096x4x256 .f32 :=
  shapeCast _ (val_main_v3 (F := F) x0) shapeCasts_S8x4096x1024_S8x4096x4x256
set_option backward.proofsInPublic true in
abbrev idx_main_v5 (i : S8x4096x4x256.Idx) : S8x4096x1024.Idx := fun a => match a with
  | ⟨0, _⟩ => ⟨((((i 0).val * 4096 + (i 1).val) * 4 + (i 2).val) * 256 + (i 3).val) / 4194304, by have h0 : (i 0).val < 8 := (i 0).isLt; have h1 : (i 1).val < 4096 := (i 1).isLt; have h2 : (i 2).val < 4 := (i 2).isLt; have h3 : (i 3).val < 256 := (i 3).isLt; show ((((i 0).val * 4096 + (i 1).val) * 4 + (i 2).val) * 256 + (i 3).val) / 4194304 < 8; omega⟩
  | ⟨1, _⟩ => ⟨((((i 0).val * 4096 + (i 1).val) * 4 + (i 2).val) * 256 + (i 3).val) / 1024 % 4096, by have h0 : (i 0).val < 8 := (i 0).isLt; have h1 : (i 1).val < 4096 := (i 1).isLt; have h2 : (i 2).val < 4 := (i 2).isLt; have h3 : (i 3).val < 256 := (i 3).isLt; show ((((i 0).val * 4096 + (i 1).val) * 4 + (i 2).val) * 256 + (i 3).val) / 1024 % 4096 < 4096; omega⟩
  | ⟨2, _⟩ => ⟨((((i 0).val * 4096 + (i 1).val) * 4 + (i 2).val) * 256 + (i 3).val) % 1024, by have h0 : (i 0).val < 8 := (i 0).isLt; have h1 : (i 1).val < 4096 := (i 1).isLt; have h2 : (i 2).val < 4 := (i 2).isLt; have h3 : (i 3).val < 256 := (i 3).isLt; show ((((i 0).val * 4096 + (i 1).val) * 4 + (i 2).val) * 256 + (i 3).val) % 1024 < 1024; omega⟩
theorem val_main_v5_apply (i : S8x4096x4x256.Idx) :
    val_main_v5 (F := F) x0 i = val_main_v3 (F := F) x0 (idx_main_v5 i) := by
  unfold val_main_v5
  generalize val_main_v3 (F := F) x0 = y
  exact shapeCast_apply y shapeCasts_S8x4096x1024_S8x4096x4x256 i (idx_main_v5 i)
    (by rewrite [Shape.rowMajor_val_three, Shape.rowMajor_val_four]; have h0 : (i 0).val < 8 := (i 0).isLt; have h1 : (i 1).val < 4096 := (i 1).isLt; have h2 : (i 2).val < 4 := (i 2).isLt; have h3 : (i 3).val < 256 := (i 3).isLt; show (((((i 0).val * 4096 + (i 1).val) * 4 + (i 2).val) * 256 + (i 3).val) / 4194304 * 4096 + ((((i 0).val * 4096 + (i 1).val) * 4 + (i 2).val) * 256 + (i 3).val) / 1024 % 4096) * 1024 + ((((i 0).val * 4096 + (i 1).val) * 4 + (i 2).val) * 256 + (i 3).val) % 1024 = (((i 0).val * 4096 + (i 1).val) * 4 + (i 2).val) * 256 + (i 3).val; omega)

-- @cumsum_0's %cst = stablehlo.constant dense<0.000000e+00>
def val_main_call0_call0_cst : T F S_ .f32 :=
  constant S_ .f32 0x00000000#32
theorem val_main_call0_call0_cst_apply (i : S_.Idx) :
    val_main_call0_call0_cst (F := F) i = FloatOps.ofBits .f32 0x00000000#32 := rfl

-- @cumsum_0's %0 = stablehlo.broadcast_in_dim %cst
def val_main_call0_call0_v0 : T F S_ .f32 :=
  broadcastInDim S_ ![] bcast_S_S_ (val_main_call0_call0_cst (F := F))
abbrev idx_main_call0_call0_v0 (i : S_.Idx) : S_.Idx := fun a => a.elim0
theorem val_main_call0_call0_v0_apply (i : S_.Idx) :
    val_main_call0_call0_v0 (F := F) i = val_main_call0_call0_cst (F := F) (idx_main_call0_call0_v0 i) := by
  unfold val_main_call0_call0_v0
  generalize val_main_call0_call0_cst (F := F) = y
  exact broadcastInDim_apply _ bcast_S_S_ y i (idx_main_call0_call0_v0 i) (fun a => a.elim0)

-- %6: the running sum, a window sum of 4096 positions
def val_main_v6 : T F S8x4096x4x256 .f32 :=
  Host.reduceWindowAdd ![1, 4096, 1, 1] ![1, 1, 1, 1] ![0, 4095, 0, 0] ![0, 0, 0, 0] (val_main_v5 (F := F) x0) (val_main_call0_call0_v0 (F := F)) reduceWindows_S8x4096x4x256_S8x4096x4x256_w1s1p0_0_w4096s1p4095_0_w1s1p0_0_w1s1p0_0 h_S_

-- %7 = stablehlo.iota dim = 0
def val_main_v7 : T F S4096 .f32 :=
  sitofp .f32 (iotaInDim S4096 32 0)

-- %8 = stablehlo.slice %6
def val_main_v8 : T F S8x4096x1x256 .f32 :=
  extractStridedSlice S8x4096x1x256 ![0, 0, 0, 0] (val_main_v6 (F := F) x0) slices_S8x4096x4x256_S8x4096x1x256_0_0_0_0
set_option backward.proofsInPublic true in
abbrev idx_main_v8 (i : S8x4096x1x256.Idx) : S8x4096x4x256.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 4; omega⟩
  | ⟨3, _⟩ => ⟨(i 3).val, (i 3).isLt⟩
theorem val_main_v8_apply (i : S8x4096x1x256.Idx) :
    val_main_v8 (F := F) x0 i = val_main_v6 (F := F) x0 (idx_main_v8 i) := by
  unfold val_main_v8
  generalize val_main_v6 (F := F) x0 = y
  exact extractStridedSlice_apply ![0, 0, 0, 0] y slices_S8x4096x4x256_S8x4096x1x256_0_0_0_0 i (idx_main_v8 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

-- %9 = stablehlo.reshape %8
def val_main_v9 : T F S8x4096x256 .f32 :=
  shapeCast _ (val_main_v8 (F := F) x0) shapeCasts_S8x4096x1x256_S8x4096x256
set_option backward.proofsInPublic true in
abbrev idx_main_v9 (i : S8x4096x256.Idx) : S8x4096x1x256.Idx := fun a => match a with
  | ⟨0, _⟩ => ⟨(((i 0).val * 4096 + (i 1).val) * 256 + (i 2).val) / 1048576, by have h0 : (i 0).val < 8 := (i 0).isLt; have h1 : (i 1).val < 4096 := (i 1).isLt; have h2 : (i 2).val < 256 := (i 2).isLt; show (((i 0).val * 4096 + (i 1).val) * 256 + (i 2).val) / 1048576 < 8; omega⟩
  | ⟨1, _⟩ => ⟨(((i 0).val * 4096 + (i 1).val) * 256 + (i 2).val) / 256 % 4096, by have h0 : (i 0).val < 8 := (i 0).isLt; have h1 : (i 1).val < 4096 := (i 1).isLt; have h2 : (i 2).val < 256 := (i 2).isLt; show (((i 0).val * 4096 + (i 1).val) * 256 + (i 2).val) / 256 % 4096 < 4096; omega⟩
  | ⟨2, _⟩ => ⟨0, Nat.one_pos⟩
  | ⟨3, _⟩ => ⟨(((i 0).val * 4096 + (i 1).val) * 256 + (i 2).val) % 256, by have h0 : (i 0).val < 8 := (i 0).isLt; have h1 : (i 1).val < 4096 := (i 1).isLt; have h2 : (i 2).val < 256 := (i 2).isLt; show (((i 0).val * 4096 + (i 1).val) * 256 + (i 2).val) % 256 < 256; omega⟩
theorem val_main_v9_apply (i : S8x4096x256.Idx) :
    val_main_v9 (F := F) x0 i = val_main_v8 (F := F) x0 (idx_main_v9 i) := by
  unfold val_main_v9
  generalize val_main_v8 (F := F) x0 = y
  exact shapeCast_apply y shapeCasts_S8x4096x1x256_S8x4096x256 i (idx_main_v9 i)
    (by rewrite [Shape.rowMajor_val_four, Shape.rowMajor_val_three]; have h0 : (i 0).val < 8 := (i 0).isLt; have h1 : (i 1).val < 4096 := (i 1).isLt; have h2 : (i 2).val < 256 := (i 2).isLt; show (((((i 0).val * 4096 + (i 1).val) * 256 + (i 2).val) / 1048576 * 4096 + (((i 0).val * 4096 + (i 1).val) * 256 + (i 2).val) / 256 % 4096) * 1 + 0) * 256 + (((i 0).val * 4096 + (i 1).val) * 256 + (i 2).val) % 256 = ((i 0).val * 4096 + (i 1).val) * 256 + (i 2).val; omega)

-- %c = stablehlo.constant dense<0>
def val_main_c : T F S_ .i32 :=
  constantI S_ 32 0#32
theorem val_main_c_apply (i : S_.Idx) :
    val_main_c (F := F) i = 0#32 := rfl

-- @_pad's %0 = stablehlo.convert %arg1
def val_main_call1_v0 : T F S_ .f32 :=
  sitofp .f32 (val_main_c (F := F))
theorem val_main_call1_v0_apply (i : S_.Idx) :
    val_main_call1_v0 (F := F) i = FloatOps.sitofp .f32 (val_main_c (F := F) i) := rfl

-- %10
def val_main_v10 : T F S8x4098x256 .f32 :=
  pad S8x4098x256 ![0, 2, 0] ![0, 0, 0] ![0, 0, 0] (val_main_v9 (F := F) x0) (val_main_call1_v0 (F := F)) pads_S8x4096x256_S8x4098x256_000_200_000 h_S_

-- %11 = stablehlo.slice %10
def val_main_v11 : T F S8x4096x256 .f32 :=
  extractStridedSlice S8x4096x256 ![0, 0, 0] (val_main_v10 (F := F) x0) slices_S8x4098x256_S8x4096x256_0_0_0
set_option backward.proofsInPublic true in
abbrev idx_main_v11 (i : S8x4096x256.Idx) : S8x4098x256.Idx := fun a => match a with
  | ⟨0, _⟩ => ⟨(i 0).val, (i 0).isLt⟩
  | ⟨1, _⟩ => ⟨(i 1).val, by have h1 : (i 1).val < 4096 := (i 1).isLt; show (i 1).val < 4098; omega⟩
  | ⟨2, _⟩ => ⟨(i 2).val, (i 2).isLt⟩
theorem val_main_v11_apply (i : S8x4096x256.Idx) :
    val_main_v11 (F := F) x0 i = val_main_v10 (F := F) x0 (idx_main_v11 i) := by
  unfold val_main_v11
  generalize val_main_v10 (F := F) x0 = y
  exact extractStridedSlice_apply ![0, 0, 0] y slices_S8x4098x256_S8x4096x256_0_0_0 i (idx_main_v11 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %cst = stablehlo.constant dense<1.000000e+00>
def val_main_cst : T F S_ .f32 :=
  constant S_ .f32 0x3F800000#32
theorem val_main_cst_apply (i : S_.Idx) :
    val_main_cst (F := F) i = FloatOps.ofBits .f32 0x3F800000#32 := rfl

-- %12 = stablehlo.broadcast_in_dim %cst
def val_main_v12 : T F S4096 .f32 :=
  broadcastInDim S4096 ![] bcast_S_S4096 (val_main_cst (F := F))
abbrev idx_main_v12 (i : S4096.Idx) : S_.Idx := fun a => a.elim0
theorem val_main_v12_apply (i : S4096.Idx) :
    val_main_v12 (F := F) i = val_main_cst (F := F) (idx_main_v12 i) := by
  unfold val_main_v12
  generalize val_main_cst (F := F) = y
  exact broadcastInDim_apply _ bcast_S_S4096 y i (idx_main_v12 i) (fun a => a.elim0)

-- %13 = stablehlo.add %7, %12
def val_main_v13 : T F S4096 .f32 :=
  addf (val_main_v7 (F := F)) (val_main_v12 (F := F))
theorem val_main_v13_apply (i : S4096.Idx) :
    val_main_v13 (F := F) i = FloatOps.addf (val_main_v7 (F := F) i) (val_main_v12 (F := F) i) := rfl

-- %cst_0 = stablehlo.constant dense<2.000000e+00>
def val_main_cst_0 : T F S_ .f32 :=
  constant S_ .f32 0x40000000#32
theorem val_main_cst_0_apply (i : S_.Idx) :
    val_main_cst_0 (F := F) i = FloatOps.ofBits .f32 0x40000000#32 := rfl

-- %14 = stablehlo.broadcast_in_dim %cst_0
def val_main_v14 : T F S4096 .f32 :=
  broadcastInDim S4096 ![] bcast_S_S4096 (val_main_cst_0 (F := F))
abbrev idx_main_v14 (i : S4096.Idx) : S_.Idx := fun a => a.elim0
theorem val_main_v14_apply (i : S4096.Idx) :
    val_main_v14 (F := F) i = val_main_cst_0 (F := F) (idx_main_v14 i) := by
  unfold val_main_v14
  generalize val_main_cst_0 (F := F) = y
  exact broadcastInDim_apply _ bcast_S_S4096 y i (idx_main_v14 i) (fun a => a.elim0)

-- %15 = stablehlo.minimum %13, %14
def val_main_v15 : T F S4096 .f32 :=
  minimumf (val_main_v13 (F := F)) (val_main_v14 (F := F))
theorem val_main_v15_apply (i : S4096.Idx) :
    val_main_v15 (F := F) i = FloatOps.minimumf (val_main_v13 (F := F) i) (val_main_v14 (F := F) i) := rfl

-- %16 = stablehlo.broadcast_in_dim %15
def val_main_v16 : T F S1x4096x1 .f32 :=
  broadcastInDim S1x4096x1 ![1] bcast_S4096_S1x4096x1_1 (val_main_v15 (F := F))
abbrev idx_main_v16 (i : S1x4096x1.Idx) : S4096.Idx := fun a => match a with
  | ⟨0, _⟩ => ⟨(i 1).val, (i 1).isLt⟩
theorem val_main_v16_apply (i : S1x4096x1.Idx) :
    val_main_v16 (F := F) i = val_main_v15 (F := F) (idx_main_v16 i) := by
  unfold val_main_v16
  generalize val_main_v15 (F := F) = y
  exact broadcastInDim_apply _ bcast_S4096_S1x4096x1_1 y i (idx_main_v16 i) (fun a => match a with
    | ⟨0, _⟩ => by show (i 1).val = if (4096 : Nat) = 1 then 0 else (i 1).val; rw [if_neg (by decide)])

-- %17 = stablehlo.subtract %9, %11
def val_main_v17 : T F S8x4096x256 .f32 :=
  subf (val_main_v9 (F := F) x0) (val_main_v11 (F := F) x0)
theorem val_main_v17_apply (i : S8x4096x256.Idx) :
    val_main_v17 (F := F) x0 i = FloatOps.subf (val_main_v9 (F := F) x0 i) (val_main_v11 (F := F) x0 i) := rfl

-- %18 = stablehlo.broadcast_in_dim %16
def val_main_v18 : T F S8x4096x256 .f32 :=
  broadcastInDim S8x4096x256 ![0, 1, 2] bcast_S1x4096x1_S8x4096x256_0_1_2 (val_main_v16 (F := F))
abbrev idx_main_v18 (i : S8x4096x256.Idx) : S1x4096x1.Idx := fun a => match a with
  | ⟨0, _⟩ => ⟨0, Nat.one_pos⟩
  | ⟨1, _⟩ => ⟨(i 1).val, (i 1).isLt⟩
  | ⟨2, _⟩ => ⟨0, Nat.one_pos⟩
theorem val_main_v18_apply (i : S8x4096x256.Idx) :
    val_main_v18 (F := F) i = val_main_v16 (F := F) (idx_main_v18 i) := by
  unfold val_main_v18
  generalize val_main_v16 (F := F) = y
  exact broadcastInDim_apply _ bcast_S1x4096x1_S8x4096x256_0_1_2 y i (idx_main_v18 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)]
    | ⟨2, _⟩ => by show 0 = if (1 : Nat) = 1 then 0 else (i 2).val; rw [if_pos rfl])

-- %19 = stablehlo.divide %17, %18
def val_main_v19 : T F S8x4096x256 .f32 :=
  Host.divf (val_main_v17 (F := F) x0) (val_main_v18 (F := F))
theorem val_main_v19_apply (i : S8x4096x256.Idx) :
    val_main_v19 (F := F) x0 i = FloatOps.hostDivf (val_main_v17 (F := F) x0 i) (val_main_v18 (F := F) i) := rfl

-- %20 = stablehlo.slice %5
def val_main_v20 : T F S8x4096x1x256 .f32 :=
  extractStridedSlice S8x4096x1x256 ![0, 0, 0, 0] (val_main_v5 (F := F) x0) slices_S8x4096x4x256_S8x4096x1x256_0_0_0_0
set_option backward.proofsInPublic true in
abbrev idx_main_v20 (i : S8x4096x1x256.Idx) : S8x4096x4x256.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 4; omega⟩
  | ⟨3, _⟩ => ⟨(i 3).val, (i 3).isLt⟩
theorem val_main_v20_apply (i : S8x4096x1x256.Idx) :
    val_main_v20 (F := F) x0 i = val_main_v5 (F := F) x0 (idx_main_v20 i) := by
  unfold val_main_v20
  generalize val_main_v5 (F := F) x0 = y
  exact extractStridedSlice_apply ![0, 0, 0, 0] y slices_S8x4096x4x256_S8x4096x1x256_0_0_0_0 i (idx_main_v20 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

-- %21 = stablehlo.reshape %20
def val_main_v21 : T F S8x4096x256 .f32 :=
  shapeCast _ (val_main_v20 (F := F) x0) shapeCasts_S8x4096x1x256_S8x4096x256
set_option backward.proofsInPublic true in
abbrev idx_main_v21 (i : S8x4096x256.Idx) : S8x4096x1x256.Idx := fun a => match a with
  | ⟨0, _⟩ => ⟨(((i 0).val * 4096 + (i 1).val) * 256 + (i 2).val) / 1048576, by have h0 : (i 0).val < 8 := (i 0).isLt; have h1 : (i 1).val < 4096 := (i 1).isLt; have h2 : (i 2).val < 256 := (i 2).isLt; show (((i 0).val * 4096 + (i 1).val) * 256 + (i 2).val) / 1048576 < 8; omega⟩
  | ⟨1, _⟩ => ⟨(((i 0).val * 4096 + (i 1).val) * 256 + (i 2).val) / 256 % 4096, by have h0 : (i 0).val < 8 := (i 0).isLt; have h1 : (i 1).val < 4096 := (i 1).isLt; have h2 : (i 2).val < 256 := (i 2).isLt; show (((i 0).val * 4096 + (i 1).val) * 256 + (i 2).val) / 256 % 4096 < 4096; omega⟩
  | ⟨2, _⟩ => ⟨0, Nat.one_pos⟩
  | ⟨3, _⟩ => ⟨(((i 0).val * 4096 + (i 1).val) * 256 + (i 2).val) % 256, by have h0 : (i 0).val < 8 := (i 0).isLt; have h1 : (i 1).val < 4096 := (i 1).isLt; have h2 : (i 2).val < 256 := (i 2).isLt; show (((i 0).val * 4096 + (i 1).val) * 256 + (i 2).val) % 256 < 256; omega⟩
theorem val_main_v21_apply (i : S8x4096x256.Idx) :
    val_main_v21 (F := F) x0 i = val_main_v20 (F := F) x0 (idx_main_v21 i) := by
  unfold val_main_v21
  generalize val_main_v20 (F := F) x0 = y
  exact shapeCast_apply y shapeCasts_S8x4096x1x256_S8x4096x256 i (idx_main_v21 i)
    (by rewrite [Shape.rowMajor_val_four, Shape.rowMajor_val_three]; have h0 : (i 0).val < 8 := (i 0).isLt; have h1 : (i 1).val < 4096 := (i 1).isLt; have h2 : (i 2).val < 256 := (i 2).isLt; show (((((i 0).val * 4096 + (i 1).val) * 256 + (i 2).val) / 1048576 * 4096 + (((i 0).val * 4096 + (i 1).val) * 256 + (i 2).val) / 256 % 4096) * 1 + 0) * 256 + (((i 0).val * 4096 + (i 1).val) * 256 + (i 2).val) % 256 = ((i 0).val * 4096 + (i 1).val) * 256 + (i 2).val; omega)

-- %22 = stablehlo.subtract %19, %21
def val_main_v22 : T F S8x4096x256 .f32 :=
  subf (val_main_v19 (F := F) x0) (val_main_v21 (F := F) x0)
theorem val_main_v22_apply (i : S8x4096x256.Idx) :
    val_main_v22 (F := F) x0 i = FloatOps.subf (val_main_v19 (F := F) x0 i) (val_main_v21 (F := F) x0 i) := rfl

-- %23 = stablehlo.slice %arg3
def val_main_v23 : T F S1x256x256 .bf16 :=
  extractStridedSlice S1x256x256 ![0, 0, 0] (x3) slices_S4x256x256_S1x256x256_0_0_0
set_option backward.proofsInPublic true in
abbrev idx_main_v23 (i : S1x256x256.Idx) : S4x256x256.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩
theorem val_main_v23_apply (i : S1x256x256.Idx) :
    val_main_v23 (F := F) x3 i = x3 (idx_main_v23 i) := by
  unfold val_main_v23
  exact extractStridedSlice_apply ![0, 0, 0] x3 slices_S4x256x256_S1x256x256_0_0_0 i (idx_main_v23 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %24 = stablehlo.reshape %23
def val_main_v24 : T F S256x256 .bf16 :=
  shapeCast _ (val_main_v23 (F := F) x3) shapeCasts_S1x256x256_S256x256
set_option backward.proofsInPublic true in
abbrev idx_main_v24 (i : S256x256.Idx) : S1x256x256.Idx := fun a => match a with
  | ⟨0, _⟩ => ⟨0, Nat.one_pos⟩
  | ⟨1, _⟩ => ⟨((i 0).val * 256 + (i 1).val) / 256 % 256, by have h0 : (i 0).val < 256 := (i 0).isLt; have h1 : (i 1).val < 256 := (i 1).isLt; show ((i 0).val * 256 + (i 1).val) / 256 % 256 < 256; omega⟩
  | ⟨2, _⟩ => ⟨((i 0).val * 256 + (i 1).val) % 256, by have h0 : (i 0).val < 256 := (i 0).isLt; have h1 : (i 1).val < 256 := (i 1).isLt; show ((i 0).val * 256 + (i 1).val) % 256 < 256; omega⟩
theorem val_main_v24_apply (i : S256x256.Idx) :
    val_main_v24 (F := F) x3 i = val_main_v23 (F := F) x3 (idx_main_v24 i) := by
  unfold val_main_v24
  generalize val_main_v23 (F := F) x3 = y
  exact shapeCast_apply y shapeCasts_S1x256x256_S256x256 i (idx_main_v24 i)
    (by rewrite [Shape.rowMajor_val_three, Shape.rowMajor_val_two]; have h0 : (i 0).val < 256 := (i 0).isLt; have h1 : (i 1).val < 256 := (i 1).isLt; show (0 * 256 + ((i 0).val * 256 + (i 1).val) / 256 % 256) * 256 + ((i 0).val * 256 + (i 1).val) % 256 = (i 0).val * 256 + (i 1).val; omega)

-- %25 = stablehlo.convert %24
def val_main_v25 : T F S256x256 .f32 :=
  extf .f32 (val_main_v24 (F := F) x3) bitsLt_bf16_f32
theorem val_main_v25_apply (i : S256x256.Idx) :
    val_main_v25 (F := F) x3 i = FloatOps.extf .f32 bitsLt_bf16_f32 (val_main_v24 (F := F) x3 i) := rfl

-- %26 = stablehlo.dot_general %22, %25
def val_main_v26 : T F S8x4096x256 .f32 :=
  Host.dotGeneral dot_S8x4096x256_S256x256_S8x4096x256_2_0_01_1_n_n none (val_main_v22 (F := F) x0) (val_main_v25 (F := F) x3)
theorem lhs_main_v26_0 (i : S8x4096x256.Idx) (q : dot_S8x4096x256_S256x256_S8x4096x256_2_0_01_1_n_n.contr.Idx) :
    (dot_S8x4096x256_S256x256_S8x4096x256_2_0_01_1_n_n.lhsIdx i q 0).val = (i 0).val := by
  unfold DotDims.lhsIdx
  rw [dif_neg (show ¬(0 : Fin S8x4096x256.rank) ∈ dot_S8x4096x256_S256x256_S8x4096x256_2_0_01_1_n_n.lhsBatch by decide), dif_pos (show (0 : Fin S8x4096x256.rank) ∈ dot_S8x4096x256_S256x256_S8x4096x256_2_0_01_1_n_n.lhsNonContracting by decide)]
  rfl
theorem lhs_main_v26_1 (i : S8x4096x256.Idx) (q : dot_S8x4096x256_S256x256_S8x4096x256_2_0_01_1_n_n.contr.Idx) :
    (dot_S8x4096x256_S256x256_S8x4096x256_2_0_01_1_n_n.lhsIdx i q 1).val = (i 1).val := by
  unfold DotDims.lhsIdx
  rw [dif_neg (show ¬(1 : Fin S8x4096x256.rank) ∈ dot_S8x4096x256_S256x256_S8x4096x256_2_0_01_1_n_n.lhsBatch by decide), dif_pos (show (1 : Fin S8x4096x256.rank) ∈ dot_S8x4096x256_S256x256_S8x4096x256_2_0_01_1_n_n.lhsNonContracting by decide)]
  rfl
theorem lhs_main_v26_2 (i : S8x4096x256.Idx) (q : dot_S8x4096x256_S256x256_S8x4096x256_2_0_01_1_n_n.contr.Idx) :
    (dot_S8x4096x256_S256x256_S8x4096x256_2_0_01_1_n_n.lhsIdx i q 2).val = (q ⟨0, by decide⟩).val :=
  dot_S8x4096x256_S256x256_S8x4096x256_2_0_01_1_n_n.lhsIdx_val_of_single rfl i q
theorem rhs_main_v26_0 (i : S8x4096x256.Idx) (q : dot_S8x4096x256_S256x256_S8x4096x256_2_0_01_1_n_n.contr.Idx) :
    (dot_S8x4096x256_S256x256_S8x4096x256_2_0_01_1_n_n.rhsIdx i q 0).val = (q ⟨0, by decide⟩).val :=
  dot_S8x4096x256_S256x256_S8x4096x256_2_0_01_1_n_n.rhsIdx_val_of_single rfl i q
theorem rhs_main_v26_1 (i : S8x4096x256.Idx) (q : dot_S8x4096x256_S256x256_S8x4096x256_2_0_01_1_n_n.contr.Idx) :
    (dot_S8x4096x256_S256x256_S8x4096x256_2_0_01_1_n_n.rhsIdx i q 1).val = (i 2).val := by
  unfold DotDims.rhsIdx
  rw [dif_neg (show ¬(1 : Fin S256x256.rank) ∈ dot_S8x4096x256_S256x256_S8x4096x256_2_0_01_1_n_n.rhsBatch by decide), dif_pos (show (1 : Fin S256x256.rank) ∈ dot_S8x4096x256_S256x256_S8x4096x256_2_0_01_1_n_n.rhsNonContracting by decide)]
  rfl
abbrev lidx_main_v26 (i : S8x4096x256.Idx) (k : Fin 256) : S8x4096x256.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v26 (i : S8x4096x256.Idx) (k : Fin 256) : S256x256.Idx := fun a => match a with
  | ⟨0, _⟩ => ⟨k.val, k.isLt⟩
  | ⟨1, _⟩ => ⟨(i 2).val, (i 2).isLt⟩
theorem val_main_v26_apply (x0 : T Ideal S32768x9216 .bf16) (x3 : T Ideal S4x256x256 .bf16) (i : S8x4096x256.Idx) :
    val_main_v26 (F := Ideal) x0 x3 i = ∑ k : Fin 256, (val_main_v22 (F := Ideal) x0) (lidx_main_v26 i k) * (val_main_v25 (F := Ideal) x3) (ridx_main_v26 i k) := by
  unfold val_main_v26
  generalize val_main_v22 (F := Ideal) x0 = y0
  generalize val_main_v25 (F := Ideal) x3 = y1
  simp only [Host.dotGeneral]
  rw [Ideal.dotGeneral_apply, ← Equiv.sum_comp (ValueIdx.contrEquiv1 dot_S8x4096x256_S256x256_S8x4096x256_2_0_01_1_n_n 256 rfl rfl).symm]
  refine Finset.sum_congr rfl fun k _ => ?_
  have hk := ValueIdx.contrEquiv1_symm_val dot_S8x4096x256_S256x256_S8x4096x256_2_0_01_1_n_n 256 rfl rfl k
  have el : dot_S8x4096x256_S256x256_S8x4096x256_2_0_01_1_n_n.lhsIdx i ((ValueIdx.contrEquiv1 dot_S8x4096x256_S256x256_S8x4096x256_2_0_01_1_n_n 256 rfl rfl).symm k) = lidx_main_v26 i k := funext fun a => Fin.ext (by
    match a with
    | ⟨0, _⟩ => exact lhs_main_v26_0 _ _
    | ⟨1, _⟩ => exact lhs_main_v26_1 _ _
    | ⟨2, _⟩ => exact (lhs_main_v26_2 _ _).trans hk)
  have er : dot_S8x4096x256_S256x256_S8x4096x256_2_0_01_1_n_n.rhsIdx i ((ValueIdx.contrEquiv1 dot_S8x4096x256_S256x256_S8x4096x256_2_0_01_1_n_n 256 rfl rfl).symm k) = ridx_main_v26 i k := funext fun a => Fin.ext (by
    match a with
    | ⟨0, _⟩ => exact (rhs_main_v26_0 _ _).trans hk
    | ⟨1, _⟩ => exact rhs_main_v26_1 _ _)
  rw [el, er]

-- %27 = stablehlo.slice %6
def val_main_v27 : T F S8x4096x1x256 .f32 :=
  extractStridedSlice S8x4096x1x256 ![0, 0, 1, 0] (val_main_v6 (F := F) x0) slices_S8x4096x4x256_S8x4096x1x256_0_0_1_0
set_option backward.proofsInPublic true in
abbrev idx_main_v27 (i : S8x4096x1x256.Idx) : S8x4096x4x256.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 4; omega⟩
  | ⟨3, _⟩ => ⟨(i 3).val, (i 3).isLt⟩
theorem val_main_v27_apply (i : S8x4096x1x256.Idx) :
    val_main_v27 (F := F) x0 i = val_main_v6 (F := F) x0 (idx_main_v27 i) := by
  unfold val_main_v27
  generalize val_main_v6 (F := F) x0 = y
  exact extractStridedSlice_apply ![0, 0, 1, 0] y slices_S8x4096x4x256_S8x4096x1x256_0_0_1_0 i (idx_main_v27 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

-- %28 = stablehlo.reshape %27
def val_main_v28 : T F S8x4096x256 .f32 :=
  shapeCast _ (val_main_v27 (F := F) x0) shapeCasts_S8x4096x1x256_S8x4096x256
set_option backward.proofsInPublic true in
abbrev idx_main_v28 (i : S8x4096x256.Idx) : S8x4096x1x256.Idx := fun a => match a with
  | ⟨0, _⟩ => ⟨(((i 0).val * 4096 + (i 1).val) * 256 + (i 2).val) / 1048576, by have h0 : (i 0).val < 8 := (i 0).isLt; have h1 : (i 1).val < 4096 := (i 1).isLt; have h2 : (i 2).val < 256 := (i 2).isLt; show (((i 0).val * 4096 + (i 1).val) * 256 + (i 2).val) / 1048576 < 8; omega⟩
  | ⟨1, _⟩ => ⟨(((i 0).val * 4096 + (i 1).val) * 256 + (i 2).val) / 256 % 4096, by have h0 : (i 0).val < 8 := (i 0).isLt; have h1 : (i 1).val < 4096 := (i 1).isLt; have h2 : (i 2).val < 256 := (i 2).isLt; show (((i 0).val * 4096 + (i 1).val) * 256 + (i 2).val) / 256 % 4096 < 4096; omega⟩
  | ⟨2, _⟩ => ⟨0, Nat.one_pos⟩
  | ⟨3, _⟩ => ⟨(((i 0).val * 4096 + (i 1).val) * 256 + (i 2).val) % 256, by have h0 : (i 0).val < 8 := (i 0).isLt; have h1 : (i 1).val < 4096 := (i 1).isLt; have h2 : (i 2).val < 256 := (i 2).isLt; show (((i 0).val * 4096 + (i 1).val) * 256 + (i 2).val) % 256 < 256; omega⟩
theorem val_main_v28_apply (i : S8x4096x256.Idx) :
    val_main_v28 (F := F) x0 i = val_main_v27 (F := F) x0 (idx_main_v28 i) := by
  unfold val_main_v28
  generalize val_main_v27 (F := F) x0 = y
  exact shapeCast_apply y shapeCasts_S8x4096x1x256_S8x4096x256 i (idx_main_v28 i)
    (by rewrite [Shape.rowMajor_val_four, Shape.rowMajor_val_three]; have h0 : (i 0).val < 8 := (i 0).isLt; have h1 : (i 1).val < 4096 := (i 1).isLt; have h2 : (i 2).val < 256 := (i 2).isLt; show (((((i 0).val * 4096 + (i 1).val) * 256 + (i 2).val) / 1048576 * 4096 + (((i 0).val * 4096 + (i 1).val) * 256 + (i 2).val) / 256 % 4096) * 1 + 0) * 256 + (((i 0).val * 4096 + (i 1).val) * 256 + (i 2).val) % 256 = ((i 0).val * 4096 + (i 1).val) * 256 + (i 2).val; omega)

-- %c_1 = stablehlo.constant dense<0>
def val_main_c_1 : T F S_ .i32 :=
  constantI S_ 32 0#32
theorem val_main_c_1_apply (i : S_.Idx) :
    val_main_c_1 (F := F) i = 0#32 := rfl

-- @_pad_1's %0 = stablehlo.convert %arg1
def val_main_call2_v0 : T F S_ .f32 :=
  sitofp .f32 (val_main_c_1 (F := F))
theorem val_main_call2_v0_apply (i : S_.Idx) :
    val_main_call2_v0 (F := F) i = FloatOps.sitofp .f32 (val_main_c_1 (F := F) i) := rfl

-- %29
def val_main_v29 : T F S8x4100x256 .f32 :=
  pad S8x4100x256 ![0, 4, 0] ![0, 0, 0] ![0, 0, 0] (val_main_v28 (F := F) x0) (val_main_call2_v0 (F := F)) pads_S8x4096x256_S8x4100x256_000_400_000 h_S_

-- %30 = stablehlo.slice %29
def val_main_v30 : T F S8x4096x256 .f32 :=
  extractStridedSlice S8x4096x256 ![0, 0, 0] (val_main_v29 (F := F) x0) slices_S8x4100x256_S8x4096x256_0_0_0
set_option backward.proofsInPublic true in
abbrev idx_main_v30 (i : S8x4096x256.Idx) : S8x4100x256.Idx := fun a => match a with
  | ⟨0, _⟩ => ⟨(i 0).val, (i 0).isLt⟩
  | ⟨1, _⟩ => ⟨(i 1).val, by have h1 : (i 1).val < 4096 := (i 1).isLt; show (i 1).val < 4100; omega⟩
  | ⟨2, _⟩ => ⟨(i 2).val, (i 2).isLt⟩
theorem val_main_v30_apply (i : S8x4096x256.Idx) :
    val_main_v30 (F := F) x0 i = val_main_v29 (F := F) x0 (idx_main_v30 i) := by
  unfold val_main_v30
  generalize val_main_v29 (F := F) x0 = y
  exact extractStridedSlice_apply ![0, 0, 0] y slices_S8x4100x256_S8x4096x256_0_0_0 i (idx_main_v30 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %cst_2 = stablehlo.constant dense<1.000000e+00>
def val_main_cst_2 : T F S_ .f32 :=
  constant S_ .f32 0x3F800000#32
theorem val_main_cst_2_apply (i : S_.Idx) :
    val_main_cst_2 (F := F) i = FloatOps.ofBits .f32 0x3F800000#32 := rfl

-- %31 = stablehlo.broadcast_in_dim %cst_2
def val_main_v31 : T F S4096 .f32 :=
  broadcastInDim S4096 ![] bcast_S_S4096 (val_main_cst_2 (F := F))
abbrev idx_main_v31 (i : S4096.Idx) : S_.Idx := fun a => a.elim0
theorem val_main_v31_apply (i : S4096.Idx) :
    val_main_v31 (F := F) i = val_main_cst_2 (F := F) (idx_main_v31 i) := by
  unfold val_main_v31
  generalize val_main_cst_2 (F := F) = y
  exact broadcastInDim_apply _ bcast_S_S4096 y i (idx_main_v31 i) (fun a => a.elim0)

-- %32 = stablehlo.add %7, %31
def val_main_v32 : T F S4096 .f32 :=
  addf (val_main_v7 (F := F)) (val_main_v31 (F := F))
theorem val_main_v32_apply (i : S4096.Idx) :
    val_main_v32 (F := F) i = FloatOps.addf (val_main_v7 (F := F) i) (val_main_v31 (F := F) i) := rfl

-- %cst_3 = stablehlo.constant dense<4.000000e+00>
def val_main_cst_3 : T F S_ .f32 :=
  constant S_ .f32 0x40800000#32
theorem val_main_cst_3_apply (i : S_.Idx) :
    val_main_cst_3 (F := F) i = FloatOps.ofBits .f32 0x40800000#32 := rfl

-- %33 = stablehlo.broadcast_in_dim %cst_3
def val_main_v33 : T F S4096 .f32 :=
  broadcastInDim S4096 ![] bcast_S_S4096 (val_main_cst_3 (F := F))
abbrev idx_main_v33 (i : S4096.Idx) : S_.Idx := fun a => a.elim0
theorem val_main_v33_apply (i : S4096.Idx) :
    val_main_v33 (F := F) i = val_main_cst_3 (F := F) (idx_main_v33 i) := by
  unfold val_main_v33
  generalize val_main_cst_3 (F := F) = y
  exact broadcastInDim_apply _ bcast_S_S4096 y i (idx_main_v33 i) (fun a => a.elim0)

-- %34 = stablehlo.minimum %32, %33
def val_main_v34 : T F S4096 .f32 :=
  minimumf (val_main_v32 (F := F)) (val_main_v33 (F := F))
theorem val_main_v34_apply (i : S4096.Idx) :
    val_main_v34 (F := F) i = FloatOps.minimumf (val_main_v32 (F := F) i) (val_main_v33 (F := F) i) := rfl

-- %35 = stablehlo.broadcast_in_dim %34
def val_main_v35 : T F S1x4096x1 .f32 :=
  broadcastInDim S1x4096x1 ![1] bcast_S4096_S1x4096x1_1 (val_main_v34 (F := F))
abbrev idx_main_v35 (i : S1x4096x1.Idx) : S4096.Idx := fun a => match a with
  | ⟨0, _⟩ => ⟨(i 1).val, (i 1).isLt⟩
theorem val_main_v35_apply (i : S1x4096x1.Idx) :
    val_main_v35 (F := F) i = val_main_v34 (F := F) (idx_main_v35 i) := by
  unfold val_main_v35
  generalize val_main_v34 (F := F) = y
  exact broadcastInDim_apply _ bcast_S4096_S1x4096x1_1 y i (idx_main_v35 i) (fun a => match a with
    | ⟨0, _⟩ => by show (i 1).val = if (4096 : Nat) = 1 then 0 else (i 1).val; rw [if_neg (by decide)])

-- %36 = stablehlo.subtract %28, %30
def val_main_v36 : T F S8x4096x256 .f32 :=
  subf (val_main_v28 (F := F) x0) (val_main_v30 (F := F) x0)
theorem val_main_v36_apply (i : S8x4096x256.Idx) :
    val_main_v36 (F := F) x0 i = FloatOps.subf (val_main_v28 (F := F) x0 i) (val_main_v30 (F := F) x0 i) := rfl

-- %37 = stablehlo.broadcast_in_dim %35
def val_main_v37 : T F S8x4096x256 .f32 :=
  broadcastInDim S8x4096x256 ![0, 1, 2] bcast_S1x4096x1_S8x4096x256_0_1_2 (val_main_v35 (F := F))
abbrev idx_main_v37 (i : S8x4096x256.Idx) : S1x4096x1.Idx := fun a => match a with
  | ⟨0, _⟩ => ⟨0, Nat.one_pos⟩
  | ⟨1, _⟩ => ⟨(i 1).val, (i 1).isLt⟩
  | ⟨2, _⟩ => ⟨0, Nat.one_pos⟩
theorem val_main_v37_apply (i : S8x4096x256.Idx) :
    val_main_v37 (F := F) i = val_main_v35 (F := F) (idx_main_v37 i) := by
  unfold val_main_v37
  generalize val_main_v35 (F := F) = y
  exact broadcastInDim_apply _ bcast_S1x4096x1_S8x4096x256_0_1_2 y i (idx_main_v37 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)]
    | ⟨2, _⟩ => by show 0 = if (1 : Nat) = 1 then 0 else (i 2).val; rw [if_pos rfl])

-- %38 = stablehlo.divide %36, %37
def val_main_v38 : T F S8x4096x256 .f32 :=
  Host.divf (val_main_v36 (F := F) x0) (val_main_v37 (F := F))
theorem val_main_v38_apply (i : S8x4096x256.Idx) :
    val_main_v38 (F := F) x0 i = FloatOps.hostDivf (val_main_v36 (F := F) x0 i) (val_main_v37 (F := F) i) := rfl

-- %39 = stablehlo.slice %5
def val_main_v39 : T F S8x4096x1x256 .f32 :=
  extractStridedSlice S8x4096x1x256 ![0, 0, 1, 0] (val_main_v5 (F := F) x0) slices_S8x4096x4x256_S8x4096x1x256_0_0_1_0
set_option backward.proofsInPublic true in
abbrev idx_main_v39 (i : S8x4096x1x256.Idx) : S8x4096x4x256.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 4; omega⟩
  | ⟨3, _⟩ => ⟨(i 3).val, (i 3).isLt⟩
theorem val_main_v39_apply (i : S8x4096x1x256.Idx) :
    val_main_v39 (F := F) x0 i = val_main_v5 (F := F) x0 (idx_main_v39 i) := by
  unfold val_main_v39
  generalize val_main_v5 (F := F) x0 = y
  exact extractStridedSlice_apply ![0, 0, 1, 0] y slices_S8x4096x4x256_S8x4096x1x256_0_0_1_0 i (idx_main_v39 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

-- %40 = stablehlo.reshape %39
def val_main_v40 : T F S8x4096x256 .f32 :=
  shapeCast _ (val_main_v39 (F := F) x0) shapeCasts_S8x4096x1x256_S8x4096x256
set_option backward.proofsInPublic true in
abbrev idx_main_v40 (i : S8x4096x256.Idx) : S8x4096x1x256.Idx := fun a => match a with
  | ⟨0, _⟩ => ⟨(((i 0).val * 4096 + (i 1).val) * 256 + (i 2).val) / 1048576, by have h0 : (i 0).val < 8 := (i 0).isLt; have h1 : (i 1).val < 4096 := (i 1).isLt; have h2 : (i 2).val < 256 := (i 2).isLt; show (((i 0).val * 4096 + (i 1).val) * 256 + (i 2).val) / 1048576 < 8; omega⟩
  | ⟨1, _⟩ => ⟨(((i 0).val * 4096 + (i 1).val) * 256 + (i 2).val) / 256 % 4096, by have h0 : (i 0).val < 8 := (i 0).isLt; have h1 : (i 1).val < 4096 := (i 1).isLt; have h2 : (i 2).val < 256 := (i 2).isLt; show (((i 0).val * 4096 + (i 1).val) * 256 + (i 2).val) / 256 % 4096 < 4096; omega⟩
  | ⟨2, _⟩ => ⟨0, Nat.one_pos⟩
  | ⟨3, _⟩ => ⟨(((i 0).val * 4096 + (i 1).val) * 256 + (i 2).val) % 256, by have h0 : (i 0).val < 8 := (i 0).isLt; have h1 : (i 1).val < 4096 := (i 1).isLt; have h2 : (i 2).val < 256 := (i 2).isLt; show (((i 0).val * 4096 + (i 1).val) * 256 + (i 2).val) % 256 < 256; omega⟩
theorem val_main_v40_apply (i : S8x4096x256.Idx) :
    val_main_v40 (F := F) x0 i = val_main_v39 (F := F) x0 (idx_main_v40 i) := by
  unfold val_main_v40
  generalize val_main_v39 (F := F) x0 = y
  exact shapeCast_apply y shapeCasts_S8x4096x1x256_S8x4096x256 i (idx_main_v40 i)
    (by rewrite [Shape.rowMajor_val_four, Shape.rowMajor_val_three]; have h0 : (i 0).val < 8 := (i 0).isLt; have h1 : (i 1).val < 4096 := (i 1).isLt; have h2 : (i 2).val < 256 := (i 2).isLt; show (((((i 0).val * 4096 + (i 1).val) * 256 + (i 2).val) / 1048576 * 4096 + (((i 0).val * 4096 + (i 1).val) * 256 + (i 2).val) / 256 % 4096) * 1 + 0) * 256 + (((i 0).val * 4096 + (i 1).val) * 256 + (i 2).val) % 256 = ((i 0).val * 4096 + (i 1).val) * 256 + (i 2).val; omega)

-- %41 = stablehlo.subtract %38, %40
def val_main_v41 : T F S8x4096x256 .f32 :=
  subf (val_main_v38 (F := F) x0) (val_main_v40 (F := F) x0)
theorem val_main_v41_apply (i : S8x4096x256.Idx) :
    val_main_v41 (F := F) x0 i = FloatOps.subf (val_main_v38 (F := F) x0 i) (val_main_v40 (F := F) x0 i) := rfl

-- %42 = stablehlo.slice %arg3
def val_main_v42 : T F S1x256x256 .bf16 :=
  extractStridedSlice S1x256x256 ![1, 0, 0] (x3) slices_S4x256x256_S1x256x256_1_0_0
set_option backward.proofsInPublic true in
abbrev idx_main_v42 (i : S1x256x256.Idx) : S4x256x256.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩
theorem val_main_v42_apply (i : S1x256x256.Idx) :
    val_main_v42 (F := F) x3 i = x3 (idx_main_v42 i) := by
  unfold val_main_v42
  exact extractStridedSlice_apply ![1, 0, 0] x3 slices_S4x256x256_S1x256x256_1_0_0 i (idx_main_v42 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

-- %43 = stablehlo.reshape %42
def val_main_v43 : T F S256x256 .bf16 :=
  shapeCast _ (val_main_v42 (F := F) x3) shapeCasts_S1x256x256_S256x256
set_option backward.proofsInPublic true in
abbrev idx_main_v43 (i : S256x256.Idx) : S1x256x256.Idx := fun a => match a with
  | ⟨0, _⟩ => ⟨0, Nat.one_pos⟩
  | ⟨1, _⟩ => ⟨((i 0).val * 256 + (i 1).val) / 256 % 256, by have h0 : (i 0).val < 256 := (i 0).isLt; have h1 : (i 1).val < 256 := (i 1).isLt; show ((i 0).val * 256 + (i 1).val) / 256 % 256 < 256; omega⟩
  | ⟨2, _⟩ => ⟨((i 0).val * 256 + (i 1).val) % 256, by have h0 : (i 0).val < 256 := (i 0).isLt; have h1 : (i 1).val < 256 := (i 1).isLt; show ((i 0).val * 256 + (i 1).val) % 256 < 256; omega⟩
theorem val_main_v43_apply (i : S256x256.Idx) :
    val_main_v43 (F := F) x3 i = val_main_v42 (F := F) x3 (idx_main_v43 i) := by
  unfold val_main_v43
  generalize val_main_v42 (F := F) x3 = y
  exact shapeCast_apply y shapeCasts_S1x256x256_S256x256 i (idx_main_v43 i)
    (by rewrite [Shape.rowMajor_val_three, Shape.rowMajor_val_two]; have h0 : (i 0).val < 256 := (i 0).isLt; have h1 : (i 1).val < 256 := (i 1).isLt; show (0 * 256 + ((i 0).val * 256 + (i 1).val) / 256 % 256) * 256 + ((i 0).val * 256 + (i 1).val) % 256 = (i 0).val * 256 + (i 1).val; omega)

-- %44 = stablehlo.convert %43
def val_main_v44 : T F S256x256 .f32 :=
  extf .f32 (val_main_v43 (F := F) x3) bitsLt_bf16_f32
theorem val_main_v44_apply (i : S256x256.Idx) :
    val_main_v44 (F := F) x3 i = FloatOps.extf .f32 bitsLt_bf16_f32 (val_main_v43 (F := F) x3 i) := rfl

-- %45 = stablehlo.dot_general %41, %44
def val_main_v45 : T F S8x4096x256 .f32 :=
  Host.dotGeneral dot_S8x4096x256_S256x256_S8x4096x256_2_0_01_1_n_n none (val_main_v41 (F := F) x0) (val_main_v44 (F := F) x3)
theorem lhs_main_v45_0 (i : S8x4096x256.Idx) (q : dot_S8x4096x256_S256x256_S8x4096x256_2_0_01_1_n_n.contr.Idx) :
    (dot_S8x4096x256_S256x256_S8x4096x256_2_0_01_1_n_n.lhsIdx i q 0).val = (i 0).val := by
  unfold DotDims.lhsIdx
  rw [dif_neg (show ¬(0 : Fin S8x4096x256.rank) ∈ dot_S8x4096x256_S256x256_S8x4096x256_2_0_01_1_n_n.lhsBatch by decide), dif_pos (show (0 : Fin S8x4096x256.rank) ∈ dot_S8x4096x256_S256x256_S8x4096x256_2_0_01_1_n_n.lhsNonContracting by decide)]
  rfl
theorem lhs_main_v45_1 (i : S8x4096x256.Idx) (q : dot_S8x4096x256_S256x256_S8x4096x256_2_0_01_1_n_n.contr.Idx) :
    (dot_S8x4096x256_S256x256_S8x4096x256_2_0_01_1_n_n.lhsIdx i q 1).val = (i 1).val := by
  unfold DotDims.lhsIdx
  rw [dif_neg (show ¬(1 : Fin S8x4096x256.rank) ∈ dot_S8x4096x256_S256x256_S8x4096x256_2_0_01_1_n_n.lhsBatch by decide), dif_pos (show (1 : Fin S8x4096x256.rank) ∈ dot_S8x4096x256_S256x256_S8x4096x256_2_0_01_1_n_n.lhsNonContracting by decide)]
  rfl
theorem lhs_main_v45_2 (i : S8x4096x256.Idx) (q : dot_S8x4096x256_S256x256_S8x4096x256_2_0_01_1_n_n.contr.Idx) :
    (dot_S8x4096x256_S256x256_S8x4096x256_2_0_01_1_n_n.lhsIdx i q 2).val = (q ⟨0, by decide⟩).val :=
  dot_S8x4096x256_S256x256_S8x4096x256_2_0_01_1_n_n.lhsIdx_val_of_single rfl i q
theorem rhs_main_v45_0 (i : S8x4096x256.Idx) (q : dot_S8x4096x256_S256x256_S8x4096x256_2_0_01_1_n_n.contr.Idx) :
    (dot_S8x4096x256_S256x256_S8x4096x256_2_0_01_1_n_n.rhsIdx i q 0).val = (q ⟨0, by decide⟩).val :=
  dot_S8x4096x256_S256x256_S8x4096x256_2_0_01_1_n_n.rhsIdx_val_of_single rfl i q
theorem rhs_main_v45_1 (i : S8x4096x256.Idx) (q : dot_S8x4096x256_S256x256_S8x4096x256_2_0_01_1_n_n.contr.Idx) :
    (dot_S8x4096x256_S256x256_S8x4096x256_2_0_01_1_n_n.rhsIdx i q 1).val = (i 2).val := by
  unfold DotDims.rhsIdx
  rw [dif_neg (show ¬(1 : Fin S256x256.rank) ∈ dot_S8x4096x256_S256x256_S8x4096x256_2_0_01_1_n_n.rhsBatch by decide), dif_pos (show (1 : Fin S256x256.rank) ∈ dot_S8x4096x256_S256x256_S8x4096x256_2_0_01_1_n_n.rhsNonContracting by decide)]
  rfl
abbrev lidx_main_v45 (i : S8x4096x256.Idx) (k : Fin 256) : S8x4096x256.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v45 (i : S8x4096x256.Idx) (k : Fin 256) : S256x256.Idx := fun a => match a with
  | ⟨0, _⟩ => ⟨k.val, k.isLt⟩
  | ⟨1, _⟩ => ⟨(i 2).val, (i 2).isLt⟩
theorem val_main_v45_apply (x0 : T Ideal S32768x9216 .bf16) (x3 : T Ideal S4x256x256 .bf16) (i : S8x4096x256.Idx) :
    val_main_v45 (F := Ideal) x0 x3 i = ∑ k : Fin 256, (val_main_v41 (F := Ideal) x0) (lidx_main_v45 i k) * (val_main_v44 (F := Ideal) x3) (ridx_main_v45 i k) := by
  unfold val_main_v45
  generalize val_main_v41 (F := Ideal) x0 = y0
  generalize val_main_v44 (F := Ideal) x3 = y1
  simp only [Host.dotGeneral]
  rw [Ideal.dotGeneral_apply, ← Equiv.sum_comp (ValueIdx.contrEquiv1 dot_S8x4096x256_S256x256_S8x4096x256_2_0_01_1_n_n 256 rfl rfl).symm]
  refine Finset.sum_congr rfl fun k _ => ?_
  have hk := ValueIdx.contrEquiv1_symm_val dot_S8x4096x256_S256x256_S8x4096x256_2_0_01_1_n_n 256 rfl rfl k
  have el : dot_S8x4096x256_S256x256_S8x4096x256_2_0_01_1_n_n.lhsIdx i ((ValueIdx.contrEquiv1 dot_S8x4096x256_S256x256_S8x4096x256_2_0_01_1_n_n 256 rfl rfl).symm k) = lidx_main_v45 i k := funext fun a => Fin.ext (by
    match a with
    | ⟨0, _⟩ => exact lhs_main_v45_0 _ _
    | ⟨1, _⟩ => exact lhs_main_v45_1 _ _
    | ⟨2, _⟩ => exact (lhs_main_v45_2 _ _).trans hk)
  have er : dot_S8x4096x256_S256x256_S8x4096x256_2_0_01_1_n_n.rhsIdx i ((ValueIdx.contrEquiv1 dot_S8x4096x256_S256x256_S8x4096x256_2_0_01_1_n_n 256 rfl rfl).symm k) = ridx_main_v45 i k := funext fun a => Fin.ext (by
    match a with
    | ⟨0, _⟩ => exact (rhs_main_v45_0 _ _).trans hk
    | ⟨1, _⟩ => exact rhs_main_v45_1 _ _)
  rw [el, er]

-- %46 = stablehlo.slice %6
def val_main_v46 : T F S8x4096x1x256 .f32 :=
  extractStridedSlice S8x4096x1x256 ![0, 0, 2, 0] (val_main_v6 (F := F) x0) slices_S8x4096x4x256_S8x4096x1x256_0_0_2_0
set_option backward.proofsInPublic true in
abbrev idx_main_v46 (i : S8x4096x1x256.Idx) : S8x4096x4x256.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 1 := (i 2).isLt; show 2 + (i 2).val < 4; omega⟩
  | ⟨3, _⟩ => ⟨(i 3).val, (i 3).isLt⟩
theorem val_main_v46_apply (i : S8x4096x1x256.Idx) :
    val_main_v46 (F := F) x0 i = val_main_v6 (F := F) x0 (idx_main_v46 i) := by
  unfold val_main_v46
  generalize val_main_v6 (F := F) x0 = y
  exact extractStridedSlice_apply ![0, 0, 2, 0] y slices_S8x4096x4x256_S8x4096x1x256_0_0_2_0 i (idx_main_v46 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega
    | ⟨3, _⟩ => by show (i 3).val = 0 + (i 3).val; omega)

-- %47 = stablehlo.reshape %46
def val_main_v47 : T F S8x4096x256 .f32 :=
  shapeCast _ (val_main_v46 (F := F) x0) shapeCasts_S8x4096x1x256_S8x4096x256
set_option backward.proofsInPublic true in
abbrev idx_main_v47 (i : S8x4096x256.Idx) : S8x4096x1x256.Idx := fun a => match a with
  | ⟨0, _⟩ => ⟨(((i 0).val * 4096 + (i 1).val) * 256 + (i 2).val) / 1048576, by have h0 : (i 0).val < 8 := (i 0).isLt; have h1 : (i 1).val < 4096 := (i 1).isLt; have h2 : (i 2).val < 256 := (i 2).isLt; show (((i 0).val * 4096 + (i 1).val) * 256 + (i 2).val) / 1048576 < 8; omega⟩
  | ⟨1, _⟩ => ⟨(((i 0).val * 4096 + (i 1).val) * 256 + (i 2).val) / 256 % 4096, by have h0 : (i 0).val < 8 := (i 0).isLt; have h1 : (i 1).val < 4096 := (i 1).isLt; have h2 : (i 2).val < 256 := (i 2).isLt; show (((i 0).val * 4096 + (i 1).val) * 256 + (i 2).val) / 256 % 4096 < 4096; omega⟩
  | ⟨2, _⟩ => ⟨0, Nat.one_pos⟩
  | ⟨3, _⟩ => ⟨(((i 0).val * 4096 + (i 1).val) * 256 + (i 2).val) % 256, by have h0 : (i 0).val < 8 := (i 0).isLt; have h1 : (i 1).val < 4096 := (i 1).isLt; have h2 : (i 2).val < 256 := (i 2).isLt; show (((i 0).val * 4096 + (i 1).val) * 256 + (i 2).val) % 256 < 256; omega⟩
theorem val_main_v47_apply (i : S8x4096x256.Idx) :
    val_main_v47 (F := F) x0 i = val_main_v46 (F := F) x0 (idx_main_v47 i) := by
  unfold val_main_v47
  generalize val_main_v46 (F := F) x0 = y
  exact shapeCast_apply y shapeCasts_S8x4096x1x256_S8x4096x256 i (idx_main_v47 i)
    (by rewrite [Shape.rowMajor_val_four, Shape.rowMajor_val_three]; have h0 : (i 0).val < 8 := (i 0).isLt; have h1 : (i 1).val < 4096 := (i 1).isLt; have h2 : (i 2).val < 256 := (i 2).isLt; show (((((i 0).val * 4096 + (i 1).val) * 256 + (i 2).val) / 1048576 * 4096 + (((i 0).val * 4096 + (i 1).val) * 256 + (i 2).val) / 256 % 4096) * 1 + 0) * 256 + (((i 0).val * 4096 + (i 1).val) * 256 + (i 2).val) % 256 = ((i 0).val * 4096 + (i 1).val) * 256 + (i 2).val; omega)

-- %c_4 = stablehlo.constant dense<0>
def val_main_c_4 : T F S_ .i32 :=
  constantI S_ 32 0#32
theorem val_main_c_4_apply (i : S_.Idx) :
    val_main_c_4 (F := F) i = 0#32 := rfl

-- @_pad_2's %0 = stablehlo.convert %arg1
def val_main_call3_v0 : T F S_ .f32 :=
  sitofp .f32 (val_main_c_4 (F := F))
theorem val_main_call3_v0_apply (i : S_.Idx) :
    val_main_call3_v0 (F := F) i = FloatOps.sitofp .f32 (val_main_c_4 (F := F) i) := rfl

-- %48
def val_main_v48 : T F S8x4104x256 .f32 :=
  pad S8x4104x256 ![0, 8, 0] ![0, 0, 0] ![0, 0, 0] (val_main_v47 (F := F) x0) (val_main_call3_v0 (F := F)) pads_S8x4096x256_S8x4104x256_000_800_000 h_S_

-- %49 = stablehlo.slice %48
def val_main_v49 : T F S8x4096x256 .f32 :=
  extractStridedSlice S8x4096x256 ![0, 0, 0] (val_main_v48 (F := F) x0) slices_S8x4104x256_S8x4096x256_0_0_0
set_option backward.proofsInPublic true in
abbrev idx_main_v49 (i : S8x4096x256.Idx) : S8x4104x256.Idx := fun a => match a with
  | ⟨0, _⟩ => ⟨(i 0).val, (i 0).isLt⟩
  | ⟨1, _⟩ => ⟨(i 1).val, by have h1 : (i 1).val < 4096 := (i 1).isLt; show (i 1).val < 4104; omega⟩
  | ⟨2, _⟩ => ⟨(i 2).val, (i 2).isLt⟩
theorem val_main_v49_apply (i : S8x4096x256.Idx) :
    val_main_v49 (F := F) x0 i = val_main_v48 (F := F) x0 (idx_main_v49 i) := by
  unfold val_main_v49
  generalize val_main_v48 (F := F) x0 = y
  exact extractStridedSlice_apply ![0, 0, 0] y slices_S8x4104x256_S8x4096x256_0_0_0 i (idx_main_v49 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %cst_5 = stablehlo.constant dense<1.000000e+00>
def val_main_cst_5 : T F S_ .f32 :=
  constant S_ .f32 0x3F800000#32
theorem val_main_cst_5_apply (i : S_.Idx) :
    val_main_cst_5 (F := F) i = FloatOps.ofBits .f32 0x3F800000#32 := rfl

-- %50 = stablehlo.broadcast_in_dim %cst_5
def val_main_v50 : T F S4096 .f32 :=
  broadcastInDim S4096 ![] bcast_S_S4096 (val_main_cst_5 (F := F))
abbrev idx_main_v50 (i : S4096.Idx) : S_.Idx := fun a => a.elim0
theorem val_main_v50_apply (i : S4096.Idx) :
    val_main_v50 (F := F) i = val_main_cst_5 (F := F) (idx_main_v50 i) := by
  unfold val_main_v50
  generalize val_main_cst_5 (F := F) = y
  exact broadcastInDim_apply _ bcast_S_S4096 y i (idx_main_v50 i) (fun a => a.elim0)

-- %51 = stablehlo.add %7, %50
def val_main_v51 : T F S4096 .f32 :=
  addf (val_main_v7 (F := F)) (val_main_v50 (F := F))
theorem val_main_v51_apply (i : S4096.Idx) :
    val_main_v51 (F := F) i = FloatOps.addf (val_main_v7 (F := F) i) (val_main_v50 (F := F) i) := rfl

-- %cst_6 = stablehlo.constant dense<8.000000e+00>
def val_main_cst_6 : T F S_ .f32 :=
  constant S_ .f32 0x41000000#32
theorem val_main_cst_6_apply (i : S_.Idx) :
    val_main_cst_6 (F := F) i = FloatOps.ofBits .f32 0x41000000#32 := rfl

-- %52 = stablehlo.broadcast_in_dim %cst_6
def val_main_v52 : T F S4096 .f32 :=
  broadcastInDim S4096 ![] bcast_S_S4096 (val_main_cst_6 (F := F))
abbrev idx_main_v52 (i : S4096.Idx) : S_.Idx := fun a => a.elim0
theorem val_main_v52_apply (i : S4096.Idx) :
    val_main_v52 (F := F) i = val_main_cst_6 (F := F) (idx_main_v52 i) := by
  unfold val_main_v52
  generalize val_main_cst_6 (F := F) = y
  exact broadcastInDim_apply _ bcast_S_S4096 y i (idx_main_v52 i) (fun a => a.elim0)

-- %53 = stablehlo.minimum %51, %52
def val_main_v53 : T F S4096 .f32 :=
  minimumf (val_main_v51 (F := F)) (val_main_v52 (F := F))
theorem val_main_v53_apply (i : S4096.Idx) :
    val_main_v53 (F := F) i = FloatOps.minimumf (val_main_v51 (F := F) i) (val_main_v52 (F := F) i) := rfl

-- %54 = stablehlo.broadcast_in_dim %53
def val_main_v54 : T F S1x4096x1 .f32 :=
  broadcastInDim S1x4096x1 ![1] bcast_S4096_S1x4096x1_1 (val_main_v53 (F := F))
abbrev idx_main_v54 (i : S1x4096x1.Idx) : S4096.Idx := fun a => match a with
  | ⟨0, _⟩ => ⟨(i 1).val, (i 1).isLt⟩
theorem val_main_v54_apply (i : S1x4096x1.Idx) :
    val_main_v54 (F := F) i = val_main_v53 (F := F) (idx_main_v54 i) := by
  unfold val_main_v54
  generalize val_main_v53 (F := F) = y
  exact broadcastInDim_apply _ bcast_S4096_S1x4096x1_1 y i (idx_main_v54 i) (fun a => match a with
    | ⟨0, _⟩ => by show (i 1).val = if (4096 : Nat) = 1 then 0 else (i 1).val; rw [if_neg (by decide)])

-- %55 = stablehlo.subtract %47, %49
def val_main_v55 : T F S8x4096x256 .f32 :=
  subf (val_main_v47 (F := F) x0) (val_main_v49 (F := F) x0)
theorem val_main_v55_apply (i : S8x4096x256.Idx) :
    val_main_v55 (F := F) x0 i = FloatOps.subf (val_main_v47 (F := F) x0 i) (val_main_v49 (F := F) x0 i) := rfl

-- %56 = stablehlo.broadcast_in_dim %54
def val_main_v56 : T F S8x4096x256 .f32 :=
  broadcastInDim S8x4096x256 ![0, 1, 2] bcast_S1x4096x1_S8x4096x256_0_1_2 (val_main_v54 (F := F))
abbrev idx_main_v56 (i : S8x4096x256.Idx) : S1x4096x1.Idx := fun a => match a with
  | ⟨0, _⟩ => ⟨0, Nat.one_pos⟩
  | ⟨1, _⟩ => ⟨(i 1).val, (i 1).isLt⟩
  | ⟨2, _⟩ => ⟨0, Nat.one_pos⟩
theorem val_main_v56_apply (i : S8x4096x256.Idx) :
    val_main_v56 (F := F) i = val_main_v54 (F := F) (idx_main_v56 i) := by
  unfold val_main_v56
  generalize val_main_v54 (F := F) = y
  exact broadcastInDim_apply _ bcast_S1x4096x1_S8x4096x256_0_1_2 y i (idx_main_v56 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)]
    | ⟨2, _⟩ => by show 0 = if (1 : Nat) = 1 then 0 else (i 2).val; rw [if_pos rfl])

-- %57 = stablehlo.divide %55, %56
def val_main_v57 : T F S8x4096x256 .f32 :=
  Host.divf (val_main_v55 (F := F) x0) (val_main_v56 (F := F))
theorem val_main_v57_apply (i : S8x4096x256.Idx) :
    val_main_v57 (F := F) x0 i = FloatOps.hostDivf (val_main_v55 (F := F) x0 i) (val_main_v56 (F := F) i) := rfl

-- %58 = stablehlo.slice %5
def val_main_v58 : T F S8x4096x1x256 .f32 :=
  extractStridedSlice S8x4096x1x256 ![0, 0, 2, 0] (val_main_v5 (F := F) x0) slices_S8x4096x4x256_S8x4096x1x256_0_0_2_0
set_option backward.proofsInPublic true in
abbrev idx_main_v58 (i : S8x4096x1x256.Idx) : S8x4096x4x256.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 1 := (i 2).isLt; show 2 + (i 2).val < 4; omega⟩
  | ⟨3, _⟩ => ⟨(i 3).val, (i 3).isLt⟩
theorem val_main_v58_apply (i : S8x4096x1x256.Idx) :
    val_main_v58 (F := F) x0 i = val_main_v5 (F := F) x0 (idx_main_v58 i) := by
  unfold val_main_v58
  generalize val_main_v5 (F := F) x0 = y
  exact extractStridedSlice_apply ![0, 0, 2, 0] y slices_S8x4096x4x256_S8x4096x1x256_0_0_2_0 i (idx_main_v58 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega
    | ⟨3, _⟩ => by show (i 3).val = 0 + (i 3).val; omega)

-- %59 = stablehlo.reshape %58
def val_main_v59 : T F S8x4096x256 .f32 :=
  shapeCast _ (val_main_v58 (F := F) x0) shapeCasts_S8x4096x1x256_S8x4096x256
set_option backward.proofsInPublic true in
abbrev idx_main_v59 (i : S8x4096x256.Idx) : S8x4096x1x256.Idx := fun a => match a with
  | ⟨0, _⟩ => ⟨(((i 0).val * 4096 + (i 1).val) * 256 + (i 2).val) / 1048576, by have h0 : (i 0).val < 8 := (i 0).isLt; have h1 : (i 1).val < 4096 := (i 1).isLt; have h2 : (i 2).val < 256 := (i 2).isLt; show (((i 0).val * 4096 + (i 1).val) * 256 + (i 2).val) / 1048576 < 8; omega⟩
  | ⟨1, _⟩ => ⟨(((i 0).val * 4096 + (i 1).val) * 256 + (i 2).val) / 256 % 4096, by have h0 : (i 0).val < 8 := (i 0).isLt; have h1 : (i 1).val < 4096 := (i 1).isLt; have h2 : (i 2).val < 256 := (i 2).isLt; show (((i 0).val * 4096 + (i 1).val) * 256 + (i 2).val) / 256 % 4096 < 4096; omega⟩
  | ⟨2, _⟩ => ⟨0, Nat.one_pos⟩
  | ⟨3, _⟩ => ⟨(((i 0).val * 4096 + (i 1).val) * 256 + (i 2).val) % 256, by have h0 : (i 0).val < 8 := (i 0).isLt; have h1 : (i 1).val < 4096 := (i 1).isLt; have h2 : (i 2).val < 256 := (i 2).isLt; show (((i 0).val * 4096 + (i 1).val) * 256 + (i 2).val) % 256 < 256; omega⟩
theorem val_main_v59_apply (i : S8x4096x256.Idx) :
    val_main_v59 (F := F) x0 i = val_main_v58 (F := F) x0 (idx_main_v59 i) := by
  unfold val_main_v59
  generalize val_main_v58 (F := F) x0 = y
  exact shapeCast_apply y shapeCasts_S8x4096x1x256_S8x4096x256 i (idx_main_v59 i)
    (by rewrite [Shape.rowMajor_val_four, Shape.rowMajor_val_three]; have h0 : (i 0).val < 8 := (i 0).isLt; have h1 : (i 1).val < 4096 := (i 1).isLt; have h2 : (i 2).val < 256 := (i 2).isLt; show (((((i 0).val * 4096 + (i 1).val) * 256 + (i 2).val) / 1048576 * 4096 + (((i 0).val * 4096 + (i 1).val) * 256 + (i 2).val) / 256 % 4096) * 1 + 0) * 256 + (((i 0).val * 4096 + (i 1).val) * 256 + (i 2).val) % 256 = ((i 0).val * 4096 + (i 1).val) * 256 + (i 2).val; omega)

-- %60 = stablehlo.subtract %57, %59
def val_main_v60 : T F S8x4096x256 .f32 :=
  subf (val_main_v57 (F := F) x0) (val_main_v59 (F := F) x0)
theorem val_main_v60_apply (i : S8x4096x256.Idx) :
    val_main_v60 (F := F) x0 i = FloatOps.subf (val_main_v57 (F := F) x0 i) (val_main_v59 (F := F) x0 i) := rfl

-- %61 = stablehlo.slice %arg3
def val_main_v61 : T F S1x256x256 .bf16 :=
  extractStridedSlice S1x256x256 ![2, 0, 0] (x3) slices_S4x256x256_S1x256x256_2_0_0
set_option backward.proofsInPublic true in
abbrev idx_main_v61 (i : S1x256x256.Idx) : S4x256x256.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩
theorem val_main_v61_apply (i : S1x256x256.Idx) :
    val_main_v61 (F := F) x3 i = x3 (idx_main_v61 i) := by
  unfold val_main_v61
  exact extractStridedSlice_apply ![2, 0, 0] x3 slices_S4x256x256_S1x256x256_2_0_0 i (idx_main_v61 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

-- %62 = stablehlo.reshape %61
def val_main_v62 : T F S256x256 .bf16 :=
  shapeCast _ (val_main_v61 (F := F) x3) shapeCasts_S1x256x256_S256x256
set_option backward.proofsInPublic true in
abbrev idx_main_v62 (i : S256x256.Idx) : S1x256x256.Idx := fun a => match a with
  | ⟨0, _⟩ => ⟨0, Nat.one_pos⟩
  | ⟨1, _⟩ => ⟨((i 0).val * 256 + (i 1).val) / 256 % 256, by have h0 : (i 0).val < 256 := (i 0).isLt; have h1 : (i 1).val < 256 := (i 1).isLt; show ((i 0).val * 256 + (i 1).val) / 256 % 256 < 256; omega⟩
  | ⟨2, _⟩ => ⟨((i 0).val * 256 + (i 1).val) % 256, by have h0 : (i 0).val < 256 := (i 0).isLt; have h1 : (i 1).val < 256 := (i 1).isLt; show ((i 0).val * 256 + (i 1).val) % 256 < 256; omega⟩
theorem val_main_v62_apply (i : S256x256.Idx) :
    val_main_v62 (F := F) x3 i = val_main_v61 (F := F) x3 (idx_main_v62 i) := by
  unfold val_main_v62
  generalize val_main_v61 (F := F) x3 = y
  exact shapeCast_apply y shapeCasts_S1x256x256_S256x256 i (idx_main_v62 i)
    (by rewrite [Shape.rowMajor_val_three, Shape.rowMajor_val_two]; have h0 : (i 0).val < 256 := (i 0).isLt; have h1 : (i 1).val < 256 := (i 1).isLt; show (0 * 256 + ((i 0).val * 256 + (i 1).val) / 256 % 256) * 256 + ((i 0).val * 256 + (i 1).val) % 256 = (i 0).val * 256 + (i 1).val; omega)

-- %63 = stablehlo.convert %62
def val_main_v63 : T F S256x256 .f32 :=
  extf .f32 (val_main_v62 (F := F) x3) bitsLt_bf16_f32
theorem val_main_v63_apply (i : S256x256.Idx) :
    val_main_v63 (F := F) x3 i = FloatOps.extf .f32 bitsLt_bf16_f32 (val_main_v62 (F := F) x3 i) := rfl

-- %64 = stablehlo.dot_general %60, %63
def val_main_v64 : T F S8x4096x256 .f32 :=
  Host.dotGeneral dot_S8x4096x256_S256x256_S8x4096x256_2_0_01_1_n_n none (val_main_v60 (F := F) x0) (val_main_v63 (F := F) x3)
theorem lhs_main_v64_0 (i : S8x4096x256.Idx) (q : dot_S8x4096x256_S256x256_S8x4096x256_2_0_01_1_n_n.contr.Idx) :
    (dot_S8x4096x256_S256x256_S8x4096x256_2_0_01_1_n_n.lhsIdx i q 0).val = (i 0).val := by
  unfold DotDims.lhsIdx
  rw [dif_neg (show ¬(0 : Fin S8x4096x256.rank) ∈ dot_S8x4096x256_S256x256_S8x4096x256_2_0_01_1_n_n.lhsBatch by decide), dif_pos (show (0 : Fin S8x4096x256.rank) ∈ dot_S8x4096x256_S256x256_S8x4096x256_2_0_01_1_n_n.lhsNonContracting by decide)]
  rfl
theorem lhs_main_v64_1 (i : S8x4096x256.Idx) (q : dot_S8x4096x256_S256x256_S8x4096x256_2_0_01_1_n_n.contr.Idx) :
    (dot_S8x4096x256_S256x256_S8x4096x256_2_0_01_1_n_n.lhsIdx i q 1).val = (i 1).val := by
  unfold DotDims.lhsIdx
  rw [dif_neg (show ¬(1 : Fin S8x4096x256.rank) ∈ dot_S8x4096x256_S256x256_S8x4096x256_2_0_01_1_n_n.lhsBatch by decide), dif_pos (show (1 : Fin S8x4096x256.rank) ∈ dot_S8x4096x256_S256x256_S8x4096x256_2_0_01_1_n_n.lhsNonContracting by decide)]
  rfl
theorem lhs_main_v64_2 (i : S8x4096x256.Idx) (q : dot_S8x4096x256_S256x256_S8x4096x256_2_0_01_1_n_n.contr.Idx) :
    (dot_S8x4096x256_S256x256_S8x4096x256_2_0_01_1_n_n.lhsIdx i q 2).val = (q ⟨0, by decide⟩).val :=
  dot_S8x4096x256_S256x256_S8x4096x256_2_0_01_1_n_n.lhsIdx_val_of_single rfl i q
theorem rhs_main_v64_0 (i : S8x4096x256.Idx) (q : dot_S8x4096x256_S256x256_S8x4096x256_2_0_01_1_n_n.contr.Idx) :
    (dot_S8x4096x256_S256x256_S8x4096x256_2_0_01_1_n_n.rhsIdx i q 0).val = (q ⟨0, by decide⟩).val :=
  dot_S8x4096x256_S256x256_S8x4096x256_2_0_01_1_n_n.rhsIdx_val_of_single rfl i q
theorem rhs_main_v64_1 (i : S8x4096x256.Idx) (q : dot_S8x4096x256_S256x256_S8x4096x256_2_0_01_1_n_n.contr.Idx) :
    (dot_S8x4096x256_S256x256_S8x4096x256_2_0_01_1_n_n.rhsIdx i q 1).val = (i 2).val := by
  unfold DotDims.rhsIdx
  rw [dif_neg (show ¬(1 : Fin S256x256.rank) ∈ dot_S8x4096x256_S256x256_S8x4096x256_2_0_01_1_n_n.rhsBatch by decide), dif_pos (show (1 : Fin S256x256.rank) ∈ dot_S8x4096x256_S256x256_S8x4096x256_2_0_01_1_n_n.rhsNonContracting by decide)]
  rfl
abbrev lidx_main_v64 (i : S8x4096x256.Idx) (k : Fin 256) : S8x4096x256.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v64 (i : S8x4096x256.Idx) (k : Fin 256) : S256x256.Idx := fun a => match a with
  | ⟨0, _⟩ => ⟨k.val, k.isLt⟩
  | ⟨1, _⟩ => ⟨(i 2).val, (i 2).isLt⟩
theorem val_main_v64_apply (x0 : T Ideal S32768x9216 .bf16) (x3 : T Ideal S4x256x256 .bf16) (i : S8x4096x256.Idx) :
    val_main_v64 (F := Ideal) x0 x3 i = ∑ k : Fin 256, (val_main_v60 (F := Ideal) x0) (lidx_main_v64 i k) * (val_main_v63 (F := Ideal) x3) (ridx_main_v64 i k) := by
  unfold val_main_v64
  generalize val_main_v60 (F := Ideal) x0 = y0
  generalize val_main_v63 (F := Ideal) x3 = y1
  simp only [Host.dotGeneral]
  rw [Ideal.dotGeneral_apply, ← Equiv.sum_comp (ValueIdx.contrEquiv1 dot_S8x4096x256_S256x256_S8x4096x256_2_0_01_1_n_n 256 rfl rfl).symm]
  refine Finset.sum_congr rfl fun k _ => ?_
  have hk := ValueIdx.contrEquiv1_symm_val dot_S8x4096x256_S256x256_S8x4096x256_2_0_01_1_n_n 256 rfl rfl k
  have el : dot_S8x4096x256_S256x256_S8x4096x256_2_0_01_1_n_n.lhsIdx i ((ValueIdx.contrEquiv1 dot_S8x4096x256_S256x256_S8x4096x256_2_0_01_1_n_n 256 rfl rfl).symm k) = lidx_main_v64 i k := funext fun a => Fin.ext (by
    match a with
    | ⟨0, _⟩ => exact lhs_main_v64_0 _ _
    | ⟨1, _⟩ => exact lhs_main_v64_1 _ _
    | ⟨2, _⟩ => exact (lhs_main_v64_2 _ _).trans hk)
  have er : dot_S8x4096x256_S256x256_S8x4096x256_2_0_01_1_n_n.rhsIdx i ((ValueIdx.contrEquiv1 dot_S8x4096x256_S256x256_S8x4096x256_2_0_01_1_n_n 256 rfl rfl).symm k) = ridx_main_v64 i k := funext fun a => Fin.ext (by
    match a with
    | ⟨0, _⟩ => exact (rhs_main_v64_0 _ _).trans hk
    | ⟨1, _⟩ => exact rhs_main_v64_1 _ _)
  rw [el, er]

-- %65 = stablehlo.slice %6
def val_main_v65 : T F S8x4096x1x256 .f32 :=
  extractStridedSlice S8x4096x1x256 ![0, 0, 3, 0] (val_main_v6 (F := F) x0) slices_S8x4096x4x256_S8x4096x1x256_0_0_3_0
set_option backward.proofsInPublic true in
abbrev idx_main_v65 (i : S8x4096x1x256.Idx) : S8x4096x4x256.Idx := fun a => match a with
  | ⟨0, _⟩ => ⟨(i 0).val, (i 0).isLt⟩
  | ⟨1, _⟩ => ⟨(i 1).val, (i 1).isLt⟩
  | ⟨2, _⟩ => ⟨3 + (i 2).val, by have h2 : (i 2).val < 1 := (i 2).isLt; show 3 + (i 2).val < 4; omega⟩
  | ⟨3, _⟩ => ⟨(i 3).val, (i 3).isLt⟩
theorem val_main_v65_apply (i : S8x4096x1x256.Idx) :
    val_main_v65 (F := F) x0 i = val_main_v6 (F := F) x0 (idx_main_v65 i) := by
  unfold val_main_v65
  generalize val_main_v6 (F := F) x0 = y
  exact extractStridedSlice_apply ![0, 0, 3, 0] y slices_S8x4096x4x256_S8x4096x1x256_0_0_3_0 i (idx_main_v65 i) (fun a => match a with
    | ⟨0, _⟩ => by show (i 0).val = 0 + (i 0).val; omega
    | ⟨1, _⟩ => by show (i 1).val = 0 + (i 1).val; omega
    | ⟨2, _⟩ => by show 3 + (i 2).val = 3 + (i 2).val; omega
    | ⟨3, _⟩ => by show (i 3).val = 0 + (i 3).val; omega)

-- %66 = stablehlo.reshape %65
def val_main_v66 : T F S8x4096x256 .f32 :=
  shapeCast _ (val_main_v65 (F := F) x0) shapeCasts_S8x4096x1x256_S8x4096x256
set_option backward.proofsInPublic true in
abbrev idx_main_v66 (i : S8x4096x256.Idx) : S8x4096x1x256.Idx := fun a => match a with
  | ⟨0, _⟩ => ⟨(((i 0).val * 4096 + (i 1).val) * 256 + (i 2).val) / 1048576, by have h0 : (i 0).val < 8 := (i 0).isLt; have h1 : (i 1).val < 4096 := (i 1).isLt; have h2 : (i 2).val < 256 := (i 2).isLt; show (((i 0).val * 4096 + (i 1).val) * 256 + (i 2).val) / 1048576 < 8; omega⟩
  | ⟨1, _⟩ => ⟨(((i 0).val * 4096 + (i 1).val) * 256 + (i 2).val) / 256 % 4096, by have h0 : (i 0).val < 8 := (i 0).isLt; have h1 : (i 1).val < 4096 := (i 1).isLt; have h2 : (i 2).val < 256 := (i 2).isLt; show (((i 0).val * 4096 + (i 1).val) * 256 + (i 2).val) / 256 % 4096 < 4096; omega⟩
  | ⟨2, _⟩ => ⟨0, Nat.one_pos⟩
  | ⟨3, _⟩ => ⟨(((i 0).val * 4096 + (i 1).val) * 256 + (i 2).val) % 256, by have h0 : (i 0).val < 8 := (i 0).isLt; have h1 : (i 1).val < 4096 := (i 1).isLt; have h2 : (i 2).val < 256 := (i 2).isLt; show (((i 0).val * 4096 + (i 1).val) * 256 + (i 2).val) % 256 < 256; omega⟩
theorem val_main_v66_apply (i : S8x4096x256.Idx) :
    val_main_v66 (F := F) x0 i = val_main_v65 (F := F) x0 (idx_main_v66 i) := by
  unfold val_main_v66
  generalize val_main_v65 (F := F) x0 = y
  exact shapeCast_apply y shapeCasts_S8x4096x1x256_S8x4096x256 i (idx_main_v66 i)
    (by rewrite [Shape.rowMajor_val_four, Shape.rowMajor_val_three]; have h0 : (i 0).val < 8 := (i 0).isLt; have h1 : (i 1).val < 4096 := (i 1).isLt; have h2 : (i 2).val < 256 := (i 2).isLt; show (((((i 0).val * 4096 + (i 1).val) * 256 + (i 2).val) / 1048576 * 4096 + (((i 0).val * 4096 + (i 1).val) * 256 + (i 2).val) / 256 % 4096) * 1 + 0) * 256 + (((i 0).val * 4096 + (i 1).val) * 256 + (i 2).val) % 256 = ((i 0).val * 4096 + (i 1).val) * 256 + (i 2).val; omega)

-- %c_7 = stablehlo.constant dense<0>
def val_main_c_7 : T F S_ .i32 :=
  constantI S_ 32 0#32
theorem val_main_c_7_apply (i : S_.Idx) :
    val_main_c_7 (F := F) i = 0#32 := rfl

-- @_pad_3's %0 = stablehlo.convert %arg1
def val_main_call4_v0 : T F S_ .f32 :=
  sitofp .f32 (val_main_c_7 (F := F))
theorem val_main_call4_v0_apply (i : S_.Idx) :
    val_main_call4_v0 (F := F) i = FloatOps.sitofp .f32 (val_main_c_7 (F := F) i) := rfl

-- %67
def val_main_v67 : T F S8x4112x256 .f32 :=
  pad S8x4112x256 ![0, 16, 0] ![0, 0, 0] ![0, 0, 0] (val_main_v66 (F := F) x0) (val_main_call4_v0 (F := F)) pads_S8x4096x256_S8x4112x256_000_1600_000 h_S_

-- %68 = stablehlo.slice %67
def val_main_v68 : T F S8x4096x256 .f32 :=
  extractStridedSlice S8x4096x256 ![0, 0, 0] (val_main_v67 (F := F) x0) slices_S8x4112x256_S8x4096x256_0_0_0
set_option backward.proofsInPublic true in
abbrev idx_main_v68 (i : S8x4096x256.Idx) : S8x4112x256.Idx := fun a => match a with
  | ⟨0, _⟩ => ⟨(i 0).val, (i 0).isLt⟩
  | ⟨1, _⟩ => ⟨(i 1).val, by have h1 : (i 1).val < 4096 := (i 1).isLt; show (i 1).val < 4112; omega⟩
  | ⟨2, _⟩ => ⟨(i 2).val, (i 2).isLt⟩
theorem val_main_v68_apply (i : S8x4096x256.Idx) :
    val_main_v68 (F := F) x0 i = val_main_v67 (F := F) x0 (idx_main_v68 i) := by
  unfold val_main_v68
  generalize val_main_v67 (F := F) x0 = y
  exact extractStridedSlice_apply ![0, 0, 0] y slices_S8x4112x256_S8x4096x256_0_0_0 i (idx_main_v68 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %cst_8 = stablehlo.constant dense<1.000000e+00>
def val_main_cst_8 : T F S_ .f32 :=
  constant S_ .f32 0x3F800000#32
theorem val_main_cst_8_apply (i : S_.Idx) :
    val_main_cst_8 (F := F) i = FloatOps.ofBits .f32 0x3F800000#32 := rfl

-- %69 = stablehlo.broadcast_in_dim %cst_8
def val_main_v69 : T F S4096 .f32 :=
  broadcastInDim S4096 ![] bcast_S_S4096 (val_main_cst_8 (F := F))
abbrev idx_main_v69 (i : S4096.Idx) : S_.Idx := fun a => a.elim0
theorem val_main_v69_apply (i : S4096.Idx) :
    val_main_v69 (F := F) i = val_main_cst_8 (F := F) (idx_main_v69 i) := by
  unfold val_main_v69
  generalize val_main_cst_8 (F := F) = y
  exact broadcastInDim_apply _ bcast_S_S4096 y i (idx_main_v69 i) (fun a => a.elim0)

-- %70 = stablehlo.add %7, %69
def val_main_v70 : T F S4096 .f32 :=
  addf (val_main_v7 (F := F)) (val_main_v69 (F := F))
theorem val_main_v70_apply (i : S4096.Idx) :
    val_main_v70 (F := F) i = FloatOps.addf (val_main_v7 (F := F) i) (val_main_v69 (F := F) i) := rfl

-- %cst_9 = stablehlo.constant dense<1.600000e+01>
def val_main_cst_9 : T F S_ .f32 :=
  constant S_ .f32 0x41800000#32
theorem val_main_cst_9_apply (i : S_.Idx) :
    val_main_cst_9 (F := F) i = FloatOps.ofBits .f32 0x41800000#32 := rfl

-- %71 = stablehlo.broadcast_in_dim %cst_9
def val_main_v71 : T F S4096 .f32 :=
  broadcastInDim S4096 ![] bcast_S_S4096 (val_main_cst_9 (F := F))
abbrev idx_main_v71 (i : S4096.Idx) : S_.Idx := fun a => a.elim0
theorem val_main_v71_apply (i : S4096.Idx) :
    val_main_v71 (F := F) i = val_main_cst_9 (F := F) (idx_main_v71 i) := by
  unfold val_main_v71
  generalize val_main_cst_9 (F := F) = y
  exact broadcastInDim_apply _ bcast_S_S4096 y i (idx_main_v71 i) (fun a => a.elim0)

-- %72 = stablehlo.minimum %70, %71
def val_main_v72 : T F S4096 .f32 :=
  minimumf (val_main_v70 (F := F)) (val_main_v71 (F := F))
theorem val_main_v72_apply (i : S4096.Idx) :
    val_main_v72 (F := F) i = FloatOps.minimumf (val_main_v70 (F := F) i) (val_main_v71 (F := F) i) := rfl

-- %73 = stablehlo.broadcast_in_dim %72
def val_main_v73 : T F S1x4096x1 .f32 :=
  broadcastInDim S1x4096x1 ![1] bcast_S4096_S1x4096x1_1 (val_main_v72 (F := F))
abbrev idx_main_v73 (i : S1x4096x1.Idx) : S4096.Idx := fun a => match a with
  | ⟨0, _⟩ => ⟨(i 1).val, (i 1).isLt⟩
theorem val_main_v73_apply (i : S1x4096x1.Idx) :
    val_main_v73 (F := F) i = val_main_v72 (F := F) (idx_main_v73 i) := by
  unfold val_main_v73
  generalize val_main_v72 (F := F) = y
  exact broadcastInDim_apply _ bcast_S4096_S1x4096x1_1 y i (idx_main_v73 i) (fun a => match a with
    | ⟨0, _⟩ => by show (i 1).val = if (4096 : Nat) = 1 then 0 else (i 1).val; rw [if_neg (by decide)])

-- %74 = stablehlo.subtract %66, %68
def val_main_v74 : T F S8x4096x256 .f32 :=
  subf (val_main_v66 (F := F) x0) (val_main_v68 (F := F) x0)
theorem val_main_v74_apply (i : S8x4096x256.Idx) :
    val_main_v74 (F := F) x0 i = FloatOps.subf (val_main_v66 (F := F) x0 i) (val_main_v68 (F := F) x0 i) := rfl

-- %75 = stablehlo.broadcast_in_dim %73
def val_main_v75 : T F S8x4096x256 .f32 :=
  broadcastInDim S8x4096x256 ![0, 1, 2] bcast_S1x4096x1_S8x4096x256_0_1_2 (val_main_v73 (F := F))
abbrev idx_main_v75 (i : S8x4096x256.Idx) : S1x4096x1.Idx := fun a => match a with
  | ⟨0, _⟩ => ⟨0, Nat.one_pos⟩
  | ⟨1, _⟩ => ⟨(i 1).val, (i 1).isLt⟩
  | ⟨2, _⟩ => ⟨0, Nat.one_pos⟩
theorem val_main_v75_apply (i : S8x4096x256.Idx) :
    val_main_v75 (F := F) i = val_main_v73 (F := F) (idx_main_v75 i) := by
  unfold val_main_v75
  generalize val_main_v73 (F := F) = y
  exact broadcastInDim_apply _ bcast_S1x4096x1_S8x4096x256_0_1_2 y i (idx_main_v75 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)]
    | ⟨2, _⟩ => by show 0 = if (1 : Nat) = 1 then 0 else (i 2).val; rw [if_pos rfl])

-- %76 = stablehlo.divide %74, %75
def val_main_v76 : T F S8x4096x256 .f32 :=
  Host.divf (val_main_v74 (F := F) x0) (val_main_v75 (F := F))
theorem val_main_v76_apply (i : S8x4096x256.Idx) :
    val_main_v76 (F := F) x0 i = FloatOps.hostDivf (val_main_v74 (F := F) x0 i) (val_main_v75 (F := F) i) := rfl

-- %77 = stablehlo.slice %5
def val_main_v77 : T F S8x4096x1x256 .f32 :=
  extractStridedSlice S8x4096x1x256 ![0, 0, 3, 0] (val_main_v5 (F := F) x0) slices_S8x4096x4x256_S8x4096x1x256_0_0_3_0
set_option backward.proofsInPublic true in
abbrev idx_main_v77 (i : S8x4096x1x256.Idx) : S8x4096x4x256.Idx := fun a => match a with
  | ⟨0, _⟩ => ⟨(i 0).val, (i 0).isLt⟩
  | ⟨1, _⟩ => ⟨(i 1).val, (i 1).isLt⟩
  | ⟨2, _⟩ => ⟨3 + (i 2).val, by have h2 : (i 2).val < 1 := (i 2).isLt; show 3 + (i 2).val < 4; omega⟩
  | ⟨3, _⟩ => ⟨(i 3).val, (i 3).isLt⟩
theorem val_main_v77_apply (i : S8x4096x1x256.Idx) :
    val_main_v77 (F := F) x0 i = val_main_v5 (F := F) x0 (idx_main_v77 i) := by
  unfold val_main_v77
  generalize val_main_v5 (F := F) x0 = y
  exact extractStridedSlice_apply ![0, 0, 3, 0] y slices_S8x4096x4x256_S8x4096x1x256_0_0_3_0 i (idx_main_v77 i) (fun a => match a with
    | ⟨0, _⟩ => by show (i 0).val = 0 + (i 0).val; omega
    | ⟨1, _⟩ => by show (i 1).val = 0 + (i 1).val; omega
    | ⟨2, _⟩ => by show 3 + (i 2).val = 3 + (i 2).val; omega
    | ⟨3, _⟩ => by show (i 3).val = 0 + (i 3).val; omega)

-- %78 = stablehlo.reshape %77
def val_main_v78 : T F S8x4096x256 .f32 :=
  shapeCast _ (val_main_v77 (F := F) x0) shapeCasts_S8x4096x1x256_S8x4096x256
set_option backward.proofsInPublic true in
abbrev idx_main_v78 (i : S8x4096x256.Idx) : S8x4096x1x256.Idx := fun a => match a with
  | ⟨0, _⟩ => ⟨(((i 0).val * 4096 + (i 1).val) * 256 + (i 2).val) / 1048576, by have h0 : (i 0).val < 8 := (i 0).isLt; have h1 : (i 1).val < 4096 := (i 1).isLt; have h2 : (i 2).val < 256 := (i 2).isLt; show (((i 0).val * 4096 + (i 1).val) * 256 + (i 2).val) / 1048576 < 8; omega⟩
  | ⟨1, _⟩ => ⟨(((i 0).val * 4096 + (i 1).val) * 256 + (i 2).val) / 256 % 4096, by have h0 : (i 0).val < 8 := (i 0).isLt; have h1 : (i 1).val < 4096 := (i 1).isLt; have h2 : (i 2).val < 256 := (i 2).isLt; show (((i 0).val * 4096 + (i 1).val) * 256 + (i 2).val) / 256 % 4096 < 4096; omega⟩
  | ⟨2, _⟩ => ⟨0, Nat.one_pos⟩
  | ⟨3, _⟩ => ⟨(((i 0).val * 4096 + (i 1).val) * 256 + (i 2).val) % 256, by have h0 : (i 0).val < 8 := (i 0).isLt; have h1 : (i 1).val < 4096 := (i 1).isLt; have h2 : (i 2).val < 256 := (i 2).isLt; show (((i 0).val * 4096 + (i 1).val) * 256 + (i 2).val) % 256 < 256; omega⟩
theorem val_main_v78_apply (i : S8x4096x256.Idx) :
    val_main_v78 (F := F) x0 i = val_main_v77 (F := F) x0 (idx_main_v78 i) := by
  unfold val_main_v78
  generalize val_main_v77 (F := F) x0 = y
  exact shapeCast_apply y shapeCasts_S8x4096x1x256_S8x4096x256 i (idx_main_v78 i)
    (by rewrite [Shape.rowMajor_val_four, Shape.rowMajor_val_three]; have h0 : (i 0).val < 8 := (i 0).isLt; have h1 : (i 1).val < 4096 := (i 1).isLt; have h2 : (i 2).val < 256 := (i 2).isLt; show (((((i 0).val * 4096 + (i 1).val) * 256 + (i 2).val) / 1048576 * 4096 + (((i 0).val * 4096 + (i 1).val) * 256 + (i 2).val) / 256 % 4096) * 1 + 0) * 256 + (((i 0).val * 4096 + (i 1).val) * 256 + (i 2).val) % 256 = ((i 0).val * 4096 + (i 1).val) * 256 + (i 2).val; omega)

-- %79 = stablehlo.subtract %76, %78
def val_main_v79 : T F S8x4096x256 .f32 :=
  subf (val_main_v76 (F := F) x0) (val_main_v78 (F := F) x0)
theorem val_main_v79_apply (i : S8x4096x256.Idx) :
    val_main_v79 (F := F) x0 i = FloatOps.subf (val_main_v76 (F := F) x0 i) (val_main_v78 (F := F) x0 i) := rfl

-- %80 = stablehlo.slice %arg3
def val_main_v80 : T F S1x256x256 .bf16 :=
  extractStridedSlice S1x256x256 ![3, 0, 0] (x3) slices_S4x256x256_S1x256x256_3_0_0
set_option backward.proofsInPublic true in
abbrev idx_main_v80 (i : S1x256x256.Idx) : S4x256x256.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩
theorem val_main_v80_apply (i : S1x256x256.Idx) :
    val_main_v80 (F := F) x3 i = x3 (idx_main_v80 i) := by
  unfold val_main_v80
  exact extractStridedSlice_apply ![3, 0, 0] x3 slices_S4x256x256_S1x256x256_3_0_0 i (idx_main_v80 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

-- %81 = stablehlo.reshape %80
def val_main_v81 : T F S256x256 .bf16 :=
  shapeCast _ (val_main_v80 (F := F) x3) shapeCasts_S1x256x256_S256x256
set_option backward.proofsInPublic true in
abbrev idx_main_v81 (i : S256x256.Idx) : S1x256x256.Idx := fun a => match a with
  | ⟨0, _⟩ => ⟨0, Nat.one_pos⟩
  | ⟨1, _⟩ => ⟨((i 0).val * 256 + (i 1).val) / 256 % 256, by have h0 : (i 0).val < 256 := (i 0).isLt; have h1 : (i 1).val < 256 := (i 1).isLt; show ((i 0).val * 256 + (i 1).val) / 256 % 256 < 256; omega⟩
  | ⟨2, _⟩ => ⟨((i 0).val * 256 + (i 1).val) % 256, by have h0 : (i 0).val < 256 := (i 0).isLt; have h1 : (i 1).val < 256 := (i 1).isLt; show ((i 0).val * 256 + (i 1).val) % 256 < 256; omega⟩
theorem val_main_v81_apply (i : S256x256.Idx) :
    val_main_v81 (F := F) x3 i = val_main_v80 (F := F) x3 (idx_main_v81 i) := by
  unfold val_main_v81
  generalize val_main_v80 (F := F) x3 = y
  exact shapeCast_apply y shapeCasts_S1x256x256_S256x256 i (idx_main_v81 i)
    (by rewrite [Shape.rowMajor_val_three, Shape.rowMajor_val_two]; have h0 : (i 0).val < 256 := (i 0).isLt; have h1 : (i 1).val < 256 := (i 1).isLt; show (0 * 256 + ((i 0).val * 256 + (i 1).val) / 256 % 256) * 256 + ((i 0).val * 256 + (i 1).val) % 256 = (i 0).val * 256 + (i 1).val; omega)

-- %82 = stablehlo.convert %81
def val_main_v82 : T F S256x256 .f32 :=
  extf .f32 (val_main_v81 (F := F) x3) bitsLt_bf16_f32
theorem val_main_v82_apply (i : S256x256.Idx) :
    val_main_v82 (F := F) x3 i = FloatOps.extf .f32 bitsLt_bf16_f32 (val_main_v81 (F := F) x3 i) := rfl

-- %83 = stablehlo.dot_general %79, %82
def val_main_v83 : T F S8x4096x256 .f32 :=
  Host.dotGeneral dot_S8x4096x256_S256x256_S8x4096x256_2_0_01_1_n_n none (val_main_v79 (F := F) x0) (val_main_v82 (F := F) x3)
theorem lhs_main_v83_0 (i : S8x4096x256.Idx) (q : dot_S8x4096x256_S256x256_S8x4096x256_2_0_01_1_n_n.contr.Idx) :
    (dot_S8x4096x256_S256x256_S8x4096x256_2_0_01_1_n_n.lhsIdx i q 0).val = (i 0).val := by
  unfold DotDims.lhsIdx
  rw [dif_neg (show ¬(0 : Fin S8x4096x256.rank) ∈ dot_S8x4096x256_S256x256_S8x4096x256_2_0_01_1_n_n.lhsBatch by decide), dif_pos (show (0 : Fin S8x4096x256.rank) ∈ dot_S8x4096x256_S256x256_S8x4096x256_2_0_01_1_n_n.lhsNonContracting by decide)]
  rfl
theorem lhs_main_v83_1 (i : S8x4096x256.Idx) (q : dot_S8x4096x256_S256x256_S8x4096x256_2_0_01_1_n_n.contr.Idx) :
    (dot_S8x4096x256_S256x256_S8x4096x256_2_0_01_1_n_n.lhsIdx i q 1).val = (i 1).val := by
  unfold DotDims.lhsIdx
  rw [dif_neg (show ¬(1 : Fin S8x4096x256.rank) ∈ dot_S8x4096x256_S256x256_S8x4096x256_2_0_01_1_n_n.lhsBatch by decide), dif_pos (show (1 : Fin S8x4096x256.rank) ∈ dot_S8x4096x256_S256x256_S8x4096x256_2_0_01_1_n_n.lhsNonContracting by decide)]
  rfl
theorem lhs_main_v83_2 (i : S8x4096x256.Idx) (q : dot_S8x4096x256_S256x256_S8x4096x256_2_0_01_1_n_n.contr.Idx) :
    (dot_S8x4096x256_S256x256_S8x4096x256_2_0_01_1_n_n.lhsIdx i q 2).val = (q ⟨0, by decide⟩).val :=
  dot_S8x4096x256_S256x256_S8x4096x256_2_0_01_1_n_n.lhsIdx_val_of_single rfl i q
theorem rhs_main_v83_0 (i : S8x4096x256.Idx) (q : dot_S8x4096x256_S256x256_S8x4096x256_2_0_01_1_n_n.contr.Idx) :
    (dot_S8x4096x256_S256x256_S8x4096x256_2_0_01_1_n_n.rhsIdx i q 0).val = (q ⟨0, by decide⟩).val :=
  dot_S8x4096x256_S256x256_S8x4096x256_2_0_01_1_n_n.rhsIdx_val_of_single rfl i q
theorem rhs_main_v83_1 (i : S8x4096x256.Idx) (q : dot_S8x4096x256_S256x256_S8x4096x256_2_0_01_1_n_n.contr.Idx) :
    (dot_S8x4096x256_S256x256_S8x4096x256_2_0_01_1_n_n.rhsIdx i q 1).val = (i 2).val := by
  unfold DotDims.rhsIdx
  rw [dif_neg (show ¬(1 : Fin S256x256.rank) ∈ dot_S8x4096x256_S256x256_S8x4096x256_2_0_01_1_n_n.rhsBatch by decide), dif_pos (show (1 : Fin S256x256.rank) ∈ dot_S8x4096x256_S256x256_S8x4096x256_2_0_01_1_n_n.rhsNonContracting by decide)]
  rfl
abbrev lidx_main_v83 (i : S8x4096x256.Idx) (k : Fin 256) : S8x4096x256.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v83 (i : S8x4096x256.Idx) (k : Fin 256) : S256x256.Idx := fun a => match a with
  | ⟨0, _⟩ => ⟨k.val, k.isLt⟩
  | ⟨1, _⟩ => ⟨(i 2).val, (i 2).isLt⟩
theorem val_main_v83_apply (x0 : T Ideal S32768x9216 .bf16) (x3 : T Ideal S4x256x256 .bf16) (i : S8x4096x256.Idx) :
    val_main_v83 (F := Ideal) x0 x3 i = ∑ k : Fin 256, (val_main_v79 (F := Ideal) x0) (lidx_main_v83 i k) * (val_main_v82 (F := Ideal) x3) (ridx_main_v83 i k) := by
  unfold val_main_v83
  generalize val_main_v79 (F := Ideal) x0 = y0
  generalize val_main_v82 (F := Ideal) x3 = y1
  simp only [Host.dotGeneral]
  rw [Ideal.dotGeneral_apply, ← Equiv.sum_comp (ValueIdx.contrEquiv1 dot_S8x4096x256_S256x256_S8x4096x256_2_0_01_1_n_n 256 rfl rfl).symm]
  refine Finset.sum_congr rfl fun k _ => ?_
  have hk := ValueIdx.contrEquiv1_symm_val dot_S8x4096x256_S256x256_S8x4096x256_2_0_01_1_n_n 256 rfl rfl k
  have el : dot_S8x4096x256_S256x256_S8x4096x256_2_0_01_1_n_n.lhsIdx i ((ValueIdx.contrEquiv1 dot_S8x4096x256_S256x256_S8x4096x256_2_0_01_1_n_n 256 rfl rfl).symm k) = lidx_main_v83 i k := funext fun a => Fin.ext (by
    match a with
    | ⟨0, _⟩ => exact lhs_main_v83_0 _ _
    | ⟨1, _⟩ => exact lhs_main_v83_1 _ _
    | ⟨2, _⟩ => exact (lhs_main_v83_2 _ _).trans hk)
  have er : dot_S8x4096x256_S256x256_S8x4096x256_2_0_01_1_n_n.rhsIdx i ((ValueIdx.contrEquiv1 dot_S8x4096x256_S256x256_S8x4096x256_2_0_01_1_n_n 256 rfl rfl).symm k) = ridx_main_v83 i k := funext fun a => Fin.ext (by
    match a with
    | ⟨0, _⟩ => exact (rhs_main_v83_0 _ _).trans hk
    | ⟨1, _⟩ => exact rhs_main_v83_1 _ _)
  rw [el, er]

-- %84 = stablehlo.concatenate %26, %45, %64, %83
def val_main_v84 : T F S8x4096x1024 .f32 :=
  (concatenate S8x4096x1024 2 [⟨S8x4096x256, ((val_main_v26 (F := F) x0 x3) : T F S8x4096x256 .f32)⟩, ⟨S8x4096x256, ((val_main_v45 (F := F) x0 x3) : T F S8x4096x256 .f32)⟩, ⟨S8x4096x256, ((val_main_v64 (F := F) x0 x3) : T F S8x4096x256 .f32)⟩, ⟨S8x4096x256, ((val_main_v83 (F := F) x0 x3) : T F S8x4096x256 .f32)⟩] concatenates_S8x4096x256_S8x4096x256_S8x4096x256_S8x4096x256_S8x4096x1024_d2 : T F S8x4096x1024 .f32)

-- %85 = stablehlo.broadcast_in_dim %4
def val_main_v85 : T F S1x1x1024 .f32 :=
  broadcastInDim S1x1x1024 ![2] bcast_S1024_S1x1x1024_2 (val_main_v4 (F := F) x4)
abbrev idx_main_v85 (i : S1x1x1024.Idx) : S1024.Idx := fun a => match a with
  | ⟨0, _⟩ => ⟨(i 2).val, (i 2).isLt⟩
theorem val_main_v85_apply (i : S1x1x1024.Idx) :
    val_main_v85 (F := F) x4 i = val_main_v4 (F := F) x4 (idx_main_v85 i) := by
  unfold val_main_v85
  generalize val_main_v4 (F := F) x4 = y
  exact broadcastInDim_apply _ bcast_S1024_S1x1x1024_2 y i (idx_main_v85 i) (fun a => match a with
    | ⟨0, _⟩ => by show (i 2).val = if (1024 : Nat) = 1 then 0 else (i 2).val; rw [if_neg (by decide)])

-- %86 = stablehlo.broadcast_in_dim %85
def val_main_v86 : T F S8x4096x1024 .f32 :=
  broadcastInDim S8x4096x1024 ![0, 1, 2] bcast_S1x1x1024_S8x4096x1024_0_1_2 (val_main_v85 (F := F) x4)
abbrev idx_main_v86 (i : S8x4096x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v86_apply (i : S8x4096x1024.Idx) :
    val_main_v86 (F := F) x4 i = val_main_v85 (F := F) x4 (idx_main_v86 i) := by
  unfold val_main_v86
  generalize val_main_v85 (F := F) x4 = y
  exact broadcastInDim_apply _ bcast_S1x1x1024_S8x4096x1024_0_1_2 y i (idx_main_v86 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

-- %87 = stablehlo.multiply %84, %86
def val_main_v87 : T F S8x4096x1024 .f32 :=
  mulf (val_main_v84 (F := F) x0 x3) (val_main_v86 (F := F) x4)
theorem val_main_v87_apply (i : S8x4096x1024.Idx) :
    val_main_v87 (F := F) x0 x3 x4 i = FloatOps.mulf (val_main_v84 (F := F) x0 x3 i) (val_main_v86 (F := F) x4 i) := rfl

-- %88 = stablehlo.reshape %arg1
def val_main_v88 : T F S8x4096x2048 .bf16 :=
  shapeCast _ (x1) shapeCasts_S32768x2048_S8x4096x2048
set_option backward.proofsInPublic true in
abbrev idx_main_v88 (i : S8x4096x2048.Idx) : S32768x2048.Idx := fun a => match a with
  | ⟨0, _⟩ => ⟨(((i 0).val * 4096 + (i 1).val) * 2048 + (i 2).val) / 2048, by have h0 : (i 0).val < 8 := (i 0).isLt; have h1 : (i 1).val < 4096 := (i 1).isLt; have h2 : (i 2).val < 2048 := (i 2).isLt; show (((i 0).val * 4096 + (i 1).val) * 2048 + (i 2).val) / 2048 < 32768; omega⟩
  | ⟨1, _⟩ => ⟨(((i 0).val * 4096 + (i 1).val) * 2048 + (i 2).val) % 2048, by have h0 : (i 0).val < 8 := (i 0).isLt; have h1 : (i 1).val < 4096 := (i 1).isLt; have h2 : (i 2).val < 2048 := (i 2).isLt; show (((i 0).val * 4096 + (i 1).val) * 2048 + (i 2).val) % 2048 < 2048; omega⟩
theorem val_main_v88_apply (i : S8x4096x2048.Idx) :
    val_main_v88 (F := F) x1 i = x1 (idx_main_v88 i) := by
  unfold val_main_v88
  exact shapeCast_apply x1 shapeCasts_S32768x2048_S8x4096x2048 i (idx_main_v88 i)
    (by rewrite [Shape.rowMajor_val_two, Shape.rowMajor_val_three]; have h0 : (i 0).val < 8 := (i 0).isLt; have h1 : (i 1).val < 4096 := (i 1).isLt; have h2 : (i 2).val < 2048 := (i 2).isLt; show (((i 0).val * 4096 + (i 1).val) * 2048 + (i 2).val) / 2048 * 2048 + (((i 0).val * 4096 + (i 1).val) * 2048 + (i 2).val) % 2048 = ((i 0).val * 4096 + (i 1).val) * 2048 + (i 2).val; omega)

-- %89 = stablehlo.convert %88
def val_main_v89 : T F S8x4096x2048 .f32 :=
  extf .f32 (val_main_v88 (F := F) x1) bitsLt_bf16_f32
theorem val_main_v89_apply (i : S8x4096x2048.Idx) :
    val_main_v89 (F := F) x1 i = FloatOps.extf .f32 bitsLt_bf16_f32 (val_main_v88 (F := F) x1 i) := rfl

-- %90 = stablehlo.convert %arg5
def val_main_v90 : T F S2048x1024 .f32 :=
  extf .f32 (x5) bitsLt_bf16_f32
theorem val_main_v90_apply (i : S2048x1024.Idx) :
    val_main_v90 (F := F) x5 i = FloatOps.extf .f32 bitsLt_bf16_f32 (x5 i) := rfl

-- %91 = stablehlo.dot_general %89, %90
def val_main_v91 : T F S8x4096x1024 .f32 :=
  Host.dotGeneral dot_S8x4096x2048_S2048x1024_S8x4096x1024_2_0_01_1_n_n none (val_main_v89 (F := F) x1) (val_main_v90 (F := F) x5)
theorem lhs_main_v91_0 (i : S8x4096x1024.Idx) (q : dot_S8x4096x2048_S2048x1024_S8x4096x1024_2_0_01_1_n_n.contr.Idx) :
    (dot_S8x4096x2048_S2048x1024_S8x4096x1024_2_0_01_1_n_n.lhsIdx i q 0).val = (i 0).val := by
  unfold DotDims.lhsIdx
  rw [dif_neg (show ¬(0 : Fin S8x4096x2048.rank) ∈ dot_S8x4096x2048_S2048x1024_S8x4096x1024_2_0_01_1_n_n.lhsBatch by decide), dif_pos (show (0 : Fin S8x4096x2048.rank) ∈ dot_S8x4096x2048_S2048x1024_S8x4096x1024_2_0_01_1_n_n.lhsNonContracting by decide)]
  rfl
theorem lhs_main_v91_1 (i : S8x4096x1024.Idx) (q : dot_S8x4096x2048_S2048x1024_S8x4096x1024_2_0_01_1_n_n.contr.Idx) :
    (dot_S8x4096x2048_S2048x1024_S8x4096x1024_2_0_01_1_n_n.lhsIdx i q 1).val = (i 1).val := by
  unfold DotDims.lhsIdx
  rw [dif_neg (show ¬(1 : Fin S8x4096x2048.rank) ∈ dot_S8x4096x2048_S2048x1024_S8x4096x1024_2_0_01_1_n_n.lhsBatch by decide), dif_pos (show (1 : Fin S8x4096x2048.rank) ∈ dot_S8x4096x2048_S2048x1024_S8x4096x1024_2_0_01_1_n_n.lhsNonContracting by decide)]
  rfl
theorem lhs_main_v91_2 (i : S8x4096x1024.Idx) (q : dot_S8x4096x2048_S2048x1024_S8x4096x1024_2_0_01_1_n_n.contr.Idx) :
    (dot_S8x4096x2048_S2048x1024_S8x4096x1024_2_0_01_1_n_n.lhsIdx i q 2).val = (q ⟨0, by decide⟩).val :=
  dot_S8x4096x2048_S2048x1024_S8x4096x1024_2_0_01_1_n_n.lhsIdx_val_of_single rfl i q
theorem rhs_main_v91_0 (i : S8x4096x1024.Idx) (q : dot_S8x4096x2048_S2048x1024_S8x4096x1024_2_0_01_1_n_n.contr.Idx) :
    (dot_S8x4096x2048_S2048x1024_S8x4096x1024_2_0_01_1_n_n.rhsIdx i q 0).val = (q ⟨0, by decide⟩).val :=
  dot_S8x4096x2048_S2048x1024_S8x4096x1024_2_0_01_1_n_n.rhsIdx_val_of_single rfl i q
theorem rhs_main_v91_1 (i : S8x4096x1024.Idx) (q : dot_S8x4096x2048_S2048x1024_S8x4096x1024_2_0_01_1_n_n.contr.Idx) :
    (dot_S8x4096x2048_S2048x1024_S8x4096x1024_2_0_01_1_n_n.rhsIdx i q 1).val = (i 2).val := by
  unfold DotDims.rhsIdx
  rw [dif_neg (show ¬(1 : Fin S2048x1024.rank) ∈ dot_S8x4096x2048_S2048x1024_S8x4096x1024_2_0_01_1_n_n.rhsBatch by decide), dif_pos (show (1 : Fin S2048x1024.rank) ∈ dot_S8x4096x2048_S2048x1024_S8x4096x1024_2_0_01_1_n_n.rhsNonContracting by decide)]
  rfl
abbrev lidx_main_v91 (i : S8x4096x1024.Idx) (k : Fin 2048) : S8x4096x2048.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v91 (i : S8x4096x1024.Idx) (k : Fin 2048) : S2048x1024.Idx := fun a => match a with
  | ⟨0, _⟩ => ⟨k.val, k.isLt⟩
  | ⟨1, _⟩ => ⟨(i 2).val, (i 2).isLt⟩
theorem val_main_v91_apply (x1 : T Ideal S32768x2048 .bf16) (x5 : T Ideal S2048x1024 .bf16) (i : S8x4096x1024.Idx) :
    val_main_v91 (F := Ideal) x1 x5 i = ∑ k : Fin 2048, (val_main_v89 (F := Ideal) x1) (lidx_main_v91 i k) * (val_main_v90 (F := Ideal) x5) (ridx_main_v91 i k) := by
  unfold val_main_v91
  generalize val_main_v89 (F := Ideal) x1 = y0
  generalize val_main_v90 (F := Ideal) x5 = y1
  simp only [Host.dotGeneral]
  rw [Ideal.dotGeneral_apply, ← Equiv.sum_comp (ValueIdx.contrEquiv1 dot_S8x4096x2048_S2048x1024_S8x4096x1024_2_0_01_1_n_n 2048 rfl rfl).symm]
  refine Finset.sum_congr rfl fun k _ => ?_
  have hk := ValueIdx.contrEquiv1_symm_val dot_S8x4096x2048_S2048x1024_S8x4096x1024_2_0_01_1_n_n 2048 rfl rfl k
  have el : dot_S8x4096x2048_S2048x1024_S8x4096x1024_2_0_01_1_n_n.lhsIdx i ((ValueIdx.contrEquiv1 dot_S8x4096x2048_S2048x1024_S8x4096x1024_2_0_01_1_n_n 2048 rfl rfl).symm k) = lidx_main_v91 i k := funext fun a => Fin.ext (by
    match a with
    | ⟨0, _⟩ => exact lhs_main_v91_0 _ _
    | ⟨1, _⟩ => exact lhs_main_v91_1 _ _
    | ⟨2, _⟩ => exact (lhs_main_v91_2 _ _).trans hk)
  have er : dot_S8x4096x2048_S2048x1024_S8x4096x1024_2_0_01_1_n_n.rhsIdx i ((ValueIdx.contrEquiv1 dot_S8x4096x2048_S2048x1024_S8x4096x1024_2_0_01_1_n_n 2048 rfl rfl).symm k) = ridx_main_v91 i k := funext fun a => Fin.ext (by
    match a with
    | ⟨0, _⟩ => exact (rhs_main_v91_0 _ _).trans hk
    | ⟨1, _⟩ => exact rhs_main_v91_1 _ _)
  rw [el, er]

-- %92 = stablehlo.slice %1
def val_main_v92 : T F S8x4096x1024 .f32 :=
  extractStridedSlice S8x4096x1024 ![0, 0, 7168] (val_main_v1 (F := F) x0) slices_S8x4096x9216_S8x4096x1024_0_0_7168
set_option backward.proofsInPublic true in
abbrev idx_main_v92 (i : S8x4096x1024.Idx) : S8x4096x9216.Idx := fun a => match a with
  | ⟨0, _⟩ => ⟨(i 0).val, (i 0).isLt⟩
  | ⟨1, _⟩ => ⟨(i 1).val, (i 1).isLt⟩
  | ⟨2, _⟩ => ⟨7168 + (i 2).val, by have h2 : (i 2).val < 1024 := (i 2).isLt; show 7168 + (i 2).val < 9216; omega⟩
theorem val_main_v92_apply (i : S8x4096x1024.Idx) :
    val_main_v92 (F := F) x0 i = val_main_v1 (F := F) x0 (idx_main_v92 i) := by
  unfold val_main_v92
  generalize val_main_v1 (F := F) x0 = y
  exact extractStridedSlice_apply ![0, 0, 7168] y slices_S8x4096x9216_S8x4096x1024_0_0_7168 i (idx_main_v92 i) (fun a => match a with
    | ⟨0, _⟩ => by show (i 0).val = 0 + (i 0).val; omega
    | ⟨1, _⟩ => by show (i 1).val = 0 + (i 1).val; omega
    | ⟨2, _⟩ => by show 7168 + (i 2).val = 7168 + (i 2).val; omega)

-- %93 = stablehlo.slice %1
def val_main_v93 : T F S8x4096x1024 .f32 :=
  extractStridedSlice S8x4096x1024 ![0, 0, 8192] (val_main_v1 (F := F) x0) slices_S8x4096x9216_S8x4096x1024_0_0_8192
set_option backward.proofsInPublic true in
abbrev idx_main_v93 (i : S8x4096x1024.Idx) : S8x4096x9216.Idx := fun a => match a with
  | ⟨0, _⟩ => ⟨(i 0).val, (i 0).isLt⟩
  | ⟨1, _⟩ => ⟨(i 1).val, (i 1).isLt⟩
  | ⟨2, _⟩ => ⟨8192 + (i 2).val, by have h2 : (i 2).val < 1024 := (i 2).isLt; show 8192 + (i 2).val < 9216; omega⟩
theorem val_main_v93_apply (i : S8x4096x1024.Idx) :
    val_main_v93 (F := F) x0 i = val_main_v1 (F := F) x0 (idx_main_v93 i) := by
  unfold val_main_v93
  generalize val_main_v1 (F := F) x0 = y
  exact extractStridedSlice_apply ![0, 0, 8192] y slices_S8x4096x9216_S8x4096x1024_0_0_8192 i (idx_main_v93 i) (fun a => match a with
    | ⟨0, _⟩ => by show (i 0).val = 0 + (i 0).val; omega
    | ⟨1, _⟩ => by show (i 1).val = 0 + (i 1).val; omega
    | ⟨2, _⟩ => by show 8192 + (i 2).val = 8192 + (i 2).val; omega)

-- %94 = stablehlo.negate %92
def val_main_v94 : T F S8x4096x1024 .f32 :=
  Host.negf (val_main_v92 (F := F) x0)
theorem val_main_v94_apply (i : S8x4096x1024.Idx) :
    val_main_v94 (F := F) x0 i = FloatOps.hostNegf (val_main_v92 (F := F) x0 i) := rfl

-- %95 = stablehlo.exponential %94
def val_main_v95 : T F S8x4096x1024 .f32 :=
  Host.exp (val_main_v94 (F := F) x0)
theorem val_main_v95_apply (i : S8x4096x1024.Idx) :
    val_main_v95 (F := F) x0 i = FloatOps.hostUnary .exp (val_main_v94 (F := F) x0 i) := rfl

-- %cst_10 = stablehlo.constant dense<1.000000e+00>
def val_main_cst_10 : T F S_ .f32 :=
  constant S_ .f32 0x3F800000#32
theorem val_main_cst_10_apply (i : S_.Idx) :
    val_main_cst_10 (F := F) i = FloatOps.ofBits .f32 0x3F800000#32 := rfl

-- %96 = stablehlo.broadcast_in_dim %cst_10
def val_main_v96 : T F S8x4096x1024 .f32 :=
  broadcastInDim S8x4096x1024 ![] bcast_S_S8x4096x1024 (val_main_cst_10 (F := F))
abbrev idx_main_v96 (i : S8x4096x1024.Idx) : S_.Idx := fun a => a.elim0
theorem val_main_v96_apply (i : S8x4096x1024.Idx) :
    val_main_v96 (F := F) i = val_main_cst_10 (F := F) (idx_main_v96 i) := by
  unfold val_main_v96
  generalize val_main_cst_10 (F := F) = y
  exact broadcastInDim_apply _ bcast_S_S8x4096x1024 y i (idx_main_v96 i) (fun a => a.elim0)

-- %97 = stablehlo.add %96, %95
def val_main_v97 : T F S8x4096x1024 .f32 :=
  addf (val_main_v96 (F := F)) (val_main_v95 (F := F) x0)
theorem val_main_v97_apply (i : S8x4096x1024.Idx) :
    val_main_v97 (F := F) x0 i = FloatOps.addf (val_main_v96 (F := F) i) (val_main_v95 (F := F) x0 i) := rfl

-- %cst_11 = stablehlo.constant dense<1.000000e+00>
def val_main_cst_11 : T F S_ .f32 :=
  constant S_ .f32 0x3F800000#32
theorem val_main_cst_11_apply (i : S_.Idx) :
    val_main_cst_11 (F := F) i = FloatOps.ofBits .f32 0x3F800000#32 := rfl

-- %98 = stablehlo.broadcast_in_dim %cst_11
def val_main_v98 : T F S8x4096x1024 .f32 :=
  broadcastInDim S8x4096x1024 ![] bcast_S_S8x4096x1024 (val_main_cst_11 (F := F))
abbrev idx_main_v98 (i : S8x4096x1024.Idx) : S_.Idx := fun a => a.elim0
theorem val_main_v98_apply (i : S8x4096x1024.Idx) :
    val_main_v98 (F := F) i = val_main_cst_11 (F := F) (idx_main_v98 i) := by
  unfold val_main_v98
  generalize val_main_cst_11 (F := F) = y
  exact broadcastInDim_apply _ bcast_S_S8x4096x1024 y i (idx_main_v98 i) (fun a => a.elim0)

-- %99 = stablehlo.divide %98, %97
def val_main_v99 : T F S8x4096x1024 .f32 :=
  Host.divf (val_main_v98 (F := F)) (val_main_v97 (F := F) x0)
theorem val_main_v99_apply (i : S8x4096x1024.Idx) :
    val_main_v99 (F := F) x0 i = FloatOps.hostDivf (val_main_v98 (F := F) i) (val_main_v97 (F := F) x0 i) := rfl

-- %100 = stablehlo.multiply %99, %87
def val_main_v100 : T F S8x4096x1024 .f32 :=
  mulf (val_main_v99 (F := F) x0) (val_main_v87 (F := F) x0 x3 x4)
theorem val_main_v100_apply (i : S8x4096x1024.Idx) :
    val_main_v100 (F := F) x0 x3 x4 i = FloatOps.mulf (val_main_v99 (F := F) x0 i) (val_main_v87 (F := F) x0 x3 x4 i) := rfl

-- %101 = stablehlo.negate %93
def val_main_v101 : T F S8x4096x1024 .f32 :=
  Host.negf (val_main_v93 (F := F) x0)
theorem val_main_v101_apply (i : S8x4096x1024.Idx) :
    val_main_v101 (F := F) x0 i = FloatOps.hostNegf (val_main_v93 (F := F) x0 i) := rfl

-- %102 = stablehlo.exponential %101
def val_main_v102 : T F S8x4096x1024 .f32 :=
  Host.exp (val_main_v101 (F := F) x0)
theorem val_main_v102_apply (i : S8x4096x1024.Idx) :
    val_main_v102 (F := F) x0 i = FloatOps.hostUnary .exp (val_main_v101 (F := F) x0 i) := rfl

-- %cst_12 = stablehlo.constant dense<1.000000e+00>
def val_main_cst_12 : T F S_ .f32 :=
  constant S_ .f32 0x3F800000#32
theorem val_main_cst_12_apply (i : S_.Idx) :
    val_main_cst_12 (F := F) i = FloatOps.ofBits .f32 0x3F800000#32 := rfl

-- %103 = stablehlo.broadcast_in_dim %cst_12
def val_main_v103 : T F S8x4096x1024 .f32 :=
  broadcastInDim S8x4096x1024 ![] bcast_S_S8x4096x1024 (val_main_cst_12 (F := F))
abbrev idx_main_v103 (i : S8x4096x1024.Idx) : S_.Idx := fun a => a.elim0
theorem val_main_v103_apply (i : S8x4096x1024.Idx) :
    val_main_v103 (F := F) i = val_main_cst_12 (F := F) (idx_main_v103 i) := by
  unfold val_main_v103
  generalize val_main_cst_12 (F := F) = y
  exact broadcastInDim_apply _ bcast_S_S8x4096x1024 y i (idx_main_v103 i) (fun a => a.elim0)

-- %104 = stablehlo.add %103, %102
def val_main_v104 : T F S8x4096x1024 .f32 :=
  addf (val_main_v103 (F := F)) (val_main_v102 (F := F) x0)
theorem val_main_v104_apply (i : S8x4096x1024.Idx) :
    val_main_v104 (F := F) x0 i = FloatOps.addf (val_main_v103 (F := F) i) (val_main_v102 (F := F) x0 i) := rfl

-- %cst_13 = stablehlo.constant dense<1.000000e+00>
def val_main_cst_13 : T F S_ .f32 :=
  constant S_ .f32 0x3F800000#32
theorem val_main_cst_13_apply (i : S_.Idx) :
    val_main_cst_13 (F := F) i = FloatOps.ofBits .f32 0x3F800000#32 := rfl

-- %105 = stablehlo.broadcast_in_dim %cst_13
def val_main_v105 : T F S8x4096x1024 .f32 :=
  broadcastInDim S8x4096x1024 ![] bcast_S_S8x4096x1024 (val_main_cst_13 (F := F))
abbrev idx_main_v105 (i : S8x4096x1024.Idx) : S_.Idx := fun a => a.elim0
theorem val_main_v105_apply (i : S8x4096x1024.Idx) :
    val_main_v105 (F := F) i = val_main_cst_13 (F := F) (idx_main_v105 i) := by
  unfold val_main_v105
  generalize val_main_cst_13 (F := F) = y
  exact broadcastInDim_apply _ bcast_S_S8x4096x1024 y i (idx_main_v105 i) (fun a => a.elim0)

-- %106 = stablehlo.divide %105, %104
def val_main_v106 : T F S8x4096x1024 .f32 :=
  Host.divf (val_main_v105 (F := F)) (val_main_v104 (F := F) x0)
theorem val_main_v106_apply (i : S8x4096x1024.Idx) :
    val_main_v106 (F := F) x0 i = FloatOps.hostDivf (val_main_v105 (F := F) i) (val_main_v104 (F := F) x0 i) := rfl

-- %107 = stablehlo.multiply %106, %91
def val_main_v107 : T F S8x4096x1024 .f32 :=
  mulf (val_main_v106 (F := F) x0) (val_main_v91 (F := F) x1 x5)
theorem val_main_v107_apply (i : S8x4096x1024.Idx) :
    val_main_v107 (F := F) x0 x1 x5 i = FloatOps.mulf (val_main_v106 (F := F) x0 i) (val_main_v91 (F := F) x1 x5 i) := rfl

-- %108 = stablehlo.add %100, %107
def val_main_v108 : T F S8x4096x1024 .f32 :=
  addf (val_main_v100 (F := F) x0 x3 x4) (val_main_v107 (F := F) x0 x1 x5)
theorem val_main_v108_apply (i : S8x4096x1024.Idx) :
    val_main_v108 (F := F) x0 x1 x3 x4 x5 i = FloatOps.addf (val_main_v100 (F := F) x0 x3 x4 i) (val_main_v107 (F := F) x0 x1 x5 i) := rfl

-- %109 = stablehlo.convert %arg6
def val_main_v109 : T F S1024x1024 .f32 :=
  extf .f32 (x6) bitsLt_bf16_f32
theorem val_main_v109_apply (i : S1024x1024.Idx) :
    val_main_v109 (F := F) x6 i = FloatOps.extf .f32 bitsLt_bf16_f32 (x6 i) := rfl

-- %110 = stablehlo.dot_general %108, %109
def val_main_v110 : T F S8x4096x1024 .f32 :=
  Host.dotGeneral dot_S8x4096x1024_S1024x1024_S8x4096x1024_2_0_01_1_n_n none (val_main_v108 (F := F) x0 x1 x3 x4 x5) (val_main_v109 (F := F) x6)
theorem lhs_main_v110_0 (i : S8x4096x1024.Idx) (q : dot_S8x4096x1024_S1024x1024_S8x4096x1024_2_0_01_1_n_n.contr.Idx) :
    (dot_S8x4096x1024_S1024x1024_S8x4096x1024_2_0_01_1_n_n.lhsIdx i q 0).val = (i 0).val := by
  unfold DotDims.lhsIdx
  rw [dif_neg (show ¬(0 : Fin S8x4096x1024.rank) ∈ dot_S8x4096x1024_S1024x1024_S8x4096x1024_2_0_01_1_n_n.lhsBatch by decide), dif_pos (show (0 : Fin S8x4096x1024.rank) ∈ dot_S8x4096x1024_S1024x1024_S8x4096x1024_2_0_01_1_n_n.lhsNonContracting by decide)]
  rfl
theorem lhs_main_v110_1 (i : S8x4096x1024.Idx) (q : dot_S8x4096x1024_S1024x1024_S8x4096x1024_2_0_01_1_n_n.contr.Idx) :
    (dot_S8x4096x1024_S1024x1024_S8x4096x1024_2_0_01_1_n_n.lhsIdx i q 1).val = (i 1).val := by
  unfold DotDims.lhsIdx
  rw [dif_neg (show ¬(1 : Fin S8x4096x1024.rank) ∈ dot_S8x4096x1024_S1024x1024_S8x4096x1024_2_0_01_1_n_n.lhsBatch by decide), dif_pos (show (1 : Fin S8x4096x1024.rank) ∈ dot_S8x4096x1024_S1024x1024_S8x4096x1024_2_0_01_1_n_n.lhsNonContracting by decide)]
  rfl
theorem lhs_main_v110_2 (i : S8x4096x1024.Idx) (q : dot_S8x4096x1024_S1024x1024_S8x4096x1024_2_0_01_1_n_n.contr.Idx) :
    (dot_S8x4096x1024_S1024x1024_S8x4096x1024_2_0_01_1_n_n.lhsIdx i q 2).val = (q ⟨0, by decide⟩).val :=
  dot_S8x4096x1024_S1024x1024_S8x4096x1024_2_0_01_1_n_n.lhsIdx_val_of_single rfl i q
theorem rhs_main_v110_0 (i : S8x4096x1024.Idx) (q : dot_S8x4096x1024_S1024x1024_S8x4096x1024_2_0_01_1_n_n.contr.Idx) :
    (dot_S8x4096x1024_S1024x1024_S8x4096x1024_2_0_01_1_n_n.rhsIdx i q 0).val = (q ⟨0, by decide⟩).val :=
  dot_S8x4096x1024_S1024x1024_S8x4096x1024_2_0_01_1_n_n.rhsIdx_val_of_single rfl i q
theorem rhs_main_v110_1 (i : S8x4096x1024.Idx) (q : dot_S8x4096x1024_S1024x1024_S8x4096x1024_2_0_01_1_n_n.contr.Idx) :
    (dot_S8x4096x1024_S1024x1024_S8x4096x1024_2_0_01_1_n_n.rhsIdx i q 1).val = (i 2).val := by
  unfold DotDims.rhsIdx
  rw [dif_neg (show ¬(1 : Fin S1024x1024.rank) ∈ dot_S8x4096x1024_S1024x1024_S8x4096x1024_2_0_01_1_n_n.rhsBatch by decide), dif_pos (show (1 : Fin S1024x1024.rank) ∈ dot_S8x4096x1024_S1024x1024_S8x4096x1024_2_0_01_1_n_n.rhsNonContracting by decide)]
  rfl
abbrev lidx_main_v110 (i : S8x4096x1024.Idx) (k : Fin 1024) : S8x4096x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v110 (i : S8x4096x1024.Idx) (k : Fin 1024) : S1024x1024.Idx := fun a => match a with
  | ⟨0, _⟩ => ⟨k.val, k.isLt⟩
  | ⟨1, _⟩ => ⟨(i 2).val, (i 2).isLt⟩
theorem val_main_v110_apply (x0 : T Ideal S32768x9216 .bf16) (x1 : T Ideal S32768x2048 .bf16) (x3 : T Ideal S4x256x256 .bf16) (x4 : T Ideal S1x1024 .f32) (x5 : T Ideal S2048x1024 .bf16) (x6 : T Ideal S1024x1024 .bf16) (i : S8x4096x1024.Idx) :
    val_main_v110 (F := Ideal) x0 x1 x3 x4 x5 x6 i = ∑ k : Fin 1024, (val_main_v108 (F := Ideal) x0 x1 x3 x4 x5) (lidx_main_v110 i k) * (val_main_v109 (F := Ideal) x6) (ridx_main_v110 i k) := by
  unfold val_main_v110
  generalize val_main_v108 (F := Ideal) x0 x1 x3 x4 x5 = y0
  generalize val_main_v109 (F := Ideal) x6 = y1
  simp only [Host.dotGeneral]
  rw [Ideal.dotGeneral_apply, ← Equiv.sum_comp (ValueIdx.contrEquiv1 dot_S8x4096x1024_S1024x1024_S8x4096x1024_2_0_01_1_n_n 1024 rfl rfl).symm]
  refine Finset.sum_congr rfl fun k _ => ?_
  have hk := ValueIdx.contrEquiv1_symm_val dot_S8x4096x1024_S1024x1024_S8x4096x1024_2_0_01_1_n_n 1024 rfl rfl k
  have el : dot_S8x4096x1024_S1024x1024_S8x4096x1024_2_0_01_1_n_n.lhsIdx i ((ValueIdx.contrEquiv1 dot_S8x4096x1024_S1024x1024_S8x4096x1024_2_0_01_1_n_n 1024 rfl rfl).symm k) = lidx_main_v110 i k := funext fun a => Fin.ext (by
    match a with
    | ⟨0, _⟩ => exact lhs_main_v110_0 _ _
    | ⟨1, _⟩ => exact lhs_main_v110_1 _ _
    | ⟨2, _⟩ => exact (lhs_main_v110_2 _ _).trans hk)
  have er : dot_S8x4096x1024_S1024x1024_S8x4096x1024_2_0_01_1_n_n.rhsIdx i ((ValueIdx.contrEquiv1 dot_S8x4096x1024_S1024x1024_S8x4096x1024_2_0_01_1_n_n 1024 rfl rfl).symm k) = ridx_main_v110 i k := funext fun a => Fin.ext (by
    match a with
    | ⟨0, _⟩ => exact (rhs_main_v110_0 _ _).trans hk
    | ⟨1, _⟩ => exact rhs_main_v110_1 _ _)
  rw [el, er]

-- %111 = stablehlo.add %2, %110
def val_main_v111 : T F S8x4096x1024 .f32 :=
  addf (val_main_v2 (F := F) x2) (val_main_v110 (F := F) x0 x1 x3 x4 x5 x6)
theorem val_main_v111_apply (i : S8x4096x1024.Idx) :
    val_main_v111 (F := F) x0 x1 x2 x3 x4 x5 x6 i = FloatOps.addf (val_main_v2 (F := F) x2 i) (val_main_v110 (F := F) x0 x1 x3 x4 x5 x6 i) := rfl

-- %112 = stablehlo.reshape %arg7
def val_main_v112 : T F S1024 .f32 :=
  shapeCast _ (x7) shapeCasts_S1x1024_S1024
set_option backward.proofsInPublic true in
abbrev idx_main_v112 (i : S1024.Idx) : S1x1024.Idx := fun a => match a with
  | ⟨0, _⟩ => ⟨0, Nat.one_pos⟩
  | ⟨1, _⟩ => ⟨((i 0).val) % 1024, by have h0 : (i 0).val < 1024 := (i 0).isLt; show ((i 0).val) % 1024 < 1024; omega⟩
theorem val_main_v112_apply (i : S1024.Idx) :
    val_main_v112 (F := F) x7 i = x7 (idx_main_v112 i) := by
  unfold val_main_v112
  exact shapeCast_apply x7 shapeCasts_S1x1024_S1024 i (idx_main_v112 i)
    (by rewrite [Shape.rowMajor_val_two, Shape.rowMajor_val_one]; have h0 : (i 0).val < 1024 := (i 0).isLt; show 0 * 1024 + ((i 0).val) % 1024 = (i 0).val; omega)

-- %113 = stablehlo.multiply %111, %111
def val_main_v113 : T F S8x4096x1024 .f32 :=
  mulf (val_main_v111 (F := F) x0 x1 x2 x3 x4 x5 x6) (val_main_v111 (F := F) x0 x1 x2 x3 x4 x5 x6)
theorem val_main_v113_apply (i : S8x4096x1024.Idx) :
    val_main_v113 (F := F) x0 x1 x2 x3 x4 x5 x6 i = FloatOps.mulf (val_main_v111 (F := F) x0 x1 x2 x3 x4 x5 x6 i) (val_main_v111 (F := F) x0 x1 x2 x3 x4 x5 x6 i) := rfl

-- %cst_14 = stablehlo.constant dense<0.000000e+00>
def val_main_cst_14 : T F S_ .f32 :=
  constant S_ .f32 0x00000000#32
theorem val_main_cst_14_apply (i : S_.Idx) :
    val_main_cst_14 (F := F) i = FloatOps.ofBits .f32 0x00000000#32 := rfl

-- %114 = stablehlo.reduce(%113 init: %cst_14)
def val_main_v114 : T F S8x4096 .f32 :=
  Host.reduceAdd (val_main_v113 (F := F) x0 x1 x2 x3 x4 x5 x6) (val_main_cst_14 (F := F)) reducesTo_S8x4096x1024_S8x4096_d2 h_S_
abbrev idx_main_v114 (i : S8x4096.Idx) (k : Fin 1024) : S8x4096x1024.Idx := fun a => match a with
  | ⟨0, _⟩ => ⟨(i 0).val, (i 0).isLt⟩
  | ⟨1, _⟩ => ⟨(i 1).val, (i 1).isLt⟩
  | ⟨2, _⟩ => ⟨k.val, k.isLt⟩
theorem val_main_v114_apply (x0 : T Ideal S32768x9216 .bf16) (x1 : T Ideal S32768x2048 .bf16) (x2 : T Ideal S32768x1024 .f32) (x3 : T Ideal S4x256x256 .bf16) (x4 : T Ideal S1x1024 .f32) (x5 : T Ideal S2048x1024 .bf16) (x6 : T Ideal S1024x1024 .bf16) (i : S8x4096.Idx) :
    val_main_v114 (F := Ideal) x0 x1 x2 x3 x4 x5 x6 i = (val_main_cst_14 (F := Ideal)) (Shape.Idx.first h_S_) + ∑ k : Fin 1024, (val_main_v113 (F := Ideal) x0 x1 x2 x3 x4 x5 x6) (idx_main_v114 i k) := by
  unfold val_main_v114
  generalize val_main_v113 (F := Ideal) x0 x1 x2 x3 x4 x5 x6 = y0
  simp only [Host.reduceAdd, Ideal.hostReduceAdd_def]
  rw [Ideal.hostReduceAdd_single reducesTo_S8x4096x1024_S8x4096_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %115 = stablehlo.broadcast_in_dim %114
def val_main_v115 : T F S8x4096x1 .f32 :=
  broadcastInDim S8x4096x1 ![0, 1] bcast_S8x4096_S8x4096x1_0_1 (val_main_v114 (F := F) x0 x1 x2 x3 x4 x5 x6)
abbrev idx_main_v115 (i : S8x4096x1.Idx) : S8x4096.Idx := fun a => match a with
  | ⟨0, _⟩ => ⟨(i 0).val, (i 0).isLt⟩
  | ⟨1, _⟩ => ⟨(i 1).val, (i 1).isLt⟩
theorem val_main_v115_apply (i : S8x4096x1.Idx) :
    val_main_v115 (F := F) x0 x1 x2 x3 x4 x5 x6 i = val_main_v114 (F := F) x0 x1 x2 x3 x4 x5 x6 (idx_main_v115 i) := by
  unfold val_main_v115
  generalize val_main_v114 (F := F) x0 x1 x2 x3 x4 x5 x6 = y
  exact broadcastInDim_apply _ bcast_S8x4096_S8x4096x1_0_1 y i (idx_main_v115 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)])

-- %cst_15 = stablehlo.constant dense<1.024000e+03>
def val_main_cst_15 : T F S_ .f32 :=
  constant S_ .f32 0x44800000#32
theorem val_main_cst_15_apply (i : S_.Idx) :
    val_main_cst_15 (F := F) i = FloatOps.ofBits .f32 0x44800000#32 := rfl

-- %116 = stablehlo.broadcast_in_dim %cst_15
def val_main_v116 : T F S8x4096x1 .f32 :=
  broadcastInDim S8x4096x1 ![] bcast_S_S8x4096x1 (val_main_cst_15 (F := F))
abbrev idx_main_v116 (i : S8x4096x1.Idx) : S_.Idx := fun a => a.elim0
theorem val_main_v116_apply (i : S8x4096x1.Idx) :
    val_main_v116 (F := F) i = val_main_cst_15 (F := F) (idx_main_v116 i) := by
  unfold val_main_v116
  generalize val_main_cst_15 (F := F) = y
  exact broadcastInDim_apply _ bcast_S_S8x4096x1 y i (idx_main_v116 i) (fun a => a.elim0)

-- %117 = stablehlo.divide %115, %116
def val_main_v117 : T F S8x4096x1 .f32 :=
  Host.divf (val_main_v115 (F := F) x0 x1 x2 x3 x4 x5 x6) (val_main_v116 (F := F))
theorem val_main_v117_apply (i : S8x4096x1.Idx) :
    val_main_v117 (F := F) x0 x1 x2 x3 x4 x5 x6 i = FloatOps.hostDivf (val_main_v115 (F := F) x0 x1 x2 x3 x4 x5 x6 i) (val_main_v116 (F := F) i) := rfl

-- %cst_16 = stablehlo.constant dense<9.99999997E-7>
def val_main_cst_16 : T F S_ .f32 :=
  constant S_ .f32 0x358637BD#32
theorem val_main_cst_16_apply (i : S_.Idx) :
    val_main_cst_16 (F := F) i = FloatOps.ofBits .f32 0x358637BD#32 := rfl

-- %118 = stablehlo.broadcast_in_dim %cst_16
def val_main_v118 : T F S8x4096x1 .f32 :=
  broadcastInDim S8x4096x1 ![] bcast_S_S8x4096x1 (val_main_cst_16 (F := F))
abbrev idx_main_v118 (i : S8x4096x1.Idx) : S_.Idx := fun a => a.elim0
theorem val_main_v118_apply (i : S8x4096x1.Idx) :
    val_main_v118 (F := F) i = val_main_cst_16 (F := F) (idx_main_v118 i) := by
  unfold val_main_v118
  generalize val_main_cst_16 (F := F) = y
  exact broadcastInDim_apply _ bcast_S_S8x4096x1 y i (idx_main_v118 i) (fun a => a.elim0)

-- %119 = stablehlo.add %117, %118
def val_main_v119 : T F S8x4096x1 .f32 :=
  addf (val_main_v117 (F := F) x0 x1 x2 x3 x4 x5 x6) (val_main_v118 (F := F))
theorem val_main_v119_apply (i : S8x4096x1.Idx) :
    val_main_v119 (F := F) x0 x1 x2 x3 x4 x5 x6 i = FloatOps.addf (val_main_v117 (F := F) x0 x1 x2 x3 x4 x5 x6 i) (val_main_v118 (F := F) i) := rfl

-- %120 = stablehlo.rsqrt %119
def val_main_v120 : T F S8x4096x1 .f32 :=
  Host.rsqrt (val_main_v119 (F := F) x0 x1 x2 x3 x4 x5 x6)
theorem val_main_v120_apply (i : S8x4096x1.Idx) :
    val_main_v120 (F := F) x0 x1 x2 x3 x4 x5 x6 i = FloatOps.hostUnary .rsqrt (val_main_v119 (F := F) x0 x1 x2 x3 x4 x5 x6 i) := rfl

-- %121 = stablehlo.broadcast_in_dim %120
def val_main_v121 : T F S8x4096x1024 .f32 :=
  broadcastInDim S8x4096x1024 ![0, 1, 2] bcast_S8x4096x1_S8x4096x1024_0_1_2 (val_main_v120 (F := F) x0 x1 x2 x3 x4 x5 x6)
abbrev idx_main_v121 (i : S8x4096x1024.Idx) : S8x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v121_apply (i : S8x4096x1024.Idx) :
    val_main_v121 (F := F) x0 x1 x2 x3 x4 x5 x6 i = val_main_v120 (F := F) x0 x1 x2 x3 x4 x5 x6 (idx_main_v121 i) := by
  unfold val_main_v121
  generalize val_main_v120 (F := F) x0 x1 x2 x3 x4 x5 x6 = y
  exact broadcastInDim_apply _ bcast_S8x4096x1_S8x4096x1024_0_1_2 y i (idx_main_v121 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

-- %122 = stablehlo.multiply %111, %121
def val_main_v122 : T F S8x4096x1024 .f32 :=
  mulf (val_main_v111 (F := F) x0 x1 x2 x3 x4 x5 x6) (val_main_v121 (F := F) x0 x1 x2 x3 x4 x5 x6)
theorem val_main_v122_apply (i : S8x4096x1024.Idx) :
    val_main_v122 (F := F) x0 x1 x2 x3 x4 x5 x6 i = FloatOps.mulf (val_main_v111 (F := F) x0 x1 x2 x3 x4 x5 x6 i) (val_main_v121 (F := F) x0 x1 x2 x3 x4 x5 x6 i) := rfl

-- %123 = stablehlo.broadcast_in_dim %112
def val_main_v123 : T F S1x1x1024 .f32 :=
  broadcastInDim S1x1x1024 ![2] bcast_S1024_S1x1x1024_2 (val_main_v112 (F := F) x7)
abbrev idx_main_v123 (i : S1x1x1024.Idx) : S1024.Idx := fun a => match a with
  | ⟨0, _⟩ => ⟨(i 2).val, (i 2).isLt⟩
theorem val_main_v123_apply (i : S1x1x1024.Idx) :
    val_main_v123 (F := F) x7 i = val_main_v112 (F := F) x7 (idx_main_v123 i) := by
  unfold val_main_v123
  generalize val_main_v112 (F := F) x7 = y
  exact broadcastInDim_apply _ bcast_S1024_S1x1x1024_2 y i (idx_main_v123 i) (fun a => match a with
    | ⟨0, _⟩ => by show (i 2).val = if (1024 : Nat) = 1 then 0 else (i 2).val; rw [if_neg (by decide)])

-- %124 = stablehlo.broadcast_in_dim %123
def val_main_v124 : T F S8x4096x1024 .f32 :=
  broadcastInDim S8x4096x1024 ![0, 1, 2] bcast_S1x1x1024_S8x4096x1024_0_1_2 (val_main_v123 (F := F) x7)
abbrev idx_main_v124 (i : S8x4096x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v124_apply (i : S8x4096x1024.Idx) :
    val_main_v124 (F := F) x7 i = val_main_v123 (F := F) x7 (idx_main_v124 i) := by
  unfold val_main_v124
  generalize val_main_v123 (F := F) x7 = y
  exact broadcastInDim_apply _ bcast_S1x1x1024_S8x4096x1024_0_1_2 y i (idx_main_v124 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

-- %125 = stablehlo.multiply %122, %124
def val_main_v125 : T F S8x4096x1024 .f32 :=
  mulf (val_main_v122 (F := F) x0 x1 x2 x3 x4 x5 x6) (val_main_v124 (F := F) x7)
theorem val_main_v125_apply (i : S8x4096x1024.Idx) :
    val_main_v125 (F := F) x0 x1 x2 x3 x4 x5 x6 x7 i = FloatOps.mulf (val_main_v122 (F := F) x0 x1 x2 x3 x4 x5 x6 i) (val_main_v124 (F := F) x7 i) := rfl

-- %126 = stablehlo.reshape %111
def val_main_v126 : T F S32768x1024 .f32 :=
  shapeCast _ (val_main_v111 (F := F) x0 x1 x2 x3 x4 x5 x6) shapeCasts_S8x4096x1024_S32768x1024
set_option backward.proofsInPublic true in
abbrev idx_main_v126 (i : S32768x1024.Idx) : S8x4096x1024.Idx := fun a => match a with
  | ⟨0, _⟩ => ⟨((i 0).val * 1024 + (i 1).val) / 4194304, by have h0 : (i 0).val < 32768 := (i 0).isLt; have h1 : (i 1).val < 1024 := (i 1).isLt; show ((i 0).val * 1024 + (i 1).val) / 4194304 < 8; omega⟩
  | ⟨1, _⟩ => ⟨((i 0).val * 1024 + (i 1).val) / 1024 % 4096, by have h0 : (i 0).val < 32768 := (i 0).isLt; have h1 : (i 1).val < 1024 := (i 1).isLt; show ((i 0).val * 1024 + (i 1).val) / 1024 % 4096 < 4096; omega⟩
  | ⟨2, _⟩ => ⟨((i 0).val * 1024 + (i 1).val) % 1024, by have h0 : (i 0).val < 32768 := (i 0).isLt; have h1 : (i 1).val < 1024 := (i 1).isLt; show ((i 0).val * 1024 + (i 1).val) % 1024 < 1024; omega⟩
theorem val_main_v126_apply (i : S32768x1024.Idx) :
    val_main_v126 (F := F) x0 x1 x2 x3 x4 x5 x6 i = val_main_v111 (F := F) x0 x1 x2 x3 x4 x5 x6 (idx_main_v126 i) := by
  unfold val_main_v126
  generalize val_main_v111 (F := F) x0 x1 x2 x3 x4 x5 x6 = y
  exact shapeCast_apply y shapeCasts_S8x4096x1024_S32768x1024 i (idx_main_v126 i)
    (by rewrite [Shape.rowMajor_val_three, Shape.rowMajor_val_two]; have h0 : (i 0).val < 32768 := (i 0).isLt; have h1 : (i 1).val < 1024 := (i 1).isLt; show (((i 0).val * 1024 + (i 1).val) / 4194304 * 4096 + ((i 0).val * 1024 + (i 1).val) / 1024 % 4096) * 1024 + ((i 0).val * 1024 + (i 1).val) % 1024 = (i 0).val * 1024 + (i 1).val; omega)

-- %127 = stablehlo.reshape %125
def val_main_v127 : T F S32768x1024 .f32 :=
  shapeCast _ (val_main_v125 (F := F) x0 x1 x2 x3 x4 x5 x6 x7) shapeCasts_S8x4096x1024_S32768x1024
set_option backward.proofsInPublic true in
abbrev idx_main_v127 (i : S32768x1024.Idx) : S8x4096x1024.Idx := fun a => match a with
  | ⟨0, _⟩ => ⟨((i 0).val * 1024 + (i 1).val) / 4194304, by have h0 : (i 0).val < 32768 := (i 0).isLt; have h1 : (i 1).val < 1024 := (i 1).isLt; show ((i 0).val * 1024 + (i 1).val) / 4194304 < 8; omega⟩
  | ⟨1, _⟩ => ⟨((i 0).val * 1024 + (i 1).val) / 1024 % 4096, by have h0 : (i 0).val < 32768 := (i 0).isLt; have h1 : (i 1).val < 1024 := (i 1).isLt; show ((i 0).val * 1024 + (i 1).val) / 1024 % 4096 < 4096; omega⟩
  | ⟨2, _⟩ => ⟨((i 0).val * 1024 + (i 1).val) % 1024, by have h0 : (i 0).val < 32768 := (i 0).isLt; have h1 : (i 1).val < 1024 := (i 1).isLt; show ((i 0).val * 1024 + (i 1).val) % 1024 < 1024; omega⟩
theorem val_main_v127_apply (i : S32768x1024.Idx) :
    val_main_v127 (F := F) x0 x1 x2 x3 x4 x5 x6 x7 i = val_main_v125 (F := F) x0 x1 x2 x3 x4 x5 x6 x7 (idx_main_v127 i) := by
  unfold val_main_v127
  generalize val_main_v125 (F := F) x0 x1 x2 x3 x4 x5 x6 x7 = y
  exact shapeCast_apply y shapeCasts_S8x4096x1024_S32768x1024 i (idx_main_v127 i)
    (by rewrite [Shape.rowMajor_val_three, Shape.rowMajor_val_two]; have h0 : (i 0).val < 32768 := (i 0).isLt; have h1 : (i 1).val < 1024 := (i 1).isLt; show (((i 0).val * 1024 + (i 1).val) / 4194304 * 4096 + ((i 0).val * 1024 + (i 1).val) / 1024 % 4096) * 1024 + ((i 0).val * 1024 + (i 1).val) % 1024 = (i 0).val * 1024 + (i 1).val; omega)

end Cert.MixRefIdeal.Read

end
-- ==== Proof.MixRefPool.lean ====
/-
  The reference's pooling read at an index: the running sum of a column over a sequence is the window sum of 4096 entries, the
  lagged running sum taken from it leaves the group's window, and the quotient less the column goes through the group's matrix.
-/
module

public import proofs.«01_k».proof.Proof.MixRefRead
public import proofs.«01_k».proof.Proof.MixSpec
public import Idealize.ShloMosaic.Lib.KernelVsHost

@[expose] public section

set_option maxRecDepth 16384

noncomputable section

namespace Cert.MixRefIdeal.Read

open Cert.MixRefIdeal Cert.MixRefIdeal.Gen Cert.MixSpec Idealize.ShloMosaic Idealize.ShloMosaic.TcCoe Idealize.SL.Sem
open Idealize.ShloMosaic.ValueIdx

/-- The row of the arrays that position `p` of sequence `b` is. -/
abbrev seqRow (b : Fin 8) (p : Fin 4096) : Fin 32768 := ⟨b.val * 4096 + p.val, by omega⟩

section Pool
variable (X : S32768x9216.Idx → EReal) (P : S4x256x256.Idx → EReal)

theorem v1_at (b : Fin 8) (p : Fin 4096) (d : Fin 9216) : val_main_v1 (F := Ideal) X (ix3 b p d) = X (ix2 (seqRow b p) d) := by
  rw [val_main_v1_apply, val_main_v0_apply]
  refine congrArg X (funext fun a => Fin.ext ?_)
  match a with
  | ⟨0, _⟩ => show ((b.val * 4096 + p.val) * 9216 + d.val) / 9216 = b.val * 4096 + p.val; omega
  | ⟨1, _⟩ => show ((b.val * 4096 + p.val) * 9216 + d.val) % 9216 = d.val; omega

/-- An entry of a column, by sequence and position. -/
theorem column_at (b : Fin 8) (p : Fin 4096) (d : Fin 1024) : column X b.val d p.val = X (ix2 (seqRow b p) ⟨d.val, by omega⟩) := by
  unfold column
  refine congrArg X (congrArg₂ ix2 (Fin.ext ?_) rfl)
  show (b.val * 4096 + p.val) % 32768 = b.val * 4096 + p.val
  omega

theorem v5_at (b : Fin 8) (p : Fin 4096) (g : Fin 4) (k : Fin 256) :
    val_main_v5 (F := Ideal) X (ix4 b p g k) = X (ix2 (seqRow b p) ⟨256 * g.val + k.val, by omega⟩) := by
  rw [val_main_v5_apply, val_main_v3_apply]
  refine Eq.trans (congrArg (val_main_v1 (F := Ideal) X) (a₂ := ix3 b p ⟨256 * g.val + k.val, by omega⟩) (funext fun a => Fin.ext ?_)) (v1_at X b p _)
  match a with
  | ⟨0, _⟩ => show (((b.val * 4096 + p.val) * 4 + g.val) * 256 + k.val) / 4194304 = b.val; omega
  | ⟨1, _⟩ => show (((b.val * 4096 + p.val) * 4 + g.val) * 256 + k.val) / 1024 % 4096 = p.val; omega
  | ⟨2, _⟩ => show (((b.val * 4096 + p.val) * 4 + g.val) * 256 + k.val) % 1024 = 256 * g.val + k.val; omega

/-- A left fold of additions is the sum of the terms after the start. -/
theorem foldl_terms {α : Type} (f : α → EReal) : ∀ (l : List α) (v : EReal), l.foldl (fun r n => r + f n) v = v + (l.map f).sum
  | [], v => by simp
  | a :: l, v => by
    rw [List.foldl_cons, foldl_terms f l, List.map_cons, List.sum_cons, add_assoc]

theorem foldl_all (n : ℕ) (f : Fin n → EReal) : (List.finRange n).foldl (fun r k => r + f k) 0 = ∑ k : Fin n, f k := by
  rw [foldl_terms, zero_add, Fin.sum_univ_def]

/-- The window's shape, one axis of 4096 positions. -/
abbrev W : Shape := ⟨4, ![1, 4096, 1, 1]⟩

/-- The window's positions are its second coordinates. -/
def along : Fin 4096 ≃ W.Idx where
  toFun k := fun a => match a with
    | ⟨0, _⟩ => ⟨0, Nat.one_pos⟩
    | ⟨1, _⟩ => ⟨k.val, k.isLt⟩
    | ⟨2, _⟩ => ⟨0, Nat.one_pos⟩
    | ⟨3, _⟩ => ⟨0, Nat.one_pos⟩
  invFun j := ⟨(j 1).val, (j 1).isLt⟩
  left_inv k := rfl
  right_inv j := funext fun a => Fin.ext (by
    match a with
    | ⟨0, _⟩ => have h : (j 0).val < 1 := (j 0).isLt; show 0 = (j 0).val; omega
    | ⟨1, _⟩ => rfl
    | ⟨2, _⟩ => have h : (j 2).val < 1 := (j 2).isLt; show 0 = (j 2).val; omega
    | ⟨3, _⟩ => have h : (j 3).val < 1 := (j 3).isLt; show 0 = (j 3).val; omega)

/-- A window sum counted from its far end. -/
theorem windowSum_reflect (U : ℕ → EReal) (p : ℕ) :
    windowSum 4096 U p = ∑ k : Fin 4096, if 4095 ≤ p + k.val then U (p + k.val - 4095) else 0 := by
  unfold windowSum
  rw [← Finset.sum_range_reflect, Finset.sum_range]
  refine Finset.sum_congr rfl fun k _ => ?_
  have hk := k.isLt
  by_cases h : 4095 ≤ p + k.val
  · rw [if_pos (by omega), if_pos h]
    exact congrArg U (by omega)
  · rw [if_neg (by omega), if_neg h]

/-- The running sum of a column. -/
theorem v6_at (b : Fin 8) (p : Fin 4096) (g : Fin 4) (k : Fin 256) :
    val_main_v6 (F := Ideal) X (ix4 b p g k) = windowSum 4096 (column X b.val ⟨256 * g.val + k.val, by omega⟩) p.val := by
  have hz : val_main_call0_call0_v0 (F := Ideal) (Shape.Idx.first h_S_) = 0 := by
    rw [val_main_call0_call0_v0_apply, val_main_call0_call0_cst_apply]
    exact Ideal.ofBits_zero_f32
  unfold val_main_v6 Host.reduceWindowAdd
  rw [Ideal.hostReduceWindowAdd_def, hz]
  unfold Ideal.hostReduceWindowAdd Host.reduceWindow
  dsimp only
  refine (foldl_all _ _).trans ?_
  rw [windowSum_reflect, ← Equiv.sum_comp W.rowMajor, ← Equiv.sum_comp along]
  refine Finset.sum_congr rfl fun n _ => ?_
  have hn := n.isLt
  have hp := p.isLt
  simp only [Equiv.symm_apply_apply]
  by_cases h : 4095 ≤ p.val + n.val
  · rw [if_pos h, dif_pos (fun a => by
      match a with
      | ⟨0, _⟩ => exact ⟨Nat.zero_le _, by show b.val * 1 + 0 - 0 < 8; omega⟩
      | ⟨1, _⟩ => exact ⟨by show 4095 ≤ p.val * 1 + n.val; omega, by show p.val * 1 + n.val - 4095 < 4096; omega⟩
      | ⟨2, _⟩ => exact ⟨Nat.zero_le _, by show g.val * 1 + 0 - 0 < 4; omega⟩
      | ⟨3, _⟩ => exact ⟨Nat.zero_le _, by show k.val * 1 + 0 - 0 < 256; omega⟩)]
    refine Eq.trans (congrArg (val_main_v5 (F := Ideal) X) (a₂ := ix4 b ⟨p.val + n.val - 4095, by omega⟩ g k) (funext fun a => Fin.ext ?_)) ?_
    · match a with
      | ⟨0, _⟩ => show b.val * 1 + 0 - 0 = b.val; omega
      | ⟨1, _⟩ => show p.val * 1 + n.val - 4095 = p.val + n.val - 4095; omega
      | ⟨2, _⟩ => show g.val * 1 + 0 - 0 = g.val; omega
      | ⟨3, _⟩ => show k.val * 1 + 0 - 0 = k.val; omega
    · rw [v5_at]
      exact (column_at X b ⟨p.val + n.val - 4095, by omega⟩ ⟨256 * g.val + k.val, by omega⟩).symm
  · rw [if_neg h, dif_neg (fun hc => h (by have h1 : 4095 ≤ p.val * 1 + n.val := (hc (1 : Fin 4)).1; omega))]

theorem v7_at (p : Fin 4096) : val_main_v7 (F := Ideal) (ix1 p) = (((BitVec.ofNat 32 p.val).toInt : ℝ) : EReal) := rfl

/-- The projected rows' pooled columns are finite. -/
def FinU : Prop := ∀ (i : Fin 32768) (d : Fin 1024), ∃ r : ℝ, X (ix2 i ⟨d.val, by omega⟩) = r

variable {X} (hX : FinU X)
include hX

theorem column_real (b : ℕ) (d : Fin 1024) (n : ℕ) : ∃ r : ℝ, column X b d n = r := hX _ d

omit hX

/-! ## Group 0: a window of 2 -/

theorem sum0_at (b : Fin 8) (p : Fin 4096) (k : Fin 256) :
    val_main_v9 (F := Ideal) X (ix3 b p k) = windowSum 4096 (column X b.val ⟨256 * ((0 : Fin 4)).val + k.val, by show 256 * 0 + k.val < 1024; omega⟩) p.val := by
  rw [val_main_v9_apply, val_main_v8_apply]
  refine Eq.trans (congrArg (val_main_v6 (F := Ideal) X) (a₂ := ix4 b p (0 : Fin 4) k) (funext fun a => Fin.ext ?_)) (v6_at X b p 0 k)
  match a with
  | ⟨0, _⟩ => show ((b.val * 4096 + p.val) * 256 + k.val) / 1048576 = b.val; omega
  | ⟨1, _⟩ => show ((b.val * 4096 + p.val) * 256 + k.val) / 256 % 4096 = p.val; omega
  | ⟨2, _⟩ => rfl
  | ⟨3, _⟩ => show ((b.val * 4096 + p.val) * 256 + k.val) % 256 = k.val; omega

theorem lag0_at (b : Fin 8) (p : Fin 4096) (k : Fin 256) :
    val_main_v11 (F := Ideal) X (ix3 b p k)
      = if 2 ≤ p.val then windowSum 4096 (column X b.val ⟨256 * ((0 : Fin 4)).val + k.val, by show 256 * 0 + k.val < 1024; omega⟩) (p.val - 2) else 0 := by
  rw [val_main_v11_apply]
  unfold val_main_v10
  by_cases h : 2 ≤ p.val
  · rw [if_pos h, ← sum0_at (X := X) b ⟨p.val - 2, by omega⟩ k]
    exact pad_apply_of_inside _ _ _ _ _ _ _ _ (ix3 b ⟨p.val - 2, by omega⟩ k) (fun a => by
      match a with
      | ⟨0, _⟩ => show b.val = 0 + b.val * (0 + 1); omega
      | ⟨1, _⟩ => show p.val = 2 + (p.val - 2) * (0 + 1); omega
      | ⟨2, _⟩ => show k.val = 0 + k.val * (0 + 1); omega)
  · rw [if_neg h, pad_apply_of_not_inside _ _ _ _ _ _ _ _ ⟨1, by decide⟩ (fun hc => h hc.1), val_main_call1_v0_apply, val_main_c_apply]
    show (((0#32 : BitVec 32).toInt : ℝ) : EReal) = 0
    simp

theorem len0_at (b : Fin 8) (p : Fin 4096) (k : Fin 256) : val_main_v18 (F := Ideal) (ix3 b p k) = MixSpec.count 0 p.val := by
  rw [val_main_v18_apply, val_main_v16_apply, val_main_v15_apply, val_main_v13_apply, val_main_v12_apply, val_main_v14_apply,
    val_main_cst_apply, val_main_cst_0_apply]
  exact congrArg (fun z : EReal => min (z + Ideal.ofBits .f32 0x3F800000#32) (Ideal.ofBits .f32 (lengthBits 0))) (v7_at p)

theorem own0_at (b : Fin 8) (p : Fin 4096) (k : Fin 256) :
    val_main_v21 (F := Ideal) X (ix3 b p k) = X (ix2 (seqRow b p) ⟨256 * ((0 : Fin 4)).val + k.val, by show 256 * 0 + k.val < 9216; omega⟩) := by
  rw [val_main_v21_apply, val_main_v20_apply]
  refine Eq.trans (congrArg (val_main_v5 (F := Ideal) X) (a₂ := ix4 b p (0 : Fin 4) k) (funext fun a => Fin.ext ?_)) (v5_at X b p 0 k)
  match a with
  | ⟨0, _⟩ => show ((b.val * 4096 + p.val) * 256 + k.val) / 1048576 = b.val; omega
  | ⟨1, _⟩ => show ((b.val * 4096 + p.val) * 256 + k.val) / 256 % 4096 = p.val; omega
  | ⟨2, _⟩ => rfl
  | ⟨3, _⟩ => show ((b.val * 4096 + p.val) * 256 + k.val) % 256 = k.val; omega

include hX in
theorem pooled0_at (b : Fin 8) (p : Fin 4096) (k : Fin 256) :
    val_main_v22 (F := Ideal) X (ix3 b p k) = pooledE X 0 (seqRow b p) k := by
  have hb : (seqRow b p).val / 4096 = b.val := by show (b.val * 4096 + p.val) / 4096 = b.val; omega
  have hp : (seqRow b p).val % 4096 = p.val := by show (b.val * 4096 + p.val) % 4096 = p.val; omega
  rw [val_main_v22_apply, val_main_v19_apply, val_main_v17_apply, sum0_at, lag0_at, len0_at, own0_at]
  unfold pooledE
  rw [hb, hp, ← running_sub (2 ^ (((0 : Fin 4)).val + 1)) _ p.val (by decide) p.isLt (fun n => column_real hX b.val _ n)]
  rfl

theorem pool0_at (k e : Fin 256) : val_main_v25 (F := Ideal) P (ix2 k e) = P (ix3 (0 : Fin 4) k e) := by
  rw [val_main_v25_apply, val_main_v24_apply, val_main_v23_apply]
  refine congrArg P (funext fun a => Fin.ext ?_)
  match a with
  | ⟨0, _⟩ => rfl
  | ⟨1, _⟩ => show (k.val * 256 + e.val) / 256 % 256 = k.val; omega
  | ⟨2, _⟩ => show (k.val * 256 + e.val) % 256 = e.val; omega

include hX in
theorem group0_at (b : Fin 8) (p : Fin 4096) (e : Fin 256) :
    val_main_v26 (F := Ideal) X P (ix3 b p e) = groupE X P 0 (seqRow b p) e := by
  rw [val_main_v26_apply]
  unfold groupE
  refine Finset.sum_congr rfl fun k _ => ?_
  have el : lidx_main_v26 (ix3 b p e) k = ix3 b p k := funext fun a => by match a with | ⟨0, _⟩ => rfl | ⟨1, _⟩ => rfl | ⟨2, _⟩ => rfl
  have er : ridx_main_v26 (ix3 b p e) k = ix2 k e := funext fun a => by match a with | ⟨0, _⟩ => rfl | ⟨1, _⟩ => rfl
  rw [el, er, pooled0_at hX, pool0_at]

/-! ## Group 1: a window of 4 -/

theorem sum1_at (b : Fin 8) (p : Fin 4096) (k : Fin 256) :
    val_main_v28 (F := Ideal) X (ix3 b p k) = windowSum 4096 (column X b.val ⟨256 * ((1 : Fin 4)).val + k.val, by show 256 * 1 + k.val < 1024; omega⟩) p.val := by
  rw [val_main_v28_apply, val_main_v27_apply]
  refine Eq.trans (congrArg (val_main_v6 (F := Ideal) X) (a₂ := ix4 b p (1 : Fin 4) k) (funext fun a => Fin.ext ?_)) (v6_at X b p 1 k)
  match a with
  | ⟨0, _⟩ => show ((b.val * 4096 + p.val) * 256 + k.val) / 1048576 = b.val; omega
  | ⟨1, _⟩ => show ((b.val * 4096 + p.val) * 256 + k.val) / 256 % 4096 = p.val; omega
  | ⟨2, _⟩ => rfl
  | ⟨3, _⟩ => show ((b.val * 4096 + p.val) * 256 + k.val) % 256 = k.val; omega

theorem lag1_at (b : Fin 8) (p : Fin 4096) (k : Fin 256) :
    val_main_v30 (F := Ideal) X (ix3 b p k)
      = if 4 ≤ p.val then windowSum 4096 (column X b.val ⟨256 * ((1 : Fin 4)).val + k.val, by show 256 * 1 + k.val < 1024; omega⟩) (p.val - 4) else 0 := by
  rw [val_main_v30_apply]
  unfold val_main_v29
  by_cases h : 4 ≤ p.val
  · rw [if_pos h, ← sum1_at (X := X) b ⟨p.val - 4, by omega⟩ k]
    exact pad_apply_of_inside _ _ _ _ _ _ _ _ (ix3 b ⟨p.val - 4, by omega⟩ k) (fun a => by
      match a with
      | ⟨0, _⟩ => show b.val = 0 + b.val * (0 + 1); omega
      | ⟨1, _⟩ => show p.val = 4 + (p.val - 4) * (0 + 1); omega
      | ⟨2, _⟩ => show k.val = 0 + k.val * (0 + 1); omega)
  · rw [if_neg h, pad_apply_of_not_inside _ _ _ _ _ _ _ _ ⟨1, by decide⟩ (fun hc => h hc.1), val_main_call2_v0_apply, val_main_c_1_apply]
    show (((0#32 : BitVec 32).toInt : ℝ) : EReal) = 0
    simp

theorem len1_at (b : Fin 8) (p : Fin 4096) (k : Fin 256) : val_main_v37 (F := Ideal) (ix3 b p k) = MixSpec.count 1 p.val := by
  rw [val_main_v37_apply, val_main_v35_apply, val_main_v34_apply, val_main_v32_apply, val_main_v31_apply, val_main_v33_apply,
    val_main_cst_2_apply, val_main_cst_3_apply]
  exact congrArg (fun z : EReal => min (z + Ideal.ofBits .f32 0x3F800000#32) (Ideal.ofBits .f32 (lengthBits 1))) (v7_at p)

theorem own1_at (b : Fin 8) (p : Fin 4096) (k : Fin 256) :
    val_main_v40 (F := Ideal) X (ix3 b p k) = X (ix2 (seqRow b p) ⟨256 * ((1 : Fin 4)).val + k.val, by show 256 * 1 + k.val < 9216; omega⟩) := by
  rw [val_main_v40_apply, val_main_v39_apply]
  refine Eq.trans (congrArg (val_main_v5 (F := Ideal) X) (a₂ := ix4 b p (1 : Fin 4) k) (funext fun a => Fin.ext ?_)) (v5_at X b p 1 k)
  match a with
  | ⟨0, _⟩ => show ((b.val * 4096 + p.val) * 256 + k.val) / 1048576 = b.val; omega
  | ⟨1, _⟩ => show ((b.val * 4096 + p.val) * 256 + k.val) / 256 % 4096 = p.val; omega
  | ⟨2, _⟩ => rfl
  | ⟨3, _⟩ => show ((b.val * 4096 + p.val) * 256 + k.val) % 256 = k.val; omega

include hX in
theorem pooled1_at (b : Fin 8) (p : Fin 4096) (k : Fin 256) :
    val_main_v41 (F := Ideal) X (ix3 b p k) = pooledE X 1 (seqRow b p) k := by
  have hb : (seqRow b p).val / 4096 = b.val := by show (b.val * 4096 + p.val) / 4096 = b.val; omega
  have hp : (seqRow b p).val % 4096 = p.val := by show (b.val * 4096 + p.val) % 4096 = p.val; omega
  rw [val_main_v41_apply, val_main_v38_apply, val_main_v36_apply, sum1_at, lag1_at, len1_at, own1_at]
  unfold pooledE
  rw [hb, hp, ← running_sub (2 ^ (((1 : Fin 4)).val + 1)) _ p.val (by decide) p.isLt (fun n => column_real hX b.val _ n)]
  rfl

theorem pool1_at (k e : Fin 256) : val_main_v44 (F := Ideal) P (ix2 k e) = P (ix3 (1 : Fin 4) k e) := by
  rw [val_main_v44_apply, val_main_v43_apply, val_main_v42_apply]
  refine congrArg P (funext fun a => Fin.ext ?_)
  match a with
  | ⟨0, _⟩ => rfl
  | ⟨1, _⟩ => show (k.val * 256 + e.val) / 256 % 256 = k.val; omega
  | ⟨2, _⟩ => show (k.val * 256 + e.val) % 256 = e.val; omega

include hX in
theorem group1_at (b : Fin 8) (p : Fin 4096) (e : Fin 256) :
    val_main_v45 (F := Ideal) X P (ix3 b p e) = groupE X P 1 (seqRow b p) e := by
  rw [val_main_v45_apply]
  unfold groupE
  refine Finset.sum_congr rfl fun k _ => ?_
  have el : lidx_main_v45 (ix3 b p e) k = ix3 b p k := funext fun a => by match a with | ⟨0, _⟩ => rfl | ⟨1, _⟩ => rfl | ⟨2, _⟩ => rfl
  have er : ridx_main_v45 (ix3 b p e) k = ix2 k e := funext fun a => by match a with | ⟨0, _⟩ => rfl | ⟨1, _⟩ => rfl
  rw [el, er, pooled1_at hX, pool1_at]

/-! ## Group 2: a window of 8 -/

theorem sum2_at (b : Fin 8) (p : Fin 4096) (k : Fin 256) :
    val_main_v47 (F := Ideal) X (ix3 b p k) = windowSum 4096 (column X b.val ⟨256 * ((2 : Fin 4)).val + k.val, by show 256 * 2 + k.val < 1024; omega⟩) p.val := by
  rw [val_main_v47_apply, val_main_v46_apply]
  refine Eq.trans (congrArg (val_main_v6 (F := Ideal) X) (a₂ := ix4 b p (2 : Fin 4) k) (funext fun a => Fin.ext ?_)) (v6_at X b p 2 k)
  match a with
  | ⟨0, _⟩ => show ((b.val * 4096 + p.val) * 256 + k.val) / 1048576 = b.val; omega
  | ⟨1, _⟩ => show ((b.val * 4096 + p.val) * 256 + k.val) / 256 % 4096 = p.val; omega
  | ⟨2, _⟩ => rfl
  | ⟨3, _⟩ => show ((b.val * 4096 + p.val) * 256 + k.val) % 256 = k.val; omega

theorem lag2_at (b : Fin 8) (p : Fin 4096) (k : Fin 256) :
    val_main_v49 (F := Ideal) X (ix3 b p k)
      = if 8 ≤ p.val then windowSum 4096 (column X b.val ⟨256 * ((2 : Fin 4)).val + k.val, by show 256 * 2 + k.val < 1024; omega⟩) (p.val - 8) else 0 := by
  rw [val_main_v49_apply]
  unfold val_main_v48
  by_cases h : 8 ≤ p.val
  · rw [if_pos h, ← sum2_at (X := X) b ⟨p.val - 8, by omega⟩ k]
    exact pad_apply_of_inside _ _ _ _ _ _ _ _ (ix3 b ⟨p.val - 8, by omega⟩ k) (fun a => by
      match a with
      | ⟨0, _⟩ => show b.val = 0 + b.val * (0 + 1); omega
      | ⟨1, _⟩ => show p.val = 8 + (p.val - 8) * (0 + 1); omega
      | ⟨2, _⟩ => show k.val = 0 + k.val * (0 + 1); omega)
  · rw [if_neg h, pad_apply_of_not_inside _ _ _ _ _ _ _ _ ⟨1, by decide⟩ (fun hc => h hc.1), val_main_call3_v0_apply, val_main_c_4_apply]
    show (((0#32 : BitVec 32).toInt : ℝ) : EReal) = 0
    simp

theorem len2_at (b : Fin 8) (p : Fin 4096) (k : Fin 256) : val_main_v56 (F := Ideal) (ix3 b p k) = MixSpec.count 2 p.val := by
  rw [val_main_v56_apply, val_main_v54_apply, val_main_v53_apply, val_main_v51_apply, val_main_v50_apply, val_main_v52_apply,
    val_main_cst_5_apply, val_main_cst_6_apply]
  exact congrArg (fun z : EReal => min (z + Ideal.ofBits .f32 0x3F800000#32) (Ideal.ofBits .f32 (lengthBits 2))) (v7_at p)

theorem own2_at (b : Fin 8) (p : Fin 4096) (k : Fin 256) :
    val_main_v59 (F := Ideal) X (ix3 b p k) = X (ix2 (seqRow b p) ⟨256 * ((2 : Fin 4)).val + k.val, by show 256 * 2 + k.val < 9216; omega⟩) := by
  rw [val_main_v59_apply, val_main_v58_apply]
  refine Eq.trans (congrArg (val_main_v5 (F := Ideal) X) (a₂ := ix4 b p (2 : Fin 4) k) (funext fun a => Fin.ext ?_)) (v5_at X b p 2 k)
  match a with
  | ⟨0, _⟩ => show ((b.val * 4096 + p.val) * 256 + k.val) / 1048576 = b.val; omega
  | ⟨1, _⟩ => show ((b.val * 4096 + p.val) * 256 + k.val) / 256 % 4096 = p.val; omega
  | ⟨2, _⟩ => rfl
  | ⟨3, _⟩ => show ((b.val * 4096 + p.val) * 256 + k.val) % 256 = k.val; omega

include hX in
theorem pooled2_at (b : Fin 8) (p : Fin 4096) (k : Fin 256) :
    val_main_v60 (F := Ideal) X (ix3 b p k) = pooledE X 2 (seqRow b p) k := by
  have hb : (seqRow b p).val / 4096 = b.val := by show (b.val * 4096 + p.val) / 4096 = b.val; omega
  have hp : (seqRow b p).val % 4096 = p.val := by show (b.val * 4096 + p.val) % 4096 = p.val; omega
  rw [val_main_v60_apply, val_main_v57_apply, val_main_v55_apply, sum2_at, lag2_at, len2_at, own2_at]
  unfold pooledE
  rw [hb, hp, ← running_sub (2 ^ (((2 : Fin 4)).val + 1)) _ p.val (by decide) p.isLt (fun n => column_real hX b.val _ n)]
  rfl

theorem pool2_at (k e : Fin 256) : val_main_v63 (F := Ideal) P (ix2 k e) = P (ix3 (2 : Fin 4) k e) := by
  rw [val_main_v63_apply, val_main_v62_apply, val_main_v61_apply]
  refine congrArg P (funext fun a => Fin.ext ?_)
  match a with
  | ⟨0, _⟩ => rfl
  | ⟨1, _⟩ => show (k.val * 256 + e.val) / 256 % 256 = k.val; omega
  | ⟨2, _⟩ => show (k.val * 256 + e.val) % 256 = e.val; omega

include hX in
theorem group2_at (b : Fin 8) (p : Fin 4096) (e : Fin 256) :
    val_main_v64 (F := Ideal) X P (ix3 b p e) = groupE X P 2 (seqRow b p) e := by
  rw [val_main_v64_apply]
  unfold groupE
  refine Finset.sum_congr rfl fun k _ => ?_
  have el : lidx_main_v64 (ix3 b p e) k = ix3 b p k := funext fun a => by match a with | ⟨0, _⟩ => rfl | ⟨1, _⟩ => rfl | ⟨2, _⟩ => rfl
  have er : ridx_main_v64 (ix3 b p e) k = ix2 k e := funext fun a => by match a with | ⟨0, _⟩ => rfl | ⟨1, _⟩ => rfl
  rw [el, er, pooled2_at hX, pool2_at]

/-! ## Group 3: a window of 16 -/

theorem sum3_at (b : Fin 8) (p : Fin 4096) (k : Fin 256) :
    val_main_v66 (F := Ideal) X (ix3 b p k) = windowSum 4096 (column X b.val ⟨256 * ((3 : Fin 4)).val + k.val, by show 256 * 3 + k.val < 1024; omega⟩) p.val := by
  rw [val_main_v66_apply, val_main_v65_apply]
  refine Eq.trans (congrArg (val_main_v6 (F := Ideal) X) (a₂ := ix4 b p (3 : Fin 4) k) (funext fun a => Fin.ext ?_)) (v6_at X b p 3 k)
  match a with
  | ⟨0, _⟩ => show ((b.val * 4096 + p.val) * 256 + k.val) / 1048576 = b.val; omega
  | ⟨1, _⟩ => show ((b.val * 4096 + p.val) * 256 + k.val) / 256 % 4096 = p.val; omega
  | ⟨2, _⟩ => rfl
  | ⟨3, _⟩ => show ((b.val * 4096 + p.val) * 256 + k.val) % 256 = k.val; omega

theorem lag3_at (b : Fin 8) (p : Fin 4096) (k : Fin 256) :
    val_main_v68 (F := Ideal) X (ix3 b p k)
      = if 16 ≤ p.val then windowSum 4096 (column X b.val ⟨256 * ((3 : Fin 4)).val + k.val, by show 256 * 3 + k.val < 1024; omega⟩) (p.val - 16) else 0 := by
  rw [val_main_v68_apply]
  unfold val_main_v67
  by_cases h : 16 ≤ p.val
  · rw [if_pos h, ← sum3_at (X := X) b ⟨p.val - 16, by omega⟩ k]
    exact pad_apply_of_inside _ _ _ _ _ _ _ _ (ix3 b ⟨p.val - 16, by omega⟩ k) (fun a => by
      match a with
      | ⟨0, _⟩ => show b.val = 0 + b.val * (0 + 1); omega
      | ⟨1, _⟩ => show p.val = 16 + (p.val - 16) * (0 + 1); omega
      | ⟨2, _⟩ => show k.val = 0 + k.val * (0 + 1); omega)
  · rw [if_neg h, pad_apply_of_not_inside _ _ _ _ _ _ _ _ ⟨1, by decide⟩ (fun hc => h hc.1), val_main_call4_v0_apply, val_main_c_7_apply]
    show (((0#32 : BitVec 32).toInt : ℝ) : EReal) = 0
    simp

theorem len3_at (b : Fin 8) (p : Fin 4096) (k : Fin 256) : val_main_v75 (F := Ideal) (ix3 b p k) = MixSpec.count 3 p.val := by
  rw [val_main_v75_apply, val_main_v73_apply, val_main_v72_apply, val_main_v70_apply, val_main_v69_apply, val_main_v71_apply,
    val_main_cst_8_apply, val_main_cst_9_apply]
  exact congrArg (fun z : EReal => min (z + Ideal.ofBits .f32 0x3F800000#32) (Ideal.ofBits .f32 (lengthBits 3))) (v7_at p)

theorem own3_at (b : Fin 8) (p : Fin 4096) (k : Fin 256) :
    val_main_v78 (F := Ideal) X (ix3 b p k) = X (ix2 (seqRow b p) ⟨256 * ((3 : Fin 4)).val + k.val, by show 256 * 3 + k.val < 9216; omega⟩) := by
  rw [val_main_v78_apply, val_main_v77_apply]
  refine Eq.trans (congrArg (val_main_v5 (F := Ideal) X) (a₂ := ix4 b p (3 : Fin 4) k) (funext fun a => Fin.ext ?_)) (v5_at X b p 3 k)
  match a with
  | ⟨0, _⟩ => show ((b.val * 4096 + p.val) * 256 + k.val) / 1048576 = b.val; omega
  | ⟨1, _⟩ => show ((b.val * 4096 + p.val) * 256 + k.val) / 256 % 4096 = p.val; omega
  | ⟨2, _⟩ => rfl
  | ⟨3, _⟩ => show ((b.val * 4096 + p.val) * 256 + k.val) % 256 = k.val; omega

include hX in
theorem pooled3_at (b : Fin 8) (p : Fin 4096) (k : Fin 256) :
    val_main_v79 (F := Ideal) X (ix3 b p k) = pooledE X 3 (seqRow b p) k := by
  have hb : (seqRow b p).val / 4096 = b.val := by show (b.val * 4096 + p.val) / 4096 = b.val; omega
  have hp : (seqRow b p).val % 4096 = p.val := by show (b.val * 4096 + p.val) % 4096 = p.val; omega
  rw [val_main_v79_apply, val_main_v76_apply, val_main_v74_apply, sum3_at, lag3_at, len3_at, own3_at]
  unfold pooledE
  rw [hb, hp, ← running_sub (2 ^ (((3 : Fin 4)).val + 1)) _ p.val (by decide) p.isLt (fun n => column_real hX b.val _ n)]
  rfl

theorem pool3_at (k e : Fin 256) : val_main_v82 (F := Ideal) P (ix2 k e) = P (ix3 (3 : Fin 4) k e) := by
  rw [val_main_v82_apply, val_main_v81_apply, val_main_v80_apply]
  refine congrArg P (funext fun a => Fin.ext ?_)
  match a with
  | ⟨0, _⟩ => rfl
  | ⟨1, _⟩ => show (k.val * 256 + e.val) / 256 % 256 = k.val; omega
  | ⟨2, _⟩ => show (k.val * 256 + e.val) % 256 = e.val; omega

include hX in
theorem group3_at (b : Fin 8) (p : Fin 4096) (e : Fin 256) :
    val_main_v83 (F := Ideal) X P (ix3 b p e) = groupE X P 3 (seqRow b p) e := by
  rw [val_main_v83_apply]
  unfold groupE
  refine Finset.sum_congr rfl fun k _ => ?_
  have el : lidx_main_v83 (ix3 b p e) k = ix3 b p k := funext fun a => by match a with | ⟨0, _⟩ => rfl | ⟨1, _⟩ => rfl | ⟨2, _⟩ => rfl
  have er : ridx_main_v83 (ix3 b p e) k = ix2 k e := funext fun a => by match a with | ⟨0, _⟩ => rfl | ⟨1, _⟩ => rfl
  rw [el, er, pooled3_at hX, pool3_at]

end Pool

end Cert.MixRefIdeal.Read

end
-- ==== Proof.MixRef.lean ====
/-
  The reference's two results read at an index: where the pooled columns are finite they are the rows of `x1E` and `h2E`.
-/
module

public import proofs.«01_k».proof.Proof.MixRefPool
public import proofs.«01_k».proof.Proof.RetentionTables

@[expose] public section

set_option maxRecDepth 16384

noncomputable section

namespace Cert.MixRefIdeal.Read

open Cert.MixRefIdeal Cert.MixRefIdeal.Gen Cert.MixSpec Idealize.ShloMosaic Idealize.ShloMosaic.TcCoe Idealize.SL.Sem
open Idealize.ShloMosaic.ValueIdx

section Rows
variable {X : S32768x9216.Idx → EReal} (hX : FinU X) (R : S32768x2048.Idx → EReal) (Y : S32768x1024.Idx → EReal) (P : S4x256x256.Idx → EReal)
  (S : S1x1024.Idx → EReal) (A : S2048x1024.Idx → EReal) (B : S1024x1024.Idx → EReal) (G : S1x1024.Idx → EReal)

include hX in
/-- The joined groups. -/
theorem v84_at (b : Fin 8) (p : Fin 4096) (d : Fin 1024) :
    val_main_v84 (F := Ideal) X P (ix3 b p d) = groupE X P ⟨d.val / 256, by omega⟩ (seqRow b p) ⟨d.val % 256, Nat.mod_lt _ (by decide)⟩ := by
  have hk := d.isLt
  have off : ∀ (e : Fin 256) (a : Fin 3), a ≠ 2 → ((ix3 b p e : S8x4096x256.Idx) a).val = ((ix3 b p d : S8x4096x1024.Idx) a).val := by
    intro e a ha
    match a with
    | ⟨0, _⟩ => rfl
    | ⟨1, _⟩ => rfl
    | ⟨2, _⟩ => exact absurd rfl ha
  have h : d.val / 256 = 0 ∨ d.val / 256 = 1 ∨ d.val / 256 = 2 ∨ d.val / 256 = 3 := by omega
  unfold val_main_v84
  rcases h with h | h | h | h
  · rw [show (⟨d.val / 256, by omega⟩ : Fin 4) = 0 from Fin.ext h, ← group0_at P hX]
    exact concatenate_apply_piece (t := S8x4096x1024) 2 _ _ _ 0 (by simp) S8x4096x256 (val_main_v26 (F := Ideal) X P) rfl rfl 0 rfl _
      (fun a ha => off _ a ha) (by show 0 + d.val % 256 = d.val; omega)
  · rw [show (⟨d.val / 256, by omega⟩ : Fin 4) = 1 from Fin.ext h, ← group1_at P hX]
    exact concatenate_apply_piece (t := S8x4096x1024) 2 _ _ _ 1 (by simp) S8x4096x256 (val_main_v45 (F := Ideal) X P) rfl rfl 256 rfl _
      (fun a ha => off _ a ha) (by show 256 + d.val % 256 = d.val; omega)
  · rw [show (⟨d.val / 256, by omega⟩ : Fin 4) = 2 from Fin.ext h, ← group2_at P hX]
    exact concatenate_apply_piece (t := S8x4096x1024) 2 _ _ _ 2 (by simp) S8x4096x256 (val_main_v64 (F := Ideal) X P) rfl rfl 512 rfl _
      (fun a ha => off _ a ha) (by show 512 + d.val % 256 = d.val; omega)
  · rw [show (⟨d.val / 256, by omega⟩ : Fin 4) = 3 from Fin.ext h, ← group3_at P hX]
    exact concatenate_apply_piece (t := S8x4096x1024) 2 _ _ _ 3 (by simp) S8x4096x256 (val_main_v83 (F := Ideal) X P) rfl rfl 768 rfl _
      (fun a ha => off _ a ha) (by show 768 + d.val % 256 = d.val; omega)

theorem v86_at (b : Fin 8) (p : Fin 4096) (d : Fin 1024) : val_main_v86 (F := Ideal) S (ix3 b p d) = S (ix2 0 d) := by
  rw [val_main_v86_apply, val_main_v85_apply, val_main_v4_apply]
  refine congrArg S (funext fun a => Fin.ext ?_)
  match a with
  | ⟨0, _⟩ => rfl
  | ⟨1, _⟩ => exact Nat.mod_eq_of_lt d.isLt

/-- The retention branch. -/
theorem v91_at (b : Fin 8) (p : Fin 4096) (d : Fin 1024) : val_main_v91 (F := Ideal) R A (ix3 b p d) = retE R A (seqRow b p) d := by
  rw [val_main_v91_apply]
  unfold retE
  refine Finset.sum_congr rfl fun k _ => congrArg₂ (· * ·) ?_ ?_
  · rw [val_main_v89_apply, val_main_v88_apply]
    refine congrArg R (funext fun a => Fin.ext ?_)
    match a with
    | ⟨0, _⟩ => show ((b.val * 4096 + p.val) * 2048 + k.val) / 2048 = b.val * 4096 + p.val; omega
    | ⟨1, _⟩ => show ((b.val * 4096 + p.val) * 2048 + k.val) % 2048 = k.val; omega
  · rw [val_main_v90_apply]
    exact congrArg A (funext fun a => by match a with | ⟨0, _⟩ => rfl | ⟨1, _⟩ => rfl)

theorem gate0_at (b : Fin 8) (p : Fin 4096) (d : Fin 1024) :
    val_main_v92 (F := Ideal) X (ix3 b p d) = X (ix2 (seqRow b p) ⟨7168 + d.val, by omega⟩) := by
  rw [val_main_v92_apply]
  exact Eq.trans (congrArg (val_main_v1 (F := Ideal) X) (a₂ := ix3 b p ⟨7168 + d.val, by omega⟩) (funext fun a => Fin.ext (by
    match a with
    | ⟨0, _⟩ => rfl
    | ⟨1, _⟩ => rfl
    | ⟨2, _⟩ => rfl))) (v1_at X b p _)

theorem gate1_at (b : Fin 8) (p : Fin 4096) (d : Fin 1024) :
    val_main_v93 (F := Ideal) X (ix3 b p d) = X (ix2 (seqRow b p) ⟨8192 + d.val, by omega⟩) := by
  rw [val_main_v93_apply]
  exact Eq.trans (congrArg (val_main_v1 (F := Ideal) X) (a₂ := ix3 b p ⟨8192 + d.val, by omega⟩) (funext fun a => Fin.ext (by
    match a with
    | ⟨0, _⟩ => rfl
    | ⟨1, _⟩ => rfl
    | ⟨2, _⟩ => rfl))) (v1_at X b p _)

theorem one_bits : Ideal.ofBits .f32 0x3F800000#32 = 1 := by rw [Cert.Retention.bits_1, EReal.coe_one]

/-- A quotient of one by one plus an exponential is the logistic. -/
theorem logistic_of (u x : EReal) (h : u = 1) : Ideal.div u (u + Ideal.exp (-x)) = Ideal.logistic x := by rw [h]; rfl

theorem v99_at (b : Fin 8) (p : Fin 4096) (d : Fin 1024) :
    val_main_v99 (F := Ideal) X (ix3 b p d) = Ideal.logistic (X (ix2 (seqRow b p) ⟨7168 + d.val, by omega⟩)) := by
  rw [val_main_v99_apply, val_main_v98_apply, val_main_cst_11_apply, val_main_v97_apply, val_main_v96_apply, val_main_cst_10_apply,
    val_main_v95_apply, val_main_v94_apply, gate0_at]
  exact logistic_of _ _ one_bits

theorem v106_at (b : Fin 8) (p : Fin 4096) (d : Fin 1024) :
    val_main_v106 (F := Ideal) X (ix3 b p d) = Ideal.logistic (X (ix2 (seqRow b p) ⟨8192 + d.val, by omega⟩)) := by
  rw [val_main_v106_apply, val_main_v105_apply, val_main_cst_13_apply, val_main_v104_apply, val_main_v103_apply, val_main_cst_12_apply,
    val_main_v102_apply, val_main_v101_apply, gate1_at]
  exact logistic_of _ _ one_bits

include hX in
/-- The merged branches. -/
theorem v108_at (b : Fin 8) (p : Fin 4096) (d : Fin 1024) :
    val_main_v108 (F := Ideal) X R P S A (ix3 b p d) = mergedE X R P S A (seqRow b p) d := by
  rw [val_main_v108_apply, val_main_v100_apply, val_main_v107_apply, val_main_v87_apply, v99_at, v106_at, v91_at, v86_at, v84_at hX]
  rfl

theorem v2_at (b : Fin 8) (p : Fin 4096) (d : Fin 1024) : val_main_v2 (F := Ideal) Y (ix3 b p d) = Y (ix2 (seqRow b p) d) := by
  rw [val_main_v2_apply]
  refine congrArg Y (funext fun a => Fin.ext ?_)
  match a with
  | ⟨0, _⟩ => show ((b.val * 4096 + p.val) * 1024 + d.val) / 1024 = b.val * 4096 + p.val; omega
  | ⟨1, _⟩ => show ((b.val * 4096 + p.val) * 1024 + d.val) % 1024 = d.val; omega

include hX in
theorem v110_at (b : Fin 8) (p : Fin 4096) (d : Fin 1024) :
    val_main_v110 (F := Ideal) X R P S A B (ix3 b p d) = ∑ k : Fin 1024, mergedE X R P S A (seqRow b p) k * B (ix2 k d) := by
  rw [val_main_v110_apply]
  refine Finset.sum_congr rfl fun k _ => congrArg₂ (· * ·) ?_ ?_
  · rw [show lidx_main_v110 (ix3 b p d) k = ix3 b p k from funext fun a => by match a with | ⟨0, _⟩ => rfl | ⟨1, _⟩ => rfl | ⟨2, _⟩ => rfl, v108_at hX]
  · rw [val_main_v109_apply]
    exact congrArg B (funext fun a => by match a with | ⟨0, _⟩ => rfl | ⟨1, _⟩ => rfl)

include hX in
/-- The residual row. -/
theorem v111_at (b : Fin 8) (p : Fin 4096) (d : Fin 1024) :
    val_main_v111 (F := Ideal) X R Y P S A B (ix3 b p d) = x1E X R Y P S A B (seqRow b p) d := by
  rw [val_main_v111_apply, v2_at, v110_at hX]
  rfl

include hX in
/-- The residual row's sum of squares. -/
theorem v114_at (b : Fin 8) (p : Fin 4096) :
    val_main_v114 (F := Ideal) X R Y P S A B (ix2 b p) = ∑ j : Fin 1024, x1E X R Y P S A B (seqRow b p) j * x1E X R Y P S A B (seqRow b p) j := by
  rw [val_main_v114_apply, val_main_cst_14_apply, show (FloatOps.ofBits .f32 0x00000000#32 : Ideal .f32) = 0 from Ideal.ofBits_zero_f32, zero_add]
  refine Finset.sum_congr rfl fun j _ => ?_
  rw [show idx_main_v114 (ix2 b p) j = ix3 b p j from funext fun a => by match a with | ⟨0, _⟩ => rfl | ⟨1, _⟩ => rfl | ⟨2, _⟩ => rfl,
    val_main_v113_apply, v111_at hX]
  rfl

theorem v124_at (b : Fin 8) (p : Fin 4096) (d : Fin 1024) : val_main_v124 (F := Ideal) G (ix3 b p d) = G (ix2 0 d) := by
  rw [val_main_v124_apply, val_main_v123_apply, val_main_v112_apply]
  refine congrArg G (funext fun a => Fin.ext ?_)
  match a with
  | ⟨0, _⟩ => rfl
  | ⟨1, _⟩ => exact Nat.mod_eq_of_lt d.isLt

include hX in
/-- The normed row. -/
theorem v125_at (b : Fin 8) (p : Fin 4096) (d : Fin 1024) :
    val_main_v125 (F := Ideal) X R Y P S A B G (ix3 b p d) = h2E X R Y P S A B G (seqRow b p) d := by
  rw [val_main_v125_apply, val_main_v122_apply, v124_at, v111_at hX, val_main_v121_apply, val_main_v120_apply, val_main_v119_apply,
    val_main_v118_apply, val_main_cst_16_apply, val_main_v117_apply, val_main_v116_apply, val_main_cst_15_apply, val_main_v115_apply,
    show idx_main_v115 (idx_main_v121 (ix3 b p d)) = ix2 b p from funext fun a => by match a with | ⟨0, _⟩ => rfl | ⟨1, _⟩ => rfl, v114_at hX]
  rfl

/-- A row of the arrays as its sequence's. -/
theorem row_split (i : S32768x1024.Idx) : ∃ (b : Fin 8) (p : Fin 4096) (d : Fin 1024), i = ix2 (seqRow b p) d := by
  have h0 : (i 0).val < 32768 := (i 0).isLt
  refine ⟨⟨(i 0).val / 4096, by omega⟩, ⟨(i 0).val % 4096, Nat.mod_lt _ (by decide)⟩, i 1, funext fun a => Fin.ext ?_⟩
  match a with
  | ⟨0, _⟩ => show (i 0).val = (i 0).val / 4096 * 4096 + (i 0).val % 4096; omega
  | ⟨1, _⟩ => rfl

theorem idx_out (b : Fin 8) (p : Fin 4096) (d : Fin 1024) (q : Fin 32768) (hq : q = seqRow b p) : idx_main_v127 (ix2 q d) = ix3 b p d := by
  subst hq
  refine funext fun a => Fin.ext ?_
  match a with
  | ⟨0, _⟩ => show ((b.val * 4096 + p.val) * 1024 + d.val) / 4194304 = b.val; omega
  | ⟨1, _⟩ => show ((b.val * 4096 + p.val) * 1024 + d.val) / 1024 % 4096 = p.val; omega
  | ⟨2, _⟩ => show ((b.val * 4096 + p.val) * 1024 + d.val) % 1024 = d.val; omega

include hX in
/-- THE FIRST RESULT. -/
theorem result_x1 : val_main_v126 (F := Ideal) X R Y P S A B = fun i : S32768x1024.Idx => x1E X R Y P S A B (i 0) (i 1) := by
  funext i
  obtain ⟨b, p, d, rfl⟩ := row_split i
  rw [val_main_v126_apply]
  exact (congrArg (val_main_v111 (F := Ideal) X R Y P S A B) (idx_out b p d _ rfl)).trans (v111_at hX R Y P S A B b p d)

include hX in
/-- THE SECOND RESULT. -/
theorem result_h2 : val_main_v127 (F := Ideal) X R Y P S A B G = fun i : S32768x1024.Idx => h2E X R Y P S A B G (i 0) (i 1) := by
  funext i
  obtain ⟨b, p, d, rfl⟩ := row_split i
  rw [val_main_v127_apply]
  exact (congrArg (val_main_v125 (F := Ideal) X R Y P S A B G) (idx_out b p d _ rfl)).trans (v125_at hX R Y P S A B G b p d)

end Rows

end Cert.MixRefIdeal.Read

end
-- ==== Proof.MixRefRun.lean ====
/-
  The reference's run: its operations as a list, and every execution's end with the two results at their values.
-/
module

public import proofs.«01_k».proof.Proof.MixRefRead

@[expose] public section

noncomputable section

namespace Cert.MixRefIdeal.Value

open Cert.MixRefIdeal Cert.MixRefIdeal.Gen Cert.MixRefIdeal.Read Idealize.ShloMosaic Idealize.ShloMosaic.TcCoe Idealize.SL.Sem Idealize.ShloMosaic.StableHlo

variable {F : FTy → Type} [FloatOps F]

/-- The join of the four groups' columns. -/
def fn_main_v84 : (main_v26 : Ref sig .tc).ty.Contents (Elt F) → (main_v45 : Ref sig .tc).ty.Contents (Elt F) → (main_v64 : Ref sig .tc).ty.Contents (Elt F) → (main_v83 : Ref sig .tc).ty.Contents (Elt F) → (main_v84 : Ref sig .tc).ty.Contents (Elt F) :=
  (fun u0 u1 u2 u3 => (concatenate S8x4096x1024 2 [⟨S8x4096x256, (u0 : T F S8x4096x256 .f32)⟩, ⟨S8x4096x256, (u1 : T F S8x4096x256 .f32)⟩, ⟨S8x4096x256, (u2 : T F S8x4096x256 .f32)⟩, ⟨S8x4096x256, (u3 : T F S8x4096x256 .f32)⟩] concatenates_S8x4096x256_S8x4096x256_S8x4096x256_S8x4096x256_S8x4096x1024_d2 : T F S8x4096x1024 .f32))

set_option maxHeartbeats 40000000 in
set_option maxRecDepth 8192 in
/-- The reference's operations, in order. -/
abbrev ops : List (HloOp τ sig (Elt F)) :=
  [ reshape main_arg0 main_v0 (rfl : (.bf16 : EltTy) = .bf16) shapeCasts_S32768x9216_S8x4096x9216,
    unary main_v0 main_v1 ((extf .f32 · bitsLt_bf16_f32) : T F S8x4096x9216 .bf16 → T F S8x4096x9216 .f32),
    reshape main_arg2 main_v2 (rfl : (.f32 : EltTy) = .f32) shapeCasts_S32768x1024_S8x4096x1024,
    unary main_v1 main_v3 ((extractStridedSlice S8x4096x1024 ![0, 0, 0] · slices_S8x4096x9216_S8x4096x1024_0_0_0) : T F S8x4096x9216 .f32 → T F S8x4096x1024 .f32),
    reshape main_arg4 main_v4 (rfl : (.f32 : EltTy) = .f32) shapeCasts_S1x1024_S1024,
    reshape main_v3 main_v5 (rfl : (.f32 : EltTy) = .f32) shapeCasts_S8x4096x1024_S8x4096x4x256,
    TRef.nullary (TRef.of (T := ⟨S_, .f32⟩) main_call0_call0_cst) (constant S_ .f32 0x00000000#32),
    TRef.unary (TRef.of (T := ⟨S_, .f32⟩) main_call0_call0_cst) (TRef.of (T := ⟨S_, .f32⟩) main_call0_call0_v0) (broadcastInDim S_ ![] bcast_S_S_),
    TRef.binary (TRef.of (T := ⟨S8x4096x4x256, .f32⟩) main_v5) (TRef.of (T := ⟨S_, .f32⟩) main_call0_call0_v0) (TRef.of (T := ⟨S8x4096x4x256, .f32⟩) main_v6) (fun x v => Host.reduceWindowAdd ![1, 4096, 1, 1] ![1, 1, 1, 1] ![0, 4095, 0, 0] ![0, 0, 0, 0] x v reduceWindows_S8x4096x4x256_S8x4096x4x256_w1s1p0_0_w4096s1p4095_0_w1s1p0_0_w1s1p0_0 h_S_),
    nullary main_v7 (sitofp .f32 (iotaInDim S4096 32 0)),
    unary main_v6 main_v8 ((extractStridedSlice S8x4096x1x256 ![0, 0, 0, 0] · slices_S8x4096x4x256_S8x4096x1x256_0_0_0_0) : T F S8x4096x4x256 .f32 → T F S8x4096x1x256 .f32),
    reshape main_v8 main_v9 (rfl : (.f32 : EltTy) = .f32) shapeCasts_S8x4096x1x256_S8x4096x256,
    nullary main_c (constantI S_ 32 0#32),
    TRef.unary (TRef.of (T := ⟨S_, .i32⟩) main_c) (TRef.of (T := ⟨S_, .f32⟩) main_call1_v0) (sitofp .f32),
    TRef.binary (TRef.of (T := ⟨S8x4096x256, .f32⟩) main_v9) (TRef.of (T := ⟨S_, .f32⟩) main_call1_v0) (TRef.of (T := ⟨S8x4098x256, .f32⟩) main_v10) (fun x v => pad S8x4098x256 ![0, 2, 0] ![0, 0, 0] ![0, 0, 0] x v pads_S8x4096x256_S8x4098x256_000_200_000 h_S_),
    unary main_v10 main_v11 ((extractStridedSlice S8x4096x256 ![0, 0, 0] · slices_S8x4098x256_S8x4096x256_0_0_0) : T F S8x4098x256 .f32 → T F S8x4096x256 .f32),
    nullary main_cst (constant S_ .f32 0x3F800000#32),
    unary main_cst main_v12 (broadcastInDim S4096 ![] bcast_S_S4096 : T F S_ .f32 → T F S4096 .f32),
    binary main_v7 main_v12 main_v13 (addf : T F S4096 .f32 → T F S4096 .f32 → T F S4096 .f32),
    nullary main_cst_0 (constant S_ .f32 0x40000000#32),
    unary main_cst_0 main_v14 (broadcastInDim S4096 ![] bcast_S_S4096 : T F S_ .f32 → T F S4096 .f32),
    binary main_v13 main_v14 main_v15 (minimumf : T F S4096 .f32 → T F S4096 .f32 → T F S4096 .f32),
    unary main_v15 main_v16 (broadcastInDim S1x4096x1 ![1] bcast_S4096_S1x4096x1_1 : T F S4096 .f32 → T F S1x4096x1 .f32),
    binary main_v9 main_v11 main_v17 (subf : T F S8x4096x256 .f32 → T F S8x4096x256 .f32 → T F S8x4096x256 .f32),
    unary main_v16 main_v18 (broadcastInDim S8x4096x256 ![0, 1, 2] bcast_S1x4096x1_S8x4096x256_0_1_2 : T F S1x4096x1 .f32 → T F S8x4096x256 .f32),
    binary main_v17 main_v18 main_v19 (Host.divf : T F S8x4096x256 .f32 → T F S8x4096x256 .f32 → T F S8x4096x256 .f32),
    unary main_v5 main_v20 ((extractStridedSlice S8x4096x1x256 ![0, 0, 0, 0] · slices_S8x4096x4x256_S8x4096x1x256_0_0_0_0) : T F S8x4096x4x256 .f32 → T F S8x4096x1x256 .f32),
    reshape main_v20 main_v21 (rfl : (.f32 : EltTy) = .f32) shapeCasts_S8x4096x1x256_S8x4096x256,
    binary main_v19 main_v21 main_v22 (subf : T F S8x4096x256 .f32 → T F S8x4096x256 .f32 → T F S8x4096x256 .f32),
    unary main_arg3 main_v23 ((extractStridedSlice S1x256x256 ![0, 0, 0] · slices_S4x256x256_S1x256x256_0_0_0) : T F S4x256x256 .bf16 → T F S1x256x256 .bf16),
    reshape main_v23 main_v24 (rfl : (.bf16 : EltTy) = .bf16) shapeCasts_S1x256x256_S256x256,
    unary main_v24 main_v25 ((extf .f32 · bitsLt_bf16_f32) : T F S256x256 .bf16 → T F S256x256 .f32),
    binary main_v22 main_v25 main_v26 ((fun l r => Host.dotGeneral dot_S8x4096x256_S256x256_S8x4096x256_2_0_01_1_n_n none l r) : T F S8x4096x256 .f32 → T F S256x256 .f32 → T F S8x4096x256 .f32),
    unary main_v6 main_v27 ((extractStridedSlice S8x4096x1x256 ![0, 0, 1, 0] · slices_S8x4096x4x256_S8x4096x1x256_0_0_1_0) : T F S8x4096x4x256 .f32 → T F S8x4096x1x256 .f32),
    reshape main_v27 main_v28 (rfl : (.f32 : EltTy) = .f32) shapeCasts_S8x4096x1x256_S8x4096x256,
    nullary main_c_1 (constantI S_ 32 0#32),
    TRef.unary (TRef.of (T := ⟨S_, .i32⟩) main_c_1) (TRef.of (T := ⟨S_, .f32⟩) main_call2_v0) (sitofp .f32),
    TRef.binary (TRef.of (T := ⟨S8x4096x256, .f32⟩) main_v28) (TRef.of (T := ⟨S_, .f32⟩) main_call2_v0) (TRef.of (T := ⟨S8x4100x256, .f32⟩) main_v29) (fun x v => pad S8x4100x256 ![0, 4, 0] ![0, 0, 0] ![0, 0, 0] x v pads_S8x4096x256_S8x4100x256_000_400_000 h_S_),
    unary main_v29 main_v30 ((extractStridedSlice S8x4096x256 ![0, 0, 0] · slices_S8x4100x256_S8x4096x256_0_0_0) : T F S8x4100x256 .f32 → T F S8x4096x256 .f32),
    nullary main_cst_2 (constant S_ .f32 0x3F800000#32),
    unary main_cst_2 main_v31 (broadcastInDim S4096 ![] bcast_S_S4096 : T F S_ .f32 → T F S4096 .f32),
    binary main_v7 main_v31 main_v32 (addf : T F S4096 .f32 → T F S4096 .f32 → T F S4096 .f32),
    nullary main_cst_3 (constant S_ .f32 0x40800000#32),
    unary main_cst_3 main_v33 (broadcastInDim S4096 ![] bcast_S_S4096 : T F S_ .f32 → T F S4096 .f32),
    binary main_v32 main_v33 main_v34 (minimumf : T F S4096 .f32 → T F S4096 .f32 → T F S4096 .f32),
    unary main_v34 main_v35 (broadcastInDim S1x4096x1 ![1] bcast_S4096_S1x4096x1_1 : T F S4096 .f32 → T F S1x4096x1 .f32),
    binary main_v28 main_v30 main_v36 (subf : T F S8x4096x256 .f32 → T F S8x4096x256 .f32 → T F S8x4096x256 .f32),
    unary main_v35 main_v37 (broadcastInDim S8x4096x256 ![0, 1, 2] bcast_S1x4096x1_S8x4096x256_0_1_2 : T F S1x4096x1 .f32 → T F S8x4096x256 .f32),
    binary main_v36 main_v37 main_v38 (Host.divf : T F S8x4096x256 .f32 → T F S8x4096x256 .f32 → T F S8x4096x256 .f32),
    unary main_v5 main_v39 ((extractStridedSlice S8x4096x1x256 ![0, 0, 1, 0] · slices_S8x4096x4x256_S8x4096x1x256_0_0_1_0) : T F S8x4096x4x256 .f32 → T F S8x4096x1x256 .f32),
    reshape main_v39 main_v40 (rfl : (.f32 : EltTy) = .f32) shapeCasts_S8x4096x1x256_S8x4096x256,
    binary main_v38 main_v40 main_v41 (subf : T F S8x4096x256 .f32 → T F S8x4096x256 .f32 → T F S8x4096x256 .f32),
    unary main_arg3 main_v42 ((extractStridedSlice S1x256x256 ![1, 0, 0] · slices_S4x256x256_S1x256x256_1_0_0) : T F S4x256x256 .bf16 → T F S1x256x256 .bf16),
    reshape main_v42 main_v43 (rfl : (.bf16 : EltTy) = .bf16) shapeCasts_S1x256x256_S256x256,
    unary main_v43 main_v44 ((extf .f32 · bitsLt_bf16_f32) : T F S256x256 .bf16 → T F S256x256 .f32),
    binary main_v41 main_v44 main_v45 ((fun l r => Host.dotGeneral dot_S8x4096x256_S256x256_S8x4096x256_2_0_01_1_n_n none l r) : T F S8x4096x256 .f32 → T F S256x256 .f32 → T F S8x4096x256 .f32),
    unary main_v6 main_v46 ((extractStridedSlice S8x4096x1x256 ![0, 0, 2, 0] · slices_S8x4096x4x256_S8x4096x1x256_0_0_2_0) : T F S8x4096x4x256 .f32 → T F S8x4096x1x256 .f32),
    reshape main_v46 main_v47 (rfl : (.f32 : EltTy) = .f32) shapeCasts_S8x4096x1x256_S8x4096x256,
    nullary main_c_4 (constantI S_ 32 0#32),
    TRef.unary (TRef.of (T := ⟨S_, .i32⟩) main_c_4) (TRef.of (T := ⟨S_, .f32⟩) main_call3_v0) (sitofp .f32),
    TRef.binary (TRef.of (T := ⟨S8x4096x256, .f32⟩) main_v47) (TRef.of (T := ⟨S_, .f32⟩) main_call3_v0) (TRef.of (T := ⟨S8x4104x256, .f32⟩) main_v48) (fun x v => pad S8x4104x256 ![0, 8, 0] ![0, 0, 0] ![0, 0, 0] x v pads_S8x4096x256_S8x4104x256_000_800_000 h_S_),
    unary main_v48 main_v49 ((extractStridedSlice S8x4096x256 ![0, 0, 0] · slices_S8x4104x256_S8x4096x256_0_0_0) : T F S8x4104x256 .f32 → T F S8x4096x256 .f32),
    nullary main_cst_5 (constant S_ .f32 0x3F800000#32),
    unary main_cst_5 main_v50 (broadcastInDim S4096 ![] bcast_S_S4096 : T F S_ .f32 → T F S4096 .f32),
    binary main_v7 main_v50 main_v51 (addf : T F S4096 .f32 → T F S4096 .f32 → T F S4096 .f32),
    nullary main_cst_6 (constant S_ .f32 0x41000000#32),
    unary main_cst_6 main_v52 (broadcastInDim S4096 ![] bcast_S_S4096 : T F S_ .f32 → T F S4096 .f32),
    binary main_v51 main_v52 main_v53 (minimumf : T F S4096 .f32 → T F S4096 .f32 → T F S4096 .f32),
    unary main_v53 main_v54 (broadcastInDim S1x4096x1 ![1] bcast_S4096_S1x4096x1_1 : T F S4096 .f32 → T F S1x4096x1 .f32),
    binary main_v47 main_v49 main_v55 (subf : T F S8x4096x256 .f32 → T F S8x4096x256 .f32 → T F S8x4096x256 .f32),
    unary main_v54 main_v56 (broadcastInDim S8x4096x256 ![0, 1, 2] bcast_S1x4096x1_S8x4096x256_0_1_2 : T F S1x4096x1 .f32 → T F S8x4096x256 .f32),
    binary main_v55 main_v56 main_v57 (Host.divf : T F S8x4096x256 .f32 → T F S8x4096x256 .f32 → T F S8x4096x256 .f32),
    unary main_v5 main_v58 ((extractStridedSlice S8x4096x1x256 ![0, 0, 2, 0] · slices_S8x4096x4x256_S8x4096x1x256_0_0_2_0) : T F S8x4096x4x256 .f32 → T F S8x4096x1x256 .f32),
    reshape main_v58 main_v59 (rfl : (.f32 : EltTy) = .f32) shapeCasts_S8x4096x1x256_S8x4096x256,
    binary main_v57 main_v59 main_v60 (subf : T F S8x4096x256 .f32 → T F S8x4096x256 .f32 → T F S8x4096x256 .f32),
    unary main_arg3 main_v61 ((extractStridedSlice S1x256x256 ![2, 0, 0] · slices_S4x256x256_S1x256x256_2_0_0) : T F S4x256x256 .bf16 → T F S1x256x256 .bf16),
    reshape main_v61 main_v62 (rfl : (.bf16 : EltTy) = .bf16) shapeCasts_S1x256x256_S256x256,
    unary main_v62 main_v63 ((extf .f32 · bitsLt_bf16_f32) : T F S256x256 .bf16 → T F S256x256 .f32),
    binary main_v60 main_v63 main_v64 ((fun l r => Host.dotGeneral dot_S8x4096x256_S256x256_S8x4096x256_2_0_01_1_n_n none l r) : T F S8x4096x256 .f32 → T F S256x256 .f32 → T F S8x4096x256 .f32),
    unary main_v6 main_v65 ((extractStridedSlice S8x4096x1x256 ![0, 0, 3, 0] · slices_S8x4096x4x256_S8x4096x1x256_0_0_3_0) : T F S8x4096x4x256 .f32 → T F S8x4096x1x256 .f32),
    reshape main_v65 main_v66 (rfl : (.f32 : EltTy) = .f32) shapeCasts_S8x4096x1x256_S8x4096x256,
    nullary main_c_7 (constantI S_ 32 0#32),
    TRef.unary (TRef.of (T := ⟨S_, .i32⟩) main_c_7) (TRef.of (T := ⟨S_, .f32⟩) main_call4_v0) (sitofp .f32),
    TRef.binary (TRef.of (T := ⟨S8x4096x256, .f32⟩) main_v66) (TRef.of (T := ⟨S_, .f32⟩) main_call4_v0) (TRef.of (T := ⟨S8x4112x256, .f32⟩) main_v67) (fun x v => pad S8x4112x256 ![0, 16, 0] ![0, 0, 0] ![0, 0, 0] x v pads_S8x4096x256_S8x4112x256_000_1600_000 h_S_),
    unary main_v67 main_v68 ((extractStridedSlice S8x4096x256 ![0, 0, 0] · slices_S8x4112x256_S8x4096x256_0_0_0) : T F S8x4112x256 .f32 → T F S8x4096x256 .f32),
    nullary main_cst_8 (constant S_ .f32 0x3F800000#32),
    unary main_cst_8 main_v69 (broadcastInDim S4096 ![] bcast_S_S4096 : T F S_ .f32 → T F S4096 .f32),
    binary main_v7 main_v69 main_v70 (addf : T F S4096 .f32 → T F S4096 .f32 → T F S4096 .f32),
    nullary main_cst_9 (constant S_ .f32 0x41800000#32),
    unary main_cst_9 main_v71 (broadcastInDim S4096 ![] bcast_S_S4096 : T F S_ .f32 → T F S4096 .f32),
    binary main_v70 main_v71 main_v72 (minimumf : T F S4096 .f32 → T F S4096 .f32 → T F S4096 .f32),
    unary main_v72 main_v73 (broadcastInDim S1x4096x1 ![1] bcast_S4096_S1x4096x1_1 : T F S4096 .f32 → T F S1x4096x1 .f32),
    binary main_v66 main_v68 main_v74 (subf : T F S8x4096x256 .f32 → T F S8x4096x256 .f32 → T F S8x4096x256 .f32),
    unary main_v73 main_v75 (broadcastInDim S8x4096x256 ![0, 1, 2] bcast_S1x4096x1_S8x4096x256_0_1_2 : T F S1x4096x1 .f32 → T F S8x4096x256 .f32),
    binary main_v74 main_v75 main_v76 (Host.divf : T F S8x4096x256 .f32 → T F S8x4096x256 .f32 → T F S8x4096x256 .f32),
    unary main_v5 main_v77 ((extractStridedSlice S8x4096x1x256 ![0, 0, 3, 0] · slices_S8x4096x4x256_S8x4096x1x256_0_0_3_0) : T F S8x4096x4x256 .f32 → T F S8x4096x1x256 .f32),
    reshape main_v77 main_v78 (rfl : (.f32 : EltTy) = .f32) shapeCasts_S8x4096x1x256_S8x4096x256,
    binary main_v76 main_v78 main_v79 (subf : T F S8x4096x256 .f32 → T F S8x4096x256 .f32 → T F S8x4096x256 .f32),
    unary main_arg3 main_v80 ((extractStridedSlice S1x256x256 ![3, 0, 0] · slices_S4x256x256_S1x256x256_3_0_0) : T F S4x256x256 .bf16 → T F S1x256x256 .bf16),
    reshape main_v80 main_v81 (rfl : (.bf16 : EltTy) = .bf16) shapeCasts_S1x256x256_S256x256,
    unary main_v81 main_v82 ((extf .f32 · bitsLt_bf16_f32) : T F S256x256 .bf16 → T F S256x256 .f32),
    binary main_v79 main_v82 main_v83 ((fun l r => Host.dotGeneral dot_S8x4096x256_S256x256_S8x4096x256_2_0_01_1_n_n none l r) : T F S8x4096x256 .f32 → T F S256x256 .f32 → T F S8x4096x256 .f32),
    nary ![main_v26, main_v45, main_v64, main_v83] main_v84 (fun u => fn_main_v84 (F := F) (u 0) (u 1) (u 2) (u 3)),
    unary main_v4 main_v85 (broadcastInDim S1x1x1024 ![2] bcast_S1024_S1x1x1024_2 : T F S1024 .f32 → T F S1x1x1024 .f32),
    unary main_v85 main_v86 (broadcastInDim S8x4096x1024 ![0, 1, 2] bcast_S1x1x1024_S8x4096x1024_0_1_2 : T F S1x1x1024 .f32 → T F S8x4096x1024 .f32),
    binary main_v84 main_v86 main_v87 (mulf : T F S8x4096x1024 .f32 → T F S8x4096x1024 .f32 → T F S8x4096x1024 .f32),
    reshape main_arg1 main_v88 (rfl : (.bf16 : EltTy) = .bf16) shapeCasts_S32768x2048_S8x4096x2048,
    unary main_v88 main_v89 ((extf .f32 · bitsLt_bf16_f32) : T F S8x4096x2048 .bf16 → T F S8x4096x2048 .f32),
    unary main_arg5 main_v90 ((extf .f32 · bitsLt_bf16_f32) : T F S2048x1024 .bf16 → T F S2048x1024 .f32),
    binary main_v89 main_v90 main_v91 ((fun l r => Host.dotGeneral dot_S8x4096x2048_S2048x1024_S8x4096x1024_2_0_01_1_n_n none l r) : T F S8x4096x2048 .f32 → T F S2048x1024 .f32 → T F S8x4096x1024 .f32),
    unary main_v1 main_v92 ((extractStridedSlice S8x4096x1024 ![0, 0, 7168] · slices_S8x4096x9216_S8x4096x1024_0_0_7168) : T F S8x4096x9216 .f32 → T F S8x4096x1024 .f32),
    unary main_v1 main_v93 ((extractStridedSlice S8x4096x1024 ![0, 0, 8192] · slices_S8x4096x9216_S8x4096x1024_0_0_8192) : T F S8x4096x9216 .f32 → T F S8x4096x1024 .f32),
    unary main_v92 main_v94 (Host.negf : T F S8x4096x1024 .f32 → T F S8x4096x1024 .f32),
    unary main_v94 main_v95 (Host.exp : T F S8x4096x1024 .f32 → T F S8x4096x1024 .f32),
    nullary main_cst_10 (constant S_ .f32 0x3F800000#32),
    unary main_cst_10 main_v96 (broadcastInDim S8x4096x1024 ![] bcast_S_S8x4096x1024 : T F S_ .f32 → T F S8x4096x1024 .f32),
    binary main_v96 main_v95 main_v97 (addf : T F S8x4096x1024 .f32 → T F S8x4096x1024 .f32 → T F S8x4096x1024 .f32),
    nullary main_cst_11 (constant S_ .f32 0x3F800000#32),
    unary main_cst_11 main_v98 (broadcastInDim S8x4096x1024 ![] bcast_S_S8x4096x1024 : T F S_ .f32 → T F S8x4096x1024 .f32),
    binary main_v98 main_v97 main_v99 (Host.divf : T F S8x4096x1024 .f32 → T F S8x4096x1024 .f32 → T F S8x4096x1024 .f32),
    binary main_v99 main_v87 main_v100 (mulf : T F S8x4096x1024 .f32 → T F S8x4096x1024 .f32 → T F S8x4096x1024 .f32),
    unary main_v93 main_v101 (Host.negf : T F S8x4096x1024 .f32 → T F S8x4096x1024 .f32),
    unary main_v101 main_v102 (Host.exp : T F S8x4096x1024 .f32 → T F S8x4096x1024 .f32),
    nullary main_cst_12 (constant S_ .f32 0x3F800000#32),
    unary main_cst_12 main_v103 (broadcastInDim S8x4096x1024 ![] bcast_S_S8x4096x1024 : T F S_ .f32 → T F S8x4096x1024 .f32),
    binary main_v103 main_v102 main_v104 (addf : T F S8x4096x1024 .f32 → T F S8x4096x1024 .f32 → T F S8x4096x1024 .f32),
    nullary main_cst_13 (constant S_ .f32 0x3F800000#32),
    unary main_cst_13 main_v105 (broadcastInDim S8x4096x1024 ![] bcast_S_S8x4096x1024 : T F S_ .f32 → T F S8x4096x1024 .f32),
    binary main_v105 main_v104 main_v106 (Host.divf : T F S8x4096x1024 .f32 → T F S8x4096x1024 .f32 → T F S8x4096x1024 .f32),
    binary main_v106 main_v91 main_v107 (mulf : T F S8x4096x1024 .f32 → T F S8x4096x1024 .f32 → T F S8x4096x1024 .f32),
    binary main_v100 main_v107 main_v108 (addf : T F S8x4096x1024 .f32 → T F S8x4096x1024 .f32 → T F S8x4096x1024 .f32),
    unary main_arg6 main_v109 ((extf .f32 · bitsLt_bf16_f32) : T F S1024x1024 .bf16 → T F S1024x1024 .f32),
    binary main_v108 main_v109 main_v110 ((fun l r => Host.dotGeneral dot_S8x4096x1024_S1024x1024_S8x4096x1024_2_0_01_1_n_n none l r) : T F S8x4096x1024 .f32 → T F S1024x1024 .f32 → T F S8x4096x1024 .f32),
    binary main_v2 main_v110 main_v111 (addf : T F S8x4096x1024 .f32 → T F S8x4096x1024 .f32 → T F S8x4096x1024 .f32),
    reshape main_arg7 main_v112 (rfl : (.f32 : EltTy) = .f32) shapeCasts_S1x1024_S1024,
    binary main_v111 main_v111 main_v113 (mulf : T F S8x4096x1024 .f32 → T F S8x4096x1024 .f32 → T F S8x4096x1024 .f32),
    nullary main_cst_14 (constant S_ .f32 0x00000000#32),
    binary main_v113 main_cst_14 main_v114 ((fun x v => Host.reduceAdd x v reducesTo_S8x4096x1024_S8x4096_d2 h_S_) : T F S8x4096x1024 .f32 → T F S_ .f32 → T F S8x4096 .f32),
    unary main_v114 main_v115 (broadcastInDim S8x4096x1 ![0, 1] bcast_S8x4096_S8x4096x1_0_1 : T F S8x4096 .f32 → T F S8x4096x1 .f32),
    nullary main_cst_15 (constant S_ .f32 0x44800000#32),
    unary main_cst_15 main_v116 (broadcastInDim S8x4096x1 ![] bcast_S_S8x4096x1 : T F S_ .f32 → T F S8x4096x1 .f32),
    binary main_v115 main_v116 main_v117 (Host.divf : T F S8x4096x1 .f32 → T F S8x4096x1 .f32 → T F S8x4096x1 .f32),
    nullary main_cst_16 (constant S_ .f32 0x358637BD#32),
    unary main_cst_16 main_v118 (broadcastInDim S8x4096x1 ![] bcast_S_S8x4096x1 : T F S_ .f32 → T F S8x4096x1 .f32),
    binary main_v117 main_v118 main_v119 (addf : T F S8x4096x1 .f32 → T F S8x4096x1 .f32 → T F S8x4096x1 .f32),
    unary main_v119 main_v120 (Host.rsqrt : T F S8x4096x1 .f32 → T F S8x4096x1 .f32),
    unary main_v120 main_v121 (broadcastInDim S8x4096x1024 ![0, 1, 2] bcast_S8x4096x1_S8x4096x1024_0_1_2 : T F S8x4096x1 .f32 → T F S8x4096x1024 .f32),
    binary main_v111 main_v121 main_v122 (mulf : T F S8x4096x1024 .f32 → T F S8x4096x1024 .f32 → T F S8x4096x1024 .f32),
    unary main_v112 main_v123 (broadcastInDim S1x1x1024 ![2] bcast_S1024_S1x1x1024_2 : T F S1024 .f32 → T F S1x1x1024 .f32),
    unary main_v123 main_v124 (broadcastInDim S8x4096x1024 ![0, 1, 2] bcast_S1x1x1024_S8x4096x1024_0_1_2 : T F S1x1x1024 .f32 → T F S8x4096x1024 .f32),
    binary main_v122 main_v124 main_v125 (mulf : T F S8x4096x1024 .f32 → T F S8x4096x1024 .f32 → T F S8x4096x1024 .f32),
    reshape main_v111 main_v126 (rfl : (.f32 : EltTy) = .f32) shapeCasts_S8x4096x1024_S32768x1024,
    reshape main_v125 main_v127 (rfl : (.f32 : EltTy) = .f32) shapeCasts_S8x4096x1024_S32768x1024 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., reshape_bufs_sub .., unary_bufs_sub .., reshape_bufs_sub .., reshape_bufs_sub .., nullary_bufs_sub .., unary_bufs_sub .., binary_bufs_sub .., nullary_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., reshape_bufs_sub .., binary_bufs_sub .., unary_bufs_sub .., reshape_bufs_sub .., unary_bufs_sub .., binary_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., reshape_bufs_sub .., binary_bufs_sub .., unary_bufs_sub .., reshape_bufs_sub .., unary_bufs_sub .., binary_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., reshape_bufs_sub .., binary_bufs_sub .., unary_bufs_sub .., reshape_bufs_sub .., unary_bufs_sub .., binary_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., reshape_bufs_sub .., binary_bufs_sub .., unary_bufs_sub .., reshape_bufs_sub .., unary_bufs_sub .., binary_bufs_sub .., nary_bufs_sub .., unary_bufs_sub .., unary_bufs_sub .., binary_bufs_sub .., reshape_bufs_sub .., unary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., reshape_bufs_sub ..⟩

set_option maxRecDepth 8192 in
set_option maxHeartbeats 60000000 in
/-- The reference runs to its end with its two results at the last values and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v126) = val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v127) = val_main_v127 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v126).trans (by simp only [ops, TRef.binary, TRef.nullary, TRef.unary, TRef.toBuf, TRef.ofBuf, cast_eq]; after_results_simp <;> (try dsimp only [Matrix.cons_val]) <;> (try after_results_simp) <;> rfl),
      (h c main_v127).trans (by simp only [ops, TRef.binary, TRef.nullary, TRef.unary, TRef.toBuf, TRef.ofBuf, cast_eq]; after_results_simp <;> (try dsimp only [Matrix.cons_val]) <;> (try after_results_simp) <;> rfl),
      (h c main_arg0).trans (by simp only [ops, TRef.binary, TRef.nullary, TRef.unary, TRef.toBuf, TRef.ofBuf, cast_eq]; after_results_simp <;> (try dsimp only [Matrix.cons_val]) <;> (try after_results_simp) <;> rfl),
      (h c main_arg1).trans (by simp only [ops, TRef.binary, TRef.nullary, TRef.unary, TRef.toBuf, TRef.ofBuf, cast_eq]; after_results_simp <;> (try dsimp only [Matrix.cons_val]) <;> (try after_results_simp) <;> rfl),
      (h c main_arg2).trans (by simp only [ops, TRef.binary, TRef.nullary, TRef.unary, TRef.toBuf, TRef.ofBuf, cast_eq]; after_results_simp <;> (try dsimp only [Matrix.cons_val]) <;> (try after_results_simp) <;> rfl),
      (h c main_arg3).trans (by simp only [ops, TRef.binary, TRef.nullary, TRef.unary, TRef.toBuf, TRef.ofBuf, cast_eq]; after_results_simp <;> (try dsimp only [Matrix.cons_val]) <;> (try after_results_simp) <;> rfl),
      (h c main_arg4).trans (by simp only [ops, TRef.binary, TRef.nullary, TRef.unary, TRef.toBuf, TRef.ofBuf, cast_eq]; after_results_simp <;> (try dsimp only [Matrix.cons_val]) <;> (try after_results_simp) <;> rfl),
      (h c main_arg5).trans (by simp only [ops, TRef.binary, TRef.nullary, TRef.unary, TRef.toBuf, TRef.ofBuf, cast_eq]; after_results_simp <;> (try dsimp only [Matrix.cons_val]) <;> (try after_results_simp) <;> rfl),
      (h c main_arg6).trans (by simp only [ops, TRef.binary, TRef.nullary, TRef.unary, TRef.toBuf, TRef.ofBuf, cast_eq]; after_results_simp <;> (try dsimp only [Matrix.cons_val]) <;> (try after_results_simp) <;> rfl),
      (h c main_arg7).trans (by simp only [ops, TRef.binary, TRef.nullary, TRef.unary, TRef.toBuf, TRef.ofBuf, cast_eq]; after_results_simp <;> (try dsimp only [Matrix.cons_val]) <;> (try after_results_simp) <;> rfl),
      (h c main_arg8).trans (by simp only [ops, TRef.binary, TRef.nullary, TRef.unary, TRef.toBuf, TRef.ofBuf, cast_eq]; after_results_simp <;> (try dsimp only [Matrix.cons_val]) <;> (try after_results_simp) <;> rfl),
      (h c main_arg9).trans (by simp only [ops, TRef.binary, TRef.nullary, TRef.unary, TRef.toBuf, TRef.ofBuf, cast_eq]; after_results_simp <;> (try dsimp only [Matrix.cons_val]) <;> (try after_results_simp) <;> rfl),
      (h c main_arg10).trans (by simp only [ops, TRef.binary, TRef.nullary, TRef.unary, TRef.toBuf, TRef.ofBuf, cast_eq]; after_results_simp <;> (try dsimp only [Matrix.cons_val]) <;> (try after_results_simp) <;> rfl)⟩)
    (run_seq scopedRefs_eq scopedSems_eq defs main (fun _ => ops) main_eq (fun _ => ops_sub) m ρ)

end Cert.MixRefIdeal.Value

end
-- ==== Proof.MixAlgebraic.lean ====
/-
  The mixing claims: the reference's frame, and that the idealized kernel and the reference leave the same two arrays, the
  residual rows and their norms, where the projection's pooled columns are finite.
-/
module

public import proofs.«01_k».proof.Defs
public import proofs.«01_k».proof.Proof.MixFinal
public import proofs.«01_k».proof.Proof.MixRef
public import proofs.«01_k».proof.Proof.MixRefRun
public import proofs.«01_k».proof.Proof.RetentionAlgebraic

@[expose] public section

set_option maxRecDepth 16384

noncomputable section

namespace Cert.Proof

open Idealize.ShloMosaic Idealize.ShloMosaic.TcCoe Idealize.SL.Sem Idealize.ShloMosaic.ValueIdx
open Cert.Retention

instance pool_facts : Cert.Pre_finite_pool.Facts where
  slices_S32768x9216_S32768x1024_0_0 := by decide
  bitsLt_bf16_f32 := by decide
  bcast_S_S32768x1024 := by decide

section Pre
variable (X : FVec Ideal Cert.Pre_finite_pool.S32768x9216 .bf16) (R : FVec Ideal Cert.Pre_finite_pool.S32768x2048 .bf16)
  (Y : FVec Ideal Cert.Pre_finite_pool.S32768x1024 .f32) (P : FVec Ideal Cert.Pre_finite_pool.S4x256x256 .bf16) (S : FVec Ideal Cert.Pre_finite_pool.S1x1024 .f32)
  (A : FVec Ideal Cert.Pre_finite_pool.S2048x1024 .bf16) (B : FVec Ideal Cert.Pre_finite_pool.S1024x1024 .bf16) (G : FVec Ideal Cert.Pre_finite_pool.S1x1024 .f32)
  (U V : FVec Ideal Cert.Pre_finite_pool.S1024x32 .bf16) (W : FVec Ideal Cert.Pre_finite_pool.S1x32 .f32)

/-- The precondition says the pooled columns are real. -/
theorem fin_of_pool (h : Cert.Pre_finite_pool.fn (F := Ideal) X R Y P S A B G U V W = fun _ => 1#1) : Cert.MixRefIdeal.Read.FinU X := by
  intro i d
  have hj := congrFun h (ix2 i d)
  refine isReal_of_abs_lt ?_
  have e : Cert.Pre_finite_pool.fn (F := Ideal) X R Y P S A B G U V W (ix2 i d)
      = Ideal.cmp .olt (max (extractStridedSlice Cert.Pre_finite_pool.S32768x1024 ![0, 0] X pool_facts.slices_S32768x9216_S32768x1024_0_0 (ix2 i d))
          (-(extractStridedSlice Cert.Pre_finite_pool.S32768x1024 ![0, 0] X pool_facts.slices_S32768x9216_S32768x1024_0_0 (ix2 i d))))
          (Ideal.ofBits .f32 0x7F800000#32) := rfl
  have hs : extractStridedSlice Cert.Pre_finite_pool.S32768x1024 ![0, 0] X pool_facts.slices_S32768x9216_S32768x1024_0_0 (ix2 i d)
      = X (ix2 i ⟨d.val, by omega⟩) :=
    extractStridedSlice_apply _ _ _ _ _ (fun a => by
      match a with
      | ⟨0, _⟩ => exact (Nat.zero_add _).symm
      | ⟨1, _⟩ => exact (Nat.zero_add _).symm)
  rw [e, bits_infinity, hs] at hj
  by_contra hn
  rw [Ideal.cmp] at hj
  simp only [hn, decide_false] at hj
  exact absurd hj (by decide)

end Pre

/-- The reference's frame. -/
theorem mixRef_frame : Cert.quiescent_MixRefIdeal (hMixRefIdeal := Cert.MixRefIdeal.Gen.facts) := fun m g _ =>
  (θ_run Cert.MixRefIdeal.defs _ _).mono (fun r h => ⟨fun c => (h c).2.2, sem_eq_zero_of_no_sems (by decide) r.2⟩)
    (Cert.MixRefIdeal.Value.run (F := Ideal) m g)

set_option maxHeartbeats 1000000 in
/-- THE MIXING: kernel and reference leave the same residual rows and the same norms. -/
theorem mix_algebraic :
    Cert.algebraic_MixIdeal_MixRefIdeal_pre_finite_pool (hMixIdeal := Cert.MixIdeal.Gen.facts)
      (hMixRefIdeal := Cert.MixRefIdeal.Gen.facts) (hPre_finite_pool := pool_facts) := by
  intro m g m' g' hpre hargs
  have hX : ∀ c, Cert.MixRefIdeal.Read.FinU (Cert.MixIdeal.Value.argX m c) := fun c => fin_of_pool _ _ _ _ _ _ _ _ _ _ _ (hpre c)
  refine ⟨fun c i => Cert.MixIdeal.Value.x1At m c (i 0) (i 1), fun c i => Cert.MixIdeal.Value.h2At m c (i 0) (i 1),
    (θ_run Cert.MixIdeal.defs _ _).mono (fun r h c => ⟨(h c).1.trans (Cert.MixIdeal.Value.final14 m c),
      (h c).2.1.trans (Cert.MixIdeal.Value.final15 m c), (h c).2.2.2.2⟩) (Cert.MixIdeal.Value.run_blocks m g), ?_⟩
  refine (θ_run Cert.MixRefIdeal.defs _ _).mono (fun r h c => ⟨(h c).1.trans ?_, (h c).2.1.trans ?_, (h c).2.2⟩) (Cert.MixRefIdeal.Value.run (F := Ideal) m' g')
  · obtain ⟨a0, a1, a2, a3, a4, a5, a6, a7, -⟩ := hargs c
    rw [a0, a1, a2, a3, a4, a5, a6]
    exact Cert.MixRefIdeal.Read.result_x1 (hX c) _ _ _ _ _ _
  · obtain ⟨a0, a1, a2, a3, a4, a5, a6, a7, -⟩ := hargs c
    rw [a0, a1, a2, a3, a4, a5, a6, a7]
    exact Cert.MixRefIdeal.Read.result_h2 (hX c) _ _ _ _ _ _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.ReferenceIdeal.Run
public import proofs.«01_k».proof.Proof.Gen.KernelIdeal.Value
public import proofs.«01_k».proof.Proof.Gen.InProjIdeal.Value
public import proofs.«01_k».proof.Proof.Gen.InProjRefIdeal.Run
public import proofs.«01_k».proof.Proof.Gen.Experts
public import proofs.«01_k».proof.Proof.Gen.ExpertsIdeal
public import proofs.«01_k».proof.Proof.Gen.ExpertsRefIdeal
public import proofs.«01_k».proof.Proof.Gen.ExpertsRefIdeal.Run
public import proofs.«01_k».proof.Proof.Gen.InProjRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Frames
public import proofs.«01_k».proof.Proof.InProjAlgebraic
public import proofs.«01_k».proof.Proof.RetentionAlgebraic
public import proofs.«01_k».proof.Proof.ExpertsAlgebraic
public import proofs.«01_k».proof.Proof.MixAlgebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.InProj.Gen.facts,
    Cert.InProjIdeal.Gen.facts, Cert.InProjRefIdeal.Gen.facts, Cert.Experts.Gen.facts, Cert.ExpertsIdeal.Gen.facts,
    Cert.ExpertsRefIdeal.Gen.facts, Cert.Mix.Gen.facts, Cert.MixIdeal.Gen.facts, Cert.MixRefIdeal.Gen.facts,
    finite_facts, Cert.ExpertsTables.tables_facts, pool_facts, Cert.ExpertsTables.used_facts,
    fun m g _ => Cert.Kernel.Gen.frame m g, fun m g _ => Cert.KernelIdeal.Gen.frame m g,
    fun m g _ => Cert.KernelIdeal.Gen.frame m g, reference_frame, fun m g _ => reference_frame m g trivial,
    fun m g _ => Cert.InProj.Gen.frame m g, fun m g _ => Cert.InProjIdeal.Gen.frame m g, inProjRef_frame,
    experts_frame, expertsIdeal_frame, expertsRef_frame, fun m g _ => expertsRef_frame m g trivial,
    fun m g _ => Cert.Mix.Gen.frame m g, fun m g _ => Cert.MixIdeal.Gen.frame m g, fun m g _ => Cert.MixIdeal.Gen.frame m g,
    mixRef_frame, fun m g _ => mixRef_frame m g trivial,
    trivial, retention_algebraic, trivial, inProj_algebraic, trivial, experts_algebraic,
    trivial, mix_algebraic⟩

end Cert.Proof

end
